-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite [hPre_finite : Cert.Pre_finite.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite [hPre_finite : Cert.Pre_finite.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite [hPre_finite : Cert.Pre_finite.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5))) = (fun _ => 1#1)

def Pre_DwGate01 (m : (ℓ : Loc Cert.DwGate01.nD Cert.DwGate01.τ Cert.DwGate01.sig) → Buf (Elt Bits) ℓ) : Prop :=
  True

def Pre_DwGate01Ideal (m : (ℓ : Loc Cert.DwGate01Ideal.nD Cert.DwGate01Ideal.τ Cert.DwGate01Ideal.sig) → Buf (Elt Ideal) ℓ) : Prop :=
  True

def Pre_DwGate01RefIdeal (m : (ℓ : Loc Cert.DwGate01RefIdeal.nD Cert.DwGate01RefIdeal.τ Cert.DwGate01RefIdeal.sig) → Buf (Elt Ideal) ℓ) : Prop :=
  True

def Pre_DwUp01 (m : (ℓ : Loc Cert.DwUp01.nD Cert.DwUp01.τ Cert.DwUp01.sig) → Buf (Elt Bits) ℓ) : Prop :=
  True

def Pre_DwUp01Ideal (m : (ℓ : Loc Cert.DwUp01Ideal.nD Cert.DwUp01Ideal.τ Cert.DwUp01Ideal.sig) → Buf (Elt Ideal) ℓ) : Prop :=
  True

def Pre_DwUp01RefIdeal (m : (ℓ : Loc Cert.DwUp01RefIdeal.nD Cert.DwUp01RefIdeal.τ Cert.DwUp01RefIdeal.sig) → Buf (Elt Ideal) ℓ) : Prop :=
  True

def Pre_DwDown01 (m : (ℓ : Loc Cert.DwDown01.nD Cert.DwDown01.τ Cert.DwDown01.sig) → Buf (Elt Bits) ℓ) : Prop :=
  True

def Pre_DwDown01Ideal (m : (ℓ : Loc Cert.DwDown01Ideal.nD Cert.DwDown01Ideal.τ Cert.DwDown01Ideal.sig) → Buf (Elt Ideal) ℓ) : Prop :=
  True

def Pre_DwDown01RefIdeal (m : (ℓ : Loc Cert.DwDown01RefIdeal.nD Cert.DwDown01RefIdeal.τ Cert.DwDown01RefIdeal.sig) → Buf (Elt Ideal) ℓ) : Prop :=
  True

def Pre_DwGate02 (m : (ℓ : Loc Cert.DwGate02.nD Cert.DwGate02.τ Cert.DwGate02.sig) → Buf (Elt Bits) ℓ) : Prop :=
  True

def Pre_DwGate02Ideal (m : (ℓ : Loc Cert.DwGate02Ideal.nD Cert.DwGate02Ideal.τ Cert.DwGate02Ideal.sig) → Buf (Elt Ideal) ℓ) : Prop :=
  True

def Pre_DwGate02RefIdeal (m : (ℓ : Loc Cert.DwGate02RefIdeal.nD Cert.DwGate02RefIdeal.τ Cert.DwGate02RefIdeal.sig) → Buf (Elt Ideal) ℓ) : Prop :=
  True

def Pre_DwUp02 (m : (ℓ : Loc Cert.DwUp02.nD Cert.DwUp02.τ Cert.DwUp02.sig) → Buf (Elt Bits) ℓ) : Prop :=
  True

def Pre_DwUp02Ideal (m : (ℓ : Loc Cert.DwUp02Ideal.nD Cert.DwUp02Ideal.τ Cert.DwUp02Ideal.sig) → Buf (Elt Ideal) ℓ) : Prop :=
  True

def Pre_DwUp02RefIdeal (m : (ℓ : Loc Cert.DwUp02RefIdeal.nD Cert.DwUp02RefIdeal.τ Cert.DwUp02RefIdeal.sig) → Buf (Elt Ideal) ℓ) : Prop :=
  True

def Pre_DwDown02 (m : (ℓ : Loc Cert.DwDown02.nD Cert.DwDown02.τ Cert.DwDown02.sig) → Buf (Elt Bits) ℓ) : Prop :=
  True

def Pre_DwDown02Ideal (m : (ℓ : Loc Cert.DwDown02Ideal.nD Cert.DwDown02Ideal.τ Cert.DwDown02Ideal.sig) → Buf (Elt Ideal) ℓ) : Prop :=
  True

def Pre_DwDown02RefIdeal (m : (ℓ : Loc Cert.DwDown02RefIdeal.nD Cert.DwDown02RefIdeal.τ Cert.DwDown02RefIdeal.sig) → Buf (Elt Ideal) ℓ) : Prop :=
  True

def Pre_DwGate11 (m : (ℓ : Loc Cert.DwGate11.nD Cert.DwGate11.τ Cert.DwGate11.sig) → Buf (Elt Bits) ℓ) : Prop :=
  True

def Pre_DwGate11Ideal (m : (ℓ : Loc Cert.DwGate11Ideal.nD Cert.DwGate11Ideal.τ Cert.DwGate11Ideal.sig) → Buf (Elt Ideal) ℓ) : Prop :=
  True

def Pre_DwGate11RefIdeal (m : (ℓ : Loc Cert.DwGate11RefIdeal.nD Cert.DwGate11RefIdeal.τ Cert.DwGate11RefIdeal.sig) → Buf (Elt Ideal) ℓ) : Prop :=
  True

def Pre_DwUp11 (m : (ℓ : Loc Cert.DwUp11.nD Cert.DwUp11.τ Cert.DwUp11.sig) → Buf (Elt Bits) ℓ) : Prop :=
  True

def Pre_DwUp11Ideal (m : (ℓ : Loc Cert.DwUp11Ideal.nD Cert.DwUp11Ideal.τ Cert.DwUp11Ideal.sig) → Buf (Elt Ideal) ℓ) : Prop :=
  True

def Pre_DwUp11RefIdeal (m : (ℓ : Loc Cert.DwUp11RefIdeal.nD Cert.DwUp11RefIdeal.τ Cert.DwUp11RefIdeal.sig) → Buf (Elt Ideal) ℓ) : Prop :=
  True

def Pre_DwDown11 (m : (ℓ : Loc Cert.DwDown11.nD Cert.DwDown11.τ Cert.DwDown11.sig) → Buf (Elt Bits) ℓ) : Prop :=
  True

def Pre_DwDown11Ideal (m : (ℓ : Loc Cert.DwDown11Ideal.nD Cert.DwDown11Ideal.τ Cert.DwDown11Ideal.sig) → Buf (Elt Ideal) ℓ) : Prop :=
  True

def Pre_DwDown11RefIdeal (m : (ℓ : Loc Cert.DwDown11RefIdeal.nD Cert.DwDown11RefIdeal.τ Cert.DwDown11RefIdeal.sig) → Buf (Elt Ideal) ℓ) : Prop :=
  True

def Pre_DwGate12 (m : (ℓ : Loc Cert.DwGate12.nD Cert.DwGate12.τ Cert.DwGate12.sig) → Buf (Elt Bits) ℓ) : Prop :=
  True

def Pre_DwGate12Ideal (m : (ℓ : Loc Cert.DwGate12Ideal.nD Cert.DwGate12Ideal.τ Cert.DwGate12Ideal.sig) → Buf (Elt Ideal) ℓ) : Prop :=
  True

def Pre_DwGate12RefIdeal (m : (ℓ : Loc Cert.DwGate12RefIdeal.nD Cert.DwGate12RefIdeal.τ Cert.DwGate12RefIdeal.sig) → Buf (Elt Ideal) ℓ) : Prop :=
  True

def Pre_DwUp12 (m : (ℓ : Loc Cert.DwUp12.nD Cert.DwUp12.τ Cert.DwUp12.sig) → Buf (Elt Bits) ℓ) : Prop :=
  True

def Pre_DwUp12Ideal (m : (ℓ : Loc Cert.DwUp12Ideal.nD Cert.DwUp12Ideal.τ Cert.DwUp12Ideal.sig) → Buf (Elt Ideal) ℓ) : Prop :=
  True

def Pre_DwUp12RefIdeal (m : (ℓ : Loc Cert.DwUp12RefIdeal.nD Cert.DwUp12RefIdeal.τ Cert.DwUp12RefIdeal.sig) → Buf (Elt Ideal) ℓ) : Prop :=
  True

def Pre_DwDown12 (m : (ℓ : Loc Cert.DwDown12.nD Cert.DwDown12.τ Cert.DwDown12.sig) → Buf (Elt Bits) ℓ) : Prop :=
  True

def Pre_DwDown12Ideal (m : (ℓ : Loc Cert.DwDown12Ideal.nD Cert.DwDown12Ideal.τ Cert.DwDown12Ideal.sig) → Buf (Elt Ideal) ℓ) : Prop :=
  True

def Pre_DwDown12RefIdeal (m : (ℓ : Loc Cert.DwDown12RefIdeal.nD Cert.DwDown12RefIdeal.τ Cert.DwDown12RefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5))
      ∧ r.2.sem = fun _ => 0)

def quiescent_KernelAIdeal_pre_finite [hKernelAIdeal : Cert.KernelAIdeal.Facts] [hPre_finite : Cert.Pre_finite.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5))
      ∧ r.2.sem = fun _ => 0)

def quiescent_KernelBIdeal_pre_finite [hKernelBIdeal : Cert.KernelBIdeal.Facts] [hPre_finite : Cert.Pre_finite.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ r.2.sem = fun _ => 0)

def quiescent_KernelCIdeal_pre_finite [hKernelCIdeal : Cert.KernelCIdeal.Facts] [hPre_finite : Cert.Pre_finite.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ r.2.sem = fun _ => 0)

def quiescent_DwGate01 [hDwGate01 : Cert.DwGate01.Facts] : Prop :=
  ∀ (m : (ℓ : Loc Cert.DwGate01.nD Cert.DwGate01.τ Cert.DwGate01.sig) → Buf (Elt Bits) ℓ) (g : Dev Cert.DwGate01.nD → PrngReg), Pre_DwGate01 m →
    θ_run (Cert.DwGate01.defs (F := Bits)) (onTc (τ := Cert.DwGate01.τ) (Cert.DwGate01.main (F := Bits))) ⟨m, fun _ => 0, g⟩ (fun r => (∀ c : Dev Cert.DwGate01.nD,
      r.2.mem ((c.tc : Thread Cert.DwGate01.nD Cert.DwGate01.τ).loc Cert.DwGate01.main_arg0) = m ((c.tc : Thread Cert.DwGate01.nD Cert.DwGate01.τ).loc Cert.DwGate01.main_arg0)
      ∧ r.2.mem ((c.tc : Thread Cert.DwGate01.nD Cert.DwGate01.τ).loc Cert.DwGate01.main_arg1) = m ((c.tc : Thread Cert.DwGate01.nD Cert.DwGate01.τ).loc Cert.DwGate01.main_arg1)
      ∧ r.2.mem ((c.tc : Thread Cert.DwGate01.nD Cert.DwGate01.τ).loc Cert.DwGate01.main_arg2) = m ((c.tc : Thread Cert.DwGate01.nD Cert.DwGate01.τ).loc Cert.DwGate01.main_arg2))
      ∧ r.2.sem = fun _ => 0)

def quiescent_DwGate01Ideal [hDwGate01Ideal : Cert.DwGate01Ideal.Facts] : Prop :=
  ∀ (m : (ℓ : Loc Cert.DwGate01Ideal.nD Cert.DwGate01Ideal.τ Cert.DwGate01Ideal.sig) → Buf (Elt Ideal) ℓ) (g : Dev Cert.DwGate01Ideal.nD → PrngReg), Pre_DwGate01Ideal m →
    θ_run (Cert.DwGate01Ideal.defs (F := Ideal)) (onTc (τ := Cert.DwGate01Ideal.τ) (Cert.DwGate01Ideal.main (F := Ideal))) ⟨m, fun _ => 0, g⟩ (fun r => (∀ c : Dev Cert.DwGate01Ideal.nD,
      r.2.mem ((c.tc : Thread Cert.DwGate01Ideal.nD Cert.DwGate01Ideal.τ).loc Cert.DwGate01Ideal.main_arg0) = m ((c.tc : Thread Cert.DwGate01Ideal.nD Cert.DwGate01Ideal.τ).loc Cert.DwGate01Ideal.main_arg0)
      ∧ r.2.mem ((c.tc : Thread Cert.DwGate01Ideal.nD Cert.DwGate01Ideal.τ).loc Cert.DwGate01Ideal.main_arg1) = m ((c.tc : Thread Cert.DwGate01Ideal.nD Cert.DwGate01Ideal.τ).loc Cert.DwGate01Ideal.main_arg1)
      ∧ r.2.mem ((c.tc : Thread Cert.DwGate01Ideal.nD Cert.DwGate01Ideal.τ).loc Cert.DwGate01Ideal.main_arg2) = m ((c.tc : Thread Cert.DwGate01Ideal.nD Cert.DwGate01Ideal.τ).loc Cert.DwGate01Ideal.main_arg2))
      ∧ r.2.sem = fun _ => 0)

def quiescent_DwGate01RefIdeal [hDwGate01RefIdeal : Cert.DwGate01RefIdeal.Facts] : Prop :=
  ∀ (m : (ℓ : Loc Cert.DwGate01RefIdeal.nD Cert.DwGate01RefIdeal.τ Cert.DwGate01RefIdeal.sig) → Buf (Elt Ideal) ℓ) (g : Dev Cert.DwGate01RefIdeal.nD → PrngReg), Pre_DwGate01RefIdeal m →
    θ_run (Cert.DwGate01RefIdeal.defs (F := Ideal)) (onTc (τ := Cert.DwGate01RefIdeal.τ) (Cert.DwGate01RefIdeal.main (F := Ideal))) ⟨m, fun _ => 0, g⟩ (fun r => (∀ c : Dev Cert.DwGate01RefIdeal.nD,
      r.2.mem ((c.tc : Thread Cert.DwGate01RefIdeal.nD Cert.DwGate01RefIdeal.τ).loc Cert.DwGate01RefIdeal.main_arg0) = m ((c.tc : Thread Cert.DwGate01RefIdeal.nD Cert.DwGate01RefIdeal.τ).loc Cert.DwGate01RefIdeal.main_arg0)
      ∧ r.2.mem ((c.tc : Thread Cert.DwGate01RefIdeal.nD Cert.DwGate01RefIdeal.τ).loc Cert.DwGate01RefIdeal.main_arg1) = m ((c.tc : Thread Cert.DwGate01RefIdeal.nD Cert.DwGate01RefIdeal.τ).loc Cert.DwGate01RefIdeal.main_arg1)
      ∧ r.2.mem ((c.tc : Thread Cert.DwGate01RefIdeal.nD Cert.DwGate01RefIdeal.τ).loc Cert.DwGate01RefIdeal.main_arg2) = m ((c.tc : Thread Cert.DwGate01RefIdeal.nD Cert.DwGate01RefIdeal.τ).loc Cert.DwGate01RefIdeal.main_arg2))
      ∧ r.2.sem = fun _ => 0)

def quiescent_DwUp01 [hDwUp01 : Cert.DwUp01.Facts] : Prop :=
  ∀ (m : (ℓ : Loc Cert.DwUp01.nD Cert.DwUp01.τ Cert.DwUp01.sig) → Buf (Elt Bits) ℓ) (g : Dev Cert.DwUp01.nD → PrngReg), Pre_DwUp01 m →
    θ_run (Cert.DwUp01.defs (F := Bits)) (onTc (τ := Cert.DwUp01.τ) (Cert.DwUp01.main (F := Bits))) ⟨m, fun _ => 0, g⟩ (fun r => (∀ c : Dev Cert.DwUp01.nD,
      r.2.mem ((c.tc : Thread Cert.DwUp01.nD Cert.DwUp01.τ).loc Cert.DwUp01.main_arg0) = m ((c.tc : Thread Cert.DwUp01.nD Cert.DwUp01.τ).loc Cert.DwUp01.main_arg0)
      ∧ r.2.mem ((c.tc : Thread Cert.DwUp01.nD Cert.DwUp01.τ).loc Cert.DwUp01.main_arg1) = m ((c.tc : Thread Cert.DwUp01.nD Cert.DwUp01.τ).loc Cert.DwUp01.main_arg1)
      ∧ r.2.mem ((c.tc : Thread Cert.DwUp01.nD Cert.DwUp01.τ).loc Cert.DwUp01.main_arg2) = m ((c.tc : Thread Cert.DwUp01.nD Cert.DwUp01.τ).loc Cert.DwUp01.main_arg2))
      ∧ r.2.sem = fun _ => 0)

def quiescent_DwUp01Ideal [hDwUp01Ideal : Cert.DwUp01Ideal.Facts] : Prop :=
  ∀ (m : (ℓ : Loc Cert.DwUp01Ideal.nD Cert.DwUp01Ideal.τ Cert.DwUp01Ideal.sig) → Buf (Elt Ideal) ℓ) (g : Dev Cert.DwUp01Ideal.nD → PrngReg), Pre_DwUp01Ideal m →
    θ_run (Cert.DwUp01Ideal.defs (F := Ideal)) (onTc (τ := Cert.DwUp01Ideal.τ) (Cert.DwUp01Ideal.main (F := Ideal))) ⟨m, fun _ => 0, g⟩ (fun r => (∀ c : Dev Cert.DwUp01Ideal.nD,
      r.2.mem ((c.tc : Thread Cert.DwUp01Ideal.nD Cert.DwUp01Ideal.τ).loc Cert.DwUp01Ideal.main_arg0) = m ((c.tc : Thread Cert.DwUp01Ideal.nD Cert.DwUp01Ideal.τ).loc Cert.DwUp01Ideal.main_arg0)
      ∧ r.2.mem ((c.tc : Thread Cert.DwUp01Ideal.nD Cert.DwUp01Ideal.τ).loc Cert.DwUp01Ideal.main_arg1) = m ((c.tc : Thread Cert.DwUp01Ideal.nD Cert.DwUp01Ideal.τ).loc Cert.DwUp01Ideal.main_arg1)
      ∧ r.2.mem ((c.tc : Thread Cert.DwUp01Ideal.nD Cert.DwUp01Ideal.τ).loc Cert.DwUp01Ideal.main_arg2) = m ((c.tc : Thread Cert.DwUp01Ideal.nD Cert.DwUp01Ideal.τ).loc Cert.DwUp01Ideal.main_arg2))
      ∧ r.2.sem = fun _ => 0)

def quiescent_DwUp01RefIdeal [hDwUp01RefIdeal : Cert.DwUp01RefIdeal.Facts] : Prop :=
  ∀ (m : (ℓ : Loc Cert.DwUp01RefIdeal.nD Cert.DwUp01RefIdeal.τ Cert.DwUp01RefIdeal.sig) → Buf (Elt Ideal) ℓ) (g : Dev Cert.DwUp01RefIdeal.nD → PrngReg), Pre_DwUp01RefIdeal m →
    θ_run (Cert.DwUp01RefIdeal.defs (F := Ideal)) (onTc (τ := Cert.DwUp01RefIdeal.τ) (Cert.DwUp01RefIdeal.main (F := Ideal))) ⟨m, fun _ => 0, g⟩ (fun r => (∀ c : Dev Cert.DwUp01RefIdeal.nD,
      r.2.mem ((c.tc : Thread Cert.DwUp01RefIdeal.nD Cert.DwUp01RefIdeal.τ).loc Cert.DwUp01RefIdeal.main_arg0) = m ((c.tc : Thread Cert.DwUp01RefIdeal.nD Cert.DwUp01RefIdeal.τ).loc Cert.DwUp01RefIdeal.main_arg0)
      ∧ r.2.mem ((c.tc : Thread Cert.DwUp01RefIdeal.nD Cert.DwUp01RefIdeal.τ).loc Cert.DwUp01RefIdeal.main_arg1) = m ((c.tc : Thread Cert.DwUp01RefIdeal.nD Cert.DwUp01RefIdeal.τ).loc Cert.DwUp01RefIdeal.main_arg1)
      ∧ r.2.mem ((c.tc : Thread Cert.DwUp01RefIdeal.nD Cert.DwUp01RefIdeal.τ).loc Cert.DwUp01RefIdeal.main_arg2) = m ((c.tc : Thread Cert.DwUp01RefIdeal.nD Cert.DwUp01RefIdeal.τ).loc Cert.DwUp01RefIdeal.main_arg2))
      ∧ r.2.sem = fun _ => 0)

def quiescent_DwDown01 [hDwDown01 : Cert.DwDown01.Facts] : Prop :=
  ∀ (m : (ℓ : Loc Cert.DwDown01.nD Cert.DwDown01.τ Cert.DwDown01.sig) → Buf (Elt Bits) ℓ) (g : Dev Cert.DwDown01.nD → PrngReg), Pre_DwDown01 m →
    θ_run (Cert.DwDown01.defs (F := Bits)) (onTc (τ := Cert.DwDown01.τ) (Cert.DwDown01.main (F := Bits))) ⟨m, fun _ => 0, g⟩ (fun r => (∀ c : Dev Cert.DwDown01.nD,
      r.2.mem ((c.tc : Thread Cert.DwDown01.nD Cert.DwDown01.τ).loc Cert.DwDown01.main_arg0) = m ((c.tc : Thread Cert.DwDown01.nD Cert.DwDown01.τ).loc Cert.DwDown01.main_arg0)
      ∧ r.2.mem ((c.tc : Thread Cert.DwDown01.nD Cert.DwDown01.τ).loc Cert.DwDown01.main_arg1) = m ((c.tc : Thread Cert.DwDown01.nD Cert.DwDown01.τ).loc Cert.DwDown01.main_arg1)
      ∧ r.2.mem ((c.tc : Thread Cert.DwDown01.nD Cert.DwDown01.τ).loc Cert.DwDown01.main_arg2) = m ((c.tc : Thread Cert.DwDown01.nD Cert.DwDown01.τ).loc Cert.DwDown01.main_arg2))
      ∧ r.2.sem = fun _ => 0)

def quiescent_DwDown01Ideal [hDwDown01Ideal : Cert.DwDown01Ideal.Facts] : Prop :=
  ∀ (m : (ℓ : Loc Cert.DwDown01Ideal.nD Cert.DwDown01Ideal.τ Cert.DwDown01Ideal.sig) → Buf (Elt Ideal) ℓ) (g : Dev Cert.DwDown01Ideal.nD → PrngReg), Pre_DwDown01Ideal m →
    θ_run (Cert.DwDown01Ideal.defs (F := Ideal)) (onTc (τ := Cert.DwDown01Ideal.τ) (Cert.DwDown01Ideal.main (F := Ideal))) ⟨m, fun _ => 0, g⟩ (fun r => (∀ c : Dev Cert.DwDown01Ideal.nD,
      r.2.mem ((c.tc : Thread Cert.DwDown01Ideal.nD Cert.DwDown01Ideal.τ).loc Cert.DwDown01Ideal.main_arg0) = m ((c.tc : Thread Cert.DwDown01Ideal.nD Cert.DwDown01Ideal.τ).loc Cert.DwDown01Ideal.main_arg0)
      ∧ r.2.mem ((c.tc : Thread Cert.DwDown01Ideal.nD Cert.DwDown01Ideal.τ).loc Cert.DwDown01Ideal.main_arg1) = m ((c.tc : Thread Cert.DwDown01Ideal.nD Cert.DwDown01Ideal.τ).loc Cert.DwDown01Ideal.main_arg1)
      ∧ r.2.mem ((c.tc : Thread Cert.DwDown01Ideal.nD Cert.DwDown01Ideal.τ).loc Cert.DwDown01Ideal.main_arg2) = m ((c.tc : Thread Cert.DwDown01Ideal.nD Cert.DwDown01Ideal.τ).loc Cert.DwDown01Ideal.main_arg2))
      ∧ r.2.sem = fun _ => 0)

def quiescent_DwDown01RefIdeal [hDwDown01RefIdeal : Cert.DwDown01RefIdeal.Facts] : Prop :=
  ∀ (m : (ℓ : Loc Cert.DwDown01RefIdeal.nD Cert.DwDown01RefIdeal.τ Cert.DwDown01RefIdeal.sig) → Buf (Elt Ideal) ℓ) (g : Dev Cert.DwDown01RefIdeal.nD → PrngReg), Pre_DwDown01RefIdeal m →
    θ_run (Cert.DwDown01RefIdeal.defs (F := Ideal)) (onTc (τ := Cert.DwDown01RefIdeal.τ) (Cert.DwDown01RefIdeal.main (F := Ideal))) ⟨m, fun _ => 0, g⟩ (fun r => (∀ c : Dev Cert.DwDown01RefIdeal.nD,
      r.2.mem ((c.tc : Thread Cert.DwDown01RefIdeal.nD Cert.DwDown01RefIdeal.τ).loc Cert.DwDown01RefIdeal.main_arg0) = m ((c.tc : Thread Cert.DwDown01RefIdeal.nD Cert.DwDown01RefIdeal.τ).loc Cert.DwDown01RefIdeal.main_arg0)
      ∧ r.2.mem ((c.tc : Thread Cert.DwDown01RefIdeal.nD Cert.DwDown01RefIdeal.τ).loc Cert.DwDown01RefIdeal.main_arg1) = m ((c.tc : Thread Cert.DwDown01RefIdeal.nD Cert.DwDown01RefIdeal.τ).loc Cert.DwDown01RefIdeal.main_arg1)
      ∧ r.2.mem ((c.tc : Thread Cert.DwDown01RefIdeal.nD Cert.DwDown01RefIdeal.τ).loc Cert.DwDown01RefIdeal.main_arg2) = m ((c.tc : Thread Cert.DwDown01RefIdeal.nD Cert.DwDown01RefIdeal.τ).loc Cert.DwDown01RefIdeal.main_arg2))
      ∧ r.2.sem = fun _ => 0)

def quiescent_DwGate02 [hDwGate02 : Cert.DwGate02.Facts] : Prop :=
  ∀ (m : (ℓ : Loc Cert.DwGate02.nD Cert.DwGate02.τ Cert.DwGate02.sig) → Buf (Elt Bits) ℓ) (g : Dev Cert.DwGate02.nD → PrngReg), Pre_DwGate02 m →
    θ_run (Cert.DwGate02.defs (F := Bits)) (onTc (τ := Cert.DwGate02.τ) (Cert.DwGate02.main (F := Bits))) ⟨m, fun _ => 0, g⟩ (fun r => (∀ c : Dev Cert.DwGate02.nD,
      r.2.mem ((c.tc : Thread Cert.DwGate02.nD Cert.DwGate02.τ).loc Cert.DwGate02.main_arg0) = m ((c.tc : Thread Cert.DwGate02.nD Cert.DwGate02.τ).loc Cert.DwGate02.main_arg0)
      ∧ r.2.mem ((c.tc : Thread Cert.DwGate02.nD Cert.DwGate02.τ).loc Cert.DwGate02.main_arg1) = m ((c.tc : Thread Cert.DwGate02.nD Cert.DwGate02.τ).loc Cert.DwGate02.main_arg1)
      ∧ r.2.mem ((c.tc : Thread Cert.DwGate02.nD Cert.DwGate02.τ).loc Cert.DwGate02.main_arg2) = m ((c.tc : Thread Cert.DwGate02.nD Cert.DwGate02.τ).loc Cert.DwGate02.main_arg2))
      ∧ r.2.sem = fun _ => 0)

def quiescent_DwGate02Ideal [hDwGate02Ideal : Cert.DwGate02Ideal.Facts] : Prop :=
  ∀ (m : (ℓ : Loc Cert.DwGate02Ideal.nD Cert.DwGate02Ideal.τ Cert.DwGate02Ideal.sig) → Buf (Elt Ideal) ℓ) (g : Dev Cert.DwGate02Ideal.nD → PrngReg), Pre_DwGate02Ideal m →
    θ_run (Cert.DwGate02Ideal.defs (F := Ideal)) (onTc (τ := Cert.DwGate02Ideal.τ) (Cert.DwGate02Ideal.main (F := Ideal))) ⟨m, fun _ => 0, g⟩ (fun r => (∀ c : Dev Cert.DwGate02Ideal.nD,
      r.2.mem ((c.tc : Thread Cert.DwGate02Ideal.nD Cert.DwGate02Ideal.τ).loc Cert.DwGate02Ideal.main_arg0) = m ((c.tc : Thread Cert.DwGate02Ideal.nD Cert.DwGate02Ideal.τ).loc Cert.DwGate02Ideal.main_arg0)
      ∧ r.2.mem ((c.tc : Thread Cert.DwGate02Ideal.nD Cert.DwGate02Ideal.τ).loc Cert.DwGate02Ideal.main_arg1) = m ((c.tc : Thread Cert.DwGate02Ideal.nD Cert.DwGate02Ideal.τ).loc Cert.DwGate02Ideal.main_arg1)
      ∧ r.2.mem ((c.tc : Thread Cert.DwGate02Ideal.nD Cert.DwGate02Ideal.τ).loc Cert.DwGate02Ideal.main_arg2) = m ((c.tc : Thread Cert.DwGate02Ideal.nD Cert.DwGate02Ideal.τ).loc Cert.DwGate02Ideal.main_arg2))
      ∧ r.2.sem = fun _ => 0)

def quiescent_DwGate02RefIdeal [hDwGate02RefIdeal : Cert.DwGate02RefIdeal.Facts] : Prop :=
  ∀ (m : (ℓ : Loc Cert.DwGate02RefIdeal.nD Cert.DwGate02RefIdeal.τ Cert.DwGate02RefIdeal.sig) → Buf (Elt Ideal) ℓ) (g : Dev Cert.DwGate02RefIdeal.nD → PrngReg), Pre_DwGate02RefIdeal m →
    θ_run (Cert.DwGate02RefIdeal.defs (F := Ideal)) (onTc (τ := Cert.DwGate02RefIdeal.τ) (Cert.DwGate02RefIdeal.main (F := Ideal))) ⟨m, fun _ => 0, g⟩ (fun r => (∀ c : Dev Cert.DwGate02RefIdeal.nD,
      r.2.mem ((c.tc : Thread Cert.DwGate02RefIdeal.nD Cert.DwGate02RefIdeal.τ).loc Cert.DwGate02RefIdeal.main_arg0) = m ((c.tc : Thread Cert.DwGate02RefIdeal.nD Cert.DwGate02RefIdeal.τ).loc Cert.DwGate02RefIdeal.main_arg0)
      ∧ r.2.mem ((c.tc : Thread Cert.DwGate02RefIdeal.nD Cert.DwGate02RefIdeal.τ).loc Cert.DwGate02RefIdeal.main_arg1) = m ((c.tc : Thread Cert.DwGate02RefIdeal.nD Cert.DwGate02RefIdeal.τ).loc Cert.DwGate02RefIdeal.main_arg1)
      ∧ r.2.mem ((c.tc : Thread Cert.DwGate02RefIdeal.nD Cert.DwGate02RefIdeal.τ).loc Cert.DwGate02RefIdeal.main_arg2) = m ((c.tc : Thread Cert.DwGate02RefIdeal.nD Cert.DwGate02RefIdeal.τ).loc Cert.DwGate02RefIdeal.main_arg2))
      ∧ r.2.sem = fun _ => 0)

def quiescent_DwUp02 [hDwUp02 : Cert.DwUp02.Facts] : Prop :=
  ∀ (m : (ℓ : Loc Cert.DwUp02.nD Cert.DwUp02.τ Cert.DwUp02.sig) → Buf (Elt Bits) ℓ) (g : Dev Cert.DwUp02.nD → PrngReg), Pre_DwUp02 m →
    θ_run (Cert.DwUp02.defs (F := Bits)) (onTc (τ := Cert.DwUp02.τ) (Cert.DwUp02.main (F := Bits))) ⟨m, fun _ => 0, g⟩ (fun r => (∀ c : Dev Cert.DwUp02.nD,
      r.2.mem ((c.tc : Thread Cert.DwUp02.nD Cert.DwUp02.τ).loc Cert.DwUp02.main_arg0) = m ((c.tc : Thread Cert.DwUp02.nD Cert.DwUp02.τ).loc Cert.DwUp02.main_arg0)
      ∧ r.2.mem ((c.tc : Thread Cert.DwUp02.nD Cert.DwUp02.τ).loc Cert.DwUp02.main_arg1) = m ((c.tc : Thread Cert.DwUp02.nD Cert.DwUp02.τ).loc Cert.DwUp02.main_arg1)
      ∧ r.2.mem ((c.tc : Thread Cert.DwUp02.nD Cert.DwUp02.τ).loc Cert.DwUp02.main_arg2) = m ((c.tc : Thread Cert.DwUp02.nD Cert.DwUp02.τ).loc Cert.DwUp02.main_arg2))
      ∧ r.2.sem = fun _ => 0)

def quiescent_DwUp02Ideal [hDwUp02Ideal : Cert.DwUp02Ideal.Facts] : Prop :=
  ∀ (m : (ℓ : Loc Cert.DwUp02Ideal.nD Cert.DwUp02Ideal.τ Cert.DwUp02Ideal.sig) → Buf (Elt Ideal) ℓ) (g : Dev Cert.DwUp02Ideal.nD → PrngReg), Pre_DwUp02Ideal m →
    θ_run (Cert.DwUp02Ideal.defs (F := Ideal)) (onTc (τ := Cert.DwUp02Ideal.τ) (Cert.DwUp02Ideal.main (F := Ideal))) ⟨m, fun _ => 0, g⟩ (fun r => (∀ c : Dev Cert.DwUp02Ideal.nD,
      r.2.mem ((c.tc : Thread Cert.DwUp02Ideal.nD Cert.DwUp02Ideal.τ).loc Cert.DwUp02Ideal.main_arg0) = m ((c.tc : Thread Cert.DwUp02Ideal.nD Cert.DwUp02Ideal.τ).loc Cert.DwUp02Ideal.main_arg0)
      ∧ r.2.mem ((c.tc : Thread Cert.DwUp02Ideal.nD Cert.DwUp02Ideal.τ).loc Cert.DwUp02Ideal.main_arg1) = m ((c.tc : Thread Cert.DwUp02Ideal.nD Cert.DwUp02Ideal.τ).loc Cert.DwUp02Ideal.main_arg1)
      ∧ r.2.mem ((c.tc : Thread Cert.DwUp02Ideal.nD Cert.DwUp02Ideal.τ).loc Cert.DwUp02Ideal.main_arg2) = m ((c.tc : Thread Cert.DwUp02Ideal.nD Cert.DwUp02Ideal.τ).loc Cert.DwUp02Ideal.main_arg2))
      ∧ r.2.sem = fun _ => 0)

def quiescent_DwUp02RefIdeal [hDwUp02RefIdeal : Cert.DwUp02RefIdeal.Facts] : Prop :=
  ∀ (m : (ℓ : Loc Cert.DwUp02RefIdeal.nD Cert.DwUp02RefIdeal.τ Cert.DwUp02RefIdeal.sig) → Buf (Elt Ideal) ℓ) (g : Dev Cert.DwUp02RefIdeal.nD → PrngReg), Pre_DwUp02RefIdeal m →
    θ_run (Cert.DwUp02RefIdeal.defs (F := Ideal)) (onTc (τ := Cert.DwUp02RefIdeal.τ) (Cert.DwUp02RefIdeal.main (F := Ideal))) ⟨m, fun _ => 0, g⟩ (fun r => (∀ c : Dev Cert.DwUp02RefIdeal.nD,
      r.2.mem ((c.tc : Thread Cert.DwUp02RefIdeal.nD Cert.DwUp02RefIdeal.τ).loc Cert.DwUp02RefIdeal.main_arg0) = m ((c.tc : Thread Cert.DwUp02RefIdeal.nD Cert.DwUp02RefIdeal.τ).loc Cert.DwUp02RefIdeal.main_arg0)
      ∧ r.2.mem ((c.tc : Thread Cert.DwUp02RefIdeal.nD Cert.DwUp02RefIdeal.τ).loc Cert.DwUp02RefIdeal.main_arg1) = m ((c.tc : Thread Cert.DwUp02RefIdeal.nD Cert.DwUp02RefIdeal.τ).loc Cert.DwUp02RefIdeal.main_arg1)
      ∧ r.2.mem ((c.tc : Thread Cert.DwUp02RefIdeal.nD Cert.DwUp02RefIdeal.τ).loc Cert.DwUp02RefIdeal.main_arg2) = m ((c.tc : Thread Cert.DwUp02RefIdeal.nD Cert.DwUp02RefIdeal.τ).loc Cert.DwUp02RefIdeal.main_arg2))
      ∧ r.2.sem = fun _ => 0)

def quiescent_DwDown02 [hDwDown02 : Cert.DwDown02.Facts] : Prop :=
  ∀ (m : (ℓ : Loc Cert.DwDown02.nD Cert.DwDown02.τ Cert.DwDown02.sig) → Buf (Elt Bits) ℓ) (g : Dev Cert.DwDown02.nD → PrngReg), Pre_DwDown02 m →
    θ_run (Cert.DwDown02.defs (F := Bits)) (onTc (τ := Cert.DwDown02.τ) (Cert.DwDown02.main (F := Bits))) ⟨m, fun _ => 0, g⟩ (fun r => (∀ c : Dev Cert.DwDown02.nD,
      r.2.mem ((c.tc : Thread Cert.DwDown02.nD Cert.DwDown02.τ).loc Cert.DwDown02.main_arg0) = m ((c.tc : Thread Cert.DwDown02.nD Cert.DwDown02.τ).loc Cert.DwDown02.main_arg0)
      ∧ r.2.mem ((c.tc : Thread Cert.DwDown02.nD Cert.DwDown02.τ).loc Cert.DwDown02.main_arg1) = m ((c.tc : Thread Cert.DwDown02.nD Cert.DwDown02.τ).loc Cert.DwDown02.main_arg1)
      ∧ r.2.mem ((c.tc : Thread Cert.DwDown02.nD Cert.DwDown02.τ).loc Cert.DwDown02.main_arg2) = m ((c.tc : Thread Cert.DwDown02.nD Cert.DwDown02.τ).loc Cert.DwDown02.main_arg2))
      ∧ r.2.sem = fun _ => 0)

def quiescent_DwDown02Ideal [hDwDown02Ideal : Cert.DwDown02Ideal.Facts] : Prop :=
  ∀ (m : (ℓ : Loc Cert.DwDown02Ideal.nD Cert.DwDown02Ideal.τ Cert.DwDown02Ideal.sig) → Buf (Elt Ideal) ℓ) (g : Dev Cert.DwDown02Ideal.nD → PrngReg), Pre_DwDown02Ideal m →
    θ_run (Cert.DwDown02Ideal.defs (F := Ideal)) (onTc (τ := Cert.DwDown02Ideal.τ) (Cert.DwDown02Ideal.main (F := Ideal))) ⟨m, fun _ => 0, g⟩ (fun r => (∀ c : Dev Cert.DwDown02Ideal.nD,
      r.2.mem ((c.tc : Thread Cert.DwDown02Ideal.nD Cert.DwDown02Ideal.τ).loc Cert.DwDown02Ideal.main_arg0) = m ((c.tc : Thread Cert.DwDown02Ideal.nD Cert.DwDown02Ideal.τ).loc Cert.DwDown02Ideal.main_arg0)
      ∧ r.2.mem ((c.tc : Thread Cert.DwDown02Ideal.nD Cert.DwDown02Ideal.τ).loc Cert.DwDown02Ideal.main_arg1) = m ((c.tc : Thread Cert.DwDown02Ideal.nD Cert.DwDown02Ideal.τ).loc Cert.DwDown02Ideal.main_arg1)
      ∧ r.2.mem ((c.tc : Thread Cert.DwDown02Ideal.nD Cert.DwDown02Ideal.τ).loc Cert.DwDown02Ideal.main_arg2) = m ((c.tc : Thread Cert.DwDown02Ideal.nD Cert.DwDown02Ideal.τ).loc Cert.DwDown02Ideal.main_arg2))
      ∧ r.2.sem = fun _ => 0)

def quiescent_DwDown02RefIdeal [hDwDown02RefIdeal : Cert.DwDown02RefIdeal.Facts] : Prop :=
  ∀ (m : (ℓ : Loc Cert.DwDown02RefIdeal.nD Cert.DwDown02RefIdeal.τ Cert.DwDown02RefIdeal.sig) → Buf (Elt Ideal) ℓ) (g : Dev Cert.DwDown02RefIdeal.nD → PrngReg), Pre_DwDown02RefIdeal m →
    θ_run (Cert.DwDown02RefIdeal.defs (F := Ideal)) (onTc (τ := Cert.DwDown02RefIdeal.τ) (Cert.DwDown02RefIdeal.main (F := Ideal))) ⟨m, fun _ => 0, g⟩ (fun r => (∀ c : Dev Cert.DwDown02RefIdeal.nD,
      r.2.mem ((c.tc : Thread Cert.DwDown02RefIdeal.nD Cert.DwDown02RefIdeal.τ).loc Cert.DwDown02RefIdeal.main_arg0) = m ((c.tc : Thread Cert.DwDown02RefIdeal.nD Cert.DwDown02RefIdeal.τ).loc Cert.DwDown02RefIdeal.main_arg0)
      ∧ r.2.mem ((c.tc : Thread Cert.DwDown02RefIdeal.nD Cert.DwDown02RefIdeal.τ).loc Cert.DwDown02RefIdeal.main_arg1) = m ((c.tc : Thread Cert.DwDown02RefIdeal.nD Cert.DwDown02RefIdeal.τ).loc Cert.DwDown02RefIdeal.main_arg1)
      ∧ r.2.mem ((c.tc : Thread Cert.DwDown02RefIdeal.nD Cert.DwDown02RefIdeal.τ).loc Cert.DwDown02RefIdeal.main_arg2) = m ((c.tc : Thread Cert.DwDown02RefIdeal.nD Cert.DwDown02RefIdeal.τ).loc Cert.DwDown02RefIdeal.main_arg2))
      ∧ r.2.sem = fun _ => 0)

def quiescent_DwGate11 [hDwGate11 : Cert.DwGate11.Facts] : Prop :=
  ∀ (m : (ℓ : Loc Cert.DwGate11.nD Cert.DwGate11.τ Cert.DwGate11.sig) → Buf (Elt Bits) ℓ) (g : Dev Cert.DwGate11.nD → PrngReg), Pre_DwGate11 m →
    θ_run (Cert.DwGate11.defs (F := Bits)) (onTc (τ := Cert.DwGate11.τ) (Cert.DwGate11.main (F := Bits))) ⟨m, fun _ => 0, g⟩ (fun r => (∀ c : Dev Cert.DwGate11.nD,
      r.2.mem ((c.tc : Thread Cert.DwGate11.nD Cert.DwGate11.τ).loc Cert.DwGate11.main_arg0) = m ((c.tc : Thread Cert.DwGate11.nD Cert.DwGate11.τ).loc Cert.DwGate11.main_arg0)
      ∧ r.2.mem ((c.tc : Thread Cert.DwGate11.nD Cert.DwGate11.τ).loc Cert.DwGate11.main_arg1) = m ((c.tc : Thread Cert.DwGate11.nD Cert.DwGate11.τ).loc Cert.DwGate11.main_arg1)
      ∧ r.2.mem ((c.tc : Thread Cert.DwGate11.nD Cert.DwGate11.τ).loc Cert.DwGate11.main_arg2) = m ((c.tc : Thread Cert.DwGate11.nD Cert.DwGate11.τ).loc Cert.DwGate11.main_arg2))
      ∧ r.2.sem = fun _ => 0)

def quiescent_DwGate11Ideal [hDwGate11Ideal : Cert.DwGate11Ideal.Facts] : Prop :=
  ∀ (m : (ℓ : Loc Cert.DwGate11Ideal.nD Cert.DwGate11Ideal.τ Cert.DwGate11Ideal.sig) → Buf (Elt Ideal) ℓ) (g : Dev Cert.DwGate11Ideal.nD → PrngReg), Pre_DwGate11Ideal m →
    θ_run (Cert.DwGate11Ideal.defs (F := Ideal)) (onTc (τ := Cert.DwGate11Ideal.τ) (Cert.DwGate11Ideal.main (F := Ideal))) ⟨m, fun _ => 0, g⟩ (fun r => (∀ c : Dev Cert.DwGate11Ideal.nD,
      r.2.mem ((c.tc : Thread Cert.DwGate11Ideal.nD Cert.DwGate11Ideal.τ).loc Cert.DwGate11Ideal.main_arg0) = m ((c.tc : Thread Cert.DwGate11Ideal.nD Cert.DwGate11Ideal.τ).loc Cert.DwGate11Ideal.main_arg0)
      ∧ r.2.mem ((c.tc : Thread Cert.DwGate11Ideal.nD Cert.DwGate11Ideal.τ).loc Cert.DwGate11Ideal.main_arg1) = m ((c.tc : Thread Cert.DwGate11Ideal.nD Cert.DwGate11Ideal.τ).loc Cert.DwGate11Ideal.main_arg1)
      ∧ r.2.mem ((c.tc : Thread Cert.DwGate11Ideal.nD Cert.DwGate11Ideal.τ).loc Cert.DwGate11Ideal.main_arg2) = m ((c.tc : Thread Cert.DwGate11Ideal.nD Cert.DwGate11Ideal.τ).loc Cert.DwGate11Ideal.main_arg2))
      ∧ r.2.sem = fun _ => 0)

def quiescent_DwGate11RefIdeal [hDwGate11RefIdeal : Cert.DwGate11RefIdeal.Facts] : Prop :=
  ∀ (m : (ℓ : Loc Cert.DwGate11RefIdeal.nD Cert.DwGate11RefIdeal.τ Cert.DwGate11RefIdeal.sig) → Buf (Elt Ideal) ℓ) (g : Dev Cert.DwGate11RefIdeal.nD → PrngReg), Pre_DwGate11RefIdeal m →
    θ_run (Cert.DwGate11RefIdeal.defs (F := Ideal)) (onTc (τ := Cert.DwGate11RefIdeal.τ) (Cert.DwGate11RefIdeal.main (F := Ideal))) ⟨m, fun _ => 0, g⟩ (fun r => (∀ c : Dev Cert.DwGate11RefIdeal.nD,
      r.2.mem ((c.tc : Thread Cert.DwGate11RefIdeal.nD Cert.DwGate11RefIdeal.τ).loc Cert.DwGate11RefIdeal.main_arg0) = m ((c.tc : Thread Cert.DwGate11RefIdeal.nD Cert.DwGate11RefIdeal.τ).loc Cert.DwGate11RefIdeal.main_arg0)
      ∧ r.2.mem ((c.tc : Thread Cert.DwGate11RefIdeal.nD Cert.DwGate11RefIdeal.τ).loc Cert.DwGate11RefIdeal.main_arg1) = m ((c.tc : Thread Cert.DwGate11RefIdeal.nD Cert.DwGate11RefIdeal.τ).loc Cert.DwGate11RefIdeal.main_arg1)
      ∧ r.2.mem ((c.tc : Thread Cert.DwGate11RefIdeal.nD Cert.DwGate11RefIdeal.τ).loc Cert.DwGate11RefIdeal.main_arg2) = m ((c.tc : Thread Cert.DwGate11RefIdeal.nD Cert.DwGate11RefIdeal.τ).loc Cert.DwGate11RefIdeal.main_arg2))
      ∧ r.2.sem = fun _ => 0)

def quiescent_DwUp11 [hDwUp11 : Cert.DwUp11.Facts] : Prop :=
  ∀ (m : (ℓ : Loc Cert.DwUp11.nD Cert.DwUp11.τ Cert.DwUp11.sig) → Buf (Elt Bits) ℓ) (g : Dev Cert.DwUp11.nD → PrngReg), Pre_DwUp11 m →
    θ_run (Cert.DwUp11.defs (F := Bits)) (onTc (τ := Cert.DwUp11.τ) (Cert.DwUp11.main (F := Bits))) ⟨m, fun _ => 0, g⟩ (fun r => (∀ c : Dev Cert.DwUp11.nD,
      r.2.mem ((c.tc : Thread Cert.DwUp11.nD Cert.DwUp11.τ).loc Cert.DwUp11.main_arg0) = m ((c.tc : Thread Cert.DwUp11.nD Cert.DwUp11.τ).loc Cert.DwUp11.main_arg0)
      ∧ r.2.mem ((c.tc : Thread Cert.DwUp11.nD Cert.DwUp11.τ).loc Cert.DwUp11.main_arg1) = m ((c.tc : Thread Cert.DwUp11.nD Cert.DwUp11.τ).loc Cert.DwUp11.main_arg1)
      ∧ r.2.mem ((c.tc : Thread Cert.DwUp11.nD Cert.DwUp11.τ).loc Cert.DwUp11.main_arg2) = m ((c.tc : Thread Cert.DwUp11.nD Cert.DwUp11.τ).loc Cert.DwUp11.main_arg2))
      ∧ r.2.sem = fun _ => 0)

def quiescent_DwUp11Ideal [hDwUp11Ideal : Cert.DwUp11Ideal.Facts] : Prop :=
  ∀ (m : (ℓ : Loc Cert.DwUp11Ideal.nD Cert.DwUp11Ideal.τ Cert.DwUp11Ideal.sig) → Buf (Elt Ideal) ℓ) (g : Dev Cert.DwUp11Ideal.nD → PrngReg), Pre_DwUp11Ideal m →
    θ_run (Cert.DwUp11Ideal.defs (F := Ideal)) (onTc (τ := Cert.DwUp11Ideal.τ) (Cert.DwUp11Ideal.main (F := Ideal))) ⟨m, fun _ => 0, g⟩ (fun r => (∀ c : Dev Cert.DwUp11Ideal.nD,
      r.2.mem ((c.tc : Thread Cert.DwUp11Ideal.nD Cert.DwUp11Ideal.τ).loc Cert.DwUp11Ideal.main_arg0) = m ((c.tc : Thread Cert.DwUp11Ideal.nD Cert.DwUp11Ideal.τ).loc Cert.DwUp11Ideal.main_arg0)
      ∧ r.2.mem ((c.tc : Thread Cert.DwUp11Ideal.nD Cert.DwUp11Ideal.τ).loc Cert.DwUp11Ideal.main_arg1) = m ((c.tc : Thread Cert.DwUp11Ideal.nD Cert.DwUp11Ideal.τ).loc Cert.DwUp11Ideal.main_arg1)
      ∧ r.2.mem ((c.tc : Thread Cert.DwUp11Ideal.nD Cert.DwUp11Ideal.τ).loc Cert.DwUp11Ideal.main_arg2) = m ((c.tc : Thread Cert.DwUp11Ideal.nD Cert.DwUp11Ideal.τ).loc Cert.DwUp11Ideal.main_arg2))
      ∧ r.2.sem = fun _ => 0)

def quiescent_DwUp11RefIdeal [hDwUp11RefIdeal : Cert.DwUp11RefIdeal.Facts] : Prop :=
  ∀ (m : (ℓ : Loc Cert.DwUp11RefIdeal.nD Cert.DwUp11RefIdeal.τ Cert.DwUp11RefIdeal.sig) → Buf (Elt Ideal) ℓ) (g : Dev Cert.DwUp11RefIdeal.nD → PrngReg), Pre_DwUp11RefIdeal m →
    θ_run (Cert.DwUp11RefIdeal.defs (F := Ideal)) (onTc (τ := Cert.DwUp11RefIdeal.τ) (Cert.DwUp11RefIdeal.main (F := Ideal))) ⟨m, fun _ => 0, g⟩ (fun r => (∀ c : Dev Cert.DwUp11RefIdeal.nD,
      r.2.mem ((c.tc : Thread Cert.DwUp11RefIdeal.nD Cert.DwUp11RefIdeal.τ).loc Cert.DwUp11RefIdeal.main_arg0) = m ((c.tc : Thread Cert.DwUp11RefIdeal.nD Cert.DwUp11RefIdeal.τ).loc Cert.DwUp11RefIdeal.main_arg0)
      ∧ r.2.mem ((c.tc : Thread Cert.DwUp11RefIdeal.nD Cert.DwUp11RefIdeal.τ).loc Cert.DwUp11RefIdeal.main_arg1) = m ((c.tc : Thread Cert.DwUp11RefIdeal.nD Cert.DwUp11RefIdeal.τ).loc Cert.DwUp11RefIdeal.main_arg1)
      ∧ r.2.mem ((c.tc : Thread Cert.DwUp11RefIdeal.nD Cert.DwUp11RefIdeal.τ).loc Cert.DwUp11RefIdeal.main_arg2) = m ((c.tc : Thread Cert.DwUp11RefIdeal.nD Cert.DwUp11RefIdeal.τ).loc Cert.DwUp11RefIdeal.main_arg2))
      ∧ r.2.sem = fun _ => 0)

def quiescent_DwDown11 [hDwDown11 : Cert.DwDown11.Facts] : Prop :=
  ∀ (m : (ℓ : Loc Cert.DwDown11.nD Cert.DwDown11.τ Cert.DwDown11.sig) → Buf (Elt Bits) ℓ) (g : Dev Cert.DwDown11.nD → PrngReg), Pre_DwDown11 m →
    θ_run (Cert.DwDown11.defs (F := Bits)) (onTc (τ := Cert.DwDown11.τ) (Cert.DwDown11.main (F := Bits))) ⟨m, fun _ => 0, g⟩ (fun r => (∀ c : Dev Cert.DwDown11.nD,
      r.2.mem ((c.tc : Thread Cert.DwDown11.nD Cert.DwDown11.τ).loc Cert.DwDown11.main_arg0) = m ((c.tc : Thread Cert.DwDown11.nD Cert.DwDown11.τ).loc Cert.DwDown11.main_arg0)
      ∧ r.2.mem ((c.tc : Thread Cert.DwDown11.nD Cert.DwDown11.τ).loc Cert.DwDown11.main_arg1) = m ((c.tc : Thread Cert.DwDown11.nD Cert.DwDown11.τ).loc Cert.DwDown11.main_arg1)
      ∧ r.2.mem ((c.tc : Thread Cert.DwDown11.nD Cert.DwDown11.τ).loc Cert.DwDown11.main_arg2) = m ((c.tc : Thread Cert.DwDown11.nD Cert.DwDown11.τ).loc Cert.DwDown11.main_arg2))
      ∧ r.2.sem = fun _ => 0)

def quiescent_DwDown11Ideal [hDwDown11Ideal : Cert.DwDown11Ideal.Facts] : Prop :=
  ∀ (m : (ℓ : Loc Cert.DwDown11Ideal.nD Cert.DwDown11Ideal.τ Cert.DwDown11Ideal.sig) → Buf (Elt Ideal) ℓ) (g : Dev Cert.DwDown11Ideal.nD → PrngReg), Pre_DwDown11Ideal m →
    θ_run (Cert.DwDown11Ideal.defs (F := Ideal)) (onTc (τ := Cert.DwDown11Ideal.τ) (Cert.DwDown11Ideal.main (F := Ideal))) ⟨m, fun _ => 0, g⟩ (fun r => (∀ c : Dev Cert.DwDown11Ideal.nD,
      r.2.mem ((c.tc : Thread Cert.DwDown11Ideal.nD Cert.DwDown11Ideal.τ).loc Cert.DwDown11Ideal.main_arg0) = m ((c.tc : Thread Cert.DwDown11Ideal.nD Cert.DwDown11Ideal.τ).loc Cert.DwDown11Ideal.main_arg0)
      ∧ r.2.mem ((c.tc : Thread Cert.DwDown11Ideal.nD Cert.DwDown11Ideal.τ).loc Cert.DwDown11Ideal.main_arg1) = m ((c.tc : Thread Cert.DwDown11Ideal.nD Cert.DwDown11Ideal.τ).loc Cert.DwDown11Ideal.main_arg1)
      ∧ r.2.mem ((c.tc : Thread Cert.DwDown11Ideal.nD Cert.DwDown11Ideal.τ).loc Cert.DwDown11Ideal.main_arg2) = m ((c.tc : Thread Cert.DwDown11Ideal.nD Cert.DwDown11Ideal.τ).loc Cert.DwDown11Ideal.main_arg2))
      ∧ r.2.sem = fun _ => 0)

def quiescent_DwDown11RefIdeal [hDwDown11RefIdeal : Cert.DwDown11RefIdeal.Facts] : Prop :=
  ∀ (m : (ℓ : Loc Cert.DwDown11RefIdeal.nD Cert.DwDown11RefIdeal.τ Cert.DwDown11RefIdeal.sig) → Buf (Elt Ideal) ℓ) (g : Dev Cert.DwDown11RefIdeal.nD → PrngReg), Pre_DwDown11RefIdeal m →
    θ_run (Cert.DwDown11RefIdeal.defs (F := Ideal)) (onTc (τ := Cert.DwDown11RefIdeal.τ) (Cert.DwDown11RefIdeal.main (F := Ideal))) ⟨m, fun _ => 0, g⟩ (fun r => (∀ c : Dev Cert.DwDown11RefIdeal.nD,
      r.2.mem ((c.tc : Thread Cert.DwDown11RefIdeal.nD Cert.DwDown11RefIdeal.τ).loc Cert.DwDown11RefIdeal.main_arg0) = m ((c.tc : Thread Cert.DwDown11RefIdeal.nD Cert.DwDown11RefIdeal.τ).loc Cert.DwDown11RefIdeal.main_arg0)
      ∧ r.2.mem ((c.tc : Thread Cert.DwDown11RefIdeal.nD Cert.DwDown11RefIdeal.τ).loc Cert.DwDown11RefIdeal.main_arg1) = m ((c.tc : Thread Cert.DwDown11RefIdeal.nD Cert.DwDown11RefIdeal.τ).loc Cert.DwDown11RefIdeal.main_arg1)
      ∧ r.2.mem ((c.tc : Thread Cert.DwDown11RefIdeal.nD Cert.DwDown11RefIdeal.τ).loc Cert.DwDown11RefIdeal.main_arg2) = m ((c.tc : Thread Cert.DwDown11RefIdeal.nD Cert.DwDown11RefIdeal.τ).loc Cert.DwDown11RefIdeal.main_arg2))
      ∧ r.2.sem = fun _ => 0)

def quiescent_DwGate12 [hDwGate12 : Cert.DwGate12.Facts] : Prop :=
  ∀ (m : (ℓ : Loc Cert.DwGate12.nD Cert.DwGate12.τ Cert.DwGate12.sig) → Buf (Elt Bits) ℓ) (g : Dev Cert.DwGate12.nD → PrngReg), Pre_DwGate12 m →
    θ_run (Cert.DwGate12.defs (F := Bits)) (onTc (τ := Cert.DwGate12.τ) (Cert.DwGate12.main (F := Bits))) ⟨m, fun _ => 0, g⟩ (fun r => (∀ c : Dev Cert.DwGate12.nD,
      r.2.mem ((c.tc : Thread Cert.DwGate12.nD Cert.DwGate12.τ).loc Cert.DwGate12.main_arg0) = m ((c.tc : Thread Cert.DwGate12.nD Cert.DwGate12.τ).loc Cert.DwGate12.main_arg0)
      ∧ r.2.mem ((c.tc : Thread Cert.DwGate12.nD Cert.DwGate12.τ).loc Cert.DwGate12.main_arg1) = m ((c.tc : Thread Cert.DwGate12.nD Cert.DwGate12.τ).loc Cert.DwGate12.main_arg1)
      ∧ r.2.mem ((c.tc : Thread Cert.DwGate12.nD Cert.DwGate12.τ).loc Cert.DwGate12.main_arg2) = m ((c.tc : Thread Cert.DwGate12.nD Cert.DwGate12.τ).loc Cert.DwGate12.main_arg2))
      ∧ r.2.sem = fun _ => 0)

def quiescent_DwGate12Ideal [hDwGate12Ideal : Cert.DwGate12Ideal.Facts] : Prop :=
  ∀ (m : (ℓ : Loc Cert.DwGate12Ideal.nD Cert.DwGate12Ideal.τ Cert.DwGate12Ideal.sig) → Buf (Elt Ideal) ℓ) (g : Dev Cert.DwGate12Ideal.nD → PrngReg), Pre_DwGate12Ideal m →
    θ_run (Cert.DwGate12Ideal.defs (F := Ideal)) (onTc (τ := Cert.DwGate12Ideal.τ) (Cert.DwGate12Ideal.main (F := Ideal))) ⟨m, fun _ => 0, g⟩ (fun r => (∀ c : Dev Cert.DwGate12Ideal.nD,
      r.2.mem ((c.tc : Thread Cert.DwGate12Ideal.nD Cert.DwGate12Ideal.τ).loc Cert.DwGate12Ideal.main_arg0) = m ((c.tc : Thread Cert.DwGate12Ideal.nD Cert.DwGate12Ideal.τ).loc Cert.DwGate12Ideal.main_arg0)
      ∧ r.2.mem ((c.tc : Thread Cert.DwGate12Ideal.nD Cert.DwGate12Ideal.τ).loc Cert.DwGate12Ideal.main_arg1) = m ((c.tc : Thread Cert.DwGate12Ideal.nD Cert.DwGate12Ideal.τ).loc Cert.DwGate12Ideal.main_arg1)
      ∧ r.2.mem ((c.tc : Thread Cert.DwGate12Ideal.nD Cert.DwGate12Ideal.τ).loc Cert.DwGate12Ideal.main_arg2) = m ((c.tc : Thread Cert.DwGate12Ideal.nD Cert.DwGate12Ideal.τ).loc Cert.DwGate12Ideal.main_arg2))
      ∧ r.2.sem = fun _ => 0)

def quiescent_DwGate12RefIdeal [hDwGate12RefIdeal : Cert.DwGate12RefIdeal.Facts] : Prop :=
  ∀ (m : (ℓ : Loc Cert.DwGate12RefIdeal.nD Cert.DwGate12RefIdeal.τ Cert.DwGate12RefIdeal.sig) → Buf (Elt Ideal) ℓ) (g : Dev Cert.DwGate12RefIdeal.nD → PrngReg), Pre_DwGate12RefIdeal m →
    θ_run (Cert.DwGate12RefIdeal.defs (F := Ideal)) (onTc (τ := Cert.DwGate12RefIdeal.τ) (Cert.DwGate12RefIdeal.main (F := Ideal))) ⟨m, fun _ => 0, g⟩ (fun r => (∀ c : Dev Cert.DwGate12RefIdeal.nD,
      r.2.mem ((c.tc : Thread Cert.DwGate12RefIdeal.nD Cert.DwGate12RefIdeal.τ).loc Cert.DwGate12RefIdeal.main_arg0) = m ((c.tc : Thread Cert.DwGate12RefIdeal.nD Cert.DwGate12RefIdeal.τ).loc Cert.DwGate12RefIdeal.main_arg0)
      ∧ r.2.mem ((c.tc : Thread Cert.DwGate12RefIdeal.nD Cert.DwGate12RefIdeal.τ).loc Cert.DwGate12RefIdeal.main_arg1) = m ((c.tc : Thread Cert.DwGate12RefIdeal.nD Cert.DwGate12RefIdeal.τ).loc Cert.DwGate12RefIdeal.main_arg1)
      ∧ r.2.mem ((c.tc : Thread Cert.DwGate12RefIdeal.nD Cert.DwGate12RefIdeal.τ).loc Cert.DwGate12RefIdeal.main_arg2) = m ((c.tc : Thread Cert.DwGate12RefIdeal.nD Cert.DwGate12RefIdeal.τ).loc Cert.DwGate12RefIdeal.main_arg2))
      ∧ r.2.sem = fun _ => 0)

def quiescent_DwUp12 [hDwUp12 : Cert.DwUp12.Facts] : Prop :=
  ∀ (m : (ℓ : Loc Cert.DwUp12.nD Cert.DwUp12.τ Cert.DwUp12.sig) → Buf (Elt Bits) ℓ) (g : Dev Cert.DwUp12.nD → PrngReg), Pre_DwUp12 m →
    θ_run (Cert.DwUp12.defs (F := Bits)) (onTc (τ := Cert.DwUp12.τ) (Cert.DwUp12.main (F := Bits))) ⟨m, fun _ => 0, g⟩ (fun r => (∀ c : Dev Cert.DwUp12.nD,
      r.2.mem ((c.tc : Thread Cert.DwUp12.nD Cert.DwUp12.τ).loc Cert.DwUp12.main_arg0) = m ((c.tc : Thread Cert.DwUp12.nD Cert.DwUp12.τ).loc Cert.DwUp12.main_arg0)
      ∧ r.2.mem ((c.tc : Thread Cert.DwUp12.nD Cert.DwUp12.τ).loc Cert.DwUp12.main_arg1) = m ((c.tc : Thread Cert.DwUp12.nD Cert.DwUp12.τ).loc Cert.DwUp12.main_arg1)
      ∧ r.2.mem ((c.tc : Thread Cert.DwUp12.nD Cert.DwUp12.τ).loc Cert.DwUp12.main_arg2) = m ((c.tc : Thread Cert.DwUp12.nD Cert.DwUp12.τ).loc Cert.DwUp12.main_arg2))
      ∧ r.2.sem = fun _ => 0)

def quiescent_DwUp12Ideal [hDwUp12Ideal : Cert.DwUp12Ideal.Facts] : Prop :=
  ∀ (m : (ℓ : Loc Cert.DwUp12Ideal.nD Cert.DwUp12Ideal.τ Cert.DwUp12Ideal.sig) → Buf (Elt Ideal) ℓ) (g : Dev Cert.DwUp12Ideal.nD → PrngReg), Pre_DwUp12Ideal m →
    θ_run (Cert.DwUp12Ideal.defs (F := Ideal)) (onTc (τ := Cert.DwUp12Ideal.τ) (Cert.DwUp12Ideal.main (F := Ideal))) ⟨m, fun _ => 0, g⟩ (fun r => (∀ c : Dev Cert.DwUp12Ideal.nD,
      r.2.mem ((c.tc : Thread Cert.DwUp12Ideal.nD Cert.DwUp12Ideal.τ).loc Cert.DwUp12Ideal.main_arg0) = m ((c.tc : Thread Cert.DwUp12Ideal.nD Cert.DwUp12Ideal.τ).loc Cert.DwUp12Ideal.main_arg0)
      ∧ r.2.mem ((c.tc : Thread Cert.DwUp12Ideal.nD Cert.DwUp12Ideal.τ).loc Cert.DwUp12Ideal.main_arg1) = m ((c.tc : Thread Cert.DwUp12Ideal.nD Cert.DwUp12Ideal.τ).loc Cert.DwUp12Ideal.main_arg1)
      ∧ r.2.mem ((c.tc : Thread Cert.DwUp12Ideal.nD Cert.DwUp12Ideal.τ).loc Cert.DwUp12Ideal.main_arg2) = m ((c.tc : Thread Cert.DwUp12Ideal.nD Cert.DwUp12Ideal.τ).loc Cert.DwUp12Ideal.main_arg2))
      ∧ r.2.sem = fun _ => 0)

def quiescent_DwUp12RefIdeal [hDwUp12RefIdeal : Cert.DwUp12RefIdeal.Facts] : Prop :=
  ∀ (m : (ℓ : Loc Cert.DwUp12RefIdeal.nD Cert.DwUp12RefIdeal.τ Cert.DwUp12RefIdeal.sig) → Buf (Elt Ideal) ℓ) (g : Dev Cert.DwUp12RefIdeal.nD → PrngReg), Pre_DwUp12RefIdeal m →
    θ_run (Cert.DwUp12RefIdeal.defs (F := Ideal)) (onTc (τ := Cert.DwUp12RefIdeal.τ) (Cert.DwUp12RefIdeal.main (F := Ideal))) ⟨m, fun _ => 0, g⟩ (fun r => (∀ c : Dev Cert.DwUp12RefIdeal.nD,
      r.2.mem ((c.tc : Thread Cert.DwUp12RefIdeal.nD Cert.DwUp12RefIdeal.τ).loc Cert.DwUp12RefIdeal.main_arg0) = m ((c.tc : Thread Cert.DwUp12RefIdeal.nD Cert.DwUp12RefIdeal.τ).loc Cert.DwUp12RefIdeal.main_arg0)
      ∧ r.2.mem ((c.tc : Thread Cert.DwUp12RefIdeal.nD Cert.DwUp12RefIdeal.τ).loc Cert.DwUp12RefIdeal.main_arg1) = m ((c.tc : Thread Cert.DwUp12RefIdeal.nD Cert.DwUp12RefIdeal.τ).loc Cert.DwUp12RefIdeal.main_arg1)
      ∧ r.2.mem ((c.tc : Thread Cert.DwUp12RefIdeal.nD Cert.DwUp12RefIdeal.τ).loc Cert.DwUp12RefIdeal.main_arg2) = m ((c.tc : Thread Cert.DwUp12RefIdeal.nD Cert.DwUp12RefIdeal.τ).loc Cert.DwUp12RefIdeal.main_arg2))
      ∧ r.2.sem = fun _ => 0)

def quiescent_DwDown12 [hDwDown12 : Cert.DwDown12.Facts] : Prop :=
  ∀ (m : (ℓ : Loc Cert.DwDown12.nD Cert.DwDown12.τ Cert.DwDown12.sig) → Buf (Elt Bits) ℓ) (g : Dev Cert.DwDown12.nD → PrngReg), Pre_DwDown12 m →
    θ_run (Cert.DwDown12.defs (F := Bits)) (onTc (τ := Cert.DwDown12.τ) (Cert.DwDown12.main (F := Bits))) ⟨m, fun _ => 0, g⟩ (fun r => (∀ c : Dev Cert.DwDown12.nD,
      r.2.mem ((c.tc : Thread Cert.DwDown12.nD Cert.DwDown12.τ).loc Cert.DwDown12.main_arg0) = m ((c.tc : Thread Cert.DwDown12.nD Cert.DwDown12.τ).loc Cert.DwDown12.main_arg0)
      ∧ r.2.mem ((c.tc : Thread Cert.DwDown12.nD Cert.DwDown12.τ).loc Cert.DwDown12.main_arg1) = m ((c.tc : Thread Cert.DwDown12.nD Cert.DwDown12.τ).loc Cert.DwDown12.main_arg1)
      ∧ r.2.mem ((c.tc : Thread Cert.DwDown12.nD Cert.DwDown12.τ).loc Cert.DwDown12.main_arg2) = m ((c.tc : Thread Cert.DwDown12.nD Cert.DwDown12.τ).loc Cert.DwDown12.main_arg2))
      ∧ r.2.sem = fun _ => 0)

def quiescent_DwDown12Ideal [hDwDown12Ideal : Cert.DwDown12Ideal.Facts] : Prop :=
  ∀ (m : (ℓ : Loc Cert.DwDown12Ideal.nD Cert.DwDown12Ideal.τ Cert.DwDown12Ideal.sig) → Buf (Elt Ideal) ℓ) (g : Dev Cert.DwDown12Ideal.nD → PrngReg), Pre_DwDown12Ideal m →
    θ_run (Cert.DwDown12Ideal.defs (F := Ideal)) (onTc (τ := Cert.DwDown12Ideal.τ) (Cert.DwDown12Ideal.main (F := Ideal))) ⟨m, fun _ => 0, g⟩ (fun r => (∀ c : Dev Cert.DwDown12Ideal.nD,
      r.2.mem ((c.tc : Thread Cert.DwDown12Ideal.nD Cert.DwDown12Ideal.τ).loc Cert.DwDown12Ideal.main_arg0) = m ((c.tc : Thread Cert.DwDown12Ideal.nD Cert.DwDown12Ideal.τ).loc Cert.DwDown12Ideal.main_arg0)
      ∧ r.2.mem ((c.tc : Thread Cert.DwDown12Ideal.nD Cert.DwDown12Ideal.τ).loc Cert.DwDown12Ideal.main_arg1) = m ((c.tc : Thread Cert.DwDown12Ideal.nD Cert.DwDown12Ideal.τ).loc Cert.DwDown12Ideal.main_arg1)
      ∧ r.2.mem ((c.tc : Thread Cert.DwDown12Ideal.nD Cert.DwDown12Ideal.τ).loc Cert.DwDown12Ideal.main_arg2) = m ((c.tc : Thread Cert.DwDown12Ideal.nD Cert.DwDown12Ideal.τ).loc Cert.DwDown12Ideal.main_arg2))
      ∧ r.2.sem = fun _ => 0)

def quiescent_DwDown12RefIdeal [hDwDown12RefIdeal : Cert.DwDown12RefIdeal.Facts] : Prop :=
  ∀ (m : (ℓ : Loc Cert.DwDown12RefIdeal.nD Cert.DwDown12RefIdeal.τ Cert.DwDown12RefIdeal.sig) → Buf (Elt Ideal) ℓ) (g : Dev Cert.DwDown12RefIdeal.nD → PrngReg), Pre_DwDown12RefIdeal m →
    θ_run (Cert.DwDown12RefIdeal.defs (F := Ideal)) (onTc (τ := Cert.DwDown12RefIdeal.τ) (Cert.DwDown12RefIdeal.main (F := Ideal))) ⟨m, fun _ => 0, g⟩ (fun r => (∀ c : Dev Cert.DwDown12RefIdeal.nD,
      r.2.mem ((c.tc : Thread Cert.DwDown12RefIdeal.nD Cert.DwDown12RefIdeal.τ).loc Cert.DwDown12RefIdeal.main_arg0) = m ((c.tc : Thread Cert.DwDown12RefIdeal.nD Cert.DwDown12RefIdeal.τ).loc Cert.DwDown12RefIdeal.main_arg0)
      ∧ r.2.mem ((c.tc : Thread Cert.DwDown12RefIdeal.nD Cert.DwDown12RefIdeal.τ).loc Cert.DwDown12RefIdeal.main_arg1) = m ((c.tc : Thread Cert.DwDown12RefIdeal.nD Cert.DwDown12RefIdeal.τ).loc Cert.DwDown12RefIdeal.main_arg1)
      ∧ r.2.mem ((c.tc : Thread Cert.DwDown12RefIdeal.nD Cert.DwDown12RefIdeal.τ).loc Cert.DwDown12RefIdeal.main_arg2) = m ((c.tc : Thread Cert.DwDown12RefIdeal.nD Cert.DwDown12RefIdeal.τ).loc Cert.DwDown12RefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)) →
    ∃ (v0 : (c : Dev Cert.InProjBwdIdeal.nD) → Buf (Elt Ideal) ((c.tc : Thread Cert.InProjBwdIdeal.nD Cert.InProjBwdIdeal.τ).loc Cert.InProjBwdIdeal.main_v4_0)) (v1 : (c : Dev Cert.InProjBwdIdeal.nD) → Buf (Elt Ideal) ((c.tc : Thread Cert.InProjBwdIdeal.nD Cert.InProjBwdIdeal.τ).loc Cert.InProjBwdIdeal.main_v4_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v4_0) = v0 c
          ∧ r.2.mem ((c.tc : Thread Cert.InProjBwdIdeal.nD Cert.InProjBwdIdeal.τ).loc Cert.InProjBwdIdeal.main_v4_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v38) = v0 c
          ∧ r.2.mem ((c.tc : Thread Cert.InProjBwdRefIdeal.nD Cert.InProjBwdRefIdeal.τ).loc Cert.InProjBwdRefIdeal.main_v39) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v2)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v2) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v5) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_OutProjBwd_OutProjBwdIdeal : Prop :=
  True

def algebraic_OutProjBwdIdeal_OutProjBwdRefIdeal [hOutProjBwdIdeal : Cert.OutProjBwdIdeal.Facts] [hOutProjBwdRefIdeal : Cert.OutProjBwdRefIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)) →
    ∃ (v0 : (c : Dev Cert.OutProjBwdIdeal.nD) → Buf (Elt Ideal) ((c.tc : Thread Cert.OutProjBwdIdeal.nD Cert.OutProjBwdIdeal.τ).loc Cert.OutProjBwdIdeal.main_v1)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v1) = v0 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v2) = v0 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1))

def preserves_KernelA_KernelAIdeal : Prop :=
  True

def algebraic_KernelAIdeal_ReferenceIdeal_pre_finite [hKernelAIdeal : Cert.KernelAIdeal.Facts] [hReferenceIdeal : Cert.ReferenceIdeal.Facts] [hPre_finite : Cert.Pre_finite.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelAIdeal_finite m →
    (∀ c : Dev Cert.KernelAIdeal.nD,
      m' ((c.tc : Thread Cert.ReferenceIdeal.nD Cert.ReferenceIdeal.τ).loc Cert.ReferenceIdeal.main_arg0) = m ((c.tc : Thread Cert.KernelAIdeal.nD Cert.KernelAIdeal.τ).loc Cert.KernelAIdeal.main_arg0)
      ∧ m' ((c.tc : Thread Cert.ReferenceIdeal.nD Cert.ReferenceIdeal.τ).loc Cert.ReferenceIdeal.main_arg1) = m ((c.tc : Thread Cert.KernelAIdeal.nD Cert.KernelAIdeal.τ).loc Cert.KernelAIdeal.main_arg1)
      ∧ m' ((c.tc : Thread Cert.ReferenceIdeal.nD Cert.ReferenceIdeal.τ).loc Cert.ReferenceIdeal.main_arg2) = m ((c.tc : Thread Cert.KernelAIdeal.nD Cert.KernelAIdeal.τ).loc Cert.KernelAIdeal.main_arg2)
      ∧ m' ((c.tc : Thread Cert.ReferenceIdeal.nD Cert.ReferenceIdeal.τ).loc Cert.ReferenceIdeal.main_arg3) = m ((c.tc : Thread Cert.KernelAIdeal.nD Cert.KernelAIdeal.τ).loc Cert.KernelAIdeal.main_arg3)
      ∧ m' ((c.tc : Thread Cert.ReferenceIdeal.nD Cert.ReferenceIdeal.τ).loc Cert.ReferenceIdeal.main_arg4) = m ((c.tc : Thread Cert.KernelAIdeal.nD Cert.KernelAIdeal.τ).loc Cert.KernelAIdeal.main_arg4)
      ∧ m' ((c.tc : Thread Cert.ReferenceIdeal.nD Cert.ReferenceIdeal.τ).loc Cert.ReferenceIdeal.main_arg5) = m ((c.tc : Thread Cert.KernelAIdeal.nD Cert.KernelAIdeal.τ).loc Cert.KernelAIdeal.main_arg5)) →
    ∃ (v0 : (c : Dev Cert.KernelAIdeal.nD) → Buf (Elt Ideal) ((c.tc : Thread Cert.KernelAIdeal.nD Cert.KernelAIdeal.τ).loc Cert.KernelAIdeal.main_v37_0)) (v1 : (c : Dev Cert.KernelAIdeal.nD) → Buf (Elt Ideal) ((c.tc : Thread Cert.KernelAIdeal.nD Cert.KernelAIdeal.τ).loc Cert.KernelAIdeal.main_v37_1)) (v2 : (c : Dev Cert.KernelAIdeal.nD) → Buf (Elt Ideal) ((c.tc : Thread Cert.KernelAIdeal.nD Cert.KernelAIdeal.τ).loc Cert.KernelAIdeal.main_v37_2)) (v3 : (c : Dev Cert.KernelAIdeal.nD) → Buf (Elt Ideal) ((c.tc : Thread Cert.KernelAIdeal.nD Cert.KernelAIdeal.τ).loc Cert.KernelAIdeal.main_v37_3)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v37_0) = v0 c
          ∧ r.2.mem ((c.tc : Thread Cert.KernelAIdeal.nD Cert.KernelAIdeal.τ).loc Cert.KernelAIdeal.main_v37_1) = v1 c
          ∧ r.2.mem ((c.tc : Thread Cert.KernelAIdeal.nD Cert.KernelAIdeal.τ).loc Cert.KernelAIdeal.main_v37_2) = v2 c
          ∧ r.2.mem ((c.tc : Thread Cert.KernelAIdeal.nD Cert.KernelAIdeal.τ).loc Cert.KernelAIdeal.main_v37_3) = v3 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelB_KernelBIdeal : Prop :=
  True

def algebraic_KernelBIdeal_ReferenceIdeal_pre_finite [hKernelBIdeal : Cert.KernelBIdeal.Facts] [hReferenceIdeal : Cert.ReferenceIdeal.Facts] [hPre_finite : Cert.Pre_finite.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelBIdeal_finite m →
    (∀ c : Dev Cert.KernelBIdeal.nD,
      m' ((c.tc : Thread Cert.ReferenceIdeal.nD Cert.ReferenceIdeal.τ).loc Cert.ReferenceIdeal.main_arg0) = m ((c.tc : Thread Cert.KernelBIdeal.nD Cert.KernelBIdeal.τ).loc Cert.KernelBIdeal.main_arg0)
      ∧ m' ((c.tc : Thread Cert.ReferenceIdeal.nD Cert.ReferenceIdeal.τ).loc Cert.ReferenceIdeal.main_arg1) = m ((c.tc : Thread Cert.KernelBIdeal.nD Cert.KernelBIdeal.τ).loc Cert.KernelBIdeal.main_arg1)
      ∧ m' ((c.tc : Thread Cert.ReferenceIdeal.nD Cert.ReferenceIdeal.τ).loc Cert.ReferenceIdeal.main_arg2) = m ((c.tc : Thread Cert.KernelBIdeal.nD Cert.KernelBIdeal.τ).loc Cert.KernelBIdeal.main_arg2)
      ∧ m' ((c.tc : Thread Cert.ReferenceIdeal.nD Cert.ReferenceIdeal.τ).loc Cert.ReferenceIdeal.main_arg3) = m ((c.tc : Thread Cert.KernelBIdeal.nD Cert.KernelBIdeal.τ).loc Cert.KernelBIdeal.main_arg3)
      ∧ m' ((c.tc : Thread Cert.ReferenceIdeal.nD Cert.ReferenceIdeal.τ).loc Cert.ReferenceIdeal.main_arg4) = m ((c.tc : Thread Cert.KernelBIdeal.nD Cert.KernelBIdeal.τ).loc Cert.KernelBIdeal.main_arg4)
      ∧ m' ((c.tc : Thread Cert.ReferenceIdeal.nD Cert.ReferenceIdeal.τ).loc Cert.ReferenceIdeal.main_arg5) = m ((c.tc : Thread Cert.KernelBIdeal.nD Cert.KernelBIdeal.τ).loc Cert.KernelBIdeal.main_arg5)) →
    ∃ (v0 : (c : Dev Cert.KernelBIdeal.nD) → Buf (Elt Ideal) ((c.tc : Thread Cert.KernelBIdeal.nD Cert.KernelBIdeal.τ).loc Cert.KernelBIdeal.main_v37_0)) (v1 : (c : Dev Cert.KernelBIdeal.nD) → Buf (Elt Ideal) ((c.tc : Thread Cert.KernelBIdeal.nD Cert.KernelBIdeal.τ).loc Cert.KernelBIdeal.main_v37_1)) (v2 : (c : Dev Cert.KernelBIdeal.nD) → Buf (Elt Ideal) ((c.tc : Thread Cert.KernelBIdeal.nD Cert.KernelBIdeal.τ).loc Cert.KernelBIdeal.main_v37_2)) (v3 : (c : Dev Cert.KernelBIdeal.nD) → Buf (Elt Ideal) ((c.tc : Thread Cert.KernelBIdeal.nD Cert.KernelBIdeal.τ).loc Cert.KernelBIdeal.main_v37_3)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v37_0) = v0 c
          ∧ r.2.mem ((c.tc : Thread Cert.KernelBIdeal.nD Cert.KernelBIdeal.τ).loc Cert.KernelBIdeal.main_v37_1) = v1 c
          ∧ r.2.mem ((c.tc : Thread Cert.KernelBIdeal.nD Cert.KernelBIdeal.τ).loc Cert.KernelBIdeal.main_v37_2) = v2 c
          ∧ r.2.mem ((c.tc : Thread Cert.KernelBIdeal.nD Cert.KernelBIdeal.τ).loc Cert.KernelBIdeal.main_v37_3) = v3 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelC_KernelCIdeal : Prop :=
  True

def algebraic_KernelCIdeal_ReferenceIdeal_pre_finite [hKernelCIdeal : Cert.KernelCIdeal.Facts] [hReferenceIdeal : Cert.ReferenceIdeal.Facts] [hPre_finite : Cert.Pre_finite.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelCIdeal_finite m →
    (∀ c : Dev Cert.KernelCIdeal.nD,
      m' ((c.tc : Thread Cert.ReferenceIdeal.nD Cert.ReferenceIdeal.τ).loc Cert.ReferenceIdeal.main_arg0) = m ((c.tc : Thread Cert.KernelCIdeal.nD Cert.KernelCIdeal.τ).loc Cert.KernelCIdeal.main_arg0)
      ∧ m' ((c.tc : Thread Cert.ReferenceIdeal.nD Cert.ReferenceIdeal.τ).loc Cert.ReferenceIdeal.main_arg1) = m ((c.tc : Thread Cert.KernelCIdeal.nD Cert.KernelCIdeal.τ).loc Cert.KernelCIdeal.main_arg1)
      ∧ m' ((c.tc : Thread Cert.ReferenceIdeal.nD Cert.ReferenceIdeal.τ).loc Cert.ReferenceIdeal.main_arg2) = m ((c.tc : Thread Cert.KernelCIdeal.nD Cert.KernelCIdeal.τ).loc Cert.KernelCIdeal.main_arg2)
      ∧ m' ((c.tc : Thread Cert.ReferenceIdeal.nD Cert.ReferenceIdeal.τ).loc Cert.ReferenceIdeal.main_arg3) = m ((c.tc : Thread Cert.KernelCIdeal.nD Cert.KernelCIdeal.τ).loc Cert.KernelCIdeal.main_arg3)
      ∧ m' ((c.tc : Thread Cert.ReferenceIdeal.nD Cert.ReferenceIdeal.τ).loc Cert.ReferenceIdeal.main_arg4) = m ((c.tc : Thread Cert.KernelCIdeal.nD Cert.KernelCIdeal.τ).loc Cert.KernelCIdeal.main_arg4)
      ∧ m' ((c.tc : Thread Cert.ReferenceIdeal.nD Cert.ReferenceIdeal.τ).loc Cert.ReferenceIdeal.main_arg5) = m ((c.tc : Thread Cert.KernelCIdeal.nD Cert.KernelCIdeal.τ).loc Cert.KernelCIdeal.main_arg5)) →
    ∃ (v0 : (c : Dev Cert.KernelCIdeal.nD) → Buf (Elt Ideal) ((c.tc : Thread Cert.KernelCIdeal.nD Cert.KernelCIdeal.τ).loc Cert.KernelCIdeal.main_v37_0)) (v1 : (c : Dev Cert.KernelCIdeal.nD) → Buf (Elt Ideal) ((c.tc : Thread Cert.KernelCIdeal.nD Cert.KernelCIdeal.τ).loc Cert.KernelCIdeal.main_v37_1)) (v2 : (c : Dev Cert.KernelCIdeal.nD) → Buf (Elt Ideal) ((c.tc : Thread Cert.KernelCIdeal.nD Cert.KernelCIdeal.τ).loc Cert.KernelCIdeal.main_v37_2)) (v3 : (c : Dev Cert.KernelCIdeal.nD) → Buf (Elt Ideal) ((c.tc : Thread Cert.KernelCIdeal.nD Cert.KernelCIdeal.τ).loc Cert.KernelCIdeal.main_v37_3)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v37_0) = v0 c
          ∧ r.2.mem ((c.tc : Thread Cert.KernelCIdeal.nD Cert.KernelCIdeal.τ).loc Cert.KernelCIdeal.main_v37_1) = v1 c
          ∧ r.2.mem ((c.tc : Thread Cert.KernelCIdeal.nD Cert.KernelCIdeal.τ).loc Cert.KernelCIdeal.main_v37_2) = v2 c
          ∧ r.2.mem ((c.tc : Thread Cert.KernelCIdeal.nD Cert.KernelCIdeal.τ).loc Cert.KernelCIdeal.main_v37_3) = v3 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwGate01_DwGate01Ideal : Prop :=
  True

def algebraic_DwGate01Ideal_DwGate01RefIdeal [hDwGate01Ideal : Cert.DwGate01Ideal.Facts] [hDwGate01RefIdeal : Cert.DwGate01RefIdeal.Facts] : Prop :=
  ∀ (m : (ℓ : Loc Cert.DwGate01Ideal.nD Cert.DwGate01Ideal.τ Cert.DwGate01Ideal.sig) → Buf (Elt Ideal) ℓ) (g : Dev Cert.DwGate01Ideal.nD → PrngReg)
    (m' : (ℓ : Loc Cert.DwGate01RefIdeal.nD Cert.DwGate01RefIdeal.τ Cert.DwGate01RefIdeal.sig) → Buf (Elt Ideal) ℓ) (g' : Dev Cert.DwGate01RefIdeal.nD → PrngReg), Pre_DwGate01Ideal m →
    (∀ c : Dev Cert.DwGate01Ideal.nD,
      m' ((c.tc : Thread Cert.DwGate01RefIdeal.nD Cert.DwGate01RefIdeal.τ).loc Cert.DwGate01RefIdeal.main_arg0) = m ((c.tc : Thread Cert.DwGate01Ideal.nD Cert.DwGate01Ideal.τ).loc Cert.DwGate01Ideal.main_arg0)
      ∧ m' ((c.tc : Thread Cert.DwGate01RefIdeal.nD Cert.DwGate01RefIdeal.τ).loc Cert.DwGate01RefIdeal.main_arg1) = m ((c.tc : Thread Cert.DwGate01Ideal.nD Cert.DwGate01Ideal.τ).loc Cert.DwGate01Ideal.main_arg1)
      ∧ m' ((c.tc : Thread Cert.DwGate01RefIdeal.nD Cert.DwGate01RefIdeal.τ).loc Cert.DwGate01RefIdeal.main_arg2) = m ((c.tc : Thread Cert.DwGate01Ideal.nD Cert.DwGate01Ideal.τ).loc Cert.DwGate01Ideal.main_arg2)) →
    ∃ (v0 : (c : Dev Cert.DwGate01Ideal.nD) → Buf (Elt Ideal) ((c.tc : Thread Cert.DwGate01Ideal.nD Cert.DwGate01Ideal.τ).loc Cert.DwGate01Ideal.main_v3)),
      θ_run (Cert.DwGate01Ideal.defs (F := Ideal)) (onTc (τ := Cert.DwGate01Ideal.τ) (Cert.DwGate01Ideal.main (F := Ideal))) ⟨m, fun _ => 0, g⟩ (fun r => ∀ c : Dev Cert.DwGate01Ideal.nD,
          r.2.mem ((c.tc : Thread Cert.DwGate01Ideal.nD Cert.DwGate01Ideal.τ).loc Cert.DwGate01Ideal.main_v3) = v0 c
          ∧ r.2.mem ((c.tc : Thread Cert.DwGate01Ideal.nD Cert.DwGate01Ideal.τ).loc Cert.DwGate01Ideal.main_arg0) = m ((c.tc : Thread Cert.DwGate01Ideal.nD Cert.DwGate01Ideal.τ).loc Cert.DwGate01Ideal.main_arg0)
          ∧ r.2.mem ((c.tc : Thread Cert.DwGate01Ideal.nD Cert.DwGate01Ideal.τ).loc Cert.DwGate01Ideal.main_arg1) = m ((c.tc : Thread Cert.DwGate01Ideal.nD Cert.DwGate01Ideal.τ).loc Cert.DwGate01Ideal.main_arg1)
          ∧ r.2.mem ((c.tc : Thread Cert.DwGate01Ideal.nD Cert.DwGate01Ideal.τ).loc Cert.DwGate01Ideal.main_arg2) = m ((c.tc : Thread Cert.DwGate01Ideal.nD Cert.DwGate01Ideal.τ).loc Cert.DwGate01Ideal.main_arg2))
      ∧ θ_run (Cert.DwGate01RefIdeal.defs (F := Ideal)) (onTc (τ := Cert.DwGate01RefIdeal.τ) (Cert.DwGate01RefIdeal.main (F := Ideal))) ⟨m', fun _ => 0, g'⟩ (fun r => ∀ c : Dev Cert.DwGate01RefIdeal.nD,
          r.2.mem ((c.tc : Thread Cert.DwGate01RefIdeal.nD Cert.DwGate01RefIdeal.τ).loc Cert.DwGate01RefIdeal.main_v12) = v0 c
          ∧ r.2.mem ((c.tc : Thread Cert.DwGate01RefIdeal.nD Cert.DwGate01RefIdeal.τ).loc Cert.DwGate01RefIdeal.main_arg0) = m' ((c.tc : Thread Cert.DwGate01RefIdeal.nD Cert.DwGate01RefIdeal.τ).loc Cert.DwGate01RefIdeal.main_arg0)
          ∧ r.2.mem ((c.tc : Thread Cert.DwGate01RefIdeal.nD Cert.DwGate01RefIdeal.τ).loc Cert.DwGate01RefIdeal.main_arg1) = m' ((c.tc : Thread Cert.DwGate01RefIdeal.nD Cert.DwGate01RefIdeal.τ).loc Cert.DwGate01RefIdeal.main_arg1)
          ∧ r.2.mem ((c.tc : Thread Cert.DwGate01RefIdeal.nD Cert.DwGate01RefIdeal.τ).loc Cert.DwGate01RefIdeal.main_arg2) = m' ((c.tc : Thread Cert.DwGate01RefIdeal.nD Cert.DwGate01RefIdeal.τ).loc Cert.DwGate01RefIdeal.main_arg2))

def preserves_DwUp01_DwUp01Ideal : Prop :=
  True

def algebraic_DwUp01Ideal_DwUp01RefIdeal [hDwUp01Ideal : Cert.DwUp01Ideal.Facts] [hDwUp01RefIdeal : Cert.DwUp01RefIdeal.Facts] : Prop :=
  ∀ (m : (ℓ : Loc Cert.DwUp01Ideal.nD Cert.DwUp01Ideal.τ Cert.DwUp01Ideal.sig) → Buf (Elt Ideal) ℓ) (g : Dev Cert.DwUp01Ideal.nD → PrngReg)
    (m' : (ℓ : Loc Cert.DwUp01RefIdeal.nD Cert.DwUp01RefIdeal.τ Cert.DwUp01RefIdeal.sig) → Buf (Elt Ideal) ℓ) (g' : Dev Cert.DwUp01RefIdeal.nD → PrngReg), Pre_DwUp01Ideal m →
    (∀ c : Dev Cert.DwUp01Ideal.nD,
      m' ((c.tc : Thread Cert.DwUp01RefIdeal.nD Cert.DwUp01RefIdeal.τ).loc Cert.DwUp01RefIdeal.main_arg0) = m ((c.tc : Thread Cert.DwUp01Ideal.nD Cert.DwUp01Ideal.τ).loc Cert.DwUp01Ideal.main_arg0)
      ∧ m' ((c.tc : Thread Cert.DwUp01RefIdeal.nD Cert.DwUp01RefIdeal.τ).loc Cert.DwUp01RefIdeal.main_arg1) = m ((c.tc : Thread Cert.DwUp01Ideal.nD Cert.DwUp01Ideal.τ).loc Cert.DwUp01Ideal.main_arg1)
      ∧ m' ((c.tc : Thread Cert.DwUp01RefIdeal.nD Cert.DwUp01RefIdeal.τ).loc Cert.DwUp01RefIdeal.main_arg2) = m ((c.tc : Thread Cert.DwUp01Ideal.nD Cert.DwUp01Ideal.τ).loc Cert.DwUp01Ideal.main_arg2)) →
    ∃ (v0 : (c : Dev Cert.DwUp01Ideal.nD) → Buf (Elt Ideal) ((c.tc : Thread Cert.DwUp01Ideal.nD Cert.DwUp01Ideal.τ).loc Cert.DwUp01Ideal.main_v3)),
      θ_run (Cert.DwUp01Ideal.defs (F := Ideal)) (onTc (τ := Cert.DwUp01Ideal.τ) (Cert.DwUp01Ideal.main (F := Ideal))) ⟨m, fun _ => 0, g⟩ (fun r => ∀ c : Dev Cert.DwUp01Ideal.nD,
          r.2.mem ((c.tc : Thread Cert.DwUp01Ideal.nD Cert.DwUp01Ideal.τ).loc Cert.DwUp01Ideal.main_v3) = v0 c
          ∧ r.2.mem ((c.tc : Thread Cert.DwUp01Ideal.nD Cert.DwUp01Ideal.τ).loc Cert.DwUp01Ideal.main_arg0) = m ((c.tc : Thread Cert.DwUp01Ideal.nD Cert.DwUp01Ideal.τ).loc Cert.DwUp01Ideal.main_arg0)
          ∧ r.2.mem ((c.tc : Thread Cert.DwUp01Ideal.nD Cert.DwUp01Ideal.τ).loc Cert.DwUp01Ideal.main_arg1) = m ((c.tc : Thread Cert.DwUp01Ideal.nD Cert.DwUp01Ideal.τ).loc Cert.DwUp01Ideal.main_arg1)
          ∧ r.2.mem ((c.tc : Thread Cert.DwUp01Ideal.nD Cert.DwUp01Ideal.τ).loc Cert.DwUp01Ideal.main_arg2) = m ((c.tc : Thread Cert.DwUp01Ideal.nD Cert.DwUp01Ideal.τ).loc Cert.DwUp01Ideal.main_arg2))
      ∧ θ_run (Cert.DwUp01RefIdeal.defs (F := Ideal)) (onTc (τ := Cert.DwUp01RefIdeal.τ) (Cert.DwUp01RefIdeal.main (F := Ideal))) ⟨m', fun _ => 0, g'⟩ (fun r => ∀ c : Dev Cert.DwUp01RefIdeal.nD,
          r.2.mem ((c.tc : Thread Cert.DwUp01RefIdeal.nD Cert.DwUp01RefIdeal.τ).loc Cert.DwUp01RefIdeal.main_v12) = v0 c
          ∧ r.2.mem ((c.tc : Thread Cert.DwUp01RefIdeal.nD Cert.DwUp01RefIdeal.τ).loc Cert.DwUp01RefIdeal.main_arg0) = m' ((c.tc : Thread Cert.DwUp01RefIdeal.nD Cert.DwUp01RefIdeal.τ).loc Cert.DwUp01RefIdeal.main_arg0)
          ∧ r.2.mem ((c.tc : Thread Cert.DwUp01RefIdeal.nD Cert.DwUp01RefIdeal.τ).loc Cert.DwUp01RefIdeal.main_arg1) = m' ((c.tc : Thread Cert.DwUp01RefIdeal.nD Cert.DwUp01RefIdeal.τ).loc Cert.DwUp01RefIdeal.main_arg1)
          ∧ r.2.mem ((c.tc : Thread Cert.DwUp01RefIdeal.nD Cert.DwUp01RefIdeal.τ).loc Cert.DwUp01RefIdeal.main_arg2) = m' ((c.tc : Thread Cert.DwUp01RefIdeal.nD Cert.DwUp01RefIdeal.τ).loc Cert.DwUp01RefIdeal.main_arg2))

def preserves_DwDown01_DwDown01Ideal : Prop :=
  True

def algebraic_DwDown01Ideal_DwDown01RefIdeal [hDwDown01Ideal : Cert.DwDown01Ideal.Facts] [hDwDown01RefIdeal : Cert.DwDown01RefIdeal.Facts] : Prop :=
  ∀ (m : (ℓ : Loc Cert.DwDown01Ideal.nD Cert.DwDown01Ideal.τ Cert.DwDown01Ideal.sig) → Buf (Elt Ideal) ℓ) (g : Dev Cert.DwDown01Ideal.nD → PrngReg)
    (m' : (ℓ : Loc Cert.DwDown01RefIdeal.nD Cert.DwDown01RefIdeal.τ Cert.DwDown01RefIdeal.sig) → Buf (Elt Ideal) ℓ) (g' : Dev Cert.DwDown01RefIdeal.nD → PrngReg), Pre_DwDown01Ideal m →
    (∀ c : Dev Cert.DwDown01Ideal.nD,
      m' ((c.tc : Thread Cert.DwDown01RefIdeal.nD Cert.DwDown01RefIdeal.τ).loc Cert.DwDown01RefIdeal.main_arg0) = m ((c.tc : Thread Cert.DwDown01Ideal.nD Cert.DwDown01Ideal.τ).loc Cert.DwDown01Ideal.main_arg0)
      ∧ m' ((c.tc : Thread Cert.DwDown01RefIdeal.nD Cert.DwDown01RefIdeal.τ).loc Cert.DwDown01RefIdeal.main_arg1) = m ((c.tc : Thread Cert.DwDown01Ideal.nD Cert.DwDown01Ideal.τ).loc Cert.DwDown01Ideal.main_arg1)
      ∧ m' ((c.tc : Thread Cert.DwDown01RefIdeal.nD Cert.DwDown01RefIdeal.τ).loc Cert.DwDown01RefIdeal.main_arg2) = m ((c.tc : Thread Cert.DwDown01Ideal.nD Cert.DwDown01Ideal.τ).loc Cert.DwDown01Ideal.main_arg2)) →
    ∃ (v0 : (c : Dev Cert.DwDown01Ideal.nD) → Buf (Elt Ideal) ((c.tc : Thread Cert.DwDown01Ideal.nD Cert.DwDown01Ideal.τ).loc Cert.DwDown01Ideal.main_v2)),
      θ_run (Cert.DwDown01Ideal.defs (F := Ideal)) (onTc (τ := Cert.DwDown01Ideal.τ) (Cert.DwDown01Ideal.main (F := Ideal))) ⟨m, fun _ => 0, g⟩ (fun r => ∀ c : Dev Cert.DwDown01Ideal.nD,
          r.2.mem ((c.tc : Thread Cert.DwDown01Ideal.nD Cert.DwDown01Ideal.τ).loc Cert.DwDown01Ideal.main_v2) = v0 c
          ∧ r.2.mem ((c.tc : Thread Cert.DwDown01Ideal.nD Cert.DwDown01Ideal.τ).loc Cert.DwDown01Ideal.main_arg0) = m ((c.tc : Thread Cert.DwDown01Ideal.nD Cert.DwDown01Ideal.τ).loc Cert.DwDown01Ideal.main_arg0)
          ∧ r.2.mem ((c.tc : Thread Cert.DwDown01Ideal.nD Cert.DwDown01Ideal.τ).loc Cert.DwDown01Ideal.main_arg1) = m ((c.tc : Thread Cert.DwDown01Ideal.nD Cert.DwDown01Ideal.τ).loc Cert.DwDown01Ideal.main_arg1)
          ∧ r.2.mem ((c.tc : Thread Cert.DwDown01Ideal.nD Cert.DwDown01Ideal.τ).loc Cert.DwDown01Ideal.main_arg2) = m ((c.tc : Thread Cert.DwDown01Ideal.nD Cert.DwDown01Ideal.τ).loc Cert.DwDown01Ideal.main_arg2))
      ∧ θ_run (Cert.DwDown01RefIdeal.defs (F := Ideal)) (onTc (τ := Cert.DwDown01RefIdeal.τ) (Cert.DwDown01RefIdeal.main (F := Ideal))) ⟨m', fun _ => 0, g'⟩ (fun r => ∀ c : Dev Cert.DwDown01RefIdeal.nD,
          r.2.mem ((c.tc : Thread Cert.DwDown01RefIdeal.nD Cert.DwDown01RefIdeal.τ).loc Cert.DwDown01RefIdeal.main_v14) = v0 c
          ∧ r.2.mem ((c.tc : Thread Cert.DwDown01RefIdeal.nD Cert.DwDown01RefIdeal.τ).loc Cert.DwDown01RefIdeal.main_arg0) = m' ((c.tc : Thread Cert.DwDown01RefIdeal.nD Cert.DwDown01RefIdeal.τ).loc Cert.DwDown01RefIdeal.main_arg0)
          ∧ r.2.mem ((c.tc : Thread Cert.DwDown01RefIdeal.nD Cert.DwDown01RefIdeal.τ).loc Cert.DwDown01RefIdeal.main_arg1) = m' ((c.tc : Thread Cert.DwDown01RefIdeal.nD Cert.DwDown01RefIdeal.τ).loc Cert.DwDown01RefIdeal.main_arg1)
          ∧ r.2.mem ((c.tc : Thread Cert.DwDown01RefIdeal.nD Cert.DwDown01RefIdeal.τ).loc Cert.DwDown01RefIdeal.main_arg2) = m' ((c.tc : Thread Cert.DwDown01RefIdeal.nD Cert.DwDown01RefIdeal.τ).loc Cert.DwDown01RefIdeal.main_arg2))

def preserves_DwGate02_DwGate02Ideal : Prop :=
  True

def algebraic_DwGate02Ideal_DwGate02RefIdeal [hDwGate02Ideal : Cert.DwGate02Ideal.Facts] [hDwGate02RefIdeal : Cert.DwGate02RefIdeal.Facts] : Prop :=
  ∀ (m : (ℓ : Loc Cert.DwGate02Ideal.nD Cert.DwGate02Ideal.τ Cert.DwGate02Ideal.sig) → Buf (Elt Ideal) ℓ) (g : Dev Cert.DwGate02Ideal.nD → PrngReg)
    (m' : (ℓ : Loc Cert.DwGate02RefIdeal.nD Cert.DwGate02RefIdeal.τ Cert.DwGate02RefIdeal.sig) → Buf (Elt Ideal) ℓ) (g' : Dev Cert.DwGate02RefIdeal.nD → PrngReg), Pre_DwGate02Ideal m →
    (∀ c : Dev Cert.DwGate02Ideal.nD,
      m' ((c.tc : Thread Cert.DwGate02RefIdeal.nD Cert.DwGate02RefIdeal.τ).loc Cert.DwGate02RefIdeal.main_arg0) = m ((c.tc : Thread Cert.DwGate02Ideal.nD Cert.DwGate02Ideal.τ).loc Cert.DwGate02Ideal.main_arg0)
      ∧ m' ((c.tc : Thread Cert.DwGate02RefIdeal.nD Cert.DwGate02RefIdeal.τ).loc Cert.DwGate02RefIdeal.main_arg1) = m ((c.tc : Thread Cert.DwGate02Ideal.nD Cert.DwGate02Ideal.τ).loc Cert.DwGate02Ideal.main_arg1)
      ∧ m' ((c.tc : Thread Cert.DwGate02RefIdeal.nD Cert.DwGate02RefIdeal.τ).loc Cert.DwGate02RefIdeal.main_arg2) = m ((c.tc : Thread Cert.DwGate02Ideal.nD Cert.DwGate02Ideal.τ).loc Cert.DwGate02Ideal.main_arg2)) →
    ∃ (v0 : (c : Dev Cert.DwGate02Ideal.nD) → Buf (Elt Ideal) ((c.tc : Thread Cert.DwGate02Ideal.nD Cert.DwGate02Ideal.τ).loc Cert.DwGate02Ideal.main_v3)),
      θ_run (Cert.DwGate02Ideal.defs (F := Ideal)) (onTc (τ := Cert.DwGate02Ideal.τ) (Cert.DwGate02Ideal.main (F := Ideal))) ⟨m, fun _ => 0, g⟩ (fun r => ∀ c : Dev Cert.DwGate02Ideal.nD,
          r.2.mem ((c.tc : Thread Cert.DwGate02Ideal.nD Cert.DwGate02Ideal.τ).loc Cert.DwGate02Ideal.main_v3) = v0 c
          ∧ r.2.mem ((c.tc : Thread Cert.DwGate02Ideal.nD Cert.DwGate02Ideal.τ).loc Cert.DwGate02Ideal.main_arg0) = m ((c.tc : Thread Cert.DwGate02Ideal.nD Cert.DwGate02Ideal.τ).loc Cert.DwGate02Ideal.main_arg0)
          ∧ r.2.mem ((c.tc : Thread Cert.DwGate02Ideal.nD Cert.DwGate02Ideal.τ).loc Cert.DwGate02Ideal.main_arg1) = m ((c.tc : Thread Cert.DwGate02Ideal.nD Cert.DwGate02Ideal.τ).loc Cert.DwGate02Ideal.main_arg1)
          ∧ r.2.mem ((c.tc : Thread Cert.DwGate02Ideal.nD Cert.DwGate02Ideal.τ).loc Cert.DwGate02Ideal.main_arg2) = m ((c.tc : Thread Cert.DwGate02Ideal.nD Cert.DwGate02Ideal.τ).loc Cert.DwGate02Ideal.main_arg2))
      ∧ θ_run (Cert.DwGate02RefIdeal.defs (F := Ideal)) (onTc (τ := Cert.DwGate02RefIdeal.τ) (Cert.DwGate02RefIdeal.main (F := Ideal))) ⟨m', fun _ => 0, g'⟩ (fun r => ∀ c : Dev Cert.DwGate02RefIdeal.nD,
          r.2.mem ((c.tc : Thread Cert.DwGate02RefIdeal.nD Cert.DwGate02RefIdeal.τ).loc Cert.DwGate02RefIdeal.main_v12) = v0 c
          ∧ r.2.mem ((c.tc : Thread Cert.DwGate02RefIdeal.nD Cert.DwGate02RefIdeal.τ).loc Cert.DwGate02RefIdeal.main_arg0) = m' ((c.tc : Thread Cert.DwGate02RefIdeal.nD Cert.DwGate02RefIdeal.τ).loc Cert.DwGate02RefIdeal.main_arg0)
          ∧ r.2.mem ((c.tc : Thread Cert.DwGate02RefIdeal.nD Cert.DwGate02RefIdeal.τ).loc Cert.DwGate02RefIdeal.main_arg1) = m' ((c.tc : Thread Cert.DwGate02RefIdeal.nD Cert.DwGate02RefIdeal.τ).loc Cert.DwGate02RefIdeal.main_arg1)
          ∧ r.2.mem ((c.tc : Thread Cert.DwGate02RefIdeal.nD Cert.DwGate02RefIdeal.τ).loc Cert.DwGate02RefIdeal.main_arg2) = m' ((c.tc : Thread Cert.DwGate02RefIdeal.nD Cert.DwGate02RefIdeal.τ).loc Cert.DwGate02RefIdeal.main_arg2))

def preserves_DwUp02_DwUp02Ideal : Prop :=
  True

def algebraic_DwUp02Ideal_DwUp02RefIdeal [hDwUp02Ideal : Cert.DwUp02Ideal.Facts] [hDwUp02RefIdeal : Cert.DwUp02RefIdeal.Facts] : Prop :=
  ∀ (m : (ℓ : Loc Cert.DwUp02Ideal.nD Cert.DwUp02Ideal.τ Cert.DwUp02Ideal.sig) → Buf (Elt Ideal) ℓ) (g : Dev Cert.DwUp02Ideal.nD → PrngReg)
    (m' : (ℓ : Loc Cert.DwUp02RefIdeal.nD Cert.DwUp02RefIdeal.τ Cert.DwUp02RefIdeal.sig) → Buf (Elt Ideal) ℓ) (g' : Dev Cert.DwUp02RefIdeal.nD → PrngReg), Pre_DwUp02Ideal m →
    (∀ c : Dev Cert.DwUp02Ideal.nD,
      m' ((c.tc : Thread Cert.DwUp02RefIdeal.nD Cert.DwUp02RefIdeal.τ).loc Cert.DwUp02RefIdeal.main_arg0) = m ((c.tc : Thread Cert.DwUp02Ideal.nD Cert.DwUp02Ideal.τ).loc Cert.DwUp02Ideal.main_arg0)
      ∧ m' ((c.tc : Thread Cert.DwUp02RefIdeal.nD Cert.DwUp02RefIdeal.τ).loc Cert.DwUp02RefIdeal.main_arg1) = m ((c.tc : Thread Cert.DwUp02Ideal.nD Cert.DwUp02Ideal.τ).loc Cert.DwUp02Ideal.main_arg1)
      ∧ m' ((c.tc : Thread Cert.DwUp02RefIdeal.nD Cert.DwUp02RefIdeal.τ).loc Cert.DwUp02RefIdeal.main_arg2) = m ((c.tc : Thread Cert.DwUp02Ideal.nD Cert.DwUp02Ideal.τ).loc Cert.DwUp02Ideal.main_arg2)) →
    ∃ (v0 : (c : Dev Cert.DwUp02Ideal.nD) → Buf (Elt Ideal) ((c.tc : Thread Cert.DwUp02Ideal.nD Cert.DwUp02Ideal.τ).loc Cert.DwUp02Ideal.main_v3)),
      θ_run (Cert.DwUp02Ideal.defs (F := Ideal)) (onTc (τ := Cert.DwUp02Ideal.τ) (Cert.DwUp02Ideal.main (F := Ideal))) ⟨m, fun _ => 0, g⟩ (fun r => ∀ c : Dev Cert.DwUp02Ideal.nD,
          r.2.mem ((c.tc : Thread Cert.DwUp02Ideal.nD Cert.DwUp02Ideal.τ).loc Cert.DwUp02Ideal.main_v3) = v0 c
          ∧ r.2.mem ((c.tc : Thread Cert.DwUp02Ideal.nD Cert.DwUp02Ideal.τ).loc Cert.DwUp02Ideal.main_arg0) = m ((c.tc : Thread Cert.DwUp02Ideal.nD Cert.DwUp02Ideal.τ).loc Cert.DwUp02Ideal.main_arg0)
          ∧ r.2.mem ((c.tc : Thread Cert.DwUp02Ideal.nD Cert.DwUp02Ideal.τ).loc Cert.DwUp02Ideal.main_arg1) = m ((c.tc : Thread Cert.DwUp02Ideal.nD Cert.DwUp02Ideal.τ).loc Cert.DwUp02Ideal.main_arg1)
          ∧ r.2.mem ((c.tc : Thread Cert.DwUp02Ideal.nD Cert.DwUp02Ideal.τ).loc Cert.DwUp02Ideal.main_arg2) = m ((c.tc : Thread Cert.DwUp02Ideal.nD Cert.DwUp02Ideal.τ).loc Cert.DwUp02Ideal.main_arg2))
      ∧ θ_run (Cert.DwUp02RefIdeal.defs (F := Ideal)) (onTc (τ := Cert.DwUp02RefIdeal.τ) (Cert.DwUp02RefIdeal.main (F := Ideal))) ⟨m', fun _ => 0, g'⟩ (fun r => ∀ c : Dev Cert.DwUp02RefIdeal.nD,
          r.2.mem ((c.tc : Thread Cert.DwUp02RefIdeal.nD Cert.DwUp02RefIdeal.τ).loc Cert.DwUp02RefIdeal.main_v12) = v0 c
          ∧ r.2.mem ((c.tc : Thread Cert.DwUp02RefIdeal.nD Cert.DwUp02RefIdeal.τ).loc Cert.DwUp02RefIdeal.main_arg0) = m' ((c.tc : Thread Cert.DwUp02RefIdeal.nD Cert.DwUp02RefIdeal.τ).loc Cert.DwUp02RefIdeal.main_arg0)
          ∧ r.2.mem ((c.tc : Thread Cert.DwUp02RefIdeal.nD Cert.DwUp02RefIdeal.τ).loc Cert.DwUp02RefIdeal.main_arg1) = m' ((c.tc : Thread Cert.DwUp02RefIdeal.nD Cert.DwUp02RefIdeal.τ).loc Cert.DwUp02RefIdeal.main_arg1)
          ∧ r.2.mem ((c.tc : Thread Cert.DwUp02RefIdeal.nD Cert.DwUp02RefIdeal.τ).loc Cert.DwUp02RefIdeal.main_arg2) = m' ((c.tc : Thread Cert.DwUp02RefIdeal.nD Cert.DwUp02RefIdeal.τ).loc Cert.DwUp02RefIdeal.main_arg2))

def preserves_DwDown02_DwDown02Ideal : Prop :=
  True

def algebraic_DwDown02Ideal_DwDown02RefIdeal [hDwDown02Ideal : Cert.DwDown02Ideal.Facts] [hDwDown02RefIdeal : Cert.DwDown02RefIdeal.Facts] : Prop :=
  ∀ (m : (ℓ : Loc Cert.DwDown02Ideal.nD Cert.DwDown02Ideal.τ Cert.DwDown02Ideal.sig) → Buf (Elt Ideal) ℓ) (g : Dev Cert.DwDown02Ideal.nD → PrngReg)
    (m' : (ℓ : Loc Cert.DwDown02RefIdeal.nD Cert.DwDown02RefIdeal.τ Cert.DwDown02RefIdeal.sig) → Buf (Elt Ideal) ℓ) (g' : Dev Cert.DwDown02RefIdeal.nD → PrngReg), Pre_DwDown02Ideal m →
    (∀ c : Dev Cert.DwDown02Ideal.nD,
      m' ((c.tc : Thread Cert.DwDown02RefIdeal.nD Cert.DwDown02RefIdeal.τ).loc Cert.DwDown02RefIdeal.main_arg0) = m ((c.tc : Thread Cert.DwDown02Ideal.nD Cert.DwDown02Ideal.τ).loc Cert.DwDown02Ideal.main_arg0)
      ∧ m' ((c.tc : Thread Cert.DwDown02RefIdeal.nD Cert.DwDown02RefIdeal.τ).loc Cert.DwDown02RefIdeal.main_arg1) = m ((c.tc : Thread Cert.DwDown02Ideal.nD Cert.DwDown02Ideal.τ).loc Cert.DwDown02Ideal.main_arg1)
      ∧ m' ((c.tc : Thread Cert.DwDown02RefIdeal.nD Cert.DwDown02RefIdeal.τ).loc Cert.DwDown02RefIdeal.main_arg2) = m ((c.tc : Thread Cert.DwDown02Ideal.nD Cert.DwDown02Ideal.τ).loc Cert.DwDown02Ideal.main_arg2)) →
    ∃ (v0 : (c : Dev Cert.DwDown02Ideal.nD) → Buf (Elt Ideal) ((c.tc : Thread Cert.DwDown02Ideal.nD Cert.DwDown02Ideal.τ).loc Cert.DwDown02Ideal.main_v2)),
      θ_run (Cert.DwDown02Ideal.defs (F := Ideal)) (onTc (τ := Cert.DwDown02Ideal.τ) (Cert.DwDown02Ideal.main (F := Ideal))) ⟨m, fun _ => 0, g⟩ (fun r => ∀ c : Dev Cert.DwDown02Ideal.nD,
          r.2.mem ((c.tc : Thread Cert.DwDown02Ideal.nD Cert.DwDown02Ideal.τ).loc Cert.DwDown02Ideal.main_v2) = v0 c
          ∧ r.2.mem ((c.tc : Thread Cert.DwDown02Ideal.nD Cert.DwDown02Ideal.τ).loc Cert.DwDown02Ideal.main_arg0) = m ((c.tc : Thread Cert.DwDown02Ideal.nD Cert.DwDown02Ideal.τ).loc Cert.DwDown02Ideal.main_arg0)
          ∧ r.2.mem ((c.tc : Thread Cert.DwDown02Ideal.nD Cert.DwDown02Ideal.τ).loc Cert.DwDown02Ideal.main_arg1) = m ((c.tc : Thread Cert.DwDown02Ideal.nD Cert.DwDown02Ideal.τ).loc Cert.DwDown02Ideal.main_arg1)
          ∧ r.2.mem ((c.tc : Thread Cert.DwDown02Ideal.nD Cert.DwDown02Ideal.τ).loc Cert.DwDown02Ideal.main_arg2) = m ((c.tc : Thread Cert.DwDown02Ideal.nD Cert.DwDown02Ideal.τ).loc Cert.DwDown02Ideal.main_arg2))
      ∧ θ_run (Cert.DwDown02RefIdeal.defs (F := Ideal)) (onTc (τ := Cert.DwDown02RefIdeal.τ) (Cert.DwDown02RefIdeal.main (F := Ideal))) ⟨m', fun _ => 0, g'⟩ (fun r => ∀ c : Dev Cert.DwDown02RefIdeal.nD,
          r.2.mem ((c.tc : Thread Cert.DwDown02RefIdeal.nD Cert.DwDown02RefIdeal.τ).loc Cert.DwDown02RefIdeal.main_v14) = v0 c
          ∧ r.2.mem ((c.tc : Thread Cert.DwDown02RefIdeal.nD Cert.DwDown02RefIdeal.τ).loc Cert.DwDown02RefIdeal.main_arg0) = m' ((c.tc : Thread Cert.DwDown02RefIdeal.nD Cert.DwDown02RefIdeal.τ).loc Cert.DwDown02RefIdeal.main_arg0)
          ∧ r.2.mem ((c.tc : Thread Cert.DwDown02RefIdeal.nD Cert.DwDown02RefIdeal.τ).loc Cert.DwDown02RefIdeal.main_arg1) = m' ((c.tc : Thread Cert.DwDown02RefIdeal.nD Cert.DwDown02RefIdeal.τ).loc Cert.DwDown02RefIdeal.main_arg1)
          ∧ r.2.mem ((c.tc : Thread Cert.DwDown02RefIdeal.nD Cert.DwDown02RefIdeal.τ).loc Cert.DwDown02RefIdeal.main_arg2) = m' ((c.tc : Thread Cert.DwDown02RefIdeal.nD Cert.DwDown02RefIdeal.τ).loc Cert.DwDown02RefIdeal.main_arg2))

def preserves_DwGate11_DwGate11Ideal : Prop :=
  True

def algebraic_DwGate11Ideal_DwGate11RefIdeal [hDwGate11Ideal : Cert.DwGate11Ideal.Facts] [hDwGate11RefIdeal : Cert.DwGate11RefIdeal.Facts] : Prop :=
  ∀ (m : (ℓ : Loc Cert.DwGate11Ideal.nD Cert.DwGate11Ideal.τ Cert.DwGate11Ideal.sig) → Buf (Elt Ideal) ℓ) (g : Dev Cert.DwGate11Ideal.nD → PrngReg)
    (m' : (ℓ : Loc Cert.DwGate11RefIdeal.nD Cert.DwGate11RefIdeal.τ Cert.DwGate11RefIdeal.sig) → Buf (Elt Ideal) ℓ) (g' : Dev Cert.DwGate11RefIdeal.nD → PrngReg), Pre_DwGate11Ideal m →
    (∀ c : Dev Cert.DwGate11Ideal.nD,
      m' ((c.tc : Thread Cert.DwGate11RefIdeal.nD Cert.DwGate11RefIdeal.τ).loc Cert.DwGate11RefIdeal.main_arg0) = m ((c.tc : Thread Cert.DwGate11Ideal.nD Cert.DwGate11Ideal.τ).loc Cert.DwGate11Ideal.main_arg0)
      ∧ m' ((c.tc : Thread Cert.DwGate11RefIdeal.nD Cert.DwGate11RefIdeal.τ).loc Cert.DwGate11RefIdeal.main_arg1) = m ((c.tc : Thread Cert.DwGate11Ideal.nD Cert.DwGate11Ideal.τ).loc Cert.DwGate11Ideal.main_arg1)
      ∧ m' ((c.tc : Thread Cert.DwGate11RefIdeal.nD Cert.DwGate11RefIdeal.τ).loc Cert.DwGate11RefIdeal.main_arg2) = m ((c.tc : Thread Cert.DwGate11Ideal.nD Cert.DwGate11Ideal.τ).loc Cert.DwGate11Ideal.main_arg2)) →
    ∃ (v0 : (c : Dev Cert.DwGate11Ideal.nD) → Buf (Elt Ideal) ((c.tc : Thread Cert.DwGate11Ideal.nD Cert.DwGate11Ideal.τ).loc Cert.DwGate11Ideal.main_v3)),
      θ_run (Cert.DwGate11Ideal.defs (F := Ideal)) (onTc (τ := Cert.DwGate11Ideal.τ) (Cert.DwGate11Ideal.main (F := Ideal))) ⟨m, fun _ => 0, g⟩ (fun r => ∀ c : Dev Cert.DwGate11Ideal.nD,
          r.2.mem ((c.tc : Thread Cert.DwGate11Ideal.nD Cert.DwGate11Ideal.τ).loc Cert.DwGate11Ideal.main_v3) = v0 c
          ∧ r.2.mem ((c.tc : Thread Cert.DwGate11Ideal.nD Cert.DwGate11Ideal.τ).loc Cert.DwGate11Ideal.main_arg0) = m ((c.tc : Thread Cert.DwGate11Ideal.nD Cert.DwGate11Ideal.τ).loc Cert.DwGate11Ideal.main_arg0)
          ∧ r.2.mem ((c.tc : Thread Cert.DwGate11Ideal.nD Cert.DwGate11Ideal.τ).loc Cert.DwGate11Ideal.main_arg1) = m ((c.tc : Thread Cert.DwGate11Ideal.nD Cert.DwGate11Ideal.τ).loc Cert.DwGate11Ideal.main_arg1)
          ∧ r.2.mem ((c.tc : Thread Cert.DwGate11Ideal.nD Cert.DwGate11Ideal.τ).loc Cert.DwGate11Ideal.main_arg2) = m ((c.tc : Thread Cert.DwGate11Ideal.nD Cert.DwGate11Ideal.τ).loc Cert.DwGate11Ideal.main_arg2))
      ∧ θ_run (Cert.DwGate11RefIdeal.defs (F := Ideal)) (onTc (τ := Cert.DwGate11RefIdeal.τ) (Cert.DwGate11RefIdeal.main (F := Ideal))) ⟨m', fun _ => 0, g'⟩ (fun r => ∀ c : Dev Cert.DwGate11RefIdeal.nD,
          r.2.mem ((c.tc : Thread Cert.DwGate11RefIdeal.nD Cert.DwGate11RefIdeal.τ).loc Cert.DwGate11RefIdeal.main_v12) = v0 c
          ∧ r.2.mem ((c.tc : Thread Cert.DwGate11RefIdeal.nD Cert.DwGate11RefIdeal.τ).loc Cert.DwGate11RefIdeal.main_arg0) = m' ((c.tc : Thread Cert.DwGate11RefIdeal.nD Cert.DwGate11RefIdeal.τ).loc Cert.DwGate11RefIdeal.main_arg0)
          ∧ r.2.mem ((c.tc : Thread Cert.DwGate11RefIdeal.nD Cert.DwGate11RefIdeal.τ).loc Cert.DwGate11RefIdeal.main_arg1) = m' ((c.tc : Thread Cert.DwGate11RefIdeal.nD Cert.DwGate11RefIdeal.τ).loc Cert.DwGate11RefIdeal.main_arg1)
          ∧ r.2.mem ((c.tc : Thread Cert.DwGate11RefIdeal.nD Cert.DwGate11RefIdeal.τ).loc Cert.DwGate11RefIdeal.main_arg2) = m' ((c.tc : Thread Cert.DwGate11RefIdeal.nD Cert.DwGate11RefIdeal.τ).loc Cert.DwGate11RefIdeal.main_arg2))

def preserves_DwUp11_DwUp11Ideal : Prop :=
  True

def algebraic_DwUp11Ideal_DwUp11RefIdeal [hDwUp11Ideal : Cert.DwUp11Ideal.Facts] [hDwUp11RefIdeal : Cert.DwUp11RefIdeal.Facts] : Prop :=
  ∀ (m : (ℓ : Loc Cert.DwUp11Ideal.nD Cert.DwUp11Ideal.τ Cert.DwUp11Ideal.sig) → Buf (Elt Ideal) ℓ) (g : Dev Cert.DwUp11Ideal.nD → PrngReg)
    (m' : (ℓ : Loc Cert.DwUp11RefIdeal.nD Cert.DwUp11RefIdeal.τ Cert.DwUp11RefIdeal.sig) → Buf (Elt Ideal) ℓ) (g' : Dev Cert.DwUp11RefIdeal.nD → PrngReg), Pre_DwUp11Ideal m →
    (∀ c : Dev Cert.DwUp11Ideal.nD,
      m' ((c.tc : Thread Cert.DwUp11RefIdeal.nD Cert.DwUp11RefIdeal.τ).loc Cert.DwUp11RefIdeal.main_arg0) = m ((c.tc : Thread Cert.DwUp11Ideal.nD Cert.DwUp11Ideal.τ).loc Cert.DwUp11Ideal.main_arg0)
      ∧ m' ((c.tc : Thread Cert.DwUp11RefIdeal.nD Cert.DwUp11RefIdeal.τ).loc Cert.DwUp11RefIdeal.main_arg1) = m ((c.tc : Thread Cert.DwUp11Ideal.nD Cert.DwUp11Ideal.τ).loc Cert.DwUp11Ideal.main_arg1)
      ∧ m' ((c.tc : Thread Cert.DwUp11RefIdeal.nD Cert.DwUp11RefIdeal.τ).loc Cert.DwUp11RefIdeal.main_arg2) = m ((c.tc : Thread Cert.DwUp11Ideal.nD Cert.DwUp11Ideal.τ).loc Cert.DwUp11Ideal.main_arg2)) →
    ∃ (v0 : (c : Dev Cert.DwUp11Ideal.nD) → Buf (Elt Ideal) ((c.tc : Thread Cert.DwUp11Ideal.nD Cert.DwUp11Ideal.τ).loc Cert.DwUp11Ideal.main_v3)),
      θ_run (Cert.DwUp11Ideal.defs (F := Ideal)) (onTc (τ := Cert.DwUp11Ideal.τ) (Cert.DwUp11Ideal.main (F := Ideal))) ⟨m, fun _ => 0, g⟩ (fun r => ∀ c : Dev Cert.DwUp11Ideal.nD,
          r.2.mem ((c.tc : Thread Cert.DwUp11Ideal.nD Cert.DwUp11Ideal.τ).loc Cert.DwUp11Ideal.main_v3) = v0 c
          ∧ r.2.mem ((c.tc : Thread Cert.DwUp11Ideal.nD Cert.DwUp11Ideal.τ).loc Cert.DwUp11Ideal.main_arg0) = m ((c.tc : Thread Cert.DwUp11Ideal.nD Cert.DwUp11Ideal.τ).loc Cert.DwUp11Ideal.main_arg0)
          ∧ r.2.mem ((c.tc : Thread Cert.DwUp11Ideal.nD Cert.DwUp11Ideal.τ).loc Cert.DwUp11Ideal.main_arg1) = m ((c.tc : Thread Cert.DwUp11Ideal.nD Cert.DwUp11Ideal.τ).loc Cert.DwUp11Ideal.main_arg1)
          ∧ r.2.mem ((c.tc : Thread Cert.DwUp11Ideal.nD Cert.DwUp11Ideal.τ).loc Cert.DwUp11Ideal.main_arg2) = m ((c.tc : Thread Cert.DwUp11Ideal.nD Cert.DwUp11Ideal.τ).loc Cert.DwUp11Ideal.main_arg2))
      ∧ θ_run (Cert.DwUp11RefIdeal.defs (F := Ideal)) (onTc (τ := Cert.DwUp11RefIdeal.τ) (Cert.DwUp11RefIdeal.main (F := Ideal))) ⟨m', fun _ => 0, g'⟩ (fun r => ∀ c : Dev Cert.DwUp11RefIdeal.nD,
          r.2.mem ((c.tc : Thread Cert.DwUp11RefIdeal.nD Cert.DwUp11RefIdeal.τ).loc Cert.DwUp11RefIdeal.main_v12) = v0 c
          ∧ r.2.mem ((c.tc : Thread Cert.DwUp11RefIdeal.nD Cert.DwUp11RefIdeal.τ).loc Cert.DwUp11RefIdeal.main_arg0) = m' ((c.tc : Thread Cert.DwUp11RefIdeal.nD Cert.DwUp11RefIdeal.τ).loc Cert.DwUp11RefIdeal.main_arg0)
          ∧ r.2.mem ((c.tc : Thread Cert.DwUp11RefIdeal.nD Cert.DwUp11RefIdeal.τ).loc Cert.DwUp11RefIdeal.main_arg1) = m' ((c.tc : Thread Cert.DwUp11RefIdeal.nD Cert.DwUp11RefIdeal.τ).loc Cert.DwUp11RefIdeal.main_arg1)
          ∧ r.2.mem ((c.tc : Thread Cert.DwUp11RefIdeal.nD Cert.DwUp11RefIdeal.τ).loc Cert.DwUp11RefIdeal.main_arg2) = m' ((c.tc : Thread Cert.DwUp11RefIdeal.nD Cert.DwUp11RefIdeal.τ).loc Cert.DwUp11RefIdeal.main_arg2))

def preserves_DwDown11_DwDown11Ideal : Prop :=
  True

def algebraic_DwDown11Ideal_DwDown11RefIdeal [hDwDown11Ideal : Cert.DwDown11Ideal.Facts] [hDwDown11RefIdeal : Cert.DwDown11RefIdeal.Facts] : Prop :=
  ∀ (m : (ℓ : Loc Cert.DwDown11Ideal.nD Cert.DwDown11Ideal.τ Cert.DwDown11Ideal.sig) → Buf (Elt Ideal) ℓ) (g : Dev Cert.DwDown11Ideal.nD → PrngReg)
    (m' : (ℓ : Loc Cert.DwDown11RefIdeal.nD Cert.DwDown11RefIdeal.τ Cert.DwDown11RefIdeal.sig) → Buf (Elt Ideal) ℓ) (g' : Dev Cert.DwDown11RefIdeal.nD → PrngReg), Pre_DwDown11Ideal m →
    (∀ c : Dev Cert.DwDown11Ideal.nD,
      m' ((c.tc : Thread Cert.DwDown11RefIdeal.nD Cert.DwDown11RefIdeal.τ).loc Cert.DwDown11RefIdeal.main_arg0) = m ((c.tc : Thread Cert.DwDown11Ideal.nD Cert.DwDown11Ideal.τ).loc Cert.DwDown11Ideal.main_arg0)
      ∧ m' ((c.tc : Thread Cert.DwDown11RefIdeal.nD Cert.DwDown11RefIdeal.τ).loc Cert.DwDown11RefIdeal.main_arg1) = m ((c.tc : Thread Cert.DwDown11Ideal.nD Cert.DwDown11Ideal.τ).loc Cert.DwDown11Ideal.main_arg1)
      ∧ m' ((c.tc : Thread Cert.DwDown11RefIdeal.nD Cert.DwDown11RefIdeal.τ).loc Cert.DwDown11RefIdeal.main_arg2) = m ((c.tc : Thread Cert.DwDown11Ideal.nD Cert.DwDown11Ideal.τ).loc Cert.DwDown11Ideal.main_arg2)) →
    ∃ (v0 : (c : Dev Cert.DwDown11Ideal.nD) → Buf (Elt Ideal) ((c.tc : Thread Cert.DwDown11Ideal.nD Cert.DwDown11Ideal.τ).loc Cert.DwDown11Ideal.main_v2)),
      θ_run (Cert.DwDown11Ideal.defs (F := Ideal)) (onTc (τ := Cert.DwDown11Ideal.τ) (Cert.DwDown11Ideal.main (F := Ideal))) ⟨m, fun _ => 0, g⟩ (fun r => ∀ c : Dev Cert.DwDown11Ideal.nD,
          r.2.mem ((c.tc : Thread Cert.DwDown11Ideal.nD Cert.DwDown11Ideal.τ).loc Cert.DwDown11Ideal.main_v2) = v0 c
          ∧ r.2.mem ((c.tc : Thread Cert.DwDown11Ideal.nD Cert.DwDown11Ideal.τ).loc Cert.DwDown11Ideal.main_arg0) = m ((c.tc : Thread Cert.DwDown11Ideal.nD Cert.DwDown11Ideal.τ).loc Cert.DwDown11Ideal.main_arg0)
          ∧ r.2.mem ((c.tc : Thread Cert.DwDown11Ideal.nD Cert.DwDown11Ideal.τ).loc Cert.DwDown11Ideal.main_arg1) = m ((c.tc : Thread Cert.DwDown11Ideal.nD Cert.DwDown11Ideal.τ).loc Cert.DwDown11Ideal.main_arg1)
          ∧ r.2.mem ((c.tc : Thread Cert.DwDown11Ideal.nD Cert.DwDown11Ideal.τ).loc Cert.DwDown11Ideal.main_arg2) = m ((c.tc : Thread Cert.DwDown11Ideal.nD Cert.DwDown11Ideal.τ).loc Cert.DwDown11Ideal.main_arg2))
      ∧ θ_run (Cert.DwDown11RefIdeal.defs (F := Ideal)) (onTc (τ := Cert.DwDown11RefIdeal.τ) (Cert.DwDown11RefIdeal.main (F := Ideal))) ⟨m', fun _ => 0, g'⟩ (fun r => ∀ c : Dev Cert.DwDown11RefIdeal.nD,
          r.2.mem ((c.tc : Thread Cert.DwDown11RefIdeal.nD Cert.DwDown11RefIdeal.τ).loc Cert.DwDown11RefIdeal.main_v14) = v0 c
          ∧ r.2.mem ((c.tc : Thread Cert.DwDown11RefIdeal.nD Cert.DwDown11RefIdeal.τ).loc Cert.DwDown11RefIdeal.main_arg0) = m' ((c.tc : Thread Cert.DwDown11RefIdeal.nD Cert.DwDown11RefIdeal.τ).loc Cert.DwDown11RefIdeal.main_arg0)
          ∧ r.2.mem ((c.tc : Thread Cert.DwDown11RefIdeal.nD Cert.DwDown11RefIdeal.τ).loc Cert.DwDown11RefIdeal.main_arg1) = m' ((c.tc : Thread Cert.DwDown11RefIdeal.nD Cert.DwDown11RefIdeal.τ).loc Cert.DwDown11RefIdeal.main_arg1)
          ∧ r.2.mem ((c.tc : Thread Cert.DwDown11RefIdeal.nD Cert.DwDown11RefIdeal.τ).loc Cert.DwDown11RefIdeal.main_arg2) = m' ((c.tc : Thread Cert.DwDown11RefIdeal.nD Cert.DwDown11RefIdeal.τ).loc Cert.DwDown11RefIdeal.main_arg2))

def preserves_DwGate12_DwGate12Ideal : Prop :=
  True

def algebraic_DwGate12Ideal_DwGate12RefIdeal [hDwGate12Ideal : Cert.DwGate12Ideal.Facts] [hDwGate12RefIdeal : Cert.DwGate12RefIdeal.Facts] : Prop :=
  ∀ (m : (ℓ : Loc Cert.DwGate12Ideal.nD Cert.DwGate12Ideal.τ Cert.DwGate12Ideal.sig) → Buf (Elt Ideal) ℓ) (g : Dev Cert.DwGate12Ideal.nD → PrngReg)
    (m' : (ℓ : Loc Cert.DwGate12RefIdeal.nD Cert.DwGate12RefIdeal.τ Cert.DwGate12RefIdeal.sig) → Buf (Elt Ideal) ℓ) (g' : Dev Cert.DwGate12RefIdeal.nD → PrngReg), Pre_DwGate12Ideal m →
    (∀ c : Dev Cert.DwGate12Ideal.nD,
      m' ((c.tc : Thread Cert.DwGate12RefIdeal.nD Cert.DwGate12RefIdeal.τ).loc Cert.DwGate12RefIdeal.main_arg0) = m ((c.tc : Thread Cert.DwGate12Ideal.nD Cert.DwGate12Ideal.τ).loc Cert.DwGate12Ideal.main_arg0)
      ∧ m' ((c.tc : Thread Cert.DwGate12RefIdeal.nD Cert.DwGate12RefIdeal.τ).loc Cert.DwGate12RefIdeal.main_arg1) = m ((c.tc : Thread Cert.DwGate12Ideal.nD Cert.DwGate12Ideal.τ).loc Cert.DwGate12Ideal.main_arg1)
      ∧ m' ((c.tc : Thread Cert.DwGate12RefIdeal.nD Cert.DwGate12RefIdeal.τ).loc Cert.DwGate12RefIdeal.main_arg2) = m ((c.tc : Thread Cert.DwGate12Ideal.nD Cert.DwGate12Ideal.τ).loc Cert.DwGate12Ideal.main_arg2)) →
    ∃ (v0 : (c : Dev Cert.DwGate12Ideal.nD) → Buf (Elt Ideal) ((c.tc : Thread Cert.DwGate12Ideal.nD Cert.DwGate12Ideal.τ).loc Cert.DwGate12Ideal.main_v3)),
      θ_run (Cert.DwGate12Ideal.defs (F := Ideal)) (onTc (τ := Cert.DwGate12Ideal.τ) (Cert.DwGate12Ideal.main (F := Ideal))) ⟨m, fun _ => 0, g⟩ (fun r => ∀ c : Dev Cert.DwGate12Ideal.nD,
          r.2.mem ((c.tc : Thread Cert.DwGate12Ideal.nD Cert.DwGate12Ideal.τ).loc Cert.DwGate12Ideal.main_v3) = v0 c
          ∧ r.2.mem ((c.tc : Thread Cert.DwGate12Ideal.nD Cert.DwGate12Ideal.τ).loc Cert.DwGate12Ideal.main_arg0) = m ((c.tc : Thread Cert.DwGate12Ideal.nD Cert.DwGate12Ideal.τ).loc Cert.DwGate12Ideal.main_arg0)
          ∧ r.2.mem ((c.tc : Thread Cert.DwGate12Ideal.nD Cert.DwGate12Ideal.τ).loc Cert.DwGate12Ideal.main_arg1) = m ((c.tc : Thread Cert.DwGate12Ideal.nD Cert.DwGate12Ideal.τ).loc Cert.DwGate12Ideal.main_arg1)
          ∧ r.2.mem ((c.tc : Thread Cert.DwGate12Ideal.nD Cert.DwGate12Ideal.τ).loc Cert.DwGate12Ideal.main_arg2) = m ((c.tc : Thread Cert.DwGate12Ideal.nD Cert.DwGate12Ideal.τ).loc Cert.DwGate12Ideal.main_arg2))
      ∧ θ_run (Cert.DwGate12RefIdeal.defs (F := Ideal)) (onTc (τ := Cert.DwGate12RefIdeal.τ) (Cert.DwGate12RefIdeal.main (F := Ideal))) ⟨m', fun _ => 0, g'⟩ (fun r => ∀ c : Dev Cert.DwGate12RefIdeal.nD,
          r.2.mem ((c.tc : Thread Cert.DwGate12RefIdeal.nD Cert.DwGate12RefIdeal.τ).loc Cert.DwGate12RefIdeal.main_v12) = v0 c
          ∧ r.2.mem ((c.tc : Thread Cert.DwGate12RefIdeal.nD Cert.DwGate12RefIdeal.τ).loc Cert.DwGate12RefIdeal.main_arg0) = m' ((c.tc : Thread Cert.DwGate12RefIdeal.nD Cert.DwGate12RefIdeal.τ).loc Cert.DwGate12RefIdeal.main_arg0)
          ∧ r.2.mem ((c.tc : Thread Cert.DwGate12RefIdeal.nD Cert.DwGate12RefIdeal.τ).loc Cert.DwGate12RefIdeal.main_arg1) = m' ((c.tc : Thread Cert.DwGate12RefIdeal.nD Cert.DwGate12RefIdeal.τ).loc Cert.DwGate12RefIdeal.main_arg1)
          ∧ r.2.mem ((c.tc : Thread Cert.DwGate12RefIdeal.nD Cert.DwGate12RefIdeal.τ).loc Cert.DwGate12RefIdeal.main_arg2) = m' ((c.tc : Thread Cert.DwGate12RefIdeal.nD Cert.DwGate12RefIdeal.τ).loc Cert.DwGate12RefIdeal.main_arg2))

def preserves_DwUp12_DwUp12Ideal : Prop :=
  True

def algebraic_DwUp12Ideal_DwUp12RefIdeal [hDwUp12Ideal : Cert.DwUp12Ideal.Facts] [hDwUp12RefIdeal : Cert.DwUp12RefIdeal.Facts] : Prop :=
  ∀ (m : (ℓ : Loc Cert.DwUp12Ideal.nD Cert.DwUp12Ideal.τ Cert.DwUp12Ideal.sig) → Buf (Elt Ideal) ℓ) (g : Dev Cert.DwUp12Ideal.nD → PrngReg)
    (m' : (ℓ : Loc Cert.DwUp12RefIdeal.nD Cert.DwUp12RefIdeal.τ Cert.DwUp12RefIdeal.sig) → Buf (Elt Ideal) ℓ) (g' : Dev Cert.DwUp12RefIdeal.nD → PrngReg), Pre_DwUp12Ideal m →
    (∀ c : Dev Cert.DwUp12Ideal.nD,
      m' ((c.tc : Thread Cert.DwUp12RefIdeal.nD Cert.DwUp12RefIdeal.τ).loc Cert.DwUp12RefIdeal.main_arg0) = m ((c.tc : Thread Cert.DwUp12Ideal.nD Cert.DwUp12Ideal.τ).loc Cert.DwUp12Ideal.main_arg0)
      ∧ m' ((c.tc : Thread Cert.DwUp12RefIdeal.nD Cert.DwUp12RefIdeal.τ).loc Cert.DwUp12RefIdeal.main_arg1) = m ((c.tc : Thread Cert.DwUp12Ideal.nD Cert.DwUp12Ideal.τ).loc Cert.DwUp12Ideal.main_arg1)
      ∧ m' ((c.tc : Thread Cert.DwUp12RefIdeal.nD Cert.DwUp12RefIdeal.τ).loc Cert.DwUp12RefIdeal.main_arg2) = m ((c.tc : Thread Cert.DwUp12Ideal.nD Cert.DwUp12Ideal.τ).loc Cert.DwUp12Ideal.main_arg2)) →
    ∃ (v0 : (c : Dev Cert.DwUp12Ideal.nD) → Buf (Elt Ideal) ((c.tc : Thread Cert.DwUp12Ideal.nD Cert.DwUp12Ideal.τ).loc Cert.DwUp12Ideal.main_v3)),
      θ_run (Cert.DwUp12Ideal.defs (F := Ideal)) (onTc (τ := Cert.DwUp12Ideal.τ) (Cert.DwUp12Ideal.main (F := Ideal))) ⟨m, fun _ => 0, g⟩ (fun r => ∀ c : Dev Cert.DwUp12Ideal.nD,
          r.2.mem ((c.tc : Thread Cert.DwUp12Ideal.nD Cert.DwUp12Ideal.τ).loc Cert.DwUp12Ideal.main_v3) = v0 c
          ∧ r.2.mem ((c.tc : Thread Cert.DwUp12Ideal.nD Cert.DwUp12Ideal.τ).loc Cert.DwUp12Ideal.main_arg0) = m ((c.tc : Thread Cert.DwUp12Ideal.nD Cert.DwUp12Ideal.τ).loc Cert.DwUp12Ideal.main_arg0)
          ∧ r.2.mem ((c.tc : Thread Cert.DwUp12Ideal.nD Cert.DwUp12Ideal.τ).loc Cert.DwUp12Ideal.main_arg1) = m ((c.tc : Thread Cert.DwUp12Ideal.nD Cert.DwUp12Ideal.τ).loc Cert.DwUp12Ideal.main_arg1)
          ∧ r.2.mem ((c.tc : Thread Cert.DwUp12Ideal.nD Cert.DwUp12Ideal.τ).loc Cert.DwUp12Ideal.main_arg2) = m ((c.tc : Thread Cert.DwUp12Ideal.nD Cert.DwUp12Ideal.τ).loc Cert.DwUp12Ideal.main_arg2))
      ∧ θ_run (Cert.DwUp12RefIdeal.defs (F := Ideal)) (onTc (τ := Cert.DwUp12RefIdeal.τ) (Cert.DwUp12RefIdeal.main (F := Ideal))) ⟨m', fun _ => 0, g'⟩ (fun r => ∀ c : Dev Cert.DwUp12RefIdeal.nD,
          r.2.mem ((c.tc : Thread Cert.DwUp12RefIdeal.nD Cert.DwUp12RefIdeal.τ).loc Cert.DwUp12RefIdeal.main_v12) = v0 c
          ∧ r.2.mem ((c.tc : Thread Cert.DwUp12RefIdeal.nD Cert.DwUp12RefIdeal.τ).loc Cert.DwUp12RefIdeal.main_arg0) = m' ((c.tc : Thread Cert.DwUp12RefIdeal.nD Cert.DwUp12RefIdeal.τ).loc Cert.DwUp12RefIdeal.main_arg0)
          ∧ r.2.mem ((c.tc : Thread Cert.DwUp12RefIdeal.nD Cert.DwUp12RefIdeal.τ).loc Cert.DwUp12RefIdeal.main_arg1) = m' ((c.tc : Thread Cert.DwUp12RefIdeal.nD Cert.DwUp12RefIdeal.τ).loc Cert.DwUp12RefIdeal.main_arg1)
          ∧ r.2.mem ((c.tc : Thread Cert.DwUp12RefIdeal.nD Cert.DwUp12RefIdeal.τ).loc Cert.DwUp12RefIdeal.main_arg2) = m' ((c.tc : Thread Cert.DwUp12RefIdeal.nD Cert.DwUp12RefIdeal.τ).loc Cert.DwUp12RefIdeal.main_arg2))

def preserves_DwDown12_DwDown12Ideal : Prop :=
  True

def algebraic_DwDown12Ideal_DwDown12RefIdeal [hDwDown12Ideal : Cert.DwDown12Ideal.Facts] [hDwDown12RefIdeal : Cert.DwDown12RefIdeal.Facts] : Prop :=
  ∀ (m : (ℓ : Loc Cert.DwDown12Ideal.nD Cert.DwDown12Ideal.τ Cert.DwDown12Ideal.sig) → Buf (Elt Ideal) ℓ) (g : Dev Cert.DwDown12Ideal.nD → PrngReg)
    (m' : (ℓ : Loc Cert.DwDown12RefIdeal.nD Cert.DwDown12RefIdeal.τ Cert.DwDown12RefIdeal.sig) → Buf (Elt Ideal) ℓ) (g' : Dev Cert.DwDown12RefIdeal.nD → PrngReg), Pre_DwDown12Ideal m →
    (∀ c : Dev Cert.DwDown12Ideal.nD,
      m' ((c.tc : Thread Cert.DwDown12RefIdeal.nD Cert.DwDown12RefIdeal.τ).loc Cert.DwDown12RefIdeal.main_arg0) = m ((c.tc : Thread Cert.DwDown12Ideal.nD Cert.DwDown12Ideal.τ).loc Cert.DwDown12Ideal.main_arg0)
      ∧ m' ((c.tc : Thread Cert.DwDown12RefIdeal.nD Cert.DwDown12RefIdeal.τ).loc Cert.DwDown12RefIdeal.main_arg1) = m ((c.tc : Thread Cert.DwDown12Ideal.nD Cert.DwDown12Ideal.τ).loc Cert.DwDown12Ideal.main_arg1)
      ∧ m' ((c.tc : Thread Cert.DwDown12RefIdeal.nD Cert.DwDown12RefIdeal.τ).loc Cert.DwDown12RefIdeal.main_arg2) = m ((c.tc : Thread Cert.DwDown12Ideal.nD Cert.DwDown12Ideal.τ).loc Cert.DwDown12Ideal.main_arg2)) →
    ∃ (v0 : (c : Dev Cert.DwDown12Ideal.nD) → Buf (Elt Ideal) ((c.tc : Thread Cert.DwDown12Ideal.nD Cert.DwDown12Ideal.τ).loc Cert.DwDown12Ideal.main_v2)),
      θ_run (Cert.DwDown12Ideal.defs (F := Ideal)) (onTc (τ := Cert.DwDown12Ideal.τ) (Cert.DwDown12Ideal.main (F := Ideal))) ⟨m, fun _ => 0, g⟩ (fun r => ∀ c : Dev Cert.DwDown12Ideal.nD,
          r.2.mem ((c.tc : Thread Cert.DwDown12Ideal.nD Cert.DwDown12Ideal.τ).loc Cert.DwDown12Ideal.main_v2) = v0 c
          ∧ r.2.mem ((c.tc : Thread Cert.DwDown12Ideal.nD Cert.DwDown12Ideal.τ).loc Cert.DwDown12Ideal.main_arg0) = m ((c.tc : Thread Cert.DwDown12Ideal.nD Cert.DwDown12Ideal.τ).loc Cert.DwDown12Ideal.main_arg0)
          ∧ r.2.mem ((c.tc : Thread Cert.DwDown12Ideal.nD Cert.DwDown12Ideal.τ).loc Cert.DwDown12Ideal.main_arg1) = m ((c.tc : Thread Cert.DwDown12Ideal.nD Cert.DwDown12Ideal.τ).loc Cert.DwDown12Ideal.main_arg1)
          ∧ r.2.mem ((c.tc : Thread Cert.DwDown12Ideal.nD Cert.DwDown12Ideal.τ).loc Cert.DwDown12Ideal.main_arg2) = m ((c.tc : Thread Cert.DwDown12Ideal.nD Cert.DwDown12Ideal.τ).loc Cert.DwDown12Ideal.main_arg2))
      ∧ θ_run (Cert.DwDown12RefIdeal.defs (F := Ideal)) (onTc (τ := Cert.DwDown12RefIdeal.τ) (Cert.DwDown12RefIdeal.main (F := Ideal))) ⟨m', fun _ => 0, g'⟩ (fun r => ∀ c : Dev Cert.DwDown12RefIdeal.nD,
          r.2.mem ((c.tc : Thread Cert.DwDown12RefIdeal.nD Cert.DwDown12RefIdeal.τ).loc Cert.DwDown12RefIdeal.main_v14) = v0 c
          ∧ r.2.mem ((c.tc : Thread Cert.DwDown12RefIdeal.nD Cert.DwDown12RefIdeal.τ).loc Cert.DwDown12RefIdeal.main_arg0) = m' ((c.tc : Thread Cert.DwDown12RefIdeal.nD Cert.DwDown12RefIdeal.τ).loc Cert.DwDown12RefIdeal.main_arg0)
          ∧ r.2.mem ((c.tc : Thread Cert.DwDown12RefIdeal.nD Cert.DwDown12RefIdeal.τ).loc Cert.DwDown12RefIdeal.main_arg1) = m' ((c.tc : Thread Cert.DwDown12RefIdeal.nD Cert.DwDown12RefIdeal.τ).loc Cert.DwDown12RefIdeal.main_arg1)
          ∧ r.2.mem ((c.tc : Thread Cert.DwDown12RefIdeal.nD Cert.DwDown12RefIdeal.τ).loc Cert.DwDown12RefIdeal.main_arg2) = m' ((c.tc : Thread Cert.DwDown12RefIdeal.nD Cert.DwDown12RefIdeal.τ).loc Cert.DwDown12RefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)) (v2 : (c : Dev Cert.FfnFwdIdeal.nD) → Buf (Elt Ideal) ((c.tc : Thread Cert.FfnFwdIdeal.nD Cert.FfnFwdIdeal.τ).loc Cert.FfnFwdIdeal.main_v11_2)) (v3 : (c : Dev Cert.FfnFwdIdeal.nD) → Buf (Elt Ideal) ((c.tc : Thread Cert.FfnFwdIdeal.nD Cert.FfnFwdIdeal.τ).loc Cert.FfnFwdIdeal.main_v11_3)) (v4 : (c : Dev Cert.FfnFwdIdeal.nD) → Buf (Elt Ideal) ((c.tc : Thread Cert.FfnFwdIdeal.nD Cert.FfnFwdIdeal.τ).loc Cert.FfnFwdIdeal.main_v11_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_v11_2) = v2 c
          ∧ r.2.mem ((c.tc : Thread Cert.FfnFwdIdeal.nD Cert.FfnFwdIdeal.τ).loc Cert.FfnFwdIdeal.main_v11_3) = v3 c
          ∧ r.2.mem ((c.tc : Thread Cert.FfnFwdIdeal.nD Cert.FfnFwdIdeal.τ).loc Cert.FfnFwdIdeal.main_v11_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v21) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v29) = v3 c
          ∧ r.2.mem ((c.tc : Thread Cert.FfnFwdRefIdeal.nD Cert.FfnFwdRefIdeal.τ).loc Cert.FfnFwdRefIdeal.main_v33) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjBwd : Cert.InProjBwd.Facts) (hInProjBwdIdeal : Cert.InProjBwdIdeal.Facts) (hInProjBwdRefIdeal : Cert.InProjBwdRefIdeal.Facts) (hInProjDw : Cert.InProjDw.Facts) (hInProjDwIdeal : Cert.InProjDwIdeal.Facts) (hInProjDwRefIdeal : Cert.InProjDwRefIdeal.Facts) (hOutProj : Cert.OutProj.Facts) (hOutProjIdeal : Cert.OutProjIdeal.Facts) (hOutProjRefIdeal : Cert.OutProjRefIdeal.Facts) (hOutProjBwd : Cert.OutProjBwd.Facts) (hOutProjBwdIdeal : Cert.OutProjBwdIdeal.Facts) (hOutProjBwdRefIdeal : Cert.OutProjBwdRefIdeal.Facts) (hKernelA : Cert.KernelA.Facts) (hKernelAIdeal : Cert.KernelAIdeal.Facts) (hKernelB : Cert.KernelB.Facts) (hKernelBIdeal : Cert.KernelBIdeal.Facts) (hKernelC : Cert.KernelC.Facts) (hKernelCIdeal : Cert.KernelCIdeal.Facts) (hDwGate01 : Cert.DwGate01.Facts) (hDwGate01Ideal : Cert.DwGate01Ideal.Facts) (hDwGate01RefIdeal : Cert.DwGate01RefIdeal.Facts) (hDwUp01 : Cert.DwUp01.Facts) (hDwUp01Ideal : Cert.DwUp01Ideal.Facts) (hDwUp01RefIdeal : Cert.DwUp01RefIdeal.Facts) (hDwDown01 : Cert.DwDown01.Facts) (hDwDown01Ideal : Cert.DwDown01Ideal.Facts) (hDwDown01RefIdeal : Cert.DwDown01RefIdeal.Facts) (hDwGate02 : Cert.DwGate02.Facts) (hDwGate02Ideal : Cert.DwGate02Ideal.Facts) (hDwGate02RefIdeal : Cert.DwGate02RefIdeal.Facts) (hDwUp02 : Cert.DwUp02.Facts) (hDwUp02Ideal : Cert.DwUp02Ideal.Facts) (hDwUp02RefIdeal : Cert.DwUp02RefIdeal.Facts) (hDwDown02 : Cert.DwDown02.Facts) (hDwDown02Ideal : Cert.DwDown02Ideal.Facts) (hDwDown02RefIdeal : Cert.DwDown02RefIdeal.Facts) (hDwGate11 : Cert.DwGate11.Facts) (hDwGate11Ideal : Cert.DwGate11Ideal.Facts) (hDwGate11RefIdeal : Cert.DwGate11RefIdeal.Facts) (hDwUp11 : Cert.DwUp11.Facts) (hDwUp11Ideal : Cert.DwUp11Ideal.Facts) (hDwUp11RefIdeal : Cert.DwUp11RefIdeal.Facts) (hDwDown11 : Cert.DwDown11.Facts) (hDwDown11Ideal : Cert.DwDown11Ideal.Facts) (hDwDown11RefIdeal : Cert.DwDown11RefIdeal.Facts) (hDwGate12 : Cert.DwGate12.Facts) (hDwGate12Ideal : Cert.DwGate12Ideal.Facts) (hDwGate12RefIdeal : Cert.DwGate12RefIdeal.Facts) (hDwUp12 : Cert.DwUp12.Facts) (hDwUp12Ideal : Cert.DwUp12Ideal.Facts) (hDwUp12RefIdeal : Cert.DwUp12RefIdeal.Facts) (hDwDown12 : Cert.DwDown12.Facts) (hDwDown12Ideal : Cert.DwDown12Ideal.Facts) (hDwDown12RefIdeal : Cert.DwDown12RefIdeal.Facts) (hFfnFwd : Cert.FfnFwd.Facts) (hFfnFwdIdeal : Cert.FfnFwdIdeal.Facts) (hFfnFwdRefIdeal : Cert.FfnFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjBwd (hOutProjBwd := hOutProjBwd)
    ∧ quiescent_OutProjBwdIdeal (hOutProjBwdIdeal := hOutProjBwdIdeal)
    ∧ quiescent_OutProjBwdRefIdeal (hOutProjBwdRefIdeal := hOutProjBwdRefIdeal)
    ∧ quiescent_KernelA (hKernelA := hKernelA)
    ∧ quiescent_KernelAIdeal (hKernelAIdeal := hKernelAIdeal)
    ∧ quiescent_KernelAIdeal_pre_finite (hKernelAIdeal := hKernelAIdeal) (hPre_finite := hPre_finite)
    ∧ quiescent_KernelB (hKernelB := hKernelB)
    ∧ quiescent_KernelBIdeal (hKernelBIdeal := hKernelBIdeal)
    ∧ quiescent_KernelBIdeal_pre_finite (hKernelBIdeal := hKernelBIdeal) (hPre_finite := hPre_finite)
    ∧ quiescent_KernelC (hKernelC := hKernelC)
    ∧ quiescent_KernelCIdeal (hKernelCIdeal := hKernelCIdeal)
    ∧ quiescent_KernelCIdeal_pre_finite (hKernelCIdeal := hKernelCIdeal) (hPre_finite := hPre_finite)
    ∧ quiescent_DwGate01 (hDwGate01 := hDwGate01)
    ∧ quiescent_DwGate01Ideal (hDwGate01Ideal := hDwGate01Ideal)
    ∧ quiescent_DwGate01RefIdeal (hDwGate01RefIdeal := hDwGate01RefIdeal)
    ∧ quiescent_DwUp01 (hDwUp01 := hDwUp01)
    ∧ quiescent_DwUp01Ideal (hDwUp01Ideal := hDwUp01Ideal)
    ∧ quiescent_DwUp01RefIdeal (hDwUp01RefIdeal := hDwUp01RefIdeal)
    ∧ quiescent_DwDown01 (hDwDown01 := hDwDown01)
    ∧ quiescent_DwDown01Ideal (hDwDown01Ideal := hDwDown01Ideal)
    ∧ quiescent_DwDown01RefIdeal (hDwDown01RefIdeal := hDwDown01RefIdeal)
    ∧ quiescent_DwGate02 (hDwGate02 := hDwGate02)
    ∧ quiescent_DwGate02Ideal (hDwGate02Ideal := hDwGate02Ideal)
    ∧ quiescent_DwGate02RefIdeal (hDwGate02RefIdeal := hDwGate02RefIdeal)
    ∧ quiescent_DwUp02 (hDwUp02 := hDwUp02)
    ∧ quiescent_DwUp02Ideal (hDwUp02Ideal := hDwUp02Ideal)
    ∧ quiescent_DwUp02RefIdeal (hDwUp02RefIdeal := hDwUp02RefIdeal)
    ∧ quiescent_DwDown02 (hDwDown02 := hDwDown02)
    ∧ quiescent_DwDown02Ideal (hDwDown02Ideal := hDwDown02Ideal)
    ∧ quiescent_DwDown02RefIdeal (hDwDown02RefIdeal := hDwDown02RefIdeal)
    ∧ quiescent_DwGate11 (hDwGate11 := hDwGate11)
    ∧ quiescent_DwGate11Ideal (hDwGate11Ideal := hDwGate11Ideal)
    ∧ quiescent_DwGate11RefIdeal (hDwGate11RefIdeal := hDwGate11RefIdeal)
    ∧ quiescent_DwUp11 (hDwUp11 := hDwUp11)
    ∧ quiescent_DwUp11Ideal (hDwUp11Ideal := hDwUp11Ideal)
    ∧ quiescent_DwUp11RefIdeal (hDwUp11RefIdeal := hDwUp11RefIdeal)
    ∧ quiescent_DwDown11 (hDwDown11 := hDwDown11)
    ∧ quiescent_DwDown11Ideal (hDwDown11Ideal := hDwDown11Ideal)
    ∧ quiescent_DwDown11RefIdeal (hDwDown11RefIdeal := hDwDown11RefIdeal)
    ∧ quiescent_DwGate12 (hDwGate12 := hDwGate12)
    ∧ quiescent_DwGate12Ideal (hDwGate12Ideal := hDwGate12Ideal)
    ∧ quiescent_DwGate12RefIdeal (hDwGate12RefIdeal := hDwGate12RefIdeal)
    ∧ quiescent_DwUp12 (hDwUp12 := hDwUp12)
    ∧ quiescent_DwUp12Ideal (hDwUp12Ideal := hDwUp12Ideal)
    ∧ quiescent_DwUp12RefIdeal (hDwUp12RefIdeal := hDwUp12RefIdeal)
    ∧ quiescent_DwDown12 (hDwDown12 := hDwDown12)
    ∧ quiescent_DwDown12Ideal (hDwDown12Ideal := hDwDown12Ideal)
    ∧ quiescent_DwDown12RefIdeal (hDwDown12RefIdeal := hDwDown12RefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_InProjBwd_InProjBwdIdeal
    ∧ algebraic_InProjBwdIdeal_InProjBwdRefIdeal (hInProjBwdIdeal := hInProjBwdIdeal) (hInProjBwdRefIdeal := hInProjBwdRefIdeal)
    ∧ preserves_InProjDw_InProjDwIdeal
    ∧ algebraic_InProjDwIdeal_InProjDwRefIdeal (hInProjDwIdeal := hInProjDwIdeal) (hInProjDwRefIdeal := hInProjDwRefIdeal)
    ∧ preserves_OutProj_OutProjIdeal
    ∧ algebraic_OutProjIdeal_OutProjRefIdeal (hOutProjIdeal := hOutProjIdeal) (hOutProjRefIdeal := hOutProjRefIdeal)
    ∧ preserves_OutProjBwd_OutProjBwdIdeal
    ∧ algebraic_OutProjBwdIdeal_OutProjBwdRefIdeal (hOutProjBwdIdeal := hOutProjBwdIdeal) (hOutProjBwdRefIdeal := hOutProjBwdRefIdeal)
    ∧ preserves_KernelA_KernelAIdeal
    ∧ algebraic_KernelAIdeal_ReferenceIdeal_pre_finite (hKernelAIdeal := hKernelAIdeal) (hReferenceIdeal := hReferenceIdeal) (hPre_finite := hPre_finite)
    ∧ preserves_KernelB_KernelBIdeal
    ∧ algebraic_KernelBIdeal_ReferenceIdeal_pre_finite (hKernelBIdeal := hKernelBIdeal) (hReferenceIdeal := hReferenceIdeal) (hPre_finite := hPre_finite)
    ∧ preserves_KernelC_KernelCIdeal
    ∧ algebraic_KernelCIdeal_ReferenceIdeal_pre_finite (hKernelCIdeal := hKernelCIdeal) (hReferenceIdeal := hReferenceIdeal) (hPre_finite := hPre_finite)
    ∧ preserves_DwGate01_DwGate01Ideal
    ∧ algebraic_DwGate01Ideal_DwGate01RefIdeal (hDwGate01Ideal := hDwGate01Ideal) (hDwGate01RefIdeal := hDwGate01RefIdeal)
    ∧ preserves_DwUp01_DwUp01Ideal
    ∧ algebraic_DwUp01Ideal_DwUp01RefIdeal (hDwUp01Ideal := hDwUp01Ideal) (hDwUp01RefIdeal := hDwUp01RefIdeal)
    ∧ preserves_DwDown01_DwDown01Ideal
    ∧ algebraic_DwDown01Ideal_DwDown01RefIdeal (hDwDown01Ideal := hDwDown01Ideal) (hDwDown01RefIdeal := hDwDown01RefIdeal)
    ∧ preserves_DwGate02_DwGate02Ideal
    ∧ algebraic_DwGate02Ideal_DwGate02RefIdeal (hDwGate02Ideal := hDwGate02Ideal) (hDwGate02RefIdeal := hDwGate02RefIdeal)
    ∧ preserves_DwUp02_DwUp02Ideal
    ∧ algebraic_DwUp02Ideal_DwUp02RefIdeal (hDwUp02Ideal := hDwUp02Ideal) (hDwUp02RefIdeal := hDwUp02RefIdeal)
    ∧ preserves_DwDown02_DwDown02Ideal
    ∧ algebraic_DwDown02Ideal_DwDown02RefIdeal (hDwDown02Ideal := hDwDown02Ideal) (hDwDown02RefIdeal := hDwDown02RefIdeal)
    ∧ preserves_DwGate11_DwGate11Ideal
    ∧ algebraic_DwGate11Ideal_DwGate11RefIdeal (hDwGate11Ideal := hDwGate11Ideal) (hDwGate11RefIdeal := hDwGate11RefIdeal)
    ∧ preserves_DwUp11_DwUp11Ideal
    ∧ algebraic_DwUp11Ideal_DwUp11RefIdeal (hDwUp11Ideal := hDwUp11Ideal) (hDwUp11RefIdeal := hDwUp11RefIdeal)
    ∧ preserves_DwDown11_DwDown11Ideal
    ∧ algebraic_DwDown11Ideal_DwDown11RefIdeal (hDwDown11Ideal := hDwDown11Ideal) (hDwDown11RefIdeal := hDwDown11RefIdeal)
    ∧ preserves_DwGate12_DwGate12Ideal
    ∧ algebraic_DwGate12Ideal_DwGate12RefIdeal (hDwGate12Ideal := hDwGate12Ideal) (hDwGate12RefIdeal := hDwGate12RefIdeal)
    ∧ preserves_DwUp12_DwUp12Ideal
    ∧ algebraic_DwUp12Ideal_DwUp12RefIdeal (hDwUp12Ideal := hDwUp12Ideal) (hDwUp12RefIdeal := hDwUp12RefIdeal)
    ∧ preserves_DwDown12_DwDown12Ideal
    ∧ algebraic_DwDown12Ideal_DwDown12RefIdeal (hDwDown12Ideal := hDwDown12Ideal) (hDwDown12RefIdeal := hDwDown12RefIdeal)
    ∧ preserves_FfnFwd_FfnFwdIdeal
    ∧ algebraic_FfnFwdIdeal_FfnFwdRefIdeal (hFfnFwdIdeal := hFfnFwdIdeal) (hFfnFwdRefIdeal := hFfnFwdRefIdeal)
-- ==== Pre_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S1024 .f32) (main_arg3 : FVec F S1024x2816 .f32) (main_arg4 : FVec F S1024x2816 .f32) (main_arg5 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 59
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S1x1024, .f32⟩
  | .hbm, ⟨55, _⟩ => ⟨S16384x1024, .f32⟩
  | .hbm, ⟨56, _⟩ => ⟨S16384x3072, .bf16⟩
  | .hbm, ⟨57, _⟩ => ⟨S16384x3072, .bf16⟩
  | .hbm, ⟨58, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v36_3 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 59
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S1x1024, .f32⟩
  | .hbm, ⟨55, _⟩ => ⟨S16384x1024, .f32⟩
  | .hbm, ⟨56, _⟩ => ⟨S16384x3072, .bf16⟩
  | .hbm, ⟨57, _⟩ => ⟨S16384x3072, .bf16⟩
  | .hbm, ⟨58, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v36_3 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩
abbrev S16384x8x352 : Shape := ⟨3, ![16384, 8, 352]⟩
abbrev S16384x8x384 : Shape := ⟨3, ![16384, 8, 384]⟩
abbrev S16384x3072 : Shape := ⟨2, ![16384, 3072]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S16384x2816, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x1024, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S1024, .f32⟩
  | .hbm, ⟨73, _⟩ => ⟨S16384x1024, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x8x352, .f32⟩
  | .hbm, ⟨92, _⟩ => ⟨S_, .i32⟩
  | .hbm, ⟨93, _⟩ => ⟨S_, .f32⟩
  | .hbm, ⟨94, _⟩ => ⟨S16384x8x384, .f32⟩
  | .hbm, ⟨95, _⟩ => ⟨S16384x3072, .f32⟩
  | .hbm, ⟨96, _⟩ => ⟨S16384x3072, .bf16⟩
  | .hbm, ⟨97, _⟩ => ⟨S16384x8x352, .f32⟩
  | .hbm, ⟨98, _⟩ => ⟨S_, .i32⟩
  | .hbm, ⟨99, _⟩ => ⟨S_, .f32⟩
  | .hbm, ⟨100, _⟩ => ⟨S16384x8x384, .f32⟩
  | .hbm, ⟨101, _⟩ => ⟨S16384x3072, .f32⟩
  | .hbm, ⟨102, _⟩ => ⟨S16384x3072, .bf16⟩
  | .hbm, ⟨103, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_c : Ref sig .tc := ⟨.hbm, 92, rfl⟩
abbrev main_call2_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_11 : Ref sig .tc := ⟨.hbm, 98, rfl⟩
abbrev main_call3_v0 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x3840 : Shape := ⟨2, ![1024, 3840]⟩
abbrev S1x1024 : Shape := ⟨2, ![1, 1024]⟩
abbrev S3840x1024 : Shape := ⟨2, ![3840, 1024]⟩
abbrev S16384x3840 : Shape := ⟨2, ![16384, 3840]⟩
abbrev S512x1024 : Shape := ⟨2, ![512, 1024]⟩
abbrev S512x3840 : Shape := ⟨2, ![512, 3840]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3840, .f32⟩
  | .hbm, ⟨3, _⟩ => ⟨S1x1024, .f32⟩
  | .hbm, ⟨4, _⟩ => ⟨S3840x1024, .f32⟩
  | .hbm, ⟨5, _⟩ => ⟨S3840x1024, .bf16⟩
  | .hbm, ⟨6, _⟩ => ⟨S16384x3840, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x3840, .f32⟩
  | .local _ .vmem, ⟨5, _⟩ => ⟨S512x3840, .f32⟩
  | .local _ .vmem, ⟨6, _⟩ => ⟨S512x1024, .bf16⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S16384x1024 : Shape := ⟨2, ![16384, 1024]⟩
abbrev S1024 : Shape := ⟨1, ![1024]⟩
abbrev S1024x3840 : Shape := ⟨2, ![1024, 3840]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3840 : Shape := ⟨2, ![16384, 3840]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3840, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3840, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InProjBwd.lean ====
abbrev S16384x3840 : Shape := ⟨2, ![16384, 3840]⟩
abbrev S16384x1024 : Shape := ⟨2, ![16384, 1024]⟩
abbrev S1024 : Shape := ⟨1, ![1024]⟩
abbrev S1024x3840 : Shape := ⟨2, ![1024, 3840]⟩
abbrev S1x1024 : Shape := ⟨2, ![1, 1024]⟩
abbrev S3840x1024 : Shape := ⟨2, ![3840, 1024]⟩
abbrev S512x3840 : Shape := ⟨2, ![512, 3840]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x3840, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x3840, .f32⟩
  | .hbm, ⟨5, _⟩ => ⟨S16384x3840, .bf16⟩
  | .hbm, ⟨6, _⟩ => ⟨S1x1024, .f32⟩
  | .hbm, ⟨7, _⟩ => ⟨S3840x1024, .f32⟩
  | .hbm, ⟨8, _⟩ => ⟨S3840x1024, .bf16⟩
  | .hbm, ⟨9, _⟩ => ⟨S16384x1024, .f32⟩
  | .hbm, ⟨10, _⟩ => ⟨S1x1024, .f32⟩
  | .local _ .vmem, ⟨0, _⟩ => ⟨S512x3840, .bf16⟩
  | .local _ .vmem, ⟨1, _⟩ => ⟨S512x3840, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S3840x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjBwdRefIdeal.lean ====
abbrev S16384x3840 : Shape := ⟨2, ![16384, 3840]⟩
abbrev S16384x1024 : Shape := ⟨2, ![16384, 1024]⟩
abbrev S1024 : Shape := ⟨1, ![1024]⟩
abbrev S1024x3840 : Shape := ⟨2, ![1024, 3840]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x3840, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3840, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== InProjDw.lean ====
abbrev S16384x3840 : Shape := ⟨2, ![16384, 3840]⟩
abbrev S16384x1024 : Shape := ⟨2, ![16384, 1024]⟩
abbrev S3840x1024 : Shape := ⟨2, ![3840, 1024]⟩
abbrev S512x3840 : Shape := ⟨2, ![512, 3840]⟩
abbrev S512x1024 : Shape := ⟨2, ![512, 1024]⟩
abbrev S384x1024 : Shape := ⟨2, ![384, 1024]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S16384x3840, .f32⟩
  | .hbm, ⟨1, _⟩ => ⟨S16384x1024, .f32⟩
  | .hbm, ⟨2, _⟩ => ⟨S16384x3840, .bf16⟩
  | .hbm, ⟨3, _⟩ => ⟨S16384x1024, .bf16⟩
  | .hbm, ⟨4, _⟩ => ⟨S3840x1024, .f32⟩
  | .local _ .vmem, ⟨0, _⟩ => ⟨S512x3840, .bf16⟩
  | .local _ .vmem, ⟨1, _⟩ => ⟨S512x3840, .bf16⟩
  | .local _ .vmem, ⟨2, _⟩ => ⟨S512x1024, .bf16⟩
  | .local _ .vmem, ⟨3, _⟩ => ⟨S512x1024, .bf16⟩
  | .local _ .vmem, ⟨4, _⟩ => ⟨S3840x1024, .f32⟩
  | _, _ => ⟨S16384x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3840x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== InProjDwRefIdeal.lean ====
abbrev S16384x3840 : Shape := ⟨2, ![16384, 3840]⟩
abbrev S16384x1024 : Shape := ⟨2, ![16384, 1024]⟩
abbrev S_ : Shape := ⟨0, ![]⟩
abbrev S3840x1024 : Shape := ⟨2, ![3840, 1024]⟩
abbrev S1024x3840 : Shape := ⟨2, ![1024, 3840]⟩

abbrev nBuf : Space → Nat
  | .hbm => 9
  | .vmem => 0
  | .smem => 0
  | _ => 0

abbrev bufTy : (tb : Table) → Fin (tcTables nBuf tb) → BufTy
  | .hbm, ⟨0, _⟩ => ⟨S16384x3840, .f32⟩
  | .hbm, ⟨1, _⟩ => ⟨S16384x1024, .f32⟩
  | .hbm, ⟨2, _⟩ => ⟨S_, .f32⟩
  | .hbm, ⟨3, _⟩ => ⟨S3840x1024, .f32⟩
  | .hbm, ⟨4, _⟩ => ⟨S1024x3840, .f32⟩
  | .hbm, ⟨5, _⟩ => ⟨S16384x3840, .f32⟩
  | .hbm, ⟨6, _⟩ => ⟨S3840x1024, .f32⟩
  | .hbm, ⟨7, _⟩ => ⟨S1024x3840, .f32⟩
  | .hbm, ⟨8, _⟩ => ⟨S3840x1024, .f32⟩
  | _, _ => ⟨S16384x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutProjBwd.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutProjBwdRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelA.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x1792x1024 : Shape := ⟨3, ![8, 1792, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x1792x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelAIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x1792x1024 : Shape := ⟨3, ![8, 1792, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x1792x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelB.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x2944x1024 : Shape := ⟨3, ![8, 2944, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x2944x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelBIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x2944x1024 : Shape := ⟨3, ![8, 2944, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x2944x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelC.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x2944x1024 : Shape := ⟨3, ![8, 2944, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x2944x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== KernelCIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩
abbrev S8x352x1024 : Shape := ⟨3, ![8, 352, 1024]⟩
abbrev S8x384x1024 : Shape := ⟨3, ![8, 384, 1024]⟩
abbrev S8x1152x1024 : Shape := ⟨3, ![8, 1152, 1024]⟩
abbrev S8x2944x1024 : Shape := ⟨3, ![8, 2944, 1024]⟩
abbrev S1024x1024 : Shape := ⟨2, ![1024, 1024]⟩
abbrev S1024x768 : Shape := ⟨2, ![1024, 768]⟩
abbrev S2x384x1024 : Shape := ⟨3, ![2, 384, 1024]⟩
abbrev S768x1024 : Shape := ⟨2, ![768, 1024]⟩
abbrev S1536x1024 : Shape := ⟨2, ![1536, 1024]⟩
abbrev S1024x1536 : Shape := ⟨2, ![1024, 1536]⟩
abbrev S1024x1 : Shape := ⟨2, ![1024, 1]⟩

abbrev nBuf : Space → Nat
  | .hbm => 62
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S16384x2816, .f32⟩
  | .hbm, ⟨25, _⟩ => ⟨S16384x8x352, .f32⟩
  | .hbm, ⟨26, _⟩ => ⟨S_, .i32⟩
  | .hbm, ⟨27, _⟩ => ⟨S_, .f32⟩
  | .hbm, ⟨28, _⟩ => ⟨S16384x8x384, .f32⟩
  | .hbm, ⟨29, _⟩ => ⟨S16384x3072, .f32⟩
  | .hbm, ⟨30, _⟩ => ⟨S16384x3072, .bf16⟩
  | .hbm, ⟨31, _⟩ => ⟨S16384x2816, .f32⟩
  | .hbm, ⟨32, _⟩ => ⟨S16384x8x352, .f32⟩
  | .hbm, ⟨33, _⟩ => ⟨S_, .i32⟩
  | .hbm, ⟨34, _⟩ => ⟨S_, .f32⟩
  | .hbm, ⟨35, _⟩ => ⟨S16384x8x384, .f32⟩
  | .hbm, ⟨36, _⟩ => ⟨S16384x3072, .f32⟩
  | .hbm, ⟨37, _⟩ => ⟨S16384x3072, .bf16⟩
  | .hbm, ⟨38, _⟩ => ⟨S2816x1024, .f32⟩
  | .hbm, ⟨39, _⟩ => ⟨S8x352x1024, .f32⟩
  | .hbm, ⟨40, _⟩ => ⟨S_, .i32⟩
  | .hbm, ⟨41, _⟩ => ⟨S_, .f32⟩
  | .hbm, ⟨42, _⟩ => ⟨S8x384x1024, .f32⟩
  | .hbm, ⟨43, _⟩ => ⟨S2816x1024, .f32⟩
  | .hbm, ⟨44, _⟩ => ⟨S8x352x1024, .f32⟩
  | .hbm, ⟨45, _⟩ => ⟨S_, .i32⟩
  | .hbm, ⟨46, _⟩ => ⟨S_, .f32⟩
  | .hbm, ⟨47, _⟩ => ⟨S8x384x1024, .f32⟩
  | .hbm, ⟨48, _⟩ => ⟨S8x352x1024, .f32⟩
  | .hbm, ⟨49, _⟩ => ⟨S_, .i32⟩
  | .hbm, ⟨50, _⟩ => ⟨S_, .f32⟩
  | .hbm, ⟨51, _⟩ => ⟨S8x384x1024, .f32⟩
  | .hbm, ⟨52, _⟩ => ⟨S8x1152x1024, .f32⟩
  | .hbm, ⟨53, _⟩ => ⟨S8x1152x1024, .bf16⟩
  | .hbm, ⟨54, _⟩ => ⟨S_, .i32⟩
  | .hbm, ⟨55, _⟩ => ⟨S_, .bf16⟩
  | .hbm, ⟨56, _⟩ => ⟨S8x2944x1024, .bf16⟩
  | .hbm, ⟨57, _⟩ => ⟨S1x1024, .f32⟩
  | .hbm, ⟨58, _⟩ => ⟨S16384x1024, .f32⟩
  | .hbm, ⟨59, _⟩ => ⟨S16384x3072, .bf16⟩
  | .hbm, ⟨60, _⟩ => ⟨S16384x3072, .bf16⟩
  | .hbm, ⟨61, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S2x384x1024, .bf16⟩
  | .local _ .vmem, ⟨8, _⟩ => ⟨S2x384x1024, .bf16⟩
  | .local _ .vmem, ⟨9, _⟩ => ⟨S2x384x1024, .bf16⟩
  | .local _ .vmem, ⟨10, _⟩ => ⟨S2x384x1024, .bf16⟩
  | .local _ .vmem, ⟨11, _⟩ => ⟨S2x384x1024, .bf16⟩
  | .local _ .vmem, ⟨12, _⟩ => ⟨S2x384x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_call2_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_call4_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_call5_v0 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg1.toNat, c3_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg1.toNat, c4_i32.toNat, c0_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg1.toNat, c5_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== DwGate01.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate01Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate01RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x0x1024 : Shape := ⟨3, ![8, 0, 1024]⟩
abbrev S8x5504x1024 : Shape := ⟨3, ![8, 5504, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x0x1024, .f32⟩
  | .hbm, ⟨14, _⟩ => ⟨S8x5504x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwUp01.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp01Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp01RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x5120x1024 : Shape := ⟨3, ![8, 5120, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x384x1024, .f32⟩
  | .hbm, ⟨14, _⟩ => ⟨S8x5120x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwDown01.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x3072, .bf16⟩
  | .hbm, ⟨4, _⟩ => ⟨S8x5888x1024, .bf16⟩
  | .hbm, ⟨5, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDown01Ideal.lean ====
  let c2_i32 : BitVec 32 := 2#32
  ![c0_i32.toNat, c2_i32.toNat, c0_i32_0.toNat]
-- ==== DwDown01RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x768x1024 : Shape := ⟨3, ![8, 768, 1024]⟩
abbrev S8x4736x1024 : Shape := ⟨3, ![8, 4736, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x3072, .f32⟩
  | .hbm, ⟨13, _⟩ => ⟨S3072x1024, .f32⟩
  | .hbm, ⟨14, _⟩ => ⟨S4x2x384x1024, .f32⟩
  | .hbm, ⟨15, _⟩ => ⟨S2x4x384x1024, .f32⟩
  | .hbm, ⟨16, _⟩ => ⟨S8x384x1024, .f32⟩
  | .hbm, ⟨17, _⟩ => ⟨S8x768x1024, .f32⟩
  | .hbm, ⟨18, _⟩ => ⟨S8x4736x1024, .f32⟩
  | .hbm, ⟨19, _⟩ => ⟨S8x5888x1024, .f32⟩
  | .hbm, ⟨20, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwGate02.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate02Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate02RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x1152x1024 : Shape := ⟨3, ![8, 1152, 1024]⟩
abbrev S8x4352x1024 : Shape := ⟨3, ![8, 4352, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x1152x1024, .f32⟩
  | .hbm, ⟨14, _⟩ => ⟨S8x4352x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwUp02.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp02Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  ![c0_i32.toNat, c4_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp02RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x1536x1024 : Shape := ⟨3, ![8, 1536, 1024]⟩
abbrev S8x3968x1024 : Shape := ⟨3, ![8, 3968, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x1536x1024, .f32⟩
  | .hbm, ⟨14, _⟩ => ⟨S8x3968x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwDown02.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x3072, .bf16⟩
  | .hbm, ⟨4, _⟩ => ⟨S8x5888x1024, .bf16⟩
  | .hbm, ⟨5, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  let c0_i32_1 : BitVec 32 := 0#32
  ![c0_i32.toNat, c5_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDown02Ideal.lean ====
  let c5_i32 : BitVec 32 := 5#32
  ![c0_i32.toNat, c5_i32.toNat, c0_i32_0.toNat]
-- ==== DwDown02RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x1920x1024 : Shape := ⟨3, ![8, 1920, 1024]⟩
abbrev S8x3584x1024 : Shape := ⟨3, ![8, 3584, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x3072, .f32⟩
  | .hbm, ⟨13, _⟩ => ⟨S3072x1024, .f32⟩
  | .hbm, ⟨14, _⟩ => ⟨S4x2x384x1024, .f32⟩
  | .hbm, ⟨15, _⟩ => ⟨S2x4x384x1024, .f32⟩
  | .hbm, ⟨16, _⟩ => ⟨S8x384x1024, .f32⟩
  | .hbm, ⟨17, _⟩ => ⟨S8x1920x1024, .f32⟩
  | .hbm, ⟨18, _⟩ => ⟨S8x3584x1024, .f32⟩
  | .hbm, ⟨19, _⟩ => ⟨S8x5888x1024, .f32⟩
  | .hbm, ⟨20, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwGate11.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate11Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  let c0_i32_1 : BitVec 32 := 0#32
  ![c0_i32.toNat, c6_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate11RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x2304x1024 : Shape := ⟨3, ![8, 2304, 1024]⟩
abbrev S8x3200x1024 : Shape := ⟨3, ![8, 3200, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x2304x1024, .f32⟩
  | .hbm, ⟨14, _⟩ => ⟨S8x3200x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwUp11.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp11Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  let c0_i32_1 : BitVec 32 := 0#32
  ![c0_i32.toNat, c7_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp11RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x2688x1024 : Shape := ⟨3, ![8, 2688, 1024]⟩
abbrev S8x2816x1024 : Shape := ⟨3, ![8, 2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x2688x1024, .f32⟩
  | .hbm, ⟨14, _⟩ => ⟨S8x2816x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwDown11.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x3072, .bf16⟩
  | .hbm, ⟨4, _⟩ => ⟨S8x5888x1024, .bf16⟩
  | .hbm, ⟨5, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  ![c0_i32.toNat, c8_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDown11Ideal.lean ====
  let c8_i32 : BitVec 32 := 8#32
  ![c0_i32.toNat, c8_i32.toNat, c0_i32_0.toNat]
-- ==== DwDown11RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x3072x1024 : Shape := ⟨3, ![8, 3072, 1024]⟩
abbrev S8x2432x1024 : Shape := ⟨3, ![8, 2432, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x3072, .f32⟩
  | .hbm, ⟨13, _⟩ => ⟨S3072x1024, .f32⟩
  | .hbm, ⟨14, _⟩ => ⟨S4x2x384x1024, .f32⟩
  | .hbm, ⟨15, _⟩ => ⟨S2x4x384x1024, .f32⟩
  | .hbm, ⟨16, _⟩ => ⟨S8x384x1024, .f32⟩
  | .hbm, ⟨17, _⟩ => ⟨S8x3072x1024, .f32⟩
  | .hbm, ⟨18, _⟩ => ⟨S8x2432x1024, .f32⟩
  | .hbm, ⟨19, _⟩ => ⟨S8x5888x1024, .f32⟩
  | .hbm, ⟨20, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== DwGate12.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate12Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c9_i32 : BitVec 32 := 9#32
  let c0_i32_0 : BitVec 32 := 0#32
  let c0_i32_1 : BitVec 32 := 0#32
  ![c0_i32.toNat, c9_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwGate12RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x3456x1024 : Shape := ⟨3, ![8, 3456, 1024]⟩
abbrev S8x2048x1024 : Shape := ⟨3, ![8, 2048, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x3456x1024, .f32⟩
  | .hbm, ⟨14, _⟩ => ⟨S8x2048x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwUp12.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp12Ideal.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x1024, .bf16⟩
  | .hbm, ⟨4, _⟩ => ⟨S16384x3072, .bf16⟩
  | .hbm, ⟨5, _⟩ => ⟨S8x5888x1024, .bf16⟩
  | .hbm, ⟨6, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwUp12RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x3840x1024 : Shape := ⟨3, ![8, 3840, 1024]⟩
abbrev S8x1664x1024 : Shape := ⟨3, ![8, 1664, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S1024x3072, .f32⟩
  | .hbm, ⟨6, _⟩ => ⟨S16384x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S4x2x384x1024, .f32⟩
  | .hbm, ⟨11, _⟩ => ⟨S2x4x384x1024, .f32⟩
  | .hbm, ⟨12, _⟩ => ⟨S8x384x1024, .f32⟩
  | .hbm, ⟨13, _⟩ => ⟨S8x3840x1024, .f32⟩
  | .hbm, ⟨14, _⟩ => ⟨S8x1664x1024, .f32⟩
  | .hbm, ⟨15, _⟩ => ⟨S8x5888x1024, .f32⟩
  | .hbm, ⟨16, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwDown12.lean ====
abbrev S16384x3072 : Shape := ⟨2, ![16384, 3072]⟩
abbrev S16384x1024 : Shape := ⟨2, ![16384, 1024]⟩
abbrev S8x5888x1024 : Shape := ⟨3, ![8, 5888, 1024]⟩
abbrev S1024x3072 : Shape := ⟨2, ![1024, 3072]⟩
abbrev S1024x1024 : Shape := ⟨2, ![1024, 1024]⟩
abbrev S8x384x1024 : Shape := ⟨3, ![8, 384, 1024]⟩
abbrev S3072x1024 : Shape := ⟨2, ![3072, 1024]⟩
abbrev S384x1024 : Shape := ⟨2, ![384, 1024]⟩
abbrev S1024x384 : Shape := ⟨2, ![1024, 384]⟩
abbrev S1x384x1024 : Shape := ⟨3, ![1, 384, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S16384x3072, .bf16⟩
  | .hbm, ⟨4, _⟩ => ⟨S8x5888x1024, .bf16⟩
  | .hbm, ⟨5, _⟩ => ⟨S8x5888x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S8x384x1024, .bf16⟩
  | .local _ .vmem, ⟨5, _⟩ => ⟨S3072x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v69 : BitVec 1 := Scalar.cmpi .eq arg0 c15_i32
  let v70 : BitVec 32 := Scalar.extui v69
  let c0_i32_50 : BitVec 32 := 0#32
  let v71 : BitVec 1 := Scalar.cmpi .ne v70 c0_i32_50
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c11_i32 : BitVec 32 := 11#32
  let c0_i32_0 : BitVec 32 := 0#32
  let c0_i32_1 : BitVec 32 := 0#32
  ![c0_i32.toNat, c11_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwDown12RefIdeal.lean ====
abbrev S16384x3072 : Shape := ⟨2, ![16384, 3072]⟩
abbrev S16384x1024 : Shape := ⟨2, ![16384, 1024]⟩
abbrev S8x5888x1024 : Shape := ⟨3, ![8, 5888, 1024]⟩
abbrev S_ : Shape := ⟨0, ![]⟩
abbrev S3072x1024 : Shape := ⟨2, ![3072, 1024]⟩
abbrev S1024x3072 : Shape := ⟨2, ![1024, 3072]⟩
abbrev S4x2x384x1024 : Shape := ⟨4, ![4, 2, 384, 1024]⟩
abbrev S2x4x384x1024 : Shape := ⟨4, ![2, 4, 384, 1024]⟩
abbrev S8x384x1024 : Shape := ⟨3, ![8, 384, 1024]⟩
abbrev S8x4224x1024 : Shape := ⟨3, ![8, 4224, 1024]⟩
abbrev S8x1280x1024 : Shape := ⟨3, ![8, 1280, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x1024, .f32⟩
  | .hbm, ⟨2, _⟩ => ⟨S8x5888x1024, .f32⟩
  | .hbm, ⟨3, _⟩ => ⟨S_, .f32⟩
  | .hbm, ⟨4, _⟩ => ⟨S3072x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x3072, .f32⟩
  | .hbm, ⟨13, _⟩ => ⟨S3072x1024, .f32⟩
  | .hbm, ⟨14, _⟩ => ⟨S4x2x384x1024, .f32⟩
  | .hbm, ⟨15, _⟩ => ⟨S2x4x384x1024, .f32⟩
  | .hbm, ⟨16, _⟩ => ⟨S8x384x1024, .f32⟩
  | .hbm, ⟨17, _⟩ => ⟨S8x4224x1024, .f32⟩
  | .hbm, ⟨18, _⟩ => ⟨S8x1280x1024, .f32⟩
  | .hbm, ⟨19, _⟩ => ⟨S8x5888x1024, .f32⟩
  | .hbm, ⟨20, _⟩ => ⟨S8x5888x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== FfnFwd.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S8x1792x1024 : Shape := ⟨3, ![8, 1792, 1024]⟩
abbrev S8x352x1024 : Shape := ⟨3, ![8, 352, 1024]⟩
abbrev S_ : Shape := ⟨0, ![]⟩
abbrev S8x384x1024 : Shape := ⟨3, ![8, 384, 1024]⟩
abbrev S8x2944x1024 : Shape := ⟨3, ![8, 2944, 1024]⟩
abbrev S1x1024 : Shape := ⟨2, ![1, 1024]⟩
abbrev S16384x3072 : Shape := ⟨2, ![16384, 3072]⟩
abbrev S1024x1024 : Shape := ⟨2, ![1024, 1024]⟩
abbrev S2x384x1024 : Shape := ⟨3, ![2, 384, 1024]⟩
abbrev S1024x768 : Shape := ⟨2, ![1024, 768]⟩
abbrev S1024x1 : Shape := ⟨2, ![1024, 1]⟩
abbrev S768x1024 : Shape := ⟨2, ![768, 1024]⟩

abbrev nBuf : Space → Nat
  | .hbm => 28
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1792x1024, .f32⟩
  | .hbm, ⟨6, _⟩ => ⟨S2816x1024, .f32⟩
  | .hbm, ⟨7, _⟩ => ⟨S8x352x1024, .f32⟩
  | .hbm, ⟨8, _⟩ => ⟨S_, .i32⟩
  | .hbm, ⟨9, _⟩ => ⟨S_, .f32⟩
  | .hbm, ⟨10, _⟩ => ⟨S8x384x1024, .f32⟩
  | .hbm, ⟨11, _⟩ => ⟨S2816x1024, .f32⟩
  | .hbm, ⟨12, _⟩ => ⟨S8x352x1024, .f32⟩
  | .hbm, ⟨13, _⟩ => ⟨S_, .i32⟩
  | .hbm, ⟨14, _⟩ => ⟨S_, .f32⟩
  | .hbm, ⟨15, _⟩ => ⟨S8x384x1024, .f32⟩
  | .hbm, ⟨16, _⟩ => ⟨S8x352x1024, .f32⟩
  | .hbm, ⟨17, _⟩ => ⟨S_, .i32⟩
  | .hbm, ⟨18, _⟩ => ⟨S_, .f32⟩
  | .hbm, ⟨19, _⟩ => ⟨S8x384x1024, .f32⟩
  | .hbm, ⟨20, _⟩ => ⟨S8x2944x1024, .f32⟩
  | .hbm, ⟨21, _⟩ => ⟨S8x2944x1024, .bf16⟩
  | .hbm, ⟨22, _⟩ => ⟨S1x1024, .f32⟩
  | .hbm, ⟨23, _⟩ => ⟨S16384x1024, .f32⟩
  | .hbm, ⟨24, _⟩ => ⟨S16384x1024, .bf16⟩
  | .hbm, ⟨25, _⟩ => ⟨S16384x3072, .bf16⟩
  | .hbm, ⟨26, _⟩ => ⟨S16384x3072, .bf16⟩
  | .hbm, ⟨27, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x384x1024, .bf16⟩
  | .local _ .vmem, ⟨4, _⟩ => ⟨S2x384x1024, .bf16⟩
  | .local _ .vmem, ⟨5, _⟩ => ⟨S2x384x1024, .bf16⟩
  | .local _ .vmem, ⟨6, _⟩ => ⟨S2x384x1024, .bf16⟩
  | .local _ .vmem, ⟨7, _⟩ => ⟨S2x384x1024, .bf16⟩
  | .local _ .vmem, ⟨8, _⟩ => ⟨S2x384x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1024x1024, .bf16⟩
  | .local _ .vmem, ⟨20, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_27 : BitVec 32 := 0#32
  let v40 : BitVec 1 := Scalar.cmpi .ne v39 c0_i32_27
  v40

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFwdRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S8x1792x1024 : Shape := ⟨3, ![8, 1792, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x8x352 : Shape := ⟨3, ![16384, 8, 352]⟩
abbrev S16384x8x384 : Shape := ⟨3, ![16384, 8, 384]⟩
abbrev S16384x3072 : Shape := ⟨2, ![16384, 3072]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1792x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x8x352, .f32⟩
  | .hbm, ⟨41, _⟩ => ⟨S_, .i32⟩
  | .hbm, ⟨42, _⟩ => ⟨S_, .f32⟩
  | .hbm, ⟨43, _⟩ => ⟨S16384x8x384, .f32⟩
  | .hbm, ⟨44, _⟩ => ⟨S16384x3072, .f32⟩
  | .hbm, ⟨45, _⟩ => ⟨S16384x3072, .bf16⟩
  | .hbm, ⟨46, _⟩ => ⟨S16384x8x352, .f32⟩
  | .hbm, ⟨47, _⟩ => ⟨S_, .i32⟩
  | .hbm, ⟨48, _⟩ => ⟨S_, .f32⟩
  | .hbm, ⟨49, _⟩ => ⟨S16384x8x384, .f32⟩
  | .hbm, ⟨50, _⟩ => ⟨S16384x3072, .f32⟩
  | .hbm, ⟨51, _⟩ => ⟨S16384x3072, .bf16⟩
  | .hbm, ⟨52, _⟩ => ⟨S16384x8x352, .f32⟩
  | .hbm, ⟨53, _⟩ => ⟨S_, .i32⟩
  | .hbm, ⟨54, _⟩ => ⟨S_, .f32⟩
  | .hbm, ⟨55, _⟩ => ⟨S16384x8x384, .f32⟩
  | .hbm, ⟨56, _⟩ => ⟨S16384x3072, .f32⟩
  | .hbm, ⟨57, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_call1_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_call2_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_call3_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Lift.lean ====
/-
  Arithmetic of the extended reals on finite values, and finite sums over the rows of a padded table.

  A value claim with finite arguments is proved by showing that every number on either side is (the extended real of)
  a real number: the lemmas here say what each operation does to real numbers.
-/
module

public import Idealize.ShloMosaic.Lib.KernelVsHost

@[expose] public section

noncomputable section

namespace Cert.Lift

open Idealize.ShloMosaic

/-- A finite sum of real numbers, taken in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over all numbers below `n`. -/
theorem coe_sum_fin (n : ℕ) (f : ℕ → ℝ) :
    ∑ i : Fin n, ((f i.val : ℝ) : EReal) = ((∑ i ∈ Finset.range n, f i : ℝ) : EReal) := by
  rw [coe_sum, Fin.sum_univ_eq_sum_range (fun i => f i)]

/-- A sum whose terms are known to be real numbers. -/
theorem sum_fin_eq {n : ℕ} {g : Fin n → EReal} (f : ℕ → ℝ) (h : ∀ i, g i = ((f i.val : ℝ) : EReal)) :
    ∑ i, g i = ((∑ i ∈ Finset.range n, f i : ℝ) : EReal) := by
  rw [← coe_sum_fin]; exact Finset.sum_congr rfl fun i _ => h i

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The logistic function as half of one plus the hyperbolic tangent of the half. -/
theorem half_tanh (x : ℝ) : 1 / 2 * (Real.tanh (1 / 2 * x) + 1) = (1 + Real.exp (-x))⁻¹ := by
  rw [Real.tanh_eq_sinh_div_cosh, Real.sinh_eq, Real.cosh_eq]
  have h1 : Real.exp (-(1 / 2 * x)) = (Real.exp (1 / 2 * x))⁻¹ := Real.exp_neg _
  have h2 : Real.exp (-x) = (Real.exp (1 / 2 * x))⁻¹ * (Real.exp (1 / 2 * x))⁻¹ := by
    rw [← h1, ← Real.exp_add]; congr 1; ring
  rw [h1, h2]
  have hp := Real.exp_pos (1 / 2 * x)
  generalize Real.exp (1 / 2 * x) = e at hp
  have : e ≠ 0 := hp.ne'
  have h3 : e * e + 1 ≠ 0 := by positivity
  have h4 : e + e⁻¹ ≠ 0 := by positivity
  have h5 : 1 + e⁻¹ * e⁻¹ ≠ 0 := by positivity
  field_simp
  ring

/-- The smallest of the constants: the number added under the square root, `f32`'s `1e-6`. -/
def eps : ℝ := 8796093 * (2 : ℝ) ^ (-43 : ℤ)

theorem eps_pos : 0 < eps := by unfold eps; positivity

theorem ofBits_eps : Ideal.ofBits .f32 0x358637BD#32 = ((eps : ℝ) : EReal) := by
  simp [Ideal.ofBits, Ideal.ieee, eps, -EReal.coe_mul]
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

/-! ## Tables padded from 352 to 384 in each of their eight parts -/

/-- `f`'s numbers in the padded order: eight parts of 352, each followed by 32 zeros. -/
def padF (f : ℕ → ℝ) (p : ℕ) : ℝ := if p % 384 < 352 then f (352 * (p / 384) + p % 384) else 0

theorem padF_mul (f g : ℕ → ℝ) (p : ℕ) : padF f p * padF g p = padF (fun m => f m * g m) p := by
  unfold padF; split <;> simp

theorem padF_add (f g : ℕ → ℝ) (p : ℕ) : padF f p + padF g p = padF (fun m => f m + g m) p := by
  unfold padF; split <;> simp

theorem padF_const_mul (a : ℝ) (g : ℕ → ℝ) (p : ℕ) : a * padF g p = padF (fun m => a * g m) p := by
  unfold padF; split <;> simp

theorem sum_range_mul (a b : ℕ) (f : ℕ → ℝ) :
    ∑ p ∈ Finset.range (a * b), f p = ∑ r ∈ Finset.range a, ∑ c ∈ Finset.range b, f (b * r + c) := by
  induction a with
  | zero => simp
  | succ a ih =>
    rw [Finset.sum_range_succ, ← ih, Nat.succ_mul, Finset.sum_range_add]
    congr 1
    exact Finset.sum_congr rfl fun c _ => by rw [Nat.mul_comm]

/-- The padding contributes nothing to a sum. -/
theorem sum_padF (f : ℕ → ℝ) : ∑ p ∈ Finset.range 3072, padF f p = ∑ m ∈ Finset.range 2816, f m := by
  rw [show (3072 : ℕ) = 8 * 384 from rfl, show (2816 : ℕ) = 8 * 352 from rfl, sum_range_mul, sum_range_mul]
  refine Finset.sum_congr rfl fun r _ => ?_
  rw [show (384 : ℕ) = 352 + 32 from rfl, Finset.sum_range_add]
  have h0 : ∑ x ∈ Finset.range 32, padF f ((352 + 32) * r + (352 + x)) = 0 :=
    Finset.sum_eq_zero fun x hx => by
      have := Finset.mem_range.mp hx
      unfold padF; rw [if_neg (by omega)]
  rw [h0, add_zero]
  refine Finset.sum_congr rfl fun c hc => ?_
  have := Finset.mem_range.mp hc
  unfold padF
  rw [if_pos (by omega)]
  congr 1; omega

end Cert.Lift
-- ==== Proof.Ops.lean ====
/-
  Arrays of real numbers under the operations of a kernel and of the host: if the operands' entries are real
  numbers then so are the result's, by the same operation on real numbers.
-/
module

public import proofs.«01_k».proof.Proof.Lift
public import Idealize.ShloMosaic.Lib.StableHlo

@[expose] public section

noncomputable section

namespace Cert.Lift

open Idealize.ShloMosaic

/-- Every entry of `x` is the real number `f` gives. -/
def R {s : Shape} (x : s.Idx → EReal) (f : s.Idx → ℝ) : Prop := ∀ i, x i = ((f i : ℝ) : EReal)

variable {s t : Shape} {φ ψ : FTy} {f g : s.Idx → ℝ}

theorem R.congr {x : s.Idx → EReal} (h : R x f) (e : ∀ i, f i = g i) : R x g := fun i => by rw [h i, e i]

theorem R.mulf {x y : FVec Ideal s φ} (hx : R x f) (hy : R y g) : R (Idealize.ShloMosaic.mulf x y) (fun i => f i * g i) := fun i => by
  show (x i : EReal) * y i = _
  rw [hx i, hy i, EReal.coe_mul]

theorem R.addf {x y : FVec Ideal s φ} (hx : R x f) (hy : R y g) : R (Idealize.ShloMosaic.addf x y) (fun i => f i + g i) := fun i => by
  show (x i : EReal) + y i = _
  rw [hx i, hy i, EReal.coe_add]

theorem R.subf {x y : FVec Ideal s φ} (hx : R x f) (hy : R y g) : R (Idealize.ShloMosaic.subf x y) (fun i => f i - g i) := fun i => by
  show (x i : EReal) - y i = _
  rw [hx i, hy i, EReal.coe_sub]

theorem R.divf {x y : FVec Ideal s φ} (hx : R x f) (hy : R y g) (h0 : ∀ i, g i ≠ 0) : R (Idealize.ShloMosaic.divf x y) (fun i => f i / g i) := fun i => by
  show Ideal.div (x i) (y i) = _
  rw [hx i, hy i, div_coe _ (h0 i)]

theorem R.hostDivf {x y : FVec Ideal s φ} (hx : R x f) (hy : R y g) (h0 : ∀ i, g i ≠ 0) : R (Host.divf x y) (fun i => f i / g i) := fun i => by
  show Ideal.div (x i) (y i) = _
  rw [hx i, hy i, div_coe _ (h0 i)]

theorem R.rsqrt {x : FVec Ideal s φ} (hx : R x f) (h0 : ∀ i, 0 < f i) : R (Idealize.ShloMosaic.rsqrt x) (fun i => (Real.sqrt (f i))⁻¹) := fun i => by
  show Ideal.rsqrt (x i) = _
  rw [hx i, rsqrt_pos (h0 i)]

theorem R.hostRsqrt {x : FVec Ideal s φ} (hx : R x f) (h0 : ∀ i, 0 < f i) : R (Host.rsqrt x) (fun i => (Real.sqrt (f i))⁻¹) := fun i => by
  show Ideal.rsqrt (x i) = _
  rw [hx i, rsqrt_pos (h0 i)]

theorem R.tanh {x : FVec Ideal s φ} (hx : R x f) : R (Idealize.ShloMosaic.tanh x) (fun i => Real.tanh (f i)) := fun i => by
  show Ideal.tanh (x i) = _
  rw [hx i]; rfl

theorem R.extf {x : FVec Ideal s φ} (h) (hx : R x f) : R (Idealize.ShloMosaic.extf ψ x h) f := hx

theorem R.truncf {x : FVec Ideal s φ} (h) (hx : R x f) : R (Idealize.ShloMosaic.truncf ψ x h) f := hx

theorem R.const {c : EReal} {r : ℝ} (h : c = (r : EReal)) : R (broadcast s c) (fun _ => r) := fun _ => h

theorem R.shapeCast {x : s.Idx → EReal} (hx : R x f) (h : s.ShapeCasts t) (k : t.Idx → s.Idx)
    (hk : ∀ j, (s.rowMajor (k j)).val = (t.rowMajor j).val) : R (Idealize.ShloMosaic.shapeCast t x h) (fun j => f (k j)) := fun j => by
  rw [shapeCast_apply x h j (k j) (hk j), hx]

theorem R.shapeCast_self {x : s.Idx → EReal} (hx : R x f) (h : s.ShapeCasts s) : R (Idealize.ShloMosaic.shapeCast s x h) f := by
  rw [Idealize.ShloMosaic.shapeCast_self]; exact hx

theorem R.broadcastTo {x : s.Idx → EReal} (hx : R x f) (h : s.Broadcasts t) (k : t.Idx → s.Idx)
    (hk : ∀ (j : t.Idx) (a : Fin s.rank), (k j a).val = if s.size a = 1 then 0 else (j ⟨a.val + (t.rank - s.rank), by have := h.1; have := a.isLt; omega⟩).val) :
    R (Idealize.ShloMosaic.broadcastTo t x h) (fun j => f (k j)) := fun j => by
  rw [broadcastTo_apply x h j (k j) (hk j), hx]

theorem R.broadcastInDim {x : s.Idx → EReal} (hx : R x f) (dims : Fin s.rank → Fin t.rank) (h : s.BroadcastsInDim t dims) (k : t.Idx → s.Idx)
    (hk : ∀ (j : t.Idx) (a : Fin s.rank), (k j a).val = if s.size a = 1 then 0 else (j (dims a)).val) :
    R (Idealize.ShloMosaic.broadcastInDim t dims h x) (fun j => f (k j)) := fun j => by
  rw [broadcastInDim_apply dims h x j (k j) (hk j), hx]

theorem R.transpose {x : s.Idx → EReal} (hx : R x f) (perm : List (Fin s.rank)) (h : s.Transposes perm t) (k : t.Idx → s.Idx)
    (hk : ∀ (j : t.Idx) (b : Fin t.rank), (k j perm[b.cast h.2.1]).val = (j b).val) :
    R (Idealize.ShloMosaic.transpose t perm x h) (fun j => f (k j)) := fun j => by
  rw [transpose_apply perm x h j (k j) (hk j), hx]

theorem R.sum {a : Fin s.rank} {x : FVec Ideal s φ} (hx : R x f) (acc : BitVec φ.bits) (h : s.Reduces [a] t) (hφ : FKind.Formats φ)
    (hacc : acc = FKind.add.neutral φ hφ) (F : t.Idx → ℕ → ℝ) (hF : ∀ j (k : Fin (s.size a)), f (h.lift j k) = F j k.val) :
    R (multiReduction .add [a] t x acc h hφ hacc) (fun j => ∑ k ∈ Finset.range (s.size a), F j k) := fun j => by
  rw [Ideal.multiReduction_add_single]
  exact sum_fin_eq (F j) fun k => by rw [hx, hF]

theorem R.hostSum {u : Shape} {a : Fin s.rank} {x : FVec Ideal s φ} (hx : R x f) {v : FVec Ideal u φ} (hv : R v (fun _ => 0))
    (h' : s.ReducesTo [a] t) (h0 : 0 < u.numel) (h : s.Reduces [a] t) (F : t.Idx → ℕ → ℝ)
    (hF : ∀ j (k : Fin (s.size a)), f (h.lift j k) = F j k.val) :
    R (Host.reduceAdd x v h' h0) (fun j => ∑ k ∈ Finset.range (s.size a), F j k) := fun j => by
  simp only [Host.reduceAdd, Ideal.hostReduceAdd_def]
  rw [Ideal.hostReduceAdd_single h' h, hv, sum_fin_eq (F j) (fun k => by rw [hx, hF]), ← EReal.coe_add, zero_add]

/-- A sum over one contracted axis. -/
theorem sum_contr {sl sr so : Shape} (D : DotDims sl sr so) (n : ℕ) (hr : D.contr.rank = 1) (hs : D.contr.size ⟨0, by omega⟩ = n)
    (g : D.contr.Idx → EReal) (F : ℕ → ℝ) (h : ∀ k, g k = ((F (k ⟨0, by omega⟩).val : ℝ) : EReal)) :
    ∑ k, g k = ((∑ k ∈ Finset.range n, F k : ℝ) : EReal) := by
  rw [← Equiv.sum_comp (ValueIdx.contrEquiv1 D n hr hs).symm]
  refine sum_fin_eq F fun k => ?_
  rw [h, ValueIdx.contrEquiv1_symm_val D n hr hs k]

theorem R.matmul {sl sr so : Shape} {φ₁ φ₂ : FTy} {D : DotDims sl sr so} (n : ℕ) (hr : D.contr.rank = 1) (hs : D.contr.size ⟨0, by omega⟩ = n)
    (prec : Option ContractPrecision) {l : FVec Ideal sl φ₁} {r : FVec Ideal sr φ₂} {fl : sl.Idx → ℝ} {fr : sr.Idx → ℝ}
    (hl : R l fl) (hr' : R r fr) (F : so.Idx → ℕ → ℝ)
    (h : ∀ j k, fl (D.lhsIdx j k) * fr (D.rhsIdx j k) = F j (k ⟨0, by omega⟩).val) :
    R (FloatOps.matmul D prec l r (constant so .f32 0x00000000#32)) (fun j => ∑ k ∈ Finset.range n, F j k) := fun j => by
  rw [Ideal.matmul_constant_zero_apply]
  exact sum_contr D n hr hs _ (F j) fun k => by rw [hl, hr', ← EReal.coe_mul, h]

theorem R.dot {sl sr so : Shape} {φ₁ φ₂ : FTy} {D : DotDims sl sr so} (n : ℕ) (hr : D.contr.rank = 1) (hs : D.contr.size ⟨0, by omega⟩ = n)
    (prec : Option ContractPrecision) {l : FVec Ideal sl φ₁} {r : FVec Ideal sr φ₂} {fl : sl.Idx → ℝ} {fr : sr.Idx → ℝ}
    (hl : R l fl) (hr' : R r fr) (F : so.Idx → ℕ → ℝ)
    (h : ∀ j k, fl (D.lhsIdx j k) * fr (D.rhsIdx j k) = F j (k ⟨0, by omega⟩).val) :
    R (Host.dotGeneral D prec l r) (fun j => ∑ k ∈ Finset.range n, F j k) := fun j => by
  unfold Host.dotGeneral
  rw [Ideal.dotGeneral_apply]
  exact sum_contr D n hr hs _ (F j) fun k => by rw [hl, hr', ← EReal.coe_mul, h]

end Cert.Lift
-- ==== Proof.FfnMath.lean ====
/-
  The real-number content of one gated feed-forward block's backward pass: normalised rows, the two gate products,
  the gradients, and the identities between the two forms in which they are computed.
-/
module

public import proofs.«01_k».proof.Proof.Lift

@[expose] public section

noncomputable section

namespace Cert.Ffn

open Cert.Lift

/-- The factor a row is normalised by: one over the square root of its mean square. -/
def rs (X : ℕ → ℕ → ℝ) (t : ℕ) : ℝ := (Real.sqrt ((∑ d ∈ Finset.range 1024, X t d * X t d) / 1024 + eps))⁻¹

theorem ms_pos (X : ℕ → ℕ → ℝ) (t : ℕ) : 0 < (∑ d ∈ Finset.range 1024, X t d * X t d) / 1024 + eps :=
  add_pos_of_nonneg_of_pos (div_nonneg (Finset.sum_nonneg fun d _ => mul_self_nonneg _) (by norm_num)) eps_pos

/-- The normalised input. -/
def hn (X : ℕ → ℕ → ℝ) (W : ℕ → ℝ) (t d : ℕ) : ℝ := X t d * rs X t * W d

/-- A product of the normalised input with a weight matrix. -/
def mm (H : ℕ → ℕ → ℝ) (A : ℕ → ℕ → ℝ) (t m : ℕ) : ℝ := ∑ d ∈ Finset.range 1024, H t d * A d m

/-- The logistic function. -/
def sg (x : ℝ) : ℝ := (1 + Real.exp (-x))⁻¹

/-- The gradient of the gated product. -/
def da (O : ℕ → ℕ → ℝ) (D : ℕ → ℕ → ℝ) (t m : ℕ) : ℝ := ∑ n ∈ Finset.range 1024, 1 / 2 * O t n * D m n

/-- The gradient of the gate's argument. -/
def dgate (a g u : ℝ) : ℝ := a * u * (sg g * (1 + g * (1 - sg g)))

/-- The gradient of the gated factor. -/
def dup (a g : ℝ) : ℝ := a * (g * sg g)

variable (O X : ℕ → ℕ → ℝ) (W : ℕ → ℝ) (G U D : ℕ → ℕ → ℝ)

def dg (t m : ℕ) : ℝ := dgate (da O D t m) (mm (hn X W) G t m) (mm (hn X W) U t m)
def du (t m : ℕ) : ℝ := dup (da O D t m) (mm (hn X W) G t m)

/-- The gradient of the normalised input. -/
def dh (t n : ℕ) : ℝ := ∑ m ∈ Finset.range 2816, (dg O X W G U D t m * G n m + du O X W G D t m * U n m)

/-- The gradient of the normalised row before its weight. -/
def dy (t n : ℕ) : ℝ := dh O X W G U D t n * W n

/-- The gradient of the input. -/
def dx (t n : ℕ) : ℝ :=
  O t n + rs X t * (dy O X W G U D t n
    - X t n * rs X t * ((∑ k ∈ Finset.range 1024, dy O X W G U D t k * (X t k * rs X t)) / 1024))

/-- The gradient of the norm's weight. -/
def dnw (n : ℕ) : ℝ := ∑ t ∈ Finset.range 16384, dh O X W G U D t n * (X t n * rs X t)

/-! ## The padded form -/

theorem dgate_padF (a g u : ℕ → ℝ) (p : ℕ) :
    dgate (padF a p) (padF g p) (padF u p) = padF (fun m => dgate (a m) (g m) (u m)) p := by
  unfold padF; split
  · rfl
  · simp [dgate]

theorem dup_padF (a g : ℕ → ℝ) (p : ℕ) : dup (padF a p) (padF g p) = padF (fun m => dup (a m) (g m)) p := by
  unfold padF; split
  · rfl
  · simp [dup]

/-- The gradient of the gated product against a padded weight. -/
theorem da_padF (t p : ℕ) : ∑ n ∈ Finset.range 1024, 1 / 2 * O t n * padF (fun m => D m n) p = padF (da O D t) p := by
  unfold padF; split
  · rfl
  · simp

/-- A product with a padded weight. -/
theorem mm_padF (H A : ℕ → ℕ → ℝ) (t p : ℕ) :
    ∑ d ∈ Finset.range 1024, H t d * padF (A d) p = padF (mm H A t) p := by
  unfold padF; split
  · rfl
  · simp

/-- The padded terms' sum. -/
theorem dh_padF (t n : ℕ) :
    ∑ p ∈ Finset.range 3072, (padF (dg O X W G U D t) p * padF (G n) p + padF (du O X W G D t) p * padF (U n) p)
      = dh O X W G U D t n := by
  simp only [padF_mul, padF_add, sum_padF, dh]

/-! ## The other form of the norm's gradient -/

/-- The gradient through the row's mean square, written with the derivative of the inverse square root. -/
theorem dx_eq (t n : ℕ) :
    O t n + dy O X W G U D t n * rs X t
      + X t n * ((∑ k ∈ Finset.range 1024, X t k * dy O X W G U D t k)
          * (-(1 / 2) * (rs X t / ((∑ d ∈ Finset.range 1024, X t d * X t d) / 1024 + eps))) / 1024)
      + ((∑ k ∈ Finset.range 1024, X t k * dy O X W G U D t k)
          * (-(1 / 2) * (rs X t / ((∑ d ∈ Finset.range 1024, X t d * X t d) / 1024 + eps))) / 1024) * X t n
      = dx O X W G U D t n := by
  have hs : ∑ k ∈ Finset.range 1024, dy O X W G U D t k * (X t k * rs X t)
      = (∑ k ∈ Finset.range 1024, X t k * dy O X W G U D t k) * rs X t := by
    rw [Finset.sum_mul]; exact Finset.sum_congr rfl fun k _ => by ring
  have hr : rs X t / ((∑ d ∈ Finset.range 1024, X t d * X t d) / 1024 + eps) = rs X t * (rs X t * rs X t) := by
    have hp := ms_pos X t
    rw [div_eq_mul_inv]
    congr 1
    unfold rs
    rw [← mul_inv, Real.mul_self_sqrt hp.le]
  unfold dx
  rw [hs, hr]
  ring

end Cert.Ffn
-- ==== Proof.Ref.lean ====
/-
  The reference's four results at finite arguments: each is the real number the block's backward pass defines.
-/
module

public import proofs.«01_k».proof.Proof.FfnMath
public import proofs.«01_k».proof.Proof.Gen.ReferenceIdeal.Read

@[expose] public section

noncomputable section

namespace Cert.ReferenceIdeal.Ffn

open Cert.ReferenceIdeal Cert.ReferenceIdeal.Gen Cert.ReferenceIdeal.Read Cert.Lift Cert.Ffn
open Idealize.ShloMosaic Idealize.ShloMosaic.TcCoe

variable {O X : ℕ → ℕ → ℝ} {W : ℕ → ℝ} {G U D : ℕ → ℕ → ℝ}

variable {x0 x1 : (⟨S16384x1024, .f32⟩ : BufTy).Contents (Elt Ideal)} {x2 : (⟨S1024, .f32⟩ : BufTy).Contents (Elt Ideal)}
  {x3 x4 : (⟨S1024x2816, .f32⟩ : BufTy).Contents (Elt Ideal)} {x5 : (⟨S2816x1024, .f32⟩ : BufTy).Contents (Elt Ideal)}

/-- The arguments are the given real tables. -/
structure Args (O X : ℕ → ℕ → ℝ) (W : ℕ → ℝ) (G U D : ℕ → ℕ → ℝ)
    (x0 x1 : (⟨S16384x1024, .f32⟩ : BufTy).Contents (Elt Ideal)) (x2 : (⟨S1024, .f32⟩ : BufTy).Contents (Elt Ideal))
    (x3 x4 : (⟨S1024x2816, .f32⟩ : BufTy).Contents (Elt Ideal)) (x5 : (⟨S2816x1024, .f32⟩ : BufTy).Contents (Elt Ideal)) : Prop where
  h0 : ∀ i, x0 i = ((O (i 0).val (i 1).val : ℝ) : EReal)
  h1 : ∀ i, x1 i = ((X (i 0).val (i 1).val : ℝ) : EReal)
  h2 : ∀ i, x2 i = ((W (i 0).val : ℝ) : EReal)
  h3 : ∀ i, x3 i = ((G (i 0).val (i 1).val : ℝ) : EReal)
  h4 : ∀ i, x4 i = ((U (i 0).val (i 1).val : ℝ) : EReal)
  h5 : ∀ i, x5 i = ((D (i 0).val (i 1).val : ℝ) : EReal)

variable (h : Args O X W G U D x0 x1 x2 x3 x4 x5)
include h

theorem v2 (i : S16384.Idx) : val_main_v2 (F := Ideal) x1 i
    = ((∑ d ∈ Finset.range 1024, X (i 0).val d * X (i 0).val d : ℝ) : EReal) := by
  rw [val_main_v2_apply, sum_fin_eq (fun d => X (i 0).val d * X (i 0).val d)
    (fun k => by rw [val_main_v1_apply, Ideal.mulf_def, h.h1, ← EReal.coe_mul]),
    show (val_main_cst_0 (F := Ideal)) (Shape.Idx.first h_S_) = ((0 : ℝ) : EReal) from ofBits_zero, ← EReal.coe_add, zero_add]

theorem v7 (i : S16384x1.Idx) : val_main_v7 (F := Ideal) x1 i
    = (((∑ d ∈ Finset.range 1024, X (i 0).val d * X (i 0).val d) / 1024 + eps : ℝ) : EReal) := by
  rw [val_main_v7_apply, val_main_v5_apply, val_main_v3_apply, v2 h, Ideal.addf_def, Ideal.hostDivf_def,
    show val_main_v4 (F := Ideal) i = ((1024 : ℝ) : EReal) from (val_main_v4_apply i).trans ofBits_1024,
    show val_main_v6 (F := Ideal) i = ((eps : ℝ) : EReal) from (val_main_v6_apply i).trans ofBits_eps,
    div_coe _ (by norm_num), ← EReal.coe_add]

theorem v8 (i : S16384x1.Idx) : val_main_v8 (F := Ideal) x1 i = ((rs X (i 0).val : ℝ) : EReal) := by
  rw [val_main_v8_apply, v7 h, Ideal.hostUnary_rsqrt_def, rsqrt_pos (ms_pos X _)]; rfl

theorem v11 (i : S16384x1.Idx) : val_main_v11 (F := Ideal) x1 i
    = ((-(1 / 2) * (rs X (i 0).val / ((∑ d ∈ Finset.range 1024, X (i 0).val d * X (i 0).val d) / 1024 + eps)) : ℝ) : EReal) := by
  rw [val_main_v11_apply, val_main_v9_apply, v8 h, v7 h, Ideal.mulf_def, Ideal.hostDivf_def, div_coe _ (ms_pos X _).ne',
    show val_main_v10 (F := Ideal) i = ((-(1 / 2) : ℝ) : EReal) from (val_main_v10_apply i).trans ofBits_neg_half,
    ← EReal.coe_mul]

theorem v13 (i : S16384x1024.Idx) : val_main_v13 (F := Ideal) x1 i
    = ((X (i 0).val (i 1).val * rs X (i 0).val : ℝ) : EReal) := by
  rw [val_main_v13_apply, val_main_v12_apply, v8 h, h.h1, Ideal.mulf_def, ← EReal.coe_mul]

theorem v16 (i : S16384x1024.Idx) : val_main_v16 (F := Ideal) x1 x2 i = ((hn X W (i 0).val (i 1).val : ℝ) : EReal) := by
  rw [val_main_v16_apply, v13 h, val_main_v15_apply, val_main_v14_apply, h.h2, Ideal.mulf_def, ← EReal.coe_mul]; rfl

theorem v0 (i : S16384x2816.Idx) : val_main_v0 (F := Ideal) i = ((0 : ℝ) : EReal) := (val_main_v0_apply i).trans ofBits_zero

theorem v18 (i : S16384x2816.Idx) : val_main_v18 (F := Ideal) x1 x2 x3 i
    = ((mm (hn X W) G (i 0).val (i 1).val : ℝ) : EReal) := by
  rw [val_main_v18_apply, val_main_v17_apply, v0 h, sum_fin_eq (fun d => hn X W (i 0).val d * G d (i 1).val)
    (fun k => by rw [v16 h, h.h3, ← EReal.coe_mul]), Ideal.addf_def, ← EReal.coe_add, add_zero]; rfl

theorem v21 (i : S16384x2816.Idx) : val_main_v21 (F := Ideal) x1 x2 x4 i
    = ((mm (hn X W) U (i 0).val (i 1).val : ℝ) : EReal) := by
  rw [val_main_v21_apply, val_main_v20_apply, v0 h, sum_fin_eq (fun d => hn X W (i 0).val d * U d (i 1).val)
    (fun k => by rw [v16 h, h.h4, ← EReal.coe_mul]), Ideal.addf_def, ← EReal.coe_add, add_zero]; rfl

theorem v19_2 (i : S16384x2816.Idx) : val_main_v19_2 (F := Ideal) x1 x2 x3 i
    = ((sg (mm (hn X W) G (i 0).val (i 1).val) : ℝ) : EReal) := by
  rw [val_main_v19_2_apply, val_main_call0_v3_apply, val_main_call0_v1_apply, val_main_call0_v0_apply, v18 h,
    show val_main_call0_v2 (F := Ideal) i = ((1 : ℝ) : EReal) from (val_main_call0_v2_apply i).trans ofBits_one,
    show val_main_call0_v4 (F := Ideal) i = ((1 : ℝ) : EReal) from (val_main_call0_v4_apply i).trans ofBits_one,
    Ideal.hostNegf_def, Ideal.negf_def, ← EReal.coe_neg, Ideal.hostUnary_exp_def, Ideal.exp_coe, Ideal.addf_def,
    ← EReal.coe_add, Ideal.hostDivf_def, div_coe _ (by positivity), one_div]; rfl

theorem v19_1 (i : S16384x2816.Idx) : val_main_v19_1 (F := Ideal) x1 x2 x3 i
    = ((sg (mm (hn X W) G (i 0).val (i 1).val) * (1 - sg (mm (hn X W) G (i 0).val (i 1).val)) : ℝ) : EReal) := by
  rw [val_main_v19_1_apply, val_main_call0_v7_apply, v19_2 h,
    show val_main_call0_v6 (F := Ideal) i = ((1 : ℝ) : EReal) from (val_main_call0_v6_apply i).trans ofBits_one,
    Ideal.mulf_def, Ideal.subf_def, ← EReal.coe_sub, ← EReal.coe_mul]

theorem v30 (i : S16384x2816.Idx) : val_main_v30 (F := Ideal) x0 x5 i = ((da O D (i 0).val (i 1).val : ℝ) : EReal) := by
  rw [val_main_v30_apply, sum_fin_eq (fun n => 1 / 2 * O (i 0).val n * D (i 1).val n) (fun k => by
    rw [val_main_v29_apply, val_main_v27_apply, h.h0, h.h5,
      show ∀ j, val_main_v28 (F := Ideal) j = ((1 / 2 : ℝ) : EReal) from fun j => (val_main_v28_apply j).trans ofBits_half,
      Ideal.mulf_def, ← EReal.coe_mul, ← EReal.coe_mul]
    have hk := k.isLt
    exact congrArg (fun r : ℝ => ((1 / 2 * r * D (i 1).val k.val : ℝ) : EReal)) (congrArg₂ O
      (by show ((i 0).val * 1024 + k.val) / 1024 = (i 0).val; omega)
      (by show ((i 0).val * 1024 + k.val) % 1024 = k.val; omega)))]; rfl

theorem v31 (i : S16384x2816.Idx) : val_main_v31 (F := Ideal) x0 x1 x2 x3 x5 i
    = ((du O X W G D (i 0).val (i 1).val : ℝ) : EReal) := by
  rw [val_main_v31_apply, val_main_v19_0_apply, v18 h, v19_2 h, v30 h, Ideal.mulf_def, Ideal.mulf_def, ← EReal.coe_mul,
    ← EReal.coe_mul]
  congr 1; unfold du dup; ring

theorem v34 (i : S16384x2816.Idx) : val_main_v34 (F := Ideal) x0 x1 x2 x3 x4 x5 i
    = ((dg O X W G U D (i 0).val (i 1).val : ℝ) : EReal) := by
  rw [val_main_v34_apply, val_main_call1_v1_apply, val_main_call1_v2_apply, val_main_call1_v0_apply, val_main_v32_apply,
    v18 h, v19_2 h, v19_1 h, v30 h, v21 h]
  simp only [Ideal.mulf_def, Ideal.addf_def, ← EReal.coe_mul, ← EReal.coe_add]
  congr 1; unfold dg dgate; ring

theorem v36 (i : S16384x1024.Idx) : val_main_v36 (F := Ideal) x0 x1 x2 x3 x4 x5 i
    = ((dh O X W G U D (i 0).val (i 1).val : ℝ) : EReal) := by
  rw [val_main_v36_apply, val_main_v33_apply, val_main_v35_apply,
    sum_fin_eq (fun m => du O X W G D (i 0).val m * U (i 1).val m) (fun k => by rw [v31 h, h.h4, ← EReal.coe_mul]),
    sum_fin_eq (fun m => dg O X W G U D (i 0).val m * G (i 1).val m) (fun k => by rw [v34 h, h.h3, ← EReal.coe_mul]),
    Ideal.addf_def, ← EReal.coe_add]
  congr 1; unfold dh; rw [Finset.sum_add_distrib, add_comm]

theorem v41 (i : S16384x1024.Idx) : val_main_v41 (F := Ideal) x0 x1 x2 x3 x4 x5 i
    = ((dy O X W G U D (i 0).val (i 1).val : ℝ) : EReal) := by
  rw [val_main_v41_apply, v36 h, val_main_v40_apply, val_main_v14_apply, h.h2, Ideal.mulf_def, ← EReal.coe_mul]; rfl

theorem v38 (i : S1024.Idx) : val_main_v38 (F := Ideal) x0 x1 x2 x3 x4 x5 i
    = ((dnw O X W G U D (i 0).val : ℝ) : EReal) := by
  rw [val_main_v38_apply, sum_fin_eq (fun t => X t (i 0).val * rs X t * dh O X W G U D t (i 0).val)
    (fun k => by rw [val_main_v37_apply, v13 h, v36 h, Ideal.mulf_def, ← EReal.coe_mul]),
    show (val_main_cst_6 (F := Ideal)) (Shape.Idx.first h_S_) = ((0 : ℝ) : EReal) from ofBits_zero, ← EReal.coe_add, zero_add]
  exact congrArg (fun r : ℝ => (r : EReal)) (Finset.sum_congr rfl fun t _ => mul_comm _ _)

/-- The norm's weight gradient. -/
theorem v66 (i : S1x1024.Idx) : val_main_v66 (F := Ideal) x0 x1 x2 x3 x4 x5 i
    = ((dnw O X W G U D (i 1).val : ℝ) : EReal) := by
  rw [val_main_v66_apply, val_main_v42_apply, Fin.sum_univ_one, val_main_v39_apply, v38 h,
    show (val_main_cst_7 (F := Ideal)) (Shape.Idx.first h_S_) = ((0 : ℝ) : EReal) from ofBits_zero, ← EReal.coe_add, zero_add]
  exact congrArg (fun n : ℕ => ((dnw O X W G U D n : ℝ) : EReal))
    (show (idx_main_v39 (idx_main_v42 (idx_main_v66 i) 0) 0).val = (i 1).val from by
      show 0 * 1024 + (i 1).val = _; omega)

theorem v51 (i : S16384x1.Idx) : val_main_v51 (F := Ideal) x0 x1 x2 x3 x4 x5 i
    = (((∑ k ∈ Finset.range 1024, X (i 0).val k * dy O X W G U D (i 0).val k)
        * (-(1 / 2) * (rs X (i 0).val / ((∑ d ∈ Finset.range 1024, X (i 0).val d * X (i 0).val d) / 1024 + eps))) / 1024 : ℝ) : EReal) := by
  rw [val_main_v51_apply, val_main_v49_apply, val_main_v45_apply, val_main_v44_apply,
    sum_fin_eq (fun k => X (i 0).val k * dy O X W G U D (i 0).val k)
      (fun k => by
        rw [val_main_v43_apply, v41 h, h.h1, Ideal.mulf_def, ← EReal.coe_mul]
        have hi : (i 1).val < 1 := (i 1).isLt
        exact congrArg (fun n : ℕ => ((X n k.val * dy O X W G U D n k.val : ℝ) : EReal))
          (show (idx_main_v44 (idx_main_v45 i) k 0).val = (i 0).val from by show (i 0).val * 1 + (i 1).val = _; omega)),
    show (val_main_cst_8 (F := Ideal)) (Shape.Idx.first h_S_) = ((0 : ℝ) : EReal) from ofBits_zero, v11 h,
    show val_main_v50 (F := Ideal) i = ((1024 : ℝ) : EReal) from (val_main_v50_apply i).trans ofBits_1024,
    ← EReal.coe_add, zero_add, Ideal.mulf_def, ← EReal.coe_mul, Ideal.hostDivf_def, div_coe _ (by norm_num)]

theorem v53 (i : S16384x1024.Idx) : val_main_v53 (F := Ideal) x0 x1 x2 x3 x4 x5 i
    = (((∑ k ∈ Finset.range 1024, X (i 0).val k * dy O X W G U D (i 0).val k)
        * (-(1 / 2) * (rs X (i 0).val / ((∑ d ∈ Finset.range 1024, X (i 0).val d * X (i 0).val d) / 1024 + eps))) / 1024 : ℝ) : EReal) := by
  rw [val_main_v53_apply, val_main_v52_apply, Fin.sum_univ_one, v51 h,
    show (val_main_cst_10 (F := Ideal)) (Shape.Idx.first h_S_) = ((0 : ℝ) : EReal) from ofBits_zero, ← EReal.coe_add, zero_add]

/-- The input's gradient. -/
theorem v57 (i : S16384x1024.Idx) : val_main_v57 (F := Ideal) x0 x1 x2 x3 x4 x5 i
    = ((dx O X W G U D (i 0).val (i 1).val : ℝ) : EReal) := by
  rw [val_main_v57_apply, val_main_v55_apply, val_main_v56_apply, val_main_v54_apply, val_main_v48_apply, val_main_v47_apply,
    val_main_v46_apply, v53 h, v41 h, v8 h, h.h0, h.h1]
  simp only [Ideal.mulf_def, Ideal.addf_def, ← EReal.coe_mul, ← EReal.coe_add]
  congr 1; exact dx_eq O X W G U D (i 0).val (i 1).val

theorem v59 (i : S16384x8x384.Idx) : val_main_v59 (F := Ideal) x0 x1 x2 x3 x4 x5 i
    = ((padF (dg O X W G U D (i 0).val) (384 * (i 1).val + (i 2).val) : ℝ) : EReal) := by
  have h0 : (i 0).val < 16384 := (i 0).isLt
  have h1 : (i 1).val < 8 := (i 1).isLt
  have h2 : (i 2).val < 384 := (i 2).isLt
  unfold val_main_v59 padF
  by_cases hc : (i 2).val < 352
  · rw [pad_apply_of_inside _ _ _ _ _ _ _ i (fun a => match a with | ⟨0, _⟩ => ⟨(i 0).val, h0⟩ | ⟨1, _⟩ => ⟨(i 1).val, h1⟩ | ⟨2, _⟩ => ⟨(i 2).val, hc⟩)
      (fun a => by match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega),
      val_main_v58_apply, v34 h, if_pos (by omega)]
    congr 2
    · show (((i 0).val * 8 + (i 1).val) * 352 + (i 2).val) / 2816 = _; omega
    · show (((i 0).val * 8 + (i 1).val) * 352 + (i 2).val) % 2816 = _; omega
  · rw [pad_apply_of_not_inside _ _ _ _ _ _ _ i 2 (by
      show ¬(0 ≤ (i 2).val ∧ ((i 2).val - 0) % (0 + 1) = 0 ∧ ((i 2).val - 0) / (0 + 1) < 352); omega),
      if_neg (by omega)]
    show (((0#32 : BitVec 32).toInt : ℝ) : EReal) = _
    simp

/-- The gate's gradient, padded. -/
theorem v61 (i : S16384x3072.Idx) : val_main_v61 (F := Ideal) x0 x1 x2 x3 x4 x5 i
    = ((padF (dg O X W G U D (i 0).val) (i 1).val : ℝ) : EReal) := by
  have h0 : (i 0).val < 16384 := (i 0).isLt
  have h1 : (i 1).val < 3072 := (i 1).isLt
  rw [val_main_v61_apply, val_main_v60_apply, v59 h]
  show ((padF (dg O X W G U D (((i 0).val * 3072 + (i 1).val) / 3072)) (384 * (((i 0).val * 3072 + (i 1).val) / 384 % 8) + ((i 0).val * 3072 + (i 1).val) % 384) : ℝ) : EReal) = _
  congr 2
  · congr 1; omega
  · omega

theorem v63 (i : S16384x8x384.Idx) : val_main_v63 (F := Ideal) x0 x1 x2 x3 x5 i
    = ((padF (du O X W G D (i 0).val) (384 * (i 1).val + (i 2).val) : ℝ) : EReal) := by
  have h0 : (i 0).val < 16384 := (i 0).isLt
  have h1 : (i 1).val < 8 := (i 1).isLt
  have h2 : (i 2).val < 384 := (i 2).isLt
  unfold val_main_v63 padF
  by_cases hc : (i 2).val < 352
  · rw [pad_apply_of_inside _ _ _ _ _ _ _ i (fun a => match a with | ⟨0, _⟩ => ⟨(i 0).val, h0⟩ | ⟨1, _⟩ => ⟨(i 1).val, h1⟩ | ⟨2, _⟩ => ⟨(i 2).val, hc⟩)
      (fun a => by match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega),
      val_main_v62_apply, v31 h, if_pos (by omega)]
    congr 2
    · show (((i 0).val * 8 + (i 1).val) * 352 + (i 2).val) / 2816 = _; omega
    · show (((i 0).val * 8 + (i 1).val) * 352 + (i 2).val) % 2816 = _; omega
  · rw [pad_apply_of_not_inside _ _ _ _ _ _ _ i 2 (by
      show ¬(0 ≤ (i 2).val ∧ ((i 2).val - 0) % (0 + 1) = 0 ∧ ((i 2).val - 0) / (0 + 1) < 352); omega),
      if_neg (by omega)]
    show (((0#32 : BitVec 32).toInt : ℝ) : EReal) = _
    simp

/-- The gated factor's gradient, padded. -/
theorem v65 (i : S16384x3072.Idx) : val_main_v65 (F := Ideal) x0 x1 x2 x3 x5 i
    = ((padF (du O X W G D (i 0).val) (i 1).val : ℝ) : EReal) := by
  have h0 : (i 0).val < 16384 := (i 0).isLt
  have h1 : (i 1).val < 3072 := (i 1).isLt
  rw [val_main_v65_apply, val_main_v64_apply, v63 h]
  show ((padF (du O X W G D (((i 0).val * 3072 + (i 1).val) / 3072)) (384 * (((i 0).val * 3072 + (i 1).val) / 384 % 8) + ((i 0).val * 3072 + (i 1).val) % 384) : ℝ) : EReal) = _
  congr 2
  · congr 1; omega
  · omega

end Cert.ReferenceIdeal.Ffn
-- ==== Proof.Finite.lean ====
/-
  Finite arguments as tables of real numbers: what the precondition `finite` says of one array.
-/
module

public import proofs.«01_k».proof.Proof.Lift
public import Idealize.ShloMosaic.Lib.ReduceAll
public import Idealize.ShloMosaic.Lib.StableHlo

@[expose] public section

noncomputable section

namespace Cert.Lift

open Idealize.ShloMosaic

theorem ofBits_top : Ideal.ofBits .f32 0x7F800000#32 = (⊤ : EReal) := by
  simp [Ideal.ofBits, Ideal.ieee]

/-- A number whose absolute value is below infinity is a real number. -/
theorem real_of_abs_lt (x : EReal) (h : max x (-x) < ⊤) : ∃ r : ℝ, x = (r : EReal) := by
  induction x using EReal.rec with
  | bot => simp at h
  | coe r => exact ⟨r, rfl⟩
  | top => simp at h

/-- An array all of whose absolute values are below infinity holds real numbers. -/
theorem real_of_all {s u : Shape} (hu : u.rank = 0) (x : FVec Ideal s .f32) (y : FVec Ideal s .f32) (hy : ∀ i, y i = (⊤ : EReal))
    {axes : List (Fin s.rank)} (hr : s.ReducesTo axes u) (v : IVec u 1) (h0 : 0 < u.numel) (j : u.Idx)
    (e : Host.reduce IntOp.andi (cmpf .olt (Host.absf x) y) v hr h0 j = 1#1) (i : s.Idx) : ∃ r : ℝ, x i = (r : EReal) := by
  have : Subsingleton u.Idx := ⟨fun a b => funext fun k => absurd k.isLt (by omega)⟩
  have h1 := Host.reduce_andi_all _ v hr h0 j e i
  have h2 : Ideal.cmp .olt (max (x i : EReal) (-(x i : EReal))) (y i) = 1#1 := h1
  rw [hy] at h2
  refine real_of_abs_lt (x i) ?_
  by_contra hc
  unfold Ideal.cmp at h2
  simp [hc] at h2

/-- An array of rank two as a table of real numbers. -/
def tab2 {a b : ℕ} (ha : 0 < a) (hb : 0 < b) (x : (⟨2, ![a, b]⟩ : Shape).Idx → EReal) (t d : ℕ) : ℝ :=
  (x (fun k => match k with | ⟨0, _⟩ => ⟨t % a, Nat.mod_lt _ ha⟩ | ⟨1, _⟩ => ⟨d % b, Nat.mod_lt _ hb⟩)).toReal

theorem tab2_eq {a b : ℕ} (ha : 0 < a) (hb : 0 < b) (x : (⟨2, ![a, b]⟩ : Shape).Idx → EReal)
    (h : ∀ i, ∃ r : ℝ, x i = (r : EReal)) (i : (⟨2, ![a, b]⟩ : Shape).Idx) :
    x i = ((tab2 ha hb x (i 0).val (i 1).val : ℝ) : EReal) := by
  have e : (fun k => match k with | ⟨0, _⟩ => ⟨(i 0).val % a, Nat.mod_lt _ ha⟩ | ⟨1, _⟩ => ⟨(i 1).val % b, Nat.mod_lt _ hb⟩ : (⟨2, ![a, b]⟩ : Shape).Idx) = i := by
    funext k
    apply Fin.ext
    match k with
    | ⟨0, _⟩ => exact Nat.mod_eq_of_lt (i 0).isLt
    | ⟨1, _⟩ => exact Nat.mod_eq_of_lt (i 1).isLt
  unfold tab2
  rw [e]
  obtain ⟨r, hr⟩ := h i
  rw [hr, EReal.toReal_coe]

/-- An array of rank one as a table of real numbers. -/
def tab1 {a : ℕ} (ha : 0 < a) (x : (⟨1, ![a]⟩ : Shape).Idx → EReal) (d : ℕ) : ℝ :=
  (x (fun k => match k with | ⟨0, _⟩ => ⟨d % a, Nat.mod_lt _ ha⟩)).toReal

theorem tab1_eq {a : ℕ} (ha : 0 < a) (x : (⟨1, ![a]⟩ : Shape).Idx → EReal)
    (h : ∀ i, ∃ r : ℝ, x i = (r : EReal)) (i : (⟨1, ![a]⟩ : Shape).Idx) :
    x i = ((tab1 ha x (i 0).val : ℝ) : EReal) := by
  have e : (fun k => match k with | ⟨0, _⟩ => ⟨(i 0).val % a, Nat.mod_lt _ ha⟩ : (⟨1, ![a]⟩ : Shape).Idx) = i := by
    funext k
    apply Fin.ext
    match k with
    | ⟨0, _⟩ => exact Nat.mod_eq_of_lt (i 0).isLt
  unfold tab1
  rw [e]
  obtain ⟨r, hr⟩ := h i
  rw [hr, EReal.toReal_coe]

end Cert.Lift
-- ==== Proof.Args.lean ====
/-
  The precondition of the feed-forward block's claim: its six arguments are tables of real numbers.
-/
module

public import proofs.«01_k».proof.Proof.Finite
public import proofs.«01_k».proof.Pre_finite

@[expose] public section

noncomputable section

namespace Cert.Pre_finite

open Idealize.ShloMosaic Cert.Lift

theorem facts : Cert.Pre_finite.Facts where
  bcast_S_S16384x1024 := by decide
  reducesTo_S16384x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

/-- Under the precondition every argument holds real numbers. -/
theorem reals (x0 x1 : FVec Ideal S16384x1024 .f32) (x2 : FVec Ideal S1024 .f32) (x3 x4 : FVec Ideal S1024x2816 .f32)
    (x5 : FVec Ideal S2816x1024 .f32) (h : @fn facts Ideal _ x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have e := congrFun h (fun a => Fin.elim0 a)
  unfold fn fn_part1 at e
  dsimp only at e
  obtain ⟨e, e5⟩ := IntOp.andi_eq_one.1 (show IntOp.andi _ _ = 1#1 from e)
  obtain ⟨e, e4⟩ := IntOp.andi_eq_one.1 (show IntOp.andi _ _ = 1#1 from e)
  obtain ⟨e, e3⟩ := IntOp.andi_eq_one.1 (show IntOp.andi _ _ = 1#1 from e)
  obtain ⟨e, e2⟩ := IntOp.andi_eq_one.1 (show IntOp.andi _ _ = 1#1 from e)
  obtain ⟨e0, e1⟩ := IntOp.andi_eq_one.1 (show IntOp.andi _ _ = 1#1 from e)
  exact ⟨real_of_all rfl x0 _ (fun _ => ofBits_top) _ _ _ _ e0, real_of_all rfl x1 _ (fun _ => ofBits_top) _ _ _ _ e1,
    real_of_all rfl x2 _ (fun _ => ofBits_top) _ _ _ _ e2, real_of_all rfl x3 _ (fun _ => ofBits_top) _ _ _ _ e3,
    real_of_all rfl x4 _ (fun _ => ofBits_top) _ _ _ _ e4, real_of_all rfl x5 _ (fun _ => ofBits_top) _ _ _ _ e5⟩

end Cert.Pre_finite
-- ==== Proof.Entry.lean ====
/-
  What the backward kernel's call is handed: the arrays the host prepares from the six arguments, as tables of
  real numbers.
-/
module

public import proofs.«01_k».proof.Proof.Ref
public import proofs.«01_k».proof.Proof.Args
public import proofs.«01_k».proof.Proof.Gen.KernelIdeal.Value

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.Lift Cert.Ffn

section Host

variable {F : FTy → Type} [FloatOps F]
variable (m : (ℓ : Loc nD τ sig) → Buf (Elt F) ℓ) (c : Dev nD)

/-- The root mean square's reciprocal of every row. -/
def rsV (x : FVec F S16384x1024 .f32) : FVec F S16384x1 .f32 :=
  Host.rsqrt (addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

/-- The normalised input. -/
def hnV (x : FVec F S16384x1024 .f32) (w : FVec F S1024 .f32) : FVec F S16384x1024 .f32 :=
  extf .f32 (truncf .bf16 (mulf (mulf x (broadcastInDim S16384x1024 ![0, 1] bcast_S16384x1_S16384x1024_0_1 (rsV x)))
    (broadcastInDim S16384x1024 ![0, 1] bcast_S1x1024_S16384x1024_0_1 (broadcastInDim S1x1024 ![1] bcast_S1024_S1x1024_1 w))) bitsLt_bf16_f32) bitsLt_bf16_f32

/-- A product's hidden columns, padded shard by shard. -/
def packV (h : FVec F S16384x1024 .f32) (w : FVec F S1024x2816 .f32) : FVec F S16384x3072 .bf16 :=
  truncf .bf16 (shapeCast S16384x3072 (pad S16384x8x384 ![0, 0, 0] ![0, 0, 32] ![0, 0, 0]
    (shapeCast S16384x8x352 (Host.dotGeneral dot_S16384x1024_S1024x2816_S16384x2816_1_0_0_1_n_n none h w) shapeCasts_S16384x2816_S16384x8x352)
    (sitofp .f32 (constantI S_ 32 0#32)) pads_S16384x8x352_S16384x8x384_000_000_0320 h_S_) shapeCasts_S16384x8x384_S16384x3072) bitsLt_bf16_f32

/-- A weight's hidden rows, padded shard by shard. -/
def rowsV (w : FVec F S2816x1024 .f32) : FVec F S8x384x1024 .f32 :=
  pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_

/-- The three weights side by side. -/
def weightsV (wg wu : FVec F S1024x2816 .f32) (wd : FVec F S2816x1024 .f32) : FVec F S8x1152x1024 .bf16 :=
  truncf .bf16 (concatenate S8x1152x1024 1
    [⟨S8x384x1024, rowsV (transpose S2816x1024 [1, 0] wg transposes_S1024x2816_S2816x1024_1_0)⟩,
     ⟨S8x384x1024, rowsV (transpose S2816x1024 [1, 0] wu transposes_S1024x2816_S2816x1024_1_0)⟩,
     ⟨S8x384x1024, rowsV wd⟩] concatenates_S8x384x1024_S8x384x1024_S8x384x1024_S8x1152x1024_d1) bitsLt_bf16_f32

theorem V_v35 : V m c main_v35 = broadcastInDim S1x1024 ![1] bcast_S1024_S1x1024_1 (m (c, main_arg2)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results

theorem V_v19 : V m c main_v19 = packV (hnV (m (c, main_arg1)) (m (c, main_arg2))) (m (c, main_arg3)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem V_v24 : V m c main_v24 = packV (hnV (m (c, main_arg1)) (m (c, main_arg2))) (m (c, main_arg4)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

set_option maxHeartbeats 4000000 in
theorem V_v34 : V m c main_v34 = weightsV (m (c, main_arg3)) (m (c, main_arg4)) (m (c, main_arg5)) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_steps
  after_results_loop
  rfl

theorem V_arg0 : V m c main_arg0 = m (c, main_arg0) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results

theorem V_arg1 : V m c main_arg1 = m (c, main_arg1) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results

end Host

end Cert.KernelIdeal.Ffn
-- ==== Proof.Pay.lean ====
/-
  The backward kernel's arithmetic on blocks of real numbers.
-/
module

public import proofs.«01_k».proof.Proof.Ops
public import proofs.«01_k».proof.Proof.Entry

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.Lift Cert.Ffn

/-- Rank-two and rank-three tables as functions of an index. -/
abbrev T2 {a b : ℕ} (f : ℕ → ℕ → ℝ) : (⟨2, ![a, b]⟩ : Shape).Idx → ℝ := fun i => f (i 0).val (i 1).val

/-- A weight block of two shards as a table of its 768 rows. -/
abbrev TW (f : ℕ → ℕ → ℝ) : S2x384x1024.Idx → ℝ := fun i => f (384 * (i 0).val + (i 1).val) (i 2).val

variable {O X : ℕ → ℕ → ℝ} {W : ℕ → ℝ} {g u wg wu wd d e s : ℕ → ℕ → ℝ} {r : ℕ → ℝ}

theorem pay7 {x0 : Vec Ideal S1024x1024 .f32} (h : R x0 (T2 O)) :
    R (k0_pay7 (F := Ideal) x0) (T2 fun t n => 1 / 2 * O t n) :=
  (R.truncf _ ((R.const ofBits_half).mulf h)).shapeCast_self _

theorem pay8 : R (k0_pay8 (F := Ideal)) (T2 fun _ _ => 0) :=
  (R.const ofBits_zero).shapeCast_self _

theorem pay9 : R (k0_pay9 (F := Ideal)) (T2 fun _ _ => 0) := R.const ofBits_zero

/-- A weight block's rows in one line. -/
theorem rows {x : Vec Ideal S2x384x1024 .bf16} (h : R x (TW d)) :
    R (shapeCast S768x1024 (shapeCast S2x384x1024 x shapeCasts_S2x384x1024_S2x384x1024) shapeCasts_S2x384x1024_S768x1024) (T2 d) :=
  ((h.shapeCast_self _).shapeCast _
    (fun j => fun a => match a with
      | ⟨0, _⟩ => ⟨(j 0).val / 384, by have := (j 0).isLt; show _ < 2; change (j 0).val < 768 at this; omega⟩
      | ⟨1, _⟩ => ⟨(j 0).val % 384, Nat.mod_lt _ (by norm_num)⟩
      | ⟨2, _⟩ => ⟨(j 1).val, (j 1).isLt⟩)
    (fun j => by
      rw [Shape.rowMajor_val_three, Shape.rowMajor_val_two]
      have h0 : (j 0).val < 768 := (j 0).isLt
      have h1 : (j 1).val < 1024 := (j 1).isLt
      show ((j 0).val / 384 * 384 + (j 0).val % 384) * 1024 + (j 1).val = (j 0).val * 1024 + (j 1).val
      omega)).congr (fun j => by
        show d (384 * ((j 0).val / 384) + (j 0).val % 384) (j 1).val = d (j 0).val (j 1).val
        congr 1; omega)

theorem pay10 {x : Vec Ideal S1024x1024 .bf16} {w : Vec Ideal S2x384x1024 .bf16} (hx : R x (T2 O)) (hw : R w (TW wd)) :
    R (k0_pay10 (F := Ideal) x w) (T2 fun t p => ∑ n ∈ Finset.range 1024, O t n * wd p n) :=
  R.matmul 1024 rfl rfl none hx (rows hw) (fun j n => O (j 0).val n * wd (j 1).val n) (fun j k => rfl)

theorem pay11 {x : Vec Ideal S1024x768 .bf16} (hx : R x (T2 g)) : R (k0_pay11 (F := Ideal) x) (T2 g) :=
  R.extf _ (hx.shapeCast_self _)

theorem pay12 {x : Vec Ideal S1024x768 .bf16} (hx : R x (T2 g)) : R (k0_pay12 (F := Ideal) x) (T2 fun t p => sg (g t p)) :=
  ((R.const ofBits_half).mulf (((R.const ofBits_half).mulf (pay11 hx)).tanh.addf (R.const ofBits_one))).congr
    (fun i => half_tanh _)

theorem pay14 {x : Vec Ideal S1024x1024 .bf16} {w : Vec Ideal S2x384x1024 .bf16} {y : Vec Ideal S1024x768 .bf16}
    (hx : R x (T2 O)) (hw : R w (TW wd)) (hy : R y (T2 g)) :
    R (k0_pay14 (F := Ideal) x w y) (T2 fun t p => (∑ n ∈ Finset.range 1024, O t n * wd p n) * g t p) :=
  (pay10 hx hw).mulf (pay11 hy)

/-- The gate's gradient. -/
theorem pay13 {x : Vec Ideal S1024x1024 .bf16} {w : Vec Ideal S2x384x1024 .bf16} {y z : Vec Ideal S1024x768 .bf16}
    (hx : R x (T2 O)) (hw : R w (TW wd)) (hy : R y (T2 g)) (hz : R z (T2 u)) :
    R (k0_pay13 (F := Ideal) x w y z) (T2 fun t p => dgate (∑ n ∈ Finset.range 1024, O t n * wd p n) (g t p) (u t p)) :=
  (R.truncf _ (((pay10 hx hw).mulf (R.extf _ (hz.shapeCast_self _))).mulf ((pay12 hy).mulf
    ((R.const ofBits_one).addf ((pay11 hy).mulf ((R.const ofBits_one).subf (pay12 hy))))))).congr (fun i => rfl)

/-- The gated factor's gradient. -/
theorem pay1 {x : Vec Ideal S1024x1024 .bf16} {w : Vec Ideal S2x384x1024 .bf16} {y : Vec Ideal S1024x768 .bf16}
    (hx : R x (T2 O)) (hw : R w (TW wd)) (hy : R y (T2 g)) :
    R (k0_pay1 (F := Ideal) (k0_pay12 y) (k0_pay14 x w y)) (T2 fun t p => dup (∑ n ∈ Finset.range 1024, O t n * wd p n) (g t p)) :=
  (R.truncf _ ((pay14 hx hw hy).mulf (pay12 hy))).congr (fun i => mul_assoc _ _ _)

/-- Two blocks of 768 columns side by side. -/
theorem beside {x y : Vec Ideal S1024x768 .bf16} (hx : R x (T2 d)) (hy : R y (T2 e)) :
    R (concatenate S1024x1536 1 [⟨S1024x768, x⟩, ⟨S1024x768, y⟩] concatenates_S1024x768_S1024x768_S1024x1536_d1)
      (T2 fun t p => if p < 768 then d t p else e t (p - 768)) := fun j => by
  have h0 : (j 0).val < 1024 := (j 0).isLt
  have h1 : (j 1).val < 1536 := (j 1).isLt
  by_cases hc : (j 1).val < 768
  · rw [concatenate_pair_apply_left (1 : Fin S1024x1536.rank) x y concatenates_S1024x768_S1024x768_S1024x1536_d1 j rfl
      (fun a => match a with | ⟨0, _⟩ => ⟨(j 0).val, h0⟩ | ⟨1, _⟩ => ⟨(j 1).val, hc⟩)
      (fun b => match b with | ⟨0, _⟩ => rfl | ⟨1, _⟩ => rfl), hx]
    show ((d (j 0).val (j 1).val : ℝ) : EReal) = _
    simp only [T2, if_pos hc]
  · rw [concatenate_pair_apply_right (1 : Fin S1024x1536.rank) x y concatenates_S1024x768_S1024x768_S1024x1536_d1 j rfl rfl
      (fun a => match a with | ⟨0, _⟩ => ⟨(j 0).val, h0⟩ | ⟨1, _⟩ => ⟨(j 1).val - 768, by show _ < 768; omega⟩)
      (fun b hb => match b with | ⟨0, _⟩ => rfl | ⟨1, _⟩ => absurd rfl hb)
      (show (j 1).val - 768 + 768 = (j 1).val by omega), hy]
    show ((e (j 0).val ((j 1).val - 768) : ℝ) : EReal) = _
    simp only [T2, if_neg hc]

/-- Two blocks of 768 rows, one above the other. -/
theorem above {x y : Vec Ideal S768x1024 .bf16} (hx : R x (T2 d)) (hy : R y (T2 e)) :
    R (concatenate S1536x1024 0 [⟨S768x1024, x⟩, ⟨S768x1024, y⟩] concatenates_S768x1024_S768x1024_S1536x1024_d0)
      (T2 fun p n => if p < 768 then d p n else e (p - 768) n) := fun j => by
  have h0 : (j 0).val < 1536 := (j 0).isLt
  have h1 : (j 1).val < 1024 := (j 1).isLt
  by_cases hc : (j 0).val < 768
  · rw [concatenate_pair_apply_left (0 : Fin S1536x1024.rank) x y concatenates_S768x1024_S768x1024_S1536x1024_d0 j rfl
      (fun a => match a with | ⟨0, _⟩ => ⟨(j 0).val, hc⟩ | ⟨1, _⟩ => ⟨(j 1).val, h1⟩)
      (fun b => match b with | ⟨0, _⟩ => rfl | ⟨1, _⟩ => rfl), hx]
    show ((d (j 0).val (j 1).val : ℝ) : EReal) = _
    simp only [T2, if_pos hc]
  · rw [concatenate_pair_apply_right (0 : Fin S1536x1024.rank) x y concatenates_S768x1024_S768x1024_S1536x1024_d0 j rfl rfl
      (fun a => match a with | ⟨0, _⟩ => ⟨(j 0).val - 768, by show _ < 768; omega⟩ | ⟨1, _⟩ => ⟨(j 1).val, h1⟩)
      (fun b hb => match b with | ⟨0, _⟩ => absurd rfl hb | ⟨1, _⟩ => rfl)
      (show (j 0).val - 768 + 768 = (j 0).val by omega), hy]
    show ((e ((j 0).val - 768) (j 1).val : ℝ) : EReal) = _
    simp only [T2, if_neg hc]

theorem sum_two (d e wg wu : ℕ → ℝ) :
    ∑ p ∈ Finset.range 1536, (if p < 768 then d p else e (p - 768)) * (if p < 768 then wg p else wu (p - 768))
      = ∑ p ∈ Finset.range 768, (d p * wg p + e p * wu p) := by
  rw [show (1536 : ℕ) = 768 + 768 from rfl, Finset.sum_range_add, Finset.sum_add_distrib]
  refine congrArg₂ (· + ·) ?_ ?_
  · exact Finset.sum_congr rfl fun p hp => by rw [if_pos (Finset.mem_range.mp hp), if_pos (Finset.mem_range.mp hp)]
  · exact Finset.sum_congr rfl fun p hp => by rw [if_neg (by omega), if_neg (by omega), Nat.add_sub_cancel_left]

/-- The running sum with one more block of the hidden dimension. -/
theorem pay2 {x : Vec Ideal S1024x1024 .bf16} {w wa wb : Vec Ideal S2x384x1024 .bf16} {y z : Vec Ideal S1024x768 .bf16}
    {q : Vec Ideal S1024x1024 .f32} (hz : R z (T2 d)) (he : R (k0_pay1 (F := Ideal) (k0_pay12 y) (k0_pay14 x w y)) (T2 e))
    (ha : R wa (TW wg)) (hb : R wb (TW wu)) (hq : R q (T2 s)) :
    R (k0_pay2 (F := Ideal) (k0_pay12 y) z (k0_pay14 x w y) wa wb q)
      (T2 fun t n => s t n + ∑ p ∈ Finset.range 768, (d t p * wg p n + e t p * wu p n)) :=
  ((hq.addf (R.matmul 1536 rfl rfl none (beside hz he) (above (rows ha) (rows hb))
    (fun j p => (if p < 768 then d (j 0).val p else e (j 0).val (p - 768)) * (if p < 768 then wg p (j 1).val else wu (p - 768) (j 1).val))
    (fun j k => rfl))).shapeCast_self _).congr (fun j => by
      show s (j 0).val (j 1).val + _ = _
      rw [sum_two (fun p => d (j 0).val p) (fun p => e (j 0).val p) (fun p => wg p (j 1).val) (fun p => wu p (j 1).val)])

/-- A row's normalising factor. -/
theorem pay3 {x : Vec Ideal S1024x1024 .f32} (hx : R x (T2 X)) : R (k0_pay3 (F := Ideal) x) (T2 fun t _ => rs X t) :=
  ((((((hx.mulf hx).sum _ _ _ _ (fun j k => X (j 0).val k * X (j 0).val k) (fun j k => rfl)).shapeCast
    shapeCasts_S1024_S1024x1 (fun j => fun a => match a with | ⟨0, _⟩ => ⟨(j 0).val, (j 0).isLt⟩) (fun j => by
      rw [Shape.rowMajor_val_one, Shape.rowMajor_val_two]
      have h1 : (j 1).val < 1 := (j 1).isLt
      show (j 0).val = (j 0).val * 1 + (j 1).val
      omega)).divf (R.const ofBits_1024) (fun _ => by norm_num)).addf (R.const ofBits_eps)).rsqrt (fun j => ms_pos X (j 0).val))

theorem pay4 {x : Vec Ideal S1024x1024 .f32} (hx : R x (T2 X)) : R (k0_pay4 (F := Ideal) x) (T2 fun t n => X t n * rs X t) :=
  hx.mulf ((pay3 hx).broadcastTo broadcasts_S1024x1_S1024x1024
    (fun j => fun a => match a with | ⟨0, _⟩ => ⟨(j 0).val, (j 0).isLt⟩ | ⟨1, _⟩ => ⟨0, Nat.one_pos⟩)
    (fun j a => match a with
      | ⟨0, _⟩ => by show (j 0).val = if (1024 : Nat) = 1 then 0 else (j 0).val; rw [if_neg (by decide)]
      | ⟨1, _⟩ => by show 0 = if (1 : Nat) = 1 then 0 else (j 1).val; rw [if_pos rfl]))

/-- The gradient of the block's input. -/
theorem pay5 {y x z : Vec Ideal S1024x1024 .f32} {w : Vec Ideal S1x1024 .f32} (hy : R y (T2 d)) (hx : R x (T2 X))
    (hw : R w (T2 fun _ n => r n)) (hz : R z (T2 O)) :
    R (k0_pay5 (F := Ideal) y x w z) (T2 fun t n => O t n + rs X t * (d t n * r n
      - X t n * rs X t * ((∑ k ∈ Finset.range 1024, d t k * r k * (X t k * rs X t)) / 1024))) := by
  have col : ∀ (j : S1024x1024.Idx) (a : Fin S1024x1.rank), ((fun a => match a with | ⟨0, _⟩ => ⟨(j 0).val, (j 0).isLt⟩ | ⟨1, _⟩ => ⟨0, Nat.one_pos⟩ : S1024x1.Idx) a).val
      = if S1024x1.size a = 1 then 0 else (j ⟨a.val + (S1024x1024.rank - S1024x1.rank), by have := a.isLt; exact this⟩).val := fun j a => match a with
      | ⟨0, _⟩ => by show (j 0).val = if (1024 : Nat) = 1 then 0 else (j 0).val; rw [if_neg (by decide)]
      | ⟨1, _⟩ => by show 0 = if (1 : Nat) = 1 then 0 else (j 1).val; rw [if_pos rfl]
  have h72 := R.mulf (φ := .f32) hy ((hw.shapeCast_self shapeCasts_S1x1024_S1x1024).broadcastTo broadcasts_S1x1024_S1024x1024
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)]))
  have h77 := R.divf (φ := .f32) ((R.sum (R.mulf (φ := .f32) h72 (pay4 hx)) (0x00000000#32) reduces_S1024x1024_S1024 (.inl rfl) rfl (fun j k => d (j 0).val k * r k * (X (j 0).val k * rs X (j 0).val)) (fun j k => rfl)).shapeCast
    shapeCasts_S1024_S1024x1 (fun j => fun a => match a with | ⟨0, _⟩ => ⟨(j 0).val, (j 0).isLt⟩) (fun j => by
      rw [Shape.rowMajor_val_one, Shape.rowMajor_val_two]
      have h1 : (j 1).val < 1 := (j 1).isLt
      show (j 0).val = (j 0).val * 1 + (j 1).val
      omega)) (R.const ofBits_1024) (fun _ => by norm_num)
  have h79 := R.mulf (φ := .f32) (pay4 hx) (h77.broadcastTo broadcasts_S1024x1_S1024x1024 _ col)
  exact hz.addf (((pay3 hx).broadcastTo broadcasts_S1024x1_S1024x1024 _ col).mulf (R.subf (φ := .f32) h72 h79))

/-- One row block's part of the norm weight's gradient. -/
theorem pay6 {y x : Vec Ideal S1024x1024 .f32} {w : Vec Ideal S1x1024 .f32} (hy : R y (T2 d)) (hx : R x (T2 X))
    (hw : R w (T2 s)) :
    R (k0_pay6 (F := Ideal) y x w) (T2 fun t n => s t n + ∑ k ∈ Finset.range 1024, d k n * (X k n * rs X k)) :=
  (hw.shapeCast_self _).addf (((hy.mulf (pay4 hx)).sum _ _ _ _ (fun j k => d k (j 0).val * (X k (j 0).val * rs X k)) (fun j k => rfl)).shapeCast
    shapeCasts_S1024_S1x1024 (fun j => fun a => match a with | ⟨0, _⟩ => ⟨(j 1).val, (j 1).isLt⟩) (fun j => by
      rw [Shape.rowMajor_val_one, Shape.rowMajor_val_two]
      have h1 : (j 0).val < 1 := (j 0).isLt
      show (j 1).val = (j 0).val * 1024 + (j 1).val
      omega))

end Cert.KernelIdeal.Ffn
-- ==== Proof.Grid.lean ====
/-
  One step of the backward kernel and the state it carries from grid point to grid point, for any program that does
  these steps: what becomes of the two scratch buffers (the halved incoming gradient and the running sum over the
  blocks of the hidden dimension) and of the four results. Point `t` is row block `t / 4` and block `t % 4` of the
  hidden dimension.
-/
module

public import proofs.«01_k».proof.Proof.Pay

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.Lift Cert.Ffn

section Words

variable {F : FTy → Type} [FloatOps F]

/-- The state between two grid points: the four result blocks, then the two scratch buffers. -/
abbrev St (F : FTy → Type) := Vec F S1024x1024 .f32 × Vec F S1024x768 .bf16 × Vec F S1024x768 .bf16 × Vec F S1x1024 .f32 × Vec F S1024x1024 .bf16 × Vec F S1024x1024 .f32

/-- The blocks a grid point reads: the incoming gradient, the input, the norm's weight, the two pre-activations and the
three weights. -/
structure In (F : FTy → Type) where
  o : Vec F S1024x1024 .f32
  x : Vec F S1024x1024 .f32
  w : Vec F S1x1024 .f32
  g : Vec F S1024x768 .bf16
  u : Vec F S1024x768 .bf16
  wg : Vec F S2x384x1024 .bf16
  wu : Vec F S2x384x1024 .bf16
  wd : Vec F S2x384x1024 .bf16

variable (b : In F) (t : ℕ) (acc σ : St F)

/-- The halved incoming gradient the point works with. -/
def dohAt : FVec F S1024x1024 .bf16 := if t % 4 = 0 then k0_pay7 b.o else acc.2.2.2.2.1

/-- The running sum the point starts from. -/
def dhFrom : FVec F S1024x1024 .f32 := if t % 4 = 0 then k0_pay8 else acc.2.2.2.2.2

/-- The gate gradient block of the point. -/
def dgAt (d : FVec F S1024x1024 .bf16) : FVec F S1024x768 .bf16 := k0_pay13 d b.wd b.g b.u

/-- The up-projection gradient block of the point. -/
def duAt (d : FVec F S1024x1024 .bf16) : FVec F S1024x768 .bf16 := k0_pay1 (k0_pay12 b.g) (k0_pay14 d b.wd b.g)

/-- The running sum the point leaves. -/
def dhAt (d : FVec F S1024x1024 .bf16) (s : FVec F S1024x1024 .f32) : FVec F S1024x1024 .f32 :=
  k0_pay2 (k0_pay12 b.g) (dgAt b d) (k0_pay14 d b.wd b.g) b.wg b.wu s

/-- What point `t` makes of the state `acc`, reading the blocks `b`. -/
structure Step : Prop where
  doh : σ.2.2.2.2.1 = dohAt b t acc
  dh : σ.2.2.2.2.2 = dhAt b (dohAt b t acc) (dhFrom t acc)
  dg : σ.2.1 = dgAt b (dohAt b t acc)
  du : σ.2.2.1 = duAt b (dohAt b t acc)
  /-- The norm weight's gradient starts from zero. -/
  first : t % 64 = 0 → σ.2.2.2.1 = k0_pay9
  /-- It stays between the row blocks' last points. -/
  keep : ¬t % 64 = 0 → ¬t % 4 = 3 → σ.2.2.2.1 = acc.2.2.2.1
  /-- The last block of a row block adds that row block's part of it. -/
  add : t % 4 = 3 → σ.2.2.2.1 = k0_pay6 (dhAt b (dohAt b t acc) (dhFrom t acc)) b.x acc.2.2.2.1
  /-- The last block of a row block writes the gradient of the block's input. -/
  dx : t % 4 = 3 → σ.1 = k0_pay5 (dhAt b (dohAt b t acc) (dhFrom t acc)) b.x b.w b.o

end Words

/-- One padded hidden column's part of the normalised input's gradient. -/
def part (O X : ℕ → ℕ → ℝ) (W : ℕ → ℝ) (G U D : ℕ → ℕ → ℝ) (t n p : ℕ) : ℝ :=
  padF (dg O X W G U D t) p * padF (G n) p + padF (du O X W G D t) p * padF (U n) p

/-- The halved incoming gradient of a row block. -/
def Doh (O : ℕ → ℕ → ℝ) (i : ℕ) (x : FVec Ideal S1024x1024 .bf16) : Prop :=
  R x (T2 fun r n => 1 / 2 * O (1024 * i + r) n)

/-- The running sum over the first `k` blocks of the hidden dimension. -/
def Dh (O X : ℕ → ℕ → ℝ) (W : ℕ → ℝ) (G U D : ℕ → ℕ → ℝ) (i k : ℕ) (x : FVec Ideal S1024x1024 .f32) : Prop :=
  R x (T2 fun r n => ∑ p ∈ Finset.range (768 * k), part O X W G U D (1024 * i + r) n p)

/-- The norm weight's gradient over the first `i` row blocks. -/
def Dnw (O X : ℕ → ℕ → ℝ) (W : ℕ → ℝ) (G U D : ℕ → ℕ → ℝ) (i : ℕ) (x : FVec Ideal S1x1024 .f32) : Prop :=
  R x (T2 fun _ n => ∑ t ∈ Finset.range (1024 * i), dh O X W G U D t n * (X t n * rs X t))

/-- What the state holds after point `t`. -/
structure After (O X : ℕ → ℕ → ℝ) (W : ℕ → ℝ) (G U D : ℕ → ℕ → ℝ) (t : ℕ) (σ : St Ideal) : Prop where
  doh : Doh O (t / 4) σ.2.2.2.2.1
  dh : Dh O X W G U D (t / 4) (t % 4 + 1) σ.2.2.2.2.2
  dg : R σ.2.1 (T2 fun r p => padF (dg O X W G U D (1024 * (t / 4) + r)) (768 * (t % 4) + p))
  du : R σ.2.2.1 (T2 fun r p => padF (du O X W G D (1024 * (t / 4) + r)) (768 * (t % 4) + p))
  dnw : Dnw O X W G U D ((t + 1) / 4) σ.2.2.2.1
  dx : t % 4 = 3 → R σ.1 (T2 fun r n => dx O X W G U D (1024 * (t / 4) + r) n)

variable {O X : ℕ → ℕ → ℝ} {W : ℕ → ℝ} {G U D : ℕ → ℕ → ℝ}

/-- The blocks of point `t`, as real numbers. -/
structure Reads (O X : ℕ → ℕ → ℝ) (W : ℕ → ℝ) (G U D : ℕ → ℕ → ℝ) (t : ℕ) (b : In Ideal) : Prop where
  o : R (s := S1024x1024) b.o (T2 fun r n => O (1024 * (t / 4) + r) n)
  x : R (s := S1024x1024) b.x (T2 fun r n => X (1024 * (t / 4) + r) n)
  w : R (s := S1x1024) b.w (T2 fun _ n => W n)
  g : R (s := S1024x768) b.g (T2 fun r p => padF (mm (hn X W) G (1024 * (t / 4) + r)) (768 * (t % 4) + p))
  u : R (s := S1024x768) b.u (T2 fun r p => padF (mm (hn X W) U (1024 * (t / 4) + r)) (768 * (t % 4) + p))
  wg : R (s := S2x384x1024) b.wg (TW fun p n => padF (G n) (768 * (t % 4) + p))
  wu : R (s := S2x384x1024) b.wu (TW fun p n => padF (U n) (768 * (t % 4) + p))
  wd : R (s := S2x384x1024) b.wd (TW fun p n => padF (fun q => D q n) (768 * (t % 4) + p))

section Point

variable {t : ℕ} {b : In Ideal} {acc σ : St Ideal} (hR : Reads O X W G U D t b)
include hR

theorem doh_real (h : t % 4 ≠ 0 → Doh O (t / 4) acc.2.2.2.2.1) : Doh O (t / 4) (dohAt b t acc) := by
  unfold dohAt
  split
  · exact pay7 hR.o
  · exact h ‹_›

theorem from_real (h : t % 4 ≠ 0 → Dh O X W G U D (t / 4) (t % 4) acc.2.2.2.2.2) :
    Dh O X W G U D (t / 4) (t % 4) (dhFrom t acc) := by
  unfold dhFrom
  split
  · rename_i h0
    refine pay8.congr fun j => ?_
    rw [h0]; rfl
  · exact h ‹_›

theorem gate_real {d : FVec Ideal S1024x1024 .bf16} (hd : Doh O (t / 4) d) :
    R (dgAt b d) (T2 fun r p => padF (dg O X W G U D (1024 * (t / 4) + r)) (768 * (t % 4) + p)) :=
  (pay13 hd hR.wd hR.g hR.u).congr fun j => by
    show dgate (∑ n ∈ Finset.range 1024, 1 / 2 * O (1024 * (t / 4) + (j 0).val) n * padF (fun q => D q n) (768 * (t % 4) + (j 1).val)) _ _ = _
    rw [da_padF, dgate_padF]; rfl

theorem up_real {d : FVec Ideal S1024x1024 .bf16} (hd : Doh O (t / 4) d) :
    R (duAt b d) (T2 fun r p => padF (du O X W G D (1024 * (t / 4) + r)) (768 * (t % 4) + p)) :=
  (pay1 hd hR.wd hR.g).congr fun j => by
    show dup (∑ n ∈ Finset.range 1024, 1 / 2 * O (1024 * (t / 4) + (j 0).val) n * padF (fun q => D q n) (768 * (t % 4) + (j 1).val)) _ = _
    rw [da_padF, dup_padF]; rfl

theorem sum_real {d : FVec Ideal S1024x1024 .bf16} {s : FVec Ideal S1024x1024 .f32} (hd : Doh O (t / 4) d)
    (hs : Dh O X W G U D (t / 4) (t % 4) s) : Dh O X W G U D (t / 4) (t % 4 + 1) (dhAt b d s) :=
  (pay2 (gate_real hR hd) (up_real hR hd) hR.wg hR.wu hs).congr fun j => by
    show _ = ∑ p ∈ Finset.range (768 * (t % 4 + 1)), part O X W G U D (1024 * (t / 4) + (j 0).val) (j 1).val p
    rw [Nat.mul_succ, Finset.sum_range_add]
    rfl

/-- One grid point. -/
theorem step (hs : Step b t acc σ) (ht : t < 64) (h1 : t % 4 ≠ 0 → Doh O (t / 4) acc.2.2.2.2.1)
    (h2 : t % 4 ≠ 0 → Dh O X W G U D (t / 4) (t % 4) acc.2.2.2.2.2)
    (h3 : t ≠ 0 → Dnw O X W G U D (t / 4) acc.2.2.2.1) :
    After O X W G U D t σ := by
  have e1 := doh_real hR h1
  have e2 := sum_real hR e1 (from_real hR h2)
  have whole : t % 4 = 3 → R (dhAt b (dohAt b t acc) (dhFrom t acc)) (T2 fun r n => dh O X W G U D (1024 * (t / 4) + r) n) :=
    fun h => e2.congr fun j => by
      rw [h]
      exact dh_padF O X W G U D _ _
  refine ⟨?_, ?_, ?_, ?_, ?_, ?_⟩
  · rw [hs.doh]; exact e1
  · rw [hs.dh]; exact e2
  · rw [hs.dg]; exact gate_real hR e1
  · rw [hs.du]; exact up_real hR e1
  · by_cases h4 : t % 4 = 3
    · rw [hs.add h4]
      refine (pay6 (whole h4) hR.x (h3 (by omega))).congr fun j => ?_
      show _ = ∑ t ∈ Finset.range (1024 * ((t + 1) / 4)), dh O X W G U D t (j 1).val * (X t (j 1).val * rs X t)
      rw [show (t + 1) / 4 = t / 4 + 1 by omega, Nat.mul_succ, Finset.sum_range_add]
      rfl
    · rw [show (t + 1) / 4 = t / 4 by omega]
      by_cases h0 : t % 64 = 0
      · rw [hs.first h0]
        refine pay9.congr fun j => ?_
        rw [show t / 4 = 0 by omega]; rfl
      · rw [hs.keep h0 h4]
        exact h3 (by omega)
  · intro h4
    rw [hs.dx h4]
    exact pay5 (whole h4) hR.x hR.w hR.o

end Point

/-- After every grid point. -/
theorem after_all {N : ℕ} (hN : N = 64) {b : Fin N → In Ideal} {σ : (n : ℕ) → n < N → St Ideal} (hR : ∀ t : Fin N, Reads O X W G U D t.val (b t))
    (h0 : ∀ hn : 0 < N, ∃ acc, Step (b ⟨0, hn⟩) 0 acc (σ 0 hn))
    (hs : ∀ (n : ℕ) (hn : n + 1 < N), Step (b ⟨n + 1, hn⟩) (n + 1) (σ n (Nat.lt_of_succ_lt hn)) (σ (n + 1) hn)) :
    ∀ (n : ℕ) (hn : n < N), After O X W G U D n (σ n hn)
  | 0, hn => by
    obtain ⟨acc, h⟩ := h0 hn
    exact step (hR ⟨0, hn⟩) h (by omega) (fun h => absurd rfl h) (fun h => absurd rfl h) (fun h => absurd rfl h)
  | n + 1, hn => by
    have ih := after_all hN hR h0 hs n (Nat.lt_of_succ_lt hn)
    refine step (hR ⟨n + 1, hn⟩) (hs n hn) (by omega) (fun h => ?_) (fun h => ?_) (fun _ => ih.dnw)
    · have h' : (n + 1) % 4 ≠ 0 := h
      have := ih.doh
      rwa [show n / 4 = (n + 1) / 4 by omega] at this
    · have h' : (n + 1) % 4 ≠ 0 := h
      have := ih.dh
      rwa [show n / 4 = (n + 1) / 4 by omega, show n % 4 + 1 = (n + 1) % 4 by omega] at this

end Cert.KernelIdeal.Ffn
-- ==== Proof.Blocks.lean ====
/-
  What one grid point of the feed-forward block's backward kernel leaves in its blocks and in its two
  scratch buffers, as the kernel's own arithmetic over the blocks it reads.
  The cases are the kernel's conditionals: A is the first point, D the first block of a later row block, C the
  last block of a row block, B the blocks between.
-/
module

public import proofs.«01_k».proof.Proof.Grid

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S2x384x1024 .bf16) (harg7 : arg7.IsWhole) (arg8 : Memref sig .tc .vmem S2x384x1024 .bf16) (harg8 : arg8.IsWhole) (arg9 : Memref sig .tc .vmem S2x384x1024 .bf16) (harg9 : arg9.IsWhole) (arg10 : Memref sig .tc .vmem S1024x1024 .f32) (harg10 : arg10.IsWhole) (arg11 : Memref sig .tc .vmem S1024x768 .bf16) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1024x1024 .f32) (harg15 : arg15.IsWhole)
variable (x0 : Vec F S1024x1024 .f32) (x1 : Vec F S1024x1024 .f32) (x2 : Vec F S1x1024 .f32) (x3 : Vec F S1024x768 .bf16)
  (x4 : Vec F S1024x768 .bf16) (x5 : Vec F S2x384x1024 .bf16) (x6 : Vec F S2x384x1024 .bf16) (x7 : Vec F S2x384x1024 .bf16)
  (x11 : Vec F S1x1024 .f32) (xs0 : Vec F S1024x1024 .bf16) (xs1 : Vec F S1024x1024 .f32)

theorem out0_A_9_eq (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_A_9
  rw [View.read_writes_eq_canon _ _ _ (fun _ => cover0_A_9 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_10_eq (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_A_10
  rw [View.read_writes_eq_canon _ _ _ (fun _ => cover0_A_10 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_11_eq (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay9 := by
  unfold out0_A_11
  rw [View.read_writes_eq_canon _ _ _ (fun _ => cover0_A_11 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_A_0
  rw [View.read_writes_eq_canon _ _ _ (fun _ => scover0_A_0 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_1_eq (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_A_1
  rw [View.read_writes_eq_canon _ _ _ (fun _ => scover0_A_1 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_9_eq (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay13 xs0 x7 x3 x4 := by
  unfold out0_B_9
  rw [View.read_writes_eq_canon _ _ _ (fun _ => cover0_B_9 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_10_eq (hc0 : ¬cond0_0 i) (hc1 : ¬cond0_1 i) (hc2 : ¬cond0_2 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay1 (k0_pay12 x3) (k0_pay14 xs0 x7 x3) := by
  unfold out0_B_10
  rw [View.read_writes_eq_canon _ _ _ (fun _ => cover0_B_10 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_11_eq (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 x11 = x11 := by
  rfl

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = xs0 := by
  rfl

theorem sout0_B_1_eq (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay2 (k0_pay12 x3) (k0_pay13 xs0 x7 x3 x4) (k0_pay14 xs0 x7 x3) x5 x6 xs1 := by
  unfold sout0_B_1
  rw [View.read_writes_eq_canon _ _ _ (fun _ => scover0_B_1 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_8_eq (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay5 (k0_pay2 (k0_pay12 x3) (k0_pay13 xs0 x7 x3 x4) (k0_pay14 xs0 x7 x3) x5 x6 xs1) x1 x2 x0 := by
  unfold out0_C_8
  rw [View.read_writes_eq_canon _ _ _ (fun _ => cover0_C_8 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_9_eq (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay13 xs0 x7 x3 x4 := by
  unfold out0_C_9
  rw [View.read_writes_eq_canon _ _ _ (fun _ => cover0_C_9 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_10_eq (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay1 (k0_pay12 x3) (k0_pay14 xs0 x7 x3) := by
  unfold out0_C_10
  rw [View.read_writes_eq_canon _ _ _ (fun _ => cover0_C_10 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_11_eq (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay6 (k0_pay2 (k0_pay12 x3) (k0_pay13 xs0 x7 x3 x4) (k0_pay14 xs0 x7 x3) x5 x6 xs1) x1 x11 := by
  unfold out0_C_11
  rw [View.read_writes_eq_canon _ _ _ (fun _ => cover0_C_11 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = xs0 := by
  rfl

theorem sout0_C_1_eq (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay2 (k0_pay12 x3) (k0_pay13 xs0 x7 x3 x4) (k0_pay14 xs0 x7 x3) x5 x6 xs1 := by
  unfold sout0_C_1
  rw [View.read_writes_eq_canon _ _ _ (fun _ => scover0_C_1 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_9_eq (hc0 : cond0_0 i) (hc1 : ¬cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_D_9
  rw [View.read_writes_eq_canon _ _ _ (fun _ => cover0_D_9 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_10_eq (hc0 : cond0_0 i) (hc1 : ¬cond0_1 i) (hc2 : ¬cond0_2 i) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_D_10
  rw [View.read_writes_eq_canon _ _ _ (fun _ => cover0_D_10 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_11_eq (hc0 : cond0_0 i) (hc1 : ¬cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 = x11 := by
  rfl

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_D_0
  rw [View.read_writes_eq_canon _ _ _ (fun _ => scover0_D_0 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_D_1_eq (hc0 : cond0_0 i) (hc1 : ¬cond0_1 i) (hc2 : ¬cond0_2 i) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_D_1
  rw [View.read_writes_eq_canon _ _ _ (fun _ => scover0_D_1 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

end Cases

end Cert.KernelIdeal.Ffn
-- ==== Proof.Steps.lean ====
/-
  At every grid point the backward kernel does one step of the recursion (Grid.lean), whatever the case.
-/
module

public import proofs.«01_k».proof.Proof.Blocks

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.KernelIdeal.Value

variable {F : FTy → Type} [FloatOps F]
variable (m : (ℓ : Loc nD τ sig) → Buf (Elt F) ℓ) (c : Dev nD) (t : Fin cfg0.N)

/-- The blocks the point reads. -/
def inAt : In F := ⟨iblk m c 0 t, iblk m c 1 t, iblk m c 2 t, iblk m c 3 t, iblk m c 4 t, iblk m c 5 t, iblk m c 6 t, iblk m c 7 t⟩

variable (acc : St F)

theorem case_of (t : ℕ) : (t % 4 = 0 ∧ t % 64 = 0 ∧ ¬t % 4 = 3) ∨ (t % 4 = 0 ∧ ¬t % 64 = 0 ∧ ¬t % 4 = 3) ∨ (¬t % 4 = 0 ∧ ¬t % 64 = 0 ∧ ¬t % 4 = 3)
    ∨ (¬t % 4 = 0 ∧ ¬t % 64 = 0 ∧ t % 4 = 3) := by omega

theorem st_doh : (stAt0 m c t.val t.isLt acc).2.2.2.2.1 = dohAt (inAt m c t) t.val acc := by
  unfold dohAt
  rcases case_of t.val with ⟨h0, h1, h2⟩ | ⟨h0, h1, h2⟩ | ⟨h0, h1, h2⟩ | ⟨h0, h1, h2⟩
  · rw [stAt0_A m c t acc h0 h1 h2, if_pos h0]; dsimp only; rw [sout0_A_0_eq]; rfl
  · rw [stAt0_D m c t acc h0 h1 h2, if_pos h0]; dsimp only; rw [sout0_D_0_eq]; rfl
  · rw [stAt0_B m c t acc h0 h1 h2, if_neg h0]; dsimp only; unfold sout0_B_0; rfl
  · rw [stAt0_C m c t acc h0 h1 h2, if_neg h0]; dsimp only; unfold sout0_C_0; rfl

theorem st_dh : (stAt0 m c t.val t.isLt acc).2.2.2.2.2 = dhAt (inAt m c t) (dohAt (inAt m c t) t.val acc) (dhFrom t.val acc) := by
  dsimp only [inAt, dohAt, dhFrom, dhAt, dgAt]
  rcases case_of t.val with ⟨h0, h1, h2⟩ | ⟨h0, h1, h2⟩ | ⟨h0, h1, h2⟩ | ⟨h0, h1, h2⟩
  · rw [stAt0_A m c t acc h0 h1 h2, if_pos h0, if_pos h0]; dsimp only; rw [sout0_A_1_eq]
  · rw [stAt0_D m c t acc h0 h1 h2, if_pos h0, if_pos h0]; dsimp only; rw [sout0_D_1_eq]
  · rw [stAt0_B m c t acc h0 h1 h2, if_neg h0, if_neg h0]; dsimp only; rw [sout0_B_1_eq]
  · rw [stAt0_C m c t acc h0 h1 h2, if_neg h0, if_neg h0]; dsimp only; rw [sout0_C_1_eq]

theorem st_dg : (stAt0 m c t.val t.isLt acc).2.1 = dgAt (inAt m c t) (dohAt (inAt m c t) t.val acc) := by
  dsimp only [inAt, dohAt, dgAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_9_eq]
  · rw [stAt0_D m c t acc h0 h1 h2, if_pos h0]; dsimp only; rw [out0_D_9_eq]
  · rw [stAt0_B m c t acc h0 h1 h2, if_neg h0]; dsimp only; rw [out0_B_9_eq]
  · rw [stAt0_C m c t acc h0 h1 h2, if_neg h0]; dsimp only; rw [out0_C_9_eq]

theorem st_du : (stAt0 m c t.val t.isLt acc).2.2.1 = duAt (inAt m c t) (dohAt (inAt m c t) t.val acc) := by
  dsimp only [inAt, dohAt, duAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_10_eq]
  · rw [stAt0_D m c t acc h0 h1 h2, if_pos h0]; dsimp only; rw [out0_D_10_eq]
  · rw [stAt0_B m c t acc h0 h1 h2, if_neg h0]; dsimp only; rw [out0_B_10_eq]
  · rw [stAt0_C m c t acc h0 h1 h2, if_neg h0]; dsimp only; rw [out0_C_10_eq]

theorem st_dnw_first (h : t.val % 64 = 0) : (stAt0 m c t.val t.isLt acc).2.2.2.1 = k0_pay9 := by
  rw [stAt0_A m c t acc (by omega) h (by omega)]; dsimp only; rw [out0_A_11_eq]

theorem st_dnw_keep (h : ¬t.val % 64 = 0) (h' : ¬t.val % 4 = 3) : (stAt0 m c t.val t.isLt acc).2.2.2.1 = acc.2.2.2.1 := by
  by_cases h0 : t.val % 4 = 0
  · rw [stAt0_D m c t acc h0 h h']; dsimp only; unfold out0_D_11; rfl
  · rw [stAt0_B m c t acc h0 h h']; dsimp only; unfold out0_B_11; rfl

theorem st_dnw_add (h : t.val % 4 = 3) : (stAt0 m c t.val t.isLt acc).2.2.2.1
    = k0_pay6 (dhAt (inAt m c t) (dohAt (inAt m c t) t.val acc) (dhFrom t.val acc)) (inAt m c t).x acc.2.2.2.1 := by
  have h0 : ¬t.val % 4 = 0 := by omega
  dsimp only [inAt, dohAt, dhFrom, dhAt, dgAt]
  rw [stAt0_C m c t acc h0 (by omega) h, if_neg h0, if_neg h0]; dsimp only; rw [out0_C_11_eq]

theorem st_dx (h : t.val % 4 = 3) : (stAt0 m c t.val t.isLt acc).1
    = k0_pay5 (dhAt (inAt m c t) (dohAt (inAt m c t) t.val acc) (dhFrom t.val acc)) (inAt m c t).x (inAt m c t).w (inAt m c t).o := by
  have h0 : ¬t.val % 4 = 0 := by omega
  dsimp only [inAt, dohAt, dhFrom, dhAt, dgAt]
  rw [stAt0_C m c t acc h0 (by omega) h, if_neg h0, if_neg h0]; dsimp only; rw [out0_C_8_eq]

/-- The point's step. -/
theorem steps : Step (inAt m c t) t.val acc (stAt0 m c t.val t.isLt acc) :=
  ⟨st_doh m c t acc, st_dh m c t acc, st_dg m c t acc, st_du m c t acc, st_dnw_first m c t acc, st_dnw_keep m c t acc,
    st_dnw_add m c t acc, st_dx m c t acc⟩

end Cert.KernelIdeal.Ffn
-- ==== Proof.Inputs.lean ====
/-
  The blocks the backward kernel reads at a grid point, as real numbers: point `t` is row block `t / 4` and
  block `t % 4` of the hidden dimension.
-/
module

public import proofs.«01_k».proof.Proof.Steps

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.Lift Cert.Ffn
open Cert.ReferenceIdeal.Ffn (Args)

variable {X H : ℕ → ℕ → ℝ} {W : ℕ → ℝ} {A B : ℕ → ℕ → ℝ}

/-- A vector as a function of its index. -/
abbrev T1 {a : ℕ} (f : ℕ → ℝ) : (⟨1, ![a]⟩ : Shape).Idx → ℝ := fun i => f (i 0).val

theorem rsV_real {x : FVec Ideal S16384x1024 .f32} (hx : R x (T2 X)) : R (rsV x) (T2 fun t _ => rs X t) := by
  have h1 : R (Host.reduceAdd (mulf x x) (constant S_ .f32 0x00000000#32) reducesTo_S16384x1024_S16384_d1 h_S_) _ :=
    (R.mulf (φ := .f32) hx hx).hostSum (v := constant S_ .f32 0x00000000#32) (fun _ => ofBits_zero) reducesTo_S16384x1024_S16384_d1 h_S_ (by decide)
      (fun j k => X (j 0).val k * X (j 0).val k) (fun j k => rfl)
  have h2 := R.broadcastInDim (t := S16384x1) h1 ![0] bcast_S16384_S16384x1_0 (fun j => fun a => match a with | ⟨0, _⟩ => ⟨(j 0).val, (j 0).isLt⟩)
    (fun j a => match a with
      | ⟨0, _⟩ => by show (j 0).val = if (16384 : Nat) = 1 then 0 else (j 0).val; rw [if_neg (by decide)])
  have h3 : R (constant (F := Ideal) S16384x1 .f32 0x44800000#32) (fun _ => (1024 : ℝ)) := fun _ => ofBits_1024
  have h4 : R (constant (F := Ideal) S16384x1 .f32 0x358637BD#32) (fun _ => eps) := fun _ => ofBits_eps
  exact R.hostRsqrt (φ := .f32) (R.addf (φ := .f32) (R.hostDivf (φ := .f32) h2 h3 (fun _ => by norm_num)) h4) (fun j => ms_pos X (j 0).val)

theorem hnV_real {x : FVec Ideal S16384x1024 .f32} {w : FVec Ideal S1024 .f32} (hx : R x (T2 X)) (hw : R w (T1 W)) :
    R (hnV x w) (T2 (hn X W)) := by
  have h1 := R.broadcastInDim (t := S16384x1024) (rsV_real hx) ![0, 1] bcast_S16384x1_S16384x1024_0_1
    (fun j => fun a => match a with | ⟨0, _⟩ => ⟨(j 0).val, (j 0).isLt⟩ | ⟨1, _⟩ => ⟨0, Nat.one_pos⟩)
    (fun j a => match a with
      | ⟨0, _⟩ => by show (j 0).val = if (16384 : Nat) = 1 then 0 else (j 0).val; rw [if_neg (by decide)]
      | ⟨1, _⟩ => by show 0 = if (1 : Nat) = 1 then 0 else (j 1).val; rw [if_pos rfl])
  have h2 := R.broadcastInDim (t := S1x1024) hw ![1] bcast_S1024_S1x1024_1 (fun j => fun a => match a with | ⟨0, _⟩ => ⟨(j 1).val, (j 1).isLt⟩)
    (fun j a => match a with
      | ⟨0, _⟩ => by show (j 1).val = if (1024 : Nat) = 1 then 0 else (j 1).val; rw [if_neg (by decide)])
  have h3 := R.broadcastInDim (t := S16384x1024) h2 ![0, 1] bcast_S1x1024_S16384x1024_0_1
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)])
  exact R.extf (ψ := .f32) (φ := .bf16) bitsLt_bf16_f32 (R.truncf (φ := .f32) bitsLt_bf16_f32 (R.mulf (φ := .f32) (R.mulf (φ := .f32) hx h1) h3))

theorem pad_zero : (((0#32 : BitVec 32).toInt : ℝ) : EReal) = ((0 : ℝ) : EReal) := by simp

/-- A product's hidden columns in the padded order. -/
theorem packV_real {h : FVec Ideal S16384x1024 .f32} {w : FVec Ideal S1024x2816 .f32} (hh : R h (T2 H)) (hw : R w (T2 A)) :
    R (packV h w) (T2 fun t => padF (mm H A t)) := by
  have h1 : R (Host.dotGeneral dot_S16384x1024_S1024x2816_S16384x2816_1_0_0_1_n_n none h w) (T2 (mm H A)) :=
    R.dot 1024 rfl rfl none hh hw (fun j k => H (j 0).val k * A k (j 1).val) (fun j k => rfl)
  have h2 : R _ (fun j : S16384x8x352.Idx => mm H A (j 0).val (352 * (j 1).val + (j 2).val)) := h1.shapeCast shapeCasts_S16384x2816_S16384x8x352
    (fun j => fun a => match a with
      | ⟨0, _⟩ => ⟨(j 0).val, (j 0).isLt⟩
      | ⟨1, _⟩ => ⟨352 * (j 1).val + (j 2).val, by have h1 : (j 1).val < 8 := (j 1).isLt; have h2 : (j 2).val < 352 := (j 2).isLt; show _ < 2816; omega⟩)
    (fun j => by
      rw [Shape.rowMajor_val_three, Shape.rowMajor_val_two]
      show (j 0).val * 2816 + (352 * (j 1).val + (j 2).val) = ((j 0).val * 8 + (j 1).val) * 352 + (j 2).val
      omega)
  have h3 : R (pad S16384x8x384 ![0, 0, 0] ![0, 0, 32] ![0, 0, 0]
      (shapeCast S16384x8x352 (Host.dotGeneral dot_S16384x1024_S1024x2816_S16384x2816_1_0_0_1_n_n none h w) shapeCasts_S16384x2816_S16384x8x352)
      (sitofp (F := Ideal) .f32 (constantI S_ 32 0#32)) pads_S16384x8x352_S16384x8x384_000_000_0320 h_S_)
      (fun i => padF (mm H A (i 0).val) (384 * (i 1).val + (i 2).val)) := fun i => by
    have h0 : (i 0).val < 16384 := (i 0).isLt
    have h1 : (i 1).val < 8 := (i 1).isLt
    have h2' : (i 2).val < 384 := (i 2).isLt
    show _ = (((if (384 * (i 1).val + (i 2).val) % 384 < 352 then
      mm H A (i 0).val (352 * ((384 * (i 1).val + (i 2).val) / 384) + (384 * (i 1).val + (i 2).val) % 384) else 0 : ℝ)) : EReal)
    by_cases hc : (i 2).val < 352
    · rw [pad_apply_of_inside _ _ _ _ _ _ _ i (fun a => match a with | ⟨0, _⟩ => ⟨(i 0).val, h0⟩ | ⟨1, _⟩ => ⟨(i 1).val, h1⟩ | ⟨2, _⟩ => ⟨(i 2).val, hc⟩)
        (fun a => by match a with
          | ⟨0, _⟩ => show (i 0).val = 0 + (i 0).val * (0 + 1); omega
          | ⟨1, _⟩ => show (i 1).val = 0 + (i 1).val * (0 + 1); omega
          | ⟨2, _⟩ => show (i 2).val = 0 + (i 2).val * (0 + 1); omega),
        h2, if_pos (by omega)]
      exact congrArg (fun n : ℕ => ((mm H A (i 0).val n : ℝ) : EReal)) (show 352 * (i 1).val + (i 2).val = _ by omega)
    · rw [pad_apply_of_not_inside _ _ _ _ _ _ _ i 2 (by
        show ¬(0 ≤ (i 2).val ∧ ((i 2).val - 0) % (0 + 1) = 0 ∧ ((i 2).val - 0) / (0 + 1) < 352); omega),
        if_neg (by omega)]
      exact pad_zero
  have h4 := h3.shapeCast shapeCasts_S16384x8x384_S16384x3072
    (fun j => fun a => match a with
      | ⟨0, _⟩ => ⟨(j 0).val, (j 0).isLt⟩
      | ⟨1, _⟩ => ⟨(j 1).val / 384, by have h1 : (j 1).val < 3072 := (j 1).isLt; show _ < 8; omega⟩
      | ⟨2, _⟩ => ⟨(j 1).val % 384, Nat.mod_lt _ (by norm_num)⟩)
    (fun j => by
      rw [Shape.rowMajor_val_three, Shape.rowMajor_val_two]
      show ((j 0).val * 8 + (j 1).val / 384) * 384 + (j 1).val % 384 = (j 0).val * 3072 + (j 1).val
      omega)
  exact (R.truncf (φ := .f32) (ψ := .bf16) bitsLt_bf16_f32 h4).congr fun j =>
    congrArg (padF (mm H A (j 0).val)) (show 384 * ((j 1).val / 384) + (j 1).val % 384 = (j 1).val by omega)

/-- A weight's hidden rows in the padded order. -/
theorem rowsV_real {w : FVec Ideal S2816x1024 .f32} (hw : R w (T2 B)) :
    R (rowsV w) (fun i => padF (fun q => B q (i 2).val) (384 * (i 0).val + (i 1).val)) := fun i => by
  have h0 : (i 0).val < 8 := (i 0).isLt
  have h1 : (i 1).val < 384 := (i 1).isLt
  have h2' : (i 2).val < 1024 := (i 2).isLt
  have h2 : R _ (fun j : S8x352x1024.Idx => B (352 * (j 0).val + (j 1).val) (j 2).val) := hw.shapeCast shapeCasts_S2816x1024_S8x352x1024
    (fun j => fun a => match a with
      | ⟨0, _⟩ => ⟨352 * (j 0).val + (j 1).val, by have h1 : (j 0).val < 8 := (j 0).isLt; have h2 : (j 1).val < 352 := (j 1).isLt; show _ < 2816; omega⟩
      | ⟨1, _⟩ => ⟨(j 2).val, (j 2).isLt⟩)
    (fun j => by
      rw [Shape.rowMajor_val_three, Shape.rowMajor_val_two]
      show (352 * (j 0).val + (j 1).val) * 1024 + (j 2).val = ((j 0).val * 352 + (j 1).val) * 1024 + (j 2).val
      omega)
  unfold rowsV
  show _ = (((if (384 * (i 0).val + (i 1).val) % 384 < 352 then
    B (352 * ((384 * (i 0).val + (i 1).val) / 384) + (384 * (i 0).val + (i 1).val) % 384) (i 2).val else 0 : ℝ)) : EReal)
  by_cases hc : (i 1).val < 352
  · rw [pad_apply_of_inside _ _ _ _ _ _ _ i (fun a => match a with | ⟨0, _⟩ => ⟨(i 0).val, h0⟩ | ⟨1, _⟩ => ⟨(i 1).val, hc⟩ | ⟨2, _⟩ => ⟨(i 2).val, h2'⟩)
      (fun a => by match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega),
      h2, if_pos (by omega)]
    exact congrArg (fun n : ℕ => ((B n (i 2).val : ℝ) : EReal)) (show 352 * (i 0).val + (i 1).val = _ by omega)
  · rw [pad_apply_of_not_inside _ _ _ _ _ _ _ i 1 (by
      show ¬(0 ≤ (i 1).val ∧ ((i 1).val - 0) % (0 + 1) = 0 ∧ ((i 1).val - 0) / (0 + 1) < 352); omega),
      if_neg (by omega)]
    exact pad_zero

/-- A weight transposed. -/
theorem turn_real {w : FVec Ideal S1024x2816 .f32} (hw : R w (T2 A)) :
    R (transpose S2816x1024 [1, 0] w transposes_S1024x2816_S2816x1024_1_0) (T2 fun m n => A n m) :=
  hw.transpose [1, 0] transposes_S1024x2816_S2816x1024_1_0
    (fun j => fun a => match a with | ⟨0, _⟩ => ⟨(j 1).val, (j 1).isLt⟩ | ⟨1, _⟩ => ⟨(j 0).val, (j 0).isLt⟩)
    (fun j a => match a with | ⟨0, _⟩ => rfl | ⟨1, _⟩ => rfl)

variable {G U D : ℕ → ℕ → ℝ}

/-- The three parts of the packed weights. -/
abbrev pieces (wg wu : FVec Ideal S1024x2816 .f32) (wd : FVec Ideal S2816x1024 .f32) : List ((s : Shape) × (s.Idx → EReal)) :=
  [⟨S8x384x1024, rowsV (transpose S2816x1024 [1, 0] wg transposes_S1024x2816_S2816x1024_1_0)⟩,
    ⟨S8x384x1024, rowsV (transpose S2816x1024 [1, 0] wu transposes_S1024x2816_S2816x1024_1_0)⟩, ⟨S8x384x1024, rowsV wd⟩]

/-- The packed weights: part `b` of shard `i 0`. -/
theorem weightsV_real {wg wu : FVec Ideal S1024x2816 .f32} {wd : FVec Ideal S2816x1024 .f32}
    (hg : R wg (T2 G)) (hu : R wu (T2 U)) (hd : R wd (T2 D)) (j : S8x1152x1024.Idx) (r : ℕ) (hr : r < 384) :
    ((j 1).val = r → weightsV (F := Ideal) wg wu wd j = ((padF (G (j 2).val) (384 * (j 0).val + r) : ℝ) : EReal))
    ∧ ((j 1).val = 384 + r → weightsV (F := Ideal) wg wu wd j = ((padF (U (j 2).val) (384 * (j 0).val + r) : ℝ) : EReal))
    ∧ ((j 1).val = 768 + r → weightsV (F := Ideal) wg wu wd j = ((padF (fun m => D m (j 2).val) (384 * (j 0).val + r) : ℝ) : EReal)) := by
  have key : ∀ (k : ℕ) (hk : k < 3) (x : S8x384x1024.Idx → EReal)
      (hx : (pieces wg wu wd)[k] = ⟨S8x384x1024, x⟩)
      (hp : ((((pieces wg wu wd).take k).map (·.1)).map
          fun s => if h : s.rank = S8x1152x1024.rank then s.size ((1 : Fin S8x1152x1024.rank).cast h.symm) else 0).sum = 384 * k)
      (hj : (j 1).val = 384 * k + r), weightsV (F := Ideal) wg wu wd j
        = x (fun a => match a with | ⟨0, _⟩ => ⟨(j 0).val, (j 0).isLt⟩ | ⟨1, _⟩ => ⟨r, hr⟩ | ⟨2, _⟩ => ⟨(j 2).val, (j 2).isLt⟩) := by
    intro k hk x hx hp hj
    exact concatenate_apply_piece (1 : Fin S8x1152x1024.rank) (pieces wg wu wd) concatenates_S8x384x1024_S8x384x1024_S8x384x1024_S8x1152x1024_d1 j k hk S8x384x1024 x hx rfl
      (384 * k) hp _ (fun b hb => match b with | ⟨0, _⟩ => rfl | ⟨1, _⟩ => absurd rfl hb | ⟨2, _⟩ => rfl) hj.symm
  exact ⟨fun h => (key 0 (by decide) _ rfl rfl (by omega)).trans (rowsV_real (turn_real hg) _),
    fun h => (key 1 (by decide) _ rfl rfl (by omega)).trans (rowsV_real (turn_real hu) _),
    fun h => (key 2 (by decide) _ rfl rfl (by omega)).trans (rowsV_real hd _)⟩

/-- The same weights inside a taller pack, from row `lo` on. -/
theorem pack_real {wg wu : FVec Ideal S1024x2816 .f32} {wd : FVec Ideal S2816x1024 .f32}
    (hg : R wg (T2 G)) (hu : R wu (T2 U)) (hd : R wd (T2 D)) {n lo hi : ℕ} {z : S_.Idx → EReal}
    (h : S8x1152x1024.Pads (![0, lo, 0] : Fin 3 → Nat) ![0, hi, 0] ![0, 0, 0] ⟨3, ![8, n, 1024]⟩)
    (j : (⟨3, ![8, n, 1024]⟩ : Shape).Idx) (r : ℕ) (hr : r < 384) :
    ((j 1).val = lo + r → pad ⟨3, ![8, n, 1024]⟩ ![0, lo, 0] ![0, hi, 0] ![0, 0, 0] (weightsV (F := Ideal) wg wu wd) z h h_S_ j
        = ((padF (G (j 2).val) (384 * (j 0).val + r) : ℝ) : EReal))
    ∧ ((j 1).val = lo + 384 + r → pad ⟨3, ![8, n, 1024]⟩ ![0, lo, 0] ![0, hi, 0] ![0, 0, 0] (weightsV (F := Ideal) wg wu wd) z h h_S_ j
        = ((padF (U (j 2).val) (384 * (j 0).val + r) : ℝ) : EReal))
    ∧ ((j 1).val = lo + 768 + r → pad ⟨3, ![8, n, 1024]⟩ ![0, lo, 0] ![0, hi, 0] ![0, 0, 0] (weightsV (F := Ideal) wg wu wd) z h h_S_ j
        = ((padF (fun m => D m (j 2).val) (384 * (j 0).val + r) : ℝ) : EReal)) := by
  have key : ∀ (q : ℕ) (hq : q < 1152) (hj : (j 1).val = lo + q),
      pad ⟨3, ![8, n, 1024]⟩ ![0, lo, 0] ![0, hi, 0] ![0, 0, 0] (weightsV (F := Ideal) wg wu wd) z h h_S_ j
        = weightsV (F := Ideal) wg wu wd (fun a => match a with
          | ⟨0, _⟩ => ⟨(j 0).val, (j 0).isLt⟩ | ⟨1, _⟩ => ⟨q, hq⟩ | ⟨2, _⟩ => ⟨(j 2).val, (j 2).isLt⟩) := fun q hq hj =>
    pad_apply_of_inside _ _ _ _ _ _ _ j _ (fun a => by match a with
      | ⟨0, _⟩ => show (j 0).val = 0 + (j 0).val * (0 + 1); omega
      | ⟨1, _⟩ => show (j 1).val = lo + q * (0 + 1); omega
      | ⟨2, _⟩ => show (j 2).val = 0 + (j 2).val * (0 + 1); omega)
  exact ⟨fun e => (key r (by omega) e).trans ((weightsV_real hg hu hd _ r hr).1 rfl),
    fun e => (key (384 + r) (by omega) (by omega)).trans ((weightsV_real hg hu hd _ r hr).2.1 rfl),
    fun e => (key (768 + r) (by omega) (by omega)).trans ((weightsV_real hg hu hd _ r hr).2.2 rfl)⟩

variable {m : (ℓ : Loc nD τ sig) → Buf (Elt Idealize.ShloMosaic.Ideal) ℓ} {c : Dev nD} {O : ℕ → ℕ → ℝ}

/-- The windows' offsets at a point. -/
theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val / 4 ∧ win0_3.index t 1 = t.val % 4 := by decide +kernel
theorem at4 : ∀ t : Fin cfg0.N, win0_4.index t 0 = t.val / 4 ∧ win0_4.index t 1 = t.val % 4 := by decide +kernel
theorem at5 : ∀ t : Fin cfg0.N, win0_5.index t 0 = t.val % 4 ∧ win0_5.index t 1 = 0 ∧ win0_5.index t 2 = 0 := by decide +kernel
theorem at6 : ∀ t : Fin cfg0.N, win0_6.index t 0 = t.val % 4 ∧ win0_6.index t 1 = 1 ∧ win0_6.index t 2 = 0 := by decide +kernel
theorem at7 : ∀ t : Fin cfg0.N, win0_7.index t 0 = t.val % 4 ∧ win0_7.index t 1 = 2 ∧ win0_7.index t 2 = 0 := by decide +kernel

variable (hG : Args O X W G U D (m (c, main_arg0)) (m (c, main_arg1)) (m (c, main_arg2)) (m (c, main_arg3)) (m (c, main_arg4)) (m (c, main_arg5))) (t : Fin cfg0.N)
include hG

theorem blk0 : R (s := S1024x1024) (iblk m c 0 t) (T2 fun r n => O (1024 * (t.val / 4) + r) n) := fun j => by
  obtain ⟨h0, h1⟩ := at0 t
  unfold iblk
  rw [View.read_apply]
  show V m c main_arg0 _ = _
  rw [V_arg0, hG.h0]
  refine congrArg ((↑) : ℝ → EReal) (congrArg₂ O ?_ ?_)
  · show win0_0.index t 0 * 1024 + 1 * (j 0).val = _
    rw [h0]; omega
  · show win0_0.index t 1 * 1024 + 1 * (j 1).val = _
    rw [h1]; omega

theorem blk1 : R (s := S1024x1024) (iblk m c 1 t) (T2 fun r n => X (1024 * (t.val / 4) + r) n) := fun j => by
  obtain ⟨h0, h1⟩ := at1 t
  unfold iblk
  rw [View.read_apply]
  show V m c main_arg1 _ = _
  rw [V_arg1, hG.h1]
  refine congrArg ((↑) : ℝ → EReal) (congrArg₂ X ?_ ?_)
  · show win0_1.index t 0 * 1024 + 1 * (j 0).val = _
    rw [h0]; omega
  · show win0_1.index t 1 * 1024 + 1 * (j 1).val = _
    rw [h1]; omega

theorem blk2 : R (s := S1x1024) (iblk m c 2 t) (T2 fun _ n => W n) := fun j => by
  obtain ⟨h0, h1⟩ := at2 t
  unfold iblk
  rw [View.read_apply]
  show V m c main_v35 _ = _
  rw [V_v35]
  refine (hG.h2 _).trans (congrArg ((↑) : ℝ → EReal) (congrArg W ?_))
  show win0_2.index t 1 * 1024 + 1 * (j 1).val = _
  rw [h1]; omega

theorem blk3 : R (s := S1024x768) (iblk m c 3 t)
    (T2 fun r p => padF (mm (hn X W) G (1024 * (t.val / 4) + r)) (768 * (t.val % 4) + p)) := fun j => by
  obtain ⟨h0, h1⟩ := at3 t
  unfold iblk
  rw [View.read_apply]
  show V m c main_v19 _ = _
  rw [V_v19]
  refine (packV_real (hnV_real hG.h1 hG.h2) hG.h3 _).trans (congrArg ((↑) : ℝ → EReal)
    (congrArg₂ (fun a b => padF (mm (hn X W) G a) b) ?_ ?_))
  · show win0_3.index t 0 * 1024 + 1 * (j 0).val = _
    rw [h0]; omega
  · show win0_3.index t 1 * 768 + 1 * (j 1).val = _
    rw [h1]; omega

theorem blk4 : R (s := S1024x768) (iblk m c 4 t)
    (T2 fun r p => padF (mm (hn X W) U (1024 * (t.val / 4) + r)) (768 * (t.val % 4) + p)) := fun j => by
  obtain ⟨h0, h1⟩ := at4 t
  unfold iblk
  rw [View.read_apply]
  show V m c main_v24 _ = _
  rw [V_v24]
  refine (packV_real (hnV_real hG.h1 hG.h2) hG.h4 _).trans (congrArg ((↑) : ℝ → EReal)
    (congrArg₂ (fun a b => padF (mm (hn X W) U a) b) ?_ ?_))
  · show win0_4.index t 0 * 1024 + 1 * (j 0).val = _
    rw [h0]; omega
  · show win0_4.index t 1 * 768 + 1 * (j 1).val = _
    rw [h1]; omega

theorem blk5 : R (s := S2x384x1024) (iblk m c 5 t) (TW fun p n => padF (G n) (768 * (t.val % 4) + p)) := fun j => by
  obtain ⟨h0, h1, h2⟩ := at5 t
  have hj : (j 1).val < 384 := (j 1).isLt
  unfold iblk
  rw [View.read_apply]
  show V m c main_v34 _ = _
  rw [V_v34]
  refine ((weightsV_real hG.h3 hG.h4 hG.h5 _ (j 1).val hj).1 ?_).trans (congrArg ((↑) : ℝ → EReal)
    (congrArg₂ (fun a b => padF (G a) b) ?_ ?_))
  · show win0_5.index t 1 * 384 + 1 * (j 1).val = _
    rw [h1]; omega
  · show win0_5.index t 2 * 1024 + 1 * (j 2).val = _
    rw [h2]; omega
  · show 384 * (win0_5.index t 0 * 2 + 1 * (j 0).val) + (j 1).val = _
    rw [h0]; omega

theorem blk6 : R (s := S2x384x1024) (iblk m c 6 t) (TW fun p n => padF (U n) (768 * (t.val % 4) + p)) := fun j => by
  obtain ⟨h0, h1, h2⟩ := at6 t
  have hj : (j 1).val < 384 := (j 1).isLt
  unfold iblk
  rw [View.read_apply]
  show V m c main_v34 _ = _
  rw [V_v34]
  refine ((weightsV_real hG.h3 hG.h4 hG.h5 _ (j 1).val hj).2.1 ?_).trans (congrArg ((↑) : ℝ → EReal)
    (congrArg₂ (fun a b => padF (U a) b) ?_ ?_))
  · show win0_6.index t 1 * 384 + 1 * (j 1).val = _
    rw [h1]; omega
  · show win0_6.index t 2 * 1024 + 1 * (j 2).val = _
    rw [h2]; omega
  · show 384 * (win0_6.index t 0 * 2 + 1 * (j 0).val) + (j 1).val = _
    rw [h0]; omega

theorem blk7 : R (s := S2x384x1024) (iblk m c 7 t) (TW fun p n => padF (fun q => D q n) (768 * (t.val % 4) + p)) := fun j => by
  obtain ⟨h0, h1, h2⟩ := at7 t
  have hj : (j 1).val < 384 := (j 1).isLt
  unfold iblk
  rw [View.read_apply]
  show V m c main_v34 _ = _
  rw [V_v34]
  refine ((weightsV_real hG.h3 hG.h4 hG.h5 _ (j 1).val hj).2.2 ?_).trans (congrArg ((↑) : ℝ → EReal)
    (congrArg₂ (fun a b => padF (fun q => D q a) b) ?_ ?_))
  · show win0_7.index t 1 * 384 + 1 * (j 1).val = _
    rw [h1]; omega
  · show win0_7.index t 2 * 1024 + 1 * (j 2).val = _
    rw [h2]; omega
  · show 384 * (win0_7.index t 0 * 2 + 1 * (j 0).val) + (j 1).val = _
    rw [h0]; omega

set_option maxHeartbeats 1600000 in
/-- The blocks of a point are the ones the step wants. -/
theorem reads : Reads O X W G U D t.val (inAt m c t) := by
  have h0 := blk0 hG t
  have h1 := blk1 hG t
  have h2 := blk2 hG t
  have h3 := blk3 hG t
  have h4 := blk4 hG t
  have h5 := blk5 hG t
  have h6 := blk6 hG t
  have h7 := blk7 hG t
  unfold inAt
  exact ⟨h0, h1, h2, h3, h4, h5, h6, h7⟩

end Cert.KernelIdeal.Ffn
-- ==== Proof.Fold.lean ====
/-
  The four result arrays of the backward kernel as real numbers.
-/
module

public import proofs.«01_k».proof.Proof.Inputs

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen Cert.KernelIdeal.Value Cert.Lift Cert.Ffn
open Cert.ReferenceIdeal.Ffn (Args)

variable {O X : ℕ → ℕ → ℝ} {W : ℕ → ℝ} {G U D : ℕ → ℕ → ℝ}
variable {m : (ℓ : Loc nD τ sig) → Buf (Elt Idealize.ShloMosaic.Ideal) ℓ} {c : Dev nD}
variable (hG : Args O X W G U D (m (c, main_arg0)) (m (c, main_arg1)) (m (c, main_arg2)) (m (c, main_arg3)) (m (c, main_arg4)) (m (c, main_arg5)))
include hG

/-- After every grid point. -/
theorem after : ∀ (n : ℕ) (hn : n < cfg0.N), After O X W G U D n (outsAt0 m c n hn) :=
  after_all N_0 (reads hG) (fun hn => ⟨junk0, by rw [outsAt0_zero]; exact steps m c ⟨0, hn⟩ junk0⟩)
    (fun n hn => by rw [outsAt0_succ]; exact steps m c ⟨n + 1, hn⟩ _)

theorem dx_real : R (s := S16384x1024) (G8 m c) (T2 (dx O X W G U D)) := fun i => by
  have h0 : (i 0).val < 16384 := (i 0).isLt
  have h1 : (i 1).val < 1024 := (i 1).isLt
  have hp : pt8Of i = 4 * ((i 0).val / 1024) + 3 := by
    show 4 * (1 * ((i 0).val / 1024 - 0) + 1 * ((i 1).val / 1024 - 0)) + 3 = _; omega
  have hb : pt8Of i < cfg0.N := lt_of_lt_of_eq (by omega) N_0.symm
  unfold G8
  rw [dif_pos hb, ← outsAt0_sweep]
  refine ((after hG (pt8Of i) hb).dx (by omega) (loc8Of i)).trans (congrArg ((↑) : ℝ → EReal) (congrArg₂ (dx O X W G U D) ?_ ?_))
  · show 1024 * (pt8Of i / 4) + (i 0).val % 1024 = _; omega
  · show (i 1).val % 1024 = _; omega

theorem dg_real : R (s := S16384x3072) (G9 m c) (T2 fun t => padF (dg O X W G U D t)) := fun i => by
  have h0 : (i 0).val < 16384 := (i 0).isLt
  have h1 : (i 1).val < 3072 := (i 1).isLt
  have hp : pt9Of i = 4 * ((i 0).val / 1024) + (i 1).val / 768 := by
    show 4 * ((i 0).val / 1024 - 0) + 1 * ((i 1).val / 768 - 0) = _; omega
  have hb : pt9Of i < cfg0.N := lt_of_lt_of_eq (by omega) N_0.symm
  unfold G9
  rw [dif_pos hb, ← outsAt0_sweep]
  refine ((after hG (pt9Of i) hb).dg (loc9Of i)).trans (congrArg ((↑) : ℝ → EReal)
    (congrArg₂ (fun a b => padF (dg O X W G U D a) b) ?_ ?_))
  · show 1024 * (pt9Of i / 4) + (i 0).val % 1024 = _; omega
  · show 768 * (pt9Of i % 4) + (i 1).val % 768 = _; omega

theorem du_real : R (s := S16384x3072) (G10 m c) (T2 fun t => padF (du O X W G D t)) := fun i => by
  have h0 : (i 0).val < 16384 := (i 0).isLt
  have h1 : (i 1).val < 3072 := (i 1).isLt
  have hp : pt10Of i = 4 * ((i 0).val / 1024) + (i 1).val / 768 := by
    show 4 * ((i 0).val / 1024 - 0) + 1 * ((i 1).val / 768 - 0) = _; omega
  have hb : pt10Of i < cfg0.N := lt_of_lt_of_eq (by omega) N_0.symm
  unfold G10
  rw [dif_pos hb, ← outsAt0_sweep]
  refine ((after hG (pt10Of i) hb).du (loc10Of i)).trans (congrArg ((↑) : ℝ → EReal)
    (congrArg₂ (fun a b => padF (du O X W G D a) b) ?_ ?_))
  · show 1024 * (pt10Of i / 4) + (i 0).val % 1024 = _; omega
  · show 768 * (pt10Of i % 4) + (i 1).val % 768 = _; omega

theorem dnw_real : R (s := S1x1024) (G11 m c) (T2 fun _ => dnw O X W G U D) := fun i => by
  rw [G11_last, ← outsAt0_sweep]
  exact (after hG 63 (lt_of_lt_of_eq (by decide) N_0.symm)).dnw i

end Cert.KernelIdeal.Ffn
-- ==== Proof.Value.lean ====
/-
  The backward kernel and the reference leave the same four arrays.
-/
module

public import proofs.«01_k».proof.Defs
public import proofs.«01_k».proof.Proof.Fold

@[expose] public section

set_option maxRecDepth 16384

noncomputable section

namespace Cert.Ffn

open Idealize.ShloMosaic Idealize.ShloMosaic.TcCoe Idealize.SL.Sem Cert.Lift

/-- The real tables behind six finite arguments. -/
theorem tables_of {x0 x1 : FVec Ideal Pre_finite.S16384x1024 .f32} {x2 : FVec Ideal Pre_finite.S1024 .f32} {x3 x4 : FVec Ideal Pre_finite.S1024x2816 .f32}
    {x5 : FVec Ideal Pre_finite.S2816x1024 .f32} (h : @Pre_finite.fn Pre_finite.facts Ideal _ x0 x1 x2 x3 x4 x5 = fun _ => 1#1) :
    ∃ O X W G U D, ReferenceIdeal.Ffn.Args O X W G U D x0 x1 x2 x3 x4 x5 := by
  obtain ⟨h0, h1, h2, h3, h4, h5⟩ := Pre_finite.reals _ _ _ _ _ _ h
  exact ⟨_, _, _, _, _, _, ⟨tab2_eq (by norm_num) (by norm_num) _ h0, tab2_eq (by norm_num) (by norm_num) _ h1,
    tab1_eq (by norm_num) _ h2, tab2_eq (by norm_num) (by norm_num) _ h3, tab2_eq (by norm_num) (by norm_num) _ h4,
    tab2_eq (by norm_num) (by norm_num) _ h5⟩⟩

theorem value : @algebraic_KernelIdeal_ReferenceIdeal_pre_finite KernelIdeal.Gen.facts ReferenceIdeal.Gen.facts Pre_finite.facts := by
  intro m g m' g' hp hm
  refine ⟨fun c => KernelIdeal.Value.G8 m c, fun c => KernelIdeal.Value.G9 m c, fun c => KernelIdeal.Value.G10 m c,
    fun c => KernelIdeal.Value.G11 m c, KernelIdeal.Value.run m g, (θ_run _ _ _).mono (fun r h c => ?_) (ReferenceIdeal.Value.run m' g')⟩
  obtain ⟨O, X, W, G, U, D, ha⟩ := tables_of (hp c)
  obtain ⟨e0, e1, e2, e3, e4, e5⟩ := hm c
  obtain ⟨r0, r1, r2, r3, rest⟩ := h c
  refine ⟨r0.trans ?_, r1.trans ?_, r2.trans ?_, r3.trans ?_, rest⟩
  · rw [ReferenceIdeal.Read.val_main_v57_eq, e0, e1, e2, e3, e4, e5]
    funext i
    exact (ReferenceIdeal.Ffn.v57 ha i).trans (KernelIdeal.Ffn.dx_real ha i).symm
  · rw [ReferenceIdeal.Read.val_main_v61_eq, e0, e1, e2, e3, e4, e5]
    funext i
    exact (ReferenceIdeal.Ffn.v61 ha i).trans (KernelIdeal.Ffn.dg_real ha i).symm
  · rw [ReferenceIdeal.Read.val_main_v65_eq, e0, e1, e2, e3, e5]
    funext i
    exact (ReferenceIdeal.Ffn.v65 ha i).trans (KernelIdeal.Ffn.du_real ha i).symm
  · rw [ReferenceIdeal.Read.val_main_v66_eq, e0, e1, e2, e3, e4, e5]
    funext i
    exact (ReferenceIdeal.Ffn.v66 ha i).trans (KernelIdeal.Ffn.dnw_real ha i).symm

end Cert.Ffn
-- ==== Proof.Ext.lean ====
/-
  Arrays of extended real numbers under the operations of a kernel and of the host, each array described by the
  table of its entries. Nothing here asks that an entry be finite.
-/
module

public import proofs.«01_k».proof.Proof.Ops

@[expose] public section

noncomputable section

namespace Cert.Lift

open Idealize.ShloMosaic

/-- Every entry of `x` is the extended real `f` gives. -/
def E {s : Shape} (x f : s.Idx → EReal) : Prop := ∀ i, x i = f i

/-- A table of rows and columns as a function of an index of rank two. -/
abbrev TE {a b : ℕ} (f : ℕ → ℕ → EReal) : (⟨2, ![a, b]⟩ : Shape).Idx → EReal := fun i => f (i 0).val (i 1).val

/-- An array of rank two as a table. -/
def tabE2 {a b : ℕ} (ha : 0 < a) (hb : 0 < b) (x : (⟨2, ![a, b]⟩ : Shape).Idx → EReal) (t d : ℕ) : EReal :=
  x (fun k => match k with | ⟨0, _⟩ => ⟨t % a, Nat.mod_lt _ ha⟩ | ⟨1, _⟩ => ⟨d % b, Nat.mod_lt _ hb⟩)

theorem tabE2_eq {a b : ℕ} (ha : 0 < a) (hb : 0 < b) (x : (⟨2, ![a, b]⟩ : Shape).Idx → EReal) : E x (TE (tabE2 ha hb x)) := fun i => by
  refine (congrArg x ?_).symm
  funext k
  apply Fin.ext
  match k with
  | ⟨0, _⟩ => exact Nat.mod_eq_of_lt (i 0).isLt
  | ⟨1, _⟩ => exact Nat.mod_eq_of_lt (i 1).isLt

/-- An array of rank one as a table. -/
def tabE1 {a : ℕ} (ha : 0 < a) (x : (⟨1, ![a]⟩ : Shape).Idx → EReal) (d : ℕ) : EReal :=
  x (fun k => match k with | ⟨0, _⟩ => ⟨d % a, Nat.mod_lt _ ha⟩)

theorem tabE1_eq {a : ℕ} (ha : 0 < a) (x : (⟨1, ![a]⟩ : Shape).Idx → EReal) : E x (fun i => tabE1 ha x (i 0).val) := fun i => by
  refine (congrArg x ?_).symm
  funext k
  apply Fin.ext
  match k with
  | ⟨0, _⟩ => exact Nat.mod_eq_of_lt (i 0).isLt

/-- A sum over all numbers below `n`. -/
theorem sumE {n : ℕ} {g : Fin n → EReal} (f : ℕ → EReal) (h : ∀ i, g i = f i.val) : ∑ i, g i = ∑ i ∈ Finset.range n, f i := by
  rw [← Fin.sum_univ_eq_sum_range]; exact Finset.sum_congr rfl fun i _ => h i

variable {s t : Shape} {φ ψ : FTy} {f g : s.Idx → EReal}

theorem E.congr {x : s.Idx → EReal} (h : E x f) (e : ∀ i, f i = g i) : E x g := fun i => (h i).trans (e i)

theorem E.mulf {x y : FVec Ideal s φ} (hx : E x f) (hy : E y g) : E (Idealize.ShloMosaic.mulf x y) (fun i => f i * g i) := fun i => by
  show (x i : EReal) * y i = _
  rw [hx i, hy i]

theorem E.addf {x y : FVec Ideal s φ} (hx : E x f) (hy : E y g) : E (Idealize.ShloMosaic.addf x y) (fun i => f i + g i) := fun i => by
  show (x i : EReal) + y i = _
  rw [hx i, hy i]

theorem E.subf {x y : FVec Ideal s φ} (hx : E x f) (hy : E y g) : E (Idealize.ShloMosaic.subf x y) (fun i => f i - g i) := fun i => by
  show (x i : EReal) - y i = _
  rw [hx i, hy i]

theorem E.divf {x y : FVec Ideal s φ} (hx : E x f) (hy : E y g) : E (Idealize.ShloMosaic.divf x y) (fun i => Ideal.div (f i) (g i)) := fun i => by
  show Ideal.div (x i) (y i) = _
  rw [hx i, hy i]

theorem E.rsqrt {x : FVec Ideal s φ} (hx : E x f) : E (Idealize.ShloMosaic.rsqrt x) (fun i => Ideal.rsqrt (f i)) := fun i => by
  show Ideal.rsqrt (x i) = _
  rw [hx i]

theorem E.extf {x : FVec Ideal s φ} (h) (hx : E x f) : E (Idealize.ShloMosaic.extf ψ x h) f := hx

theorem E.truncf {x : FVec Ideal s φ} (h) (hx : E x f) : E (Idealize.ShloMosaic.truncf ψ x h) f := hx

theorem E.const (c : EReal) : E (broadcast s c) (fun _ => c) := fun _ => rfl

theorem E.shapeCast {x : s.Idx → EReal} (hx : E x f) (h : s.ShapeCasts t) (k : t.Idx → s.Idx)
    (hk : ∀ j, (s.rowMajor (k j)).val = (t.rowMajor j).val) : E (Idealize.ShloMosaic.shapeCast t x h) (fun j => f (k j)) := fun j => by
  rw [shapeCast_apply x h j (k j) (hk j), hx]

theorem E.shapeCast_self {x : s.Idx → EReal} (hx : E x f) (h : s.ShapeCasts s) : E (Idealize.ShloMosaic.shapeCast s x h) f := by
  rw [Idealize.ShloMosaic.shapeCast_self]; exact hx

theorem E.broadcastTo {x : s.Idx → EReal} (hx : E x f) (h : s.Broadcasts t) (k : t.Idx → s.Idx)
    (hk : ∀ (j : t.Idx) (a : Fin s.rank), (k j a).val = if s.size a = 1 then 0 else (j ⟨a.val + (t.rank - s.rank), by have := h.1; have := a.isLt; omega⟩).val) :
    E (Idealize.ShloMosaic.broadcastTo t x h) (fun j => f (k j)) := fun j => by
  rw [broadcastTo_apply x h j (k j) (hk j), hx]

theorem E.sum {a : Fin s.rank} {x : FVec Ideal s φ} (hx : E x f) (acc : BitVec φ.bits) (h : s.Reduces [a] t) (hφ : FKind.Formats φ)
    (hacc : acc = FKind.add.neutral φ hφ) (F : t.Idx → ℕ → EReal) (hF : ∀ j (k : Fin (s.size a)), f (h.lift j k) = F j k.val) :
    E (multiReduction .add [a] t x acc h hφ hacc) (fun j => ∑ k ∈ Finset.range (s.size a), F j k) := fun j => by
  rw [Ideal.multiReduction_add_single]
  exact sumE (F j) fun k => by rw [hx, hF]

/-- A sum over one contracted axis. -/
theorem sumE_contr {sl sr so : Shape} (D : DotDims sl sr so) (n : ℕ) (hr : D.contr.rank = 1) (hs : D.contr.size ⟨0, by omega⟩ = n)
    (g : D.contr.Idx → EReal) (F : ℕ → EReal) (h : ∀ k, g k = F (k ⟨0, by omega⟩).val) :
    ∑ k, g k = ∑ k ∈ Finset.range n, F k := by
  rw [← Equiv.sum_comp (ValueIdx.contrEquiv1 D n hr hs).symm]
  refine sumE F fun k => ?_
  rw [h, ValueIdx.contrEquiv1_symm_val D n hr hs k]

theorem E.matmul {sl sr so : Shape} {φ₁ φ₂ : FTy} {D : DotDims sl sr so} (n : ℕ) (hr : D.contr.rank = 1) (hs : D.contr.size ⟨0, by omega⟩ = n)
    (prec : Option ContractPrecision) {l : FVec Ideal sl φ₁} {r : FVec Ideal sr φ₂} {fl : sl.Idx → EReal} {fr : sr.Idx → EReal}
    (hl : E l fl) (hr' : E r fr) (F : so.Idx → ℕ → EReal)
    (h : ∀ j k, fl (D.lhsIdx j k) * fr (D.rhsIdx j k) = F j (k ⟨0, by omega⟩).val) :
    E (FloatOps.matmul D prec l r (constant so .f32 0x00000000#32)) (fun j => ∑ k ∈ Finset.range n, F j k) := fun j => by
  rw [Ideal.matmul_constant_zero_apply]
  exact sumE_contr D n hr hs _ (F j) fun k => by rw [hl, hr', h]

end Cert.Lift
-- ==== Proof.OutProj.lean ====
/-
  The output projection, forward: the kernel's blocks of rows are the rows of the input plus the product.
-/
module

public import proofs.«01_k».proof.Defs
public import proofs.«01_k».proof.Proof.Ext
public import proofs.«01_k».proof.Proof.Gen.OutProjIdeal.Value
public import proofs.«01_k».proof.Proof.Gen.OutProjRefIdeal.Read

@[expose] public section

set_option maxRecDepth 16384

noncomputable section

namespace Cert.OutProjIdeal.Call

open Idealize.ShloMosaic Idealize.ShloMosaic.TcCoe Idealize.ShloMosaic.Tactic Idealize.SL.Sem
open Cert.OutProjIdeal Cert.OutProjIdeal.Gen Cert.Lift

variable {X Y W : ℕ → ℕ → EReal}

/-- The input plus the product. -/
def out (X Y W : ℕ → ℕ → EReal) (t n : ℕ) : EReal := X t n + ∑ k ∈ Finset.range 1024, Y t k * W k n

theorem pay {x : Vec Ideal S512x1024 .f32} {y : Vec Ideal S512x1024 .bf16} {w : Vec Ideal S1024x1024 .bf16}
    (hx : E x (TE X)) (hy : E y (TE Y)) (hw : E w (TE W)) : E (k0_pay1 (F := Ideal) x y w) (TE (out X Y W)) :=
  hx.addf (E.matmul 1024 rfl rfl none (hy.shapeCast_self _) (hw.shapeCast_self _) (fun j k => Y (j 0).val k * W k (j 1).val) (fun j k => rfl))

theorem hz : (![0, 0] : Fin 2 → Nat) = fun _ => 0 := funext fun a => by fin_cases a <;> rfl

theorem out_eq {F : FTy → Type} [FloatOps F] (x0 : Vec F S512x1024 .f32) (x1 : Vec F S512x1024 .bf16) (x2 : Vec F S1024x1024 .bf16) :
    out0_3 x0 x1 x2 = k0_pay1 x0 x1 x2 := by
  unfold out0_3
  rw [View.canon_unit_zero hz, View.ld_unit_zero (S := S512x1024) hz, View.ld_unit_zero (S := S512x1024) hz, View.ld_unit_zero (S := S1024x1024) hz]

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel

variable {m : (ℓ : Loc nD τ sig) → Buf (Elt Idealize.ShloMosaic.Ideal) ℓ} {c : Dev nD}

theorem V_v0 : V m c main_v0 = (truncf .bf16 (m (c, main_arg1) : FVec Ideal S16384x1024 .f32) bitsLt_bf16_f32 : FVec Ideal S16384x1024 .bf16) := by
  unfold V
  after_results
theorem V_v1 : V m c main_v1 = (truncf .bf16 (m (c, main_arg2) : FVec Ideal S1024x1024 .f32) bitsLt_bf16_f32 : FVec Ideal S1024x1024 .bf16) := by
  unfold V
  after_results

theorem blk0 (h : E (s := S16384x1024) (m (c, main_arg0)) (TE X)) (t : Fin cfg0.N) :
    E (s := S512x1024) (iblk m c 0 t) (TE fun r n => X (512 * t.val + r) n) := fun j => by
  obtain ⟨h0, h1⟩ := at0 t
  unfold iblk
  rw [View.read_apply]
  show V m c main_arg0 _ = _
  rw [V_main_arg0]
  refine (h _).trans (congrArg₂ X ?_ ?_)
  · show win0_0.index t 0 * 512 + 1 * (j 0).val = _
    rw [h0]; omega
  · show win0_0.index t 1 * 1024 + 1 * (j 1).val = _
    rw [h1]; omega

theorem blk1 (h : E (s := S16384x1024) (m (c, main_arg1)) (TE Y)) (t : Fin cfg0.N) :
    E (s := S512x1024) (iblk m c 1 t) (TE fun r n => Y (512 * t.val + r) n) := fun j => by
  obtain ⟨h0, h1⟩ := at1 t
  unfold iblk
  rw [View.read_apply]
  show V m c main_v0 _ = _
  rw [V_v0]
  refine (h _).trans (congrArg₂ Y ?_ ?_)
  · show win0_1.index t 0 * 512 + 1 * (j 0).val = _
    rw [h0]; omega
  · show win0_1.index t 1 * 1024 + 1 * (j 1).val = _
    rw [h1]; omega

theorem blk2 (h : E (s := S1024x1024) (m (c, main_arg2)) (TE W)) (t : Fin cfg0.N) :
    E (s := S1024x1024) (iblk m c 2 t) (TE W) := fun j => by
  obtain ⟨h0, h1⟩ := at2 t
  unfold iblk
  rw [View.read_apply]
  show V m c main_v1 _ = _
  rw [V_v1]
  refine (h _).trans (congrArg₂ W ?_ ?_)
  · show win0_2.index t 0 * 1024 + 1 * (j 0).val = _
    rw [h0]; omega
  · show win0_2.index t 1 * 1024 + 1 * (j 1).val = _
    rw [h1]; omega

/-- The array the call leaves. -/
theorem result (hx : E (s := S16384x1024) (m (c, main_arg0)) (TE X)) (hy : E (s := S16384x1024) (m (c, main_arg1)) (TE Y))
    (hw : E (s := S1024x1024) (m (c, main_arg2)) (TE W)) : E (s := S16384x1024) ((dats m 0 c).arrAt 3 cfg0.N) (TE (out X Y W)) := fun i => by
  have h0 : (i 0).val < 16384 := (i 0).isLt
  have h1 : (i 1).val < 1024 := (i 1).isLt
  have ht : (i 0).val / 512 < cfg0.N := lt_of_lt_of_eq (by omega) N_0.symm
  have e0 : win0_3.index ⟨(i 0).val / 512, ht⟩ 0 = (i 0).val / 512 := (at3 _).1
  have e1 : win0_3.index ⟨(i 0).val / 512, ht⟩ 1 = 0 := (at3 _).2
  have hb := congrFun (Value.blocks3 m c ⟨(i 0).val / 512, ht⟩ (flush0_3 _))
    (fun a => match a with | ⟨0, _⟩ => ⟨(i 0).val % 512, Nat.mod_lt _ (by norm_num)⟩ | ⟨1, _⟩ => ⟨(i 1).val, h1⟩)
  rw [View.read_apply, Value.flushed3, out_eq] at hb
  refine (congrArg _ ?_).trans (hb.trans ((pay (blk0 hx _) (blk1 hy _) (blk2 hw _) _).trans ?_))
  · funext a
    apply Fin.ext
    match a with
    | ⟨0, _⟩ => show (i 0).val = win0_3.index ⟨(i 0).val / 512, ht⟩ 0 * 512 + 1 * ((i 0).val % 512); rw [e0]; omega
    | ⟨1, _⟩ => show (i 1).val = win0_3.index ⟨(i 0).val / 512, ht⟩ 1 * 1024 + 1 * (i 1).val; rw [e1]; omega
  · show out (fun r n => X (512 * ((i 0).val / 512) + r) n) (fun r n => Y (512 * ((i 0).val / 512) + r) n) W ((i 0).val % 512) (i 1).val = out X Y W (i 0).val (i 1).val
    unfold out
    dsimp only
    rw [show 512 * ((i 0).val / 512) + (i 0).val % 512 = (i 0).val by omega]

end Cert.OutProjIdeal.Call

namespace Cert.OutProj

open Idealize.ShloMosaic Idealize.ShloMosaic.TcCoe Idealize.SL.Sem Cert.Lift

theorem reference : @quiescent_OutProjRefIdeal OutProjRefIdeal.Gen.facts := fun m ρ _ =>
  (θ_run OutProjRefIdeal.defs _ _).mono (fun r h => ⟨fun c => (h c).2, sem_eq_zero_of_no_sems (by decide) r.2⟩)
    (OutProjRefIdeal.Value.run (F := Ideal) m ρ)

theorem value : @algebraic_OutProjIdeal_OutProjRefIdeal OutProjIdeal.Gen.facts OutProjRefIdeal.Gen.facts := by
  intro m g m' g' hp hm
  refine ⟨fun c => (OutProjIdeal.Gen.dats m 0 c).arrAt 3 OutProjIdeal.cfg0.N, OutProjIdeal.Value.run_blocks m g,
    (θ_run _ _ _).mono (fun r h c => ?_) (OutProjRefIdeal.Value.run m' g')⟩
  obtain ⟨e0, e1, e2⟩ := hm c
  obtain ⟨r0, rest⟩ := h c
  refine ⟨r0.trans ?_, rest⟩
  rw [OutProjRefIdeal.Read.val_main_v1_eq, e0, e1, e2]
  funext i
  refine Eq.trans ?_ (OutProjIdeal.Call.result (tabE2_eq (by norm_num) (by norm_num) _) (tabE2_eq (by norm_num) (by norm_num) _)
    (tabE2_eq (by norm_num) (by norm_num) _) i).symm
  rw [OutProjRefIdeal.Read.val_main_v1_apply, OutProjRefIdeal.Read.val_main_v0_apply, Ideal.addf_def]
  refine congrArg₂ (· + ·) (tabE2_eq _ _ _ i) (sumE _ fun k => congrArg₂ (· * ·) (tabE2_eq _ _ _ _) (tabE2_eq _ _ _ _))

end Cert.OutProj
-- ==== Proof.OutProjBwd.lean ====
/-
  The output projection, backward: the kernel's blocks of rows are the rows of the incoming gradient times the
  transposed weight.
-/
module

public import proofs.«01_k».proof.Proof.OutProj
public import proofs.«01_k».proof.Proof.Gen.OutProjBwdIdeal.Value
public import proofs.«01_k».proof.Proof.Gen.OutProjBwdRefIdeal.Read

@[expose] public section

set_option maxRecDepth 16384

noncomputable section

namespace Cert.OutProjBwdIdeal.Call

open Idealize.ShloMosaic Idealize.ShloMosaic.TcCoe Idealize.ShloMosaic.Tactic Idealize.SL.Sem
open Cert.OutProjBwdIdeal Cert.OutProjBwdIdeal.Gen Cert.Lift

variable {X W : ℕ → ℕ → EReal}

/-- The product with the transposed weight. -/
def out (X W : ℕ → ℕ → EReal) (t n : ℕ) : EReal := ∑ k ∈ Finset.range 1024, X t k * W n k

theorem pay {x : Vec Ideal S512x1024 .f32} {w : Vec Ideal S1024x1024 .bf16} (hx : E x (TE X)) (hw : E w (TE W)) :
    E (k0_pay1 (F := Ideal) x w) (TE (out X W)) :=
  E.matmul 1024 rfl rfl none (hx.truncf bitsLt_bf16_f32) (hw.shapeCast_self _) (fun j k => X (j 0).val k * W (j 1).val k) (fun j k => rfl)

theorem hz : (![0, 0] : Fin 2 → Nat) = fun _ => 0 := funext fun a => by fin_cases a <;> rfl

theorem out_eq {F : FTy → Type} [FloatOps F] (x0 : Vec F S512x1024 .f32) (x1 : Vec F S1024x1024 .bf16) :
    out0_2 x0 x1 = k0_pay1 x0 x1 := by
  unfold out0_2
  rw [View.canon_unit_zero hz, View.ld_unit_zero (S := S512x1024) hz, View.ld_unit_zero (S := S1024x1024) hz]

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val ∧ win0_2.index t 1 = 0 := by decide +kernel

variable {m : (ℓ : Loc nD τ sig) → Buf (Elt Idealize.ShloMosaic.Ideal) ℓ} {c : Dev nD}

theorem V_v0 : V m c main_v0 = (truncf .bf16 (m (c, main_arg1) : FVec Ideal S1024x1024 .f32) bitsLt_bf16_f32 : FVec Ideal S1024x1024 .bf16) := by
  unfold V
  after_results

theorem blk0 (h : E (s := S16384x1024) (m (c, main_arg0)) (TE X)) (t : Fin cfg0.N) :
    E (s := S512x1024) (iblk m c 0 t) (TE fun r n => X (512 * t.val + r) n) := fun j => by
  obtain ⟨h0, h1⟩ := at0 t
  unfold iblk
  rw [View.read_apply]
  show V m c main_arg0 _ = _
  rw [V_main_arg0]
  refine (h _).trans (congrArg₂ X ?_ ?_)
  · show win0_0.index t 0 * 512 + 1 * (j 0).val = _
    rw [h0]; omega
  · show win0_0.index t 1 * 1024 + 1 * (j 1).val = _
    rw [h1]; omega

theorem blk1 (h : E (s := S1024x1024) (m (c, main_arg1)) (TE W)) (t : Fin cfg0.N) :
    E (s := S1024x1024) (iblk m c 1 t) (TE W) := fun j => by
  obtain ⟨h0, h1⟩ := at1 t
  unfold iblk
  rw [View.read_apply]
  show V m c main_v0 _ = _
  rw [V_v0]
  refine (h _).trans (congrArg₂ W ?_ ?_)
  · show win0_1.index t 0 * 1024 + 1 * (j 0).val = _
    rw [h0]; omega
  · show win0_1.index t 1 * 1024 + 1 * (j 1).val = _
    rw [h1]; omega

/-- The array the call leaves. -/
theorem result (hx : E (s := S16384x1024) (m (c, main_arg0)) (TE X)) (hw : E (s := S1024x1024) (m (c, main_arg1)) (TE W)) :
    E (s := S16384x1024) ((dats m 0 c).arrAt 2 cfg0.N) (TE (out X W)) := fun i => by
  have h0 : (i 0).val < 16384 := (i 0).isLt
  have h1 : (i 1).val < 1024 := (i 1).isLt
  have ht : (i 0).val / 512 < cfg0.N := lt_of_lt_of_eq (by omega) N_0.symm
  have e0 : win0_2.index ⟨(i 0).val / 512, ht⟩ 0 = (i 0).val / 512 := (at2 _).1
  have e1 : win0_2.index ⟨(i 0).val / 512, ht⟩ 1 = 0 := (at2 _).2
  have hb := congrFun (Value.blocks2 m c ⟨(i 0).val / 512, ht⟩ (flush0_2 _))
    (fun a => match a with | ⟨0, _⟩ => ⟨(i 0).val % 512, Nat.mod_lt _ (by norm_num)⟩ | ⟨1, _⟩ => ⟨(i 1).val, h1⟩)
  rw [View.read_apply, Value.flushed2, out_eq] at hb
  refine (congrArg _ ?_).trans (hb.trans ((pay (blk0 hx _) (blk1 hw _) _).trans ?_))
  · funext a
    apply Fin.ext
    match a with
    | ⟨0, _⟩ => show (i 0).val = win0_2.index ⟨(i 0).val / 512, ht⟩ 0 * 512 + 1 * ((i 0).val % 512); rw [e0]; omega
    | ⟨1, _⟩ => show (i 1).val = win0_2.index ⟨(i 0).val / 512, ht⟩ 1 * 1024 + 1 * (i 1).val; rw [e1]; omega
  · show out (fun r n => X (512 * ((i 0).val / 512) + r) n) W ((i 0).val % 512) (i 1).val = out X W (i 0).val (i 1).val
    unfold out
    dsimp only
    rw [show 512 * ((i 0).val / 512) + (i 0).val % 512 = (i 0).val by omega]

end Cert.OutProjBwdIdeal.Call

namespace Cert.OutProjBwd

open Idealize.ShloMosaic Idealize.ShloMosaic.TcCoe Idealize.SL.Sem Cert.Lift

theorem reference : @quiescent_OutProjBwdRefIdeal OutProjBwdRefIdeal.Gen.facts := fun m ρ _ =>
  (θ_run OutProjBwdRefIdeal.defs _ _).mono (fun r h => ⟨fun c => (h c).2, sem_eq_zero_of_no_sems (by decide) r.2⟩)
    (OutProjBwdRefIdeal.Value.run (F := Ideal) m ρ)

theorem value : @algebraic_OutProjBwdIdeal_OutProjBwdRefIdeal OutProjBwdIdeal.Gen.facts OutProjBwdRefIdeal.Gen.facts := by
  intro m g m' g' hp hm
  refine ⟨fun c => (OutProjBwdIdeal.Gen.dats m 0 c).arrAt 2 OutProjBwdIdeal.cfg0.N, OutProjBwdIdeal.Value.run_blocks m g,
    (θ_run _ _ _).mono (fun r h c => ?_) (OutProjBwdRefIdeal.Value.run m' g')⟩
  obtain ⟨e0, e1⟩ := hm c
  obtain ⟨r0, rest⟩ := h c
  refine ⟨r0.trans ?_, rest⟩
  rw [OutProjBwdRefIdeal.Read.val_main_v2_eq, e0, e1]
  funext i
  refine Eq.trans ?_ (OutProjBwdIdeal.Call.result (tabE2_eq (by norm_num) (by norm_num) _) (tabE2_eq (by norm_num) (by norm_num) _) i).symm
  rw [OutProjBwdRefIdeal.Read.val_main_v2_apply]
  exact sumE _ fun k => congrArg₂ (· * ·) (tabE2_eq _ _ _ _) (tabE2_eq _ _ _ _)

end Cert.OutProjBwd
-- ==== Proof.InProj.lean ====
/-
  The input projection, forward: the kernel's blocks of rows are the normalised rows and their product with the
  weight.
-/
module

public import proofs.«01_k».proof.Proof.OutProjBwd
public import proofs.«01_k».proof.Proof.Gen.InProjIdeal.Value
public import proofs.«01_k».proof.Proof.Gen.InProjRefIdeal.Read

@[expose] public section

set_option maxRecDepth 16384

noncomputable section

namespace Cert.InProjIdeal.Call

open Idealize.ShloMosaic Idealize.ShloMosaic.TcCoe Idealize.ShloMosaic.Tactic Idealize.SL.Sem
open Cert.InProjIdeal Cert.InProjIdeal.Gen Cert.Lift

variable {X W : ℕ → ℕ → EReal} {n : ℕ → EReal}

/-- The factor a row is normalised by. -/
def rs (X : ℕ → ℕ → EReal) (t : ℕ) : EReal :=
  Ideal.rsqrt (Ideal.div (∑ k ∈ Finset.range 1024, X t k * X t k) (Ideal.ofBits .f32 0x44800000#32) + Ideal.ofBits .f32 0x358637BD#32)

/-- The normalised rows. -/
def norm (X : ℕ → ℕ → EReal) (n : ℕ → EReal) (t d : ℕ) : EReal := X t d * rs X t * n d

/-- Their product with the weight. -/
def proj (X : ℕ → ℕ → EReal) (n : ℕ → EReal) (W : ℕ → ℕ → EReal) (t j : ℕ) : EReal :=
  ∑ k ∈ Finset.range 1024, norm X n t k * W k j

theorem pay1 {x : Vec Ideal S512x1024 .f32} {y : Vec Ideal S1x1024 .f32} (hx : E x (TE X)) (hy : E y (TE fun _ d => n d)) :
    E (k0_pay1 (F := Ideal) x y) (TE (norm X n)) := by
  have h10 := ((E.divf (φ := .f32) (((hx.mulf hx).sum (0x00000000#32) reduces_S512x1024_S512 (.inl rfl) rfl
    (fun j k => X (j 0).val k * X (j 0).val k) (fun j k => rfl)).shapeCast
    shapeCasts_S512_S512x1 (fun j => fun a => match a with | ⟨0, _⟩ => ⟨(j 0).val, (j 0).isLt⟩) (fun j => by
      rw [Shape.rowMajor_val_one, Shape.rowMajor_val_two]
      have h1 : (j 1).val < 1 := (j 1).isLt
      show (j 0).val = (j 0).val * 1 + (j 1).val
      omega)) (E.const (Ideal.ofBits .f32 0x44800000#32))).addf (E.const (Ideal.ofBits .f32 0x358637BD#32))).rsqrt
  refine (E.mulf (φ := .f32) (E.mulf (φ := .f32) hx (h10.broadcastTo broadcasts_S512x1_S512x1024
    (fun j => fun a => match a with | ⟨0, _⟩ => ⟨(j 0).val, (j 0).isLt⟩ | ⟨1, _⟩ => ⟨0, Nat.one_pos⟩)
    (fun j a => match a with
      | ⟨0, _⟩ => by show (j 0).val = if (512 : Nat) = 1 then 0 else (j 0).val; rw [if_neg (by decide)]
      | ⟨1, _⟩ => by show 0 = if (1 : Nat) = 1 then 0 else (j 1).val; rw [if_pos rfl])))
    ((hy.shapeCast_self shapeCasts_S1x1024_S1x1024).broadcastTo broadcasts_S1x1024_S512x1024
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)]))).congr fun j => rfl

theorem pay2 {x : Vec Ideal S512x1024 .f32} {y : Vec Ideal S1x1024 .f32} {w : Vec Ideal S3840x1024 .bf16} (hx : E x (TE X))
    (hy : E y (TE fun _ d => n d)) (hw : E w (TE fun j k => W k j)) : E (k0_pay2 (F := Ideal) x y w) (TE (proj X n W)) :=
  E.matmul 1024 rfl rfl none (pay1 hx hy) (hw.shapeCast_self _) (fun j k => norm X n (j 0).val k * W k (j 1).val) (fun j k => rfl)

theorem hz : (![0, 0] : Fin 2 → Nat) = fun _ => 0 := funext fun a => by fin_cases a <;> rfl

theorem out3_eq {F : FTy → Type} [FloatOps F] (x0 : Vec F S512x1024 .f32) (x1 : Vec F S1x1024 .f32) (x2 : Vec F S3840x1024 .bf16) :
    out0_3 x0 x1 x2 = k0_pay2 x0 x1 x2 := by
  unfold out0_3
  rw [View.canon_unit_zero hz, View.ld_unit_zero (S := S512x1024) hz, View.ld_unit_zero (S := S1x1024) hz, View.ld_unit_zero (S := S3840x1024) hz]

theorem out4_eq {F : FTy → Type} [FloatOps F] (x0 : Vec F S512x1024 .f32) (x1 : Vec F S1x1024 .f32) (x2 : Vec F S3840x1024 .bf16) :
    out0_4 x0 x1 x2 = k0_pay1 x0 x1 := by
  unfold out0_4
  rw [View.canon_unit_zero hz, View.ld_unit_zero (S := S512x1024) hz, View.ld_unit_zero (S := S1x1024) hz]

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel

variable {m : (ℓ : Loc nD τ sig) → Buf (Elt Idealize.ShloMosaic.Ideal) ℓ} {c : Dev nD}

theorem V_v0 : V m c main_v0 = (broadcastInDim S1x1024 ![1] bcast_S1024_S1x1024_1 (m (c, main_arg1) : FVec Ideal S1024 .f32) : FVec Ideal S1x1024 .f32) := by
  unfold V
  after_results
theorem V_v2 : V m c main_v2 = (truncf .bf16 (transpose S3840x1024 [1, 0] (m (c, main_arg2) : FVec Ideal S1024x3840 .f32) transposes_S1024x3840_S3840x1024_1_0 : FVec Ideal S3840x1024 .f32) bitsLt_bf16_f32 : FVec Ideal S3840x1024 .bf16) := by
  unfold V
  after_results

theorem blk0 (h : E (s := S16384x1024) (m (c, main_arg0)) (TE X)) (t : Fin cfg0.N) :
    E (s := S512x1024) (iblk m c 0 t) (TE fun r n => X (512 * t.val + r) n) := fun j => by
  obtain ⟨h0, h1⟩ := at0 t
  unfold iblk
  rw [View.read_apply]
  show V m c main_arg0 _ = _
  rw [V_main_arg0]
  refine (h _).trans (congrArg₂ X ?_ ?_)
  · show win0_0.index t 0 * 512 + 1 * (j 0).val = _
    rw [h0]; omega
  · show win0_0.index t 1 * 1024 + 1 * (j 1).val = _
    rw [h1]; omega

theorem blk1 (h : E (s := S1024) (m (c, main_arg1)) (fun i => n (i 0).val)) (t : Fin cfg0.N) :
    E (s := S1x1024) (iblk m c 1 t) (TE fun _ d => n d) := fun j => by
  obtain ⟨h0, h1⟩ := at1 t
  unfold iblk
  rw [View.read_apply]
  show V m c main_v0 _ = _
  rw [V_v0]
  refine (h _).trans (congrArg n ?_)
  show win0_1.index t 1 * 1024 + 1 * (j 1).val = _
  rw [h1]; omega

theorem blk2 (h : E (s := S1024x3840) (m (c, main_arg2)) (TE W)) (t : Fin cfg0.N) :
    E (s := S3840x1024) (iblk m c 2 t) (TE fun j k => W k j) := fun j => by
  obtain ⟨h0, h1⟩ := at2 t
  unfold iblk
  rw [View.read_apply]
  show V m c main_v2 _ = _
  rw [V_v2]
  refine (h _).trans (congrArg₂ W ?_ ?_)
  · show win0_2.index t 1 * 1024 + 1 * (j 1).val = _
    rw [h1]; omega
  · show win0_2.index t 0 * 3840 + 1 * (j 0).val = _
    rw [h0]; omega

variable (hx : E (s := S16384x1024) (m (c, main_arg0)) (TE X)) (hn : E (s := S1024) (m (c, main_arg1)) (fun i => n (i 0).val))
include hx hn

/-- The first array the call leaves. -/
theorem result3 (hw : E (s := S1024x3840) (m (c, main_arg2)) (TE W)) :
    E (s := S16384x3840) ((dats m 0 c).arrAt 3 cfg0.N) (TE (proj X n W)) := fun i => by
  have h0 : (i 0).val < 16384 := (i 0).isLt
  have h1 : (i 1).val < 3840 := (i 1).isLt
  have ht : (i 0).val / 512 < cfg0.N := lt_of_lt_of_eq (by omega) N_0.symm
  have e0 : win0_3.index ⟨(i 0).val / 512, ht⟩ 0 = (i 0).val / 512 := (at3 _).1
  have e1 : win0_3.index ⟨(i 0).val / 512, ht⟩ 1 = 0 := (at3 _).2
  have hb := congrFun (Value.blocks3 m c ⟨(i 0).val / 512, ht⟩ (flush0_3 _))
    (fun a => match a with | ⟨0, _⟩ => ⟨(i 0).val % 512, Nat.mod_lt _ (by norm_num)⟩ | ⟨1, _⟩ => ⟨(i 1).val, h1⟩)
  rw [View.read_apply, Value.flushed3, out3_eq] at hb
  refine (congrArg _ ?_).trans (hb.trans ((pay2 (blk0 hx _) (blk1 hn _) (blk2 hw _) _).trans ?_))
  · funext a
    apply Fin.ext
    match a with
    | ⟨0, _⟩ => show (i 0).val = win0_3.index ⟨(i 0).val / 512, ht⟩ 0 * 512 + 1 * ((i 0).val % 512); rw [e0]; omega
    | ⟨1, _⟩ => show (i 1).val = win0_3.index ⟨(i 0).val / 512, ht⟩ 1 * 3840 + 1 * (i 1).val; rw [e1]; omega
  · show proj (fun r n => X (512 * ((i 0).val / 512) + r) n) n W ((i 0).val % 512) (i 1).val = proj X n W (i 0).val (i 1).val
    unfold proj norm rs
    dsimp only
    rw [show 512 * ((i 0).val / 512) + (i 0).val % 512 = (i 0).val by omega]

/-- The second array the call leaves. -/
theorem result4 : E (s := S16384x1024) ((dats m 0 c).arrAt 4 cfg0.N) (TE (norm X n)) := fun i => by
  have h0 : (i 0).val < 16384 := (i 0).isLt
  have h1 : (i 1).val < 1024 := (i 1).isLt
  have ht : (i 0).val / 512 < cfg0.N := lt_of_lt_of_eq (by omega) N_0.symm
  have e0 : win0_4.index ⟨(i 0).val / 512, ht⟩ 0 = (i 0).val / 512 := (at4 _).1
  have e1 : win0_4.index ⟨(i 0).val / 512, ht⟩ 1 = 0 := (at4 _).2
  have hb := congrFun (Value.blocks4 m c ⟨(i 0).val / 512, ht⟩ (flush0_4 _))
    (fun a => match a with | ⟨0, _⟩ => ⟨(i 0).val % 512, Nat.mod_lt _ (by norm_num)⟩ | ⟨1, _⟩ => ⟨(i 1).val, h1⟩)
  rw [View.read_apply, Value.flushed4, out4_eq] at hb
  refine (congrArg _ ?_).trans (hb.trans ((pay1 (blk0 hx _) (blk1 hn _) _).trans ?_))
  · funext a
    apply Fin.ext
    match a with
    | ⟨0, _⟩ => show (i 0).val = win0_4.index ⟨(i 0).val / 512, ht⟩ 0 * 512 + 1 * ((i 0).val % 512); rw [e0]; omega
    | ⟨1, _⟩ => show (i 1).val = win0_4.index ⟨(i 0).val / 512, ht⟩ 1 * 1024 + 1 * (i 1).val; rw [e1]; omega
  · show norm (fun r n => X (512 * ((i 0).val / 512) + r) n) n ((i 0).val % 512) (i 1).val = norm X n (i 0).val (i 1).val
    unfold norm rs
    dsimp only
    rw [show 512 * ((i 0).val / 512) + (i 0).val % 512 = (i 0).val by omega]

end Cert.InProjIdeal.Call

namespace Cert.InProj

open Idealize.ShloMosaic Idealize.ShloMosaic.TcCoe Idealize.SL.Sem Cert.Lift
open InProjIdeal.Call InProjRefIdeal.Read

theorem reference : @quiescent_InProjRefIdeal InProjRefIdeal.Gen.facts := fun m ρ _ =>
  (θ_run InProjRefIdeal.defs _ _).mono (fun r h => ⟨fun c => (h c).2.2, sem_eq_zero_of_no_sems (by decide) r.2⟩)
    (InProjRefIdeal.Value.run (F := Ideal) m ρ)

variable {X W : ℕ → ℕ → EReal} {n : ℕ → EReal}
  {x0 : (⟨InProjRefIdeal.S16384x1024, .f32⟩ : BufTy).Contents (Elt Ideal)} {x1 : (⟨InProjRefIdeal.S1024, .f32⟩ : BufTy).Contents (Elt Ideal)}

/-- The reference's normalising factors. -/
theorem factor (h0 : E x0 (TE X)) (i : InProjRefIdeal.S16384x1.Idx) : val_main_v7 (F := Ideal) x0 i = rs X (i 0).val := by
  rw [val_main_v7_apply, val_main_v6_apply, val_main_v4_apply, val_main_v2_apply, val_main_v1_apply, Ideal.hostUnary_rsqrt_def,
    Ideal.addf_def, Ideal.hostDivf_def, sumE (fun k => X (i 0).val k * X (i 0).val k)
      (fun k => by rw [val_main_v0_apply, Ideal.mulf_def, h0]),
    show (val_main_cst (F := Ideal)) (Shape.Idx.first InProjRefIdeal.Gen.h_S_) = ((0 : ℝ) : EReal) from ofBits_zero, EReal.coe_zero, zero_add]
  rfl

theorem normed (h0 : E x0 (TE X)) (h1 : E x1 (fun i => n (i 0).val)) (i : InProjRefIdeal.S16384x1024.Idx) :
    val_main_v12 (F := Ideal) x0 x1 i = norm X n (i 0).val (i 1).val := by
  rw [val_main_v12_apply, val_main_v9_apply, val_main_v8_apply, factor h0, val_main_v11_apply, val_main_v10_apply, h0, h1]
  rfl

theorem value : @algebraic_InProjIdeal_InProjRefIdeal InProjIdeal.Gen.facts InProjRefIdeal.Gen.facts := by
  intro m g m' g' hp hm
  refine ⟨fun c => (InProjIdeal.Gen.dats m 0 c).arrAt 3 InProjIdeal.cfg0.N, fun c => (InProjIdeal.Gen.dats m 0 c).arrAt 4 InProjIdeal.cfg0.N,
    InProjIdeal.Value.run_blocks m g, (θ_run _ _ _).mono (fun r h c => ?_) (InProjRefIdeal.Value.run m' g')⟩
  obtain ⟨e0, e1, e2⟩ := hm c
  obtain ⟨r0, r1, rest⟩ := h c
  refine ⟨r0.trans ?_, r1.trans ?_, rest⟩
  · rw [val_main_v13_eq, e0, e1, e2]
    funext i
    refine Eq.trans ?_ (result3 (tabE2_eq (by norm_num) (by norm_num) _) (tabE1_eq (by norm_num) _) (tabE2_eq (by norm_num) (by norm_num) _) i).symm
    rw [val_main_v13_apply]
    exact sumE _ fun k => congrArg₂ (· * ·) (normed (tabE2_eq _ _ _) (tabE1_eq _ _) _) (tabE2_eq _ _ _ _)
  · rw [val_main_v14_eq, e0, e1]
    funext i
    exact (normed (tabE2_eq (by norm_num) (by norm_num) _) (tabE1_eq (by norm_num) _) i).trans
      (result4 (tabE2_eq (by norm_num) (by norm_num) _) (tabE1_eq (by norm_num) _) i).symm

end Cert.InProj
-- ==== Proof.InProjDw.lean ====
/-
  The input projection, backward, weight: the kernel adds up, over 32 blocks of 512 tokens, the products of the
  transposed gradient with the normalised rows; the output is updated in ten blocks of rows.
-/
module

public import proofs.«01_k».proof.Proof.InProj
public import proofs.«01_k».proof.Proof.Gen.InProjDwIdeal.Value
public import proofs.«01_k».proof.Proof.Gen.InProjDwRefIdeal.Read
public import Idealize.ShloMosaic.Lib.Pipeline.ReadBack

@[expose] public section

set_option maxRecDepth 16384

noncomputable section

namespace Cert.InProjDwIdeal.Call

open Idealize.ShloMosaic Idealize.ShloMosaic.TcCoe Idealize.ShloMosaic.Tactic Idealize.SL.Sem
open Cert.InProjDwIdeal Cert.InProjDwIdeal.Gen Cert.Lift

theorem hz : (![0, 0] : Fin 2 → Nat) = fun _ => 0 := funext fun a => by fin_cases a <;> rfl

section Pieces

variable {F : FTy → Type} [FloatOps F]

/-- One grid point's ten updates of the output, the last one first: `z` is what the output held. -/
def tens (x0 : Vec F S512x3840 .bf16) (x1 : Vec F S512x1024 .bf16) (z : Vec F S3840x1024 .f32) : List (View.Piece (Elt F) S3840x1024 .f32) :=
  [⟨Rect.unit ![3456, 0] S384x1024.size inb_S3840x1024_S384x1024_3456_0, k0_pay3 (k0_pay5 x1)
      (View.ld z (Rect.unit ![3456, 0] S384x1024.size inb_S3840x1024_S384x1024_3456_0)) (View.ld x0 (Rect.unit ![0, 3456] S512x384.size inb_S512x3840_S512x384_0_3456))⟩,
   ⟨Rect.unit ![3072, 0] S384x1024.size inb_S3840x1024_S384x1024_3072_0, k0_pay2 (k0_pay5 x1)
      (View.ld z (Rect.unit ![3072, 0] S384x1024.size inb_S3840x1024_S384x1024_3072_0)) (View.ld x0 (Rect.unit ![0, 3072] S512x384.size inb_S512x3840_S512x384_0_3072))⟩,
   ⟨Rect.unit ![2688, 0] S384x1024.size inb_S3840x1024_S384x1024_2688_0, k0_pay1 (k0_pay5 x1) (k0_pay14
      (View.ld z (Rect.unit ![2688, 0] S384x1024.size inb_S3840x1024_S384x1024_2688_0))) (View.ld x0 (Rect.unit ![0, 2688] S512x384.size inb_S512x3840_S512x384_0_2688))⟩,
   ⟨Rect.unit ![2304, 0] S384x1024.size inb_S3840x1024_S384x1024_2304_0, k0_pay13 (k0_pay5 x1)
      (View.ld z (Rect.unit ![2304, 0] S384x1024.size inb_S3840x1024_S384x1024_2304_0)) (View.ld x0 (Rect.unit ![0, 2304] S512x384.size inb_S512x3840_S512x384_0_2304))⟩,
   ⟨Rect.unit ![1920, 0] S384x1024.size inb_S3840x1024_S384x1024_1920_0, k0_pay12 (k0_pay5 x1)
      (View.ld z (Rect.unit ![1920, 0] S384x1024.size inb_S3840x1024_S384x1024_1920_0)) (View.ld x0 (Rect.unit ![0, 1920] S512x384.size inb_S512x3840_S512x384_0_1920))⟩,
   ⟨Rect.unit ![1536, 0] S384x1024.size inb_S3840x1024_S384x1024_1536_0, k0_pay11 (k0_pay5 x1)
      (View.ld z (Rect.unit ![1536, 0] S384x1024.size inb_S3840x1024_S384x1024_1536_0)) (View.ld x0 (Rect.unit ![0, 1536] S512x384.size inb_S512x3840_S512x384_0_1536))⟩,
   ⟨Rect.unit ![1152, 0] S384x1024.size inb_S3840x1024_S384x1024_1152_0, k0_pay10 (k0_pay5 x1) (k0_pay9
      (View.ld z (Rect.unit ![1152, 0] S384x1024.size inb_S3840x1024_S384x1024_1152_0))) (View.ld x0 (Rect.unit ![0, 1152] S512x384.size inb_S512x3840_S512x384_0_1152))⟩,
   ⟨Rect.unit ![768, 0] S384x1024.size inb_S3840x1024_S384x1024_768_0, k0_pay8 x1
      (View.ld z (Rect.unit ![768, 0] S384x1024.size inb_S3840x1024_S384x1024_768_0)) (View.ld x0 (Rect.unit ![0, 768] S512x384.size inb_S512x3840_S512x384_0_768))⟩,
   ⟨Rect.unit ![384, 0] S384x1024.size inb_S3840x1024_S384x1024_384_0, k0_pay7 x1
      (View.ld z (Rect.unit ![384, 0] S384x1024.size inb_S3840x1024_S384x1024_384_0)) (View.ld x0 (Rect.unit ![0, 384] S512x384.size inb_S512x3840_S512x384_0_384))⟩,
   ⟨Rect.unit ![0, 0] S384x1024.size inb_S3840x1024_S384x1024_0_0, k0_pay6 x1
      (View.ld z (Rect.unit ![0, 0] S384x1024.size inb_S3840x1024_S384x1024_0_0)) (View.ld x0 (Rect.unit ![0, 0] S512x384.size inb_S512x3840_S512x384_0_0))⟩]

theorem tens_cover (x0 : Vec F S512x3840 .bf16) (x1 : Vec F S512x1024 .bf16) (z : Vec F S3840x1024 .f32) (y : S3840x1024.Idx) :
    ∃ p ∈ tens x0 x1 z, y ∈ p.1.set := View.cover_of_tiledL (tens x0 x1 z) S384x1024.size (by sl_kernel_rfl) y

variable (c : Dev nD) (i : grid0.Coords) (arg1 : Memref sig .tc .vmem S512x3840 .bf16) (harg1 : arg1.IsWhole) (arg2 : Memref sig .tc .vmem S512x1024 .bf16) (harg2 : arg2.IsWhole) (arg3 : Memref sig .tc .vmem S3840x1024 .f32) (harg3 : arg3.IsWhole)
    (x0 : Vec F S512x3840 .bf16) (x1 : Vec F S512x1024 .bf16) (z : Vec F S3840x1024 .f32)

theorem outA (hc0 : cond0_0 i) : out0_A_2 c i arg1 harg1 arg2 harg2 arg3 harg3 hc0 x0 x1
    = View.canon (tens x0 x1 k0_pay4 ++ [⟨Rect.unit ![0, 0] S3840x1024.size inb_S3840x1024_S3840x1024_0_0, k0_pay4⟩]) := by
  unfold out0_A_2
  rw [View.read_writes_eq_canon _ _ _ (cover0_A_2 c i arg1 harg1 arg2 harg2 arg3 harg3 hc0 x0 x1)]
  unfold kernelRun0_A
  dsimp only
  sl_unfold_words
  simp (disch := first | decide | exact fun a => congrFun hz a) only [View.readAt_eq_ld, harg1.read_unread, harg2.read_unread, harg3.read_unread, ↓View.readCov_skip, ↓View.readCov_fill,
    View.ld_unit_zero (S := S512x1024) hz]
  rfl

theorem outB (hc0 : ¬cond0_0 i) : out0_B_2 c i arg1 harg1 arg2 harg2 arg3 harg3 hc0 x0 x1 z = View.canon (tens x0 x1 z ++ []) := by
  unfold out0_B_2
  rw [View.read_writes_eq_canon _ _ _ (cover0_B_2 c i arg1 harg1 arg2 harg2 arg3 harg3 hc0 x0 x1 z)]
  unfold kernelRun0_B
  dsimp only
  sl_unfold_words
  simp only [View.readAt_eq_ld, harg1.read_unread, harg2.read_unread, harg3.read_unread, View.ld_unit_zero (S := S512x1024) hz]
  rfl

end Pieces

variable {P H Z : ℕ → ℕ → EReal}

/-- What one block of tokens adds to the output. -/
def part (P H : ℕ → ℕ → EReal) (b j n : ℕ) : EReal := ∑ r ∈ Finset.range 512, P (512 * b + r) j * H (512 * b + r) n

section Step

variable {x0 : Vec Ideal S512x3840 .bf16} {x1 : Vec Ideal S512x1024 .bf16} {z : Vec Ideal S3840x1024 .f32} {b : ℕ}
  (h0 : E x0 (TE fun r j => P (512 * b + r) j)) (h1 : E x1 (TE fun r n => H (512 * b + r) n)) (hzz : E z (TE Z))
include h0 h1 hzz

/-- One update: the block of rows from `o` on. -/
theorem chunk (o : ℕ) (inb : ∀ a, (![o, 0] : Fin 2 → ℕ) a + S384x1024.size a ≤ S3840x1024.size a)
    (inb' : ∀ a, (![0, o] : Fin 2 → ℕ) a + S512x384.size a ≤ S512x3840.size a)
    (pay : Vec Ideal S384x1024 .f32) (x : (Rect.unit (s := S3840x1024) ![o, 0] S384x1024.size inb).shape.Idx) (hpay : pay =
    k0_pay6 (F := Ideal) x1 (View.ld z (Rect.unit ![o, 0] S384x1024.size inb)) (View.ld x0 (Rect.unit ![0, o] S512x384.size inb'))) : pay x
      = TE (a := 3840) (b := 1024) (fun j n => Z j n + part P H b j n) ((Rect.unit (s := S3840x1024) ![o, 0] S384x1024.size inb).emb x) := by
  have e0 : E (s := S512x384) (View.ld x0 (Rect.unit ![0, o] S512x384.size inb')) (TE fun r j => P (512 * b + r) (o + j)) := fun k => by
    refine (h0 _).trans (congrArg₂ P ?_ ?_)
    · show 512 * b + (0 + 1 * (k 0).val) = 512 * b + (k 0).val
      omega
    · show o + 1 * (k 1).val = o + (k 1).val
      omega
  have ez : E (s := S384x1024) (View.ld z (Rect.unit ![o, 0] S384x1024.size inb)) (TE fun j n => Z (o + j) n) := fun k => by
    refine (hzz _).trans (congrArg₂ Z ?_ ?_)
    · show o + 1 * (k 0).val = o + (k 0).val
      omega
    · show 0 + 1 * (k 1).val = (k 1).val
      omega
  have hm := E.matmul (D := dot_S512x384_S512x1024_S384x1024_0_0_1_1_n_n) (φ₁ := .bf16) (φ₂ := .bf16) 512 rfl rfl none (e0.shapeCast_self shapeCasts_S512x384_S512x384)
    (h1.shapeCast_self shapeCasts_S512x1024_S512x1024)
    (fun j r => P (512 * b + r) (o + (j 0).val) * H (512 * b + r) (j 1).val) (fun j k => rfl)
  rw [hpay]
  refine ((E.addf (φ := .f32) (ez.shapeCast_self shapeCasts_S384x1024_S384x1024) hm) x).trans ?_
  have a0 : (((Rect.unit (s := S3840x1024) ![o, 0] S384x1024.size inb).emb x) 0).val = o + (x 0).val := by
    show o + 1 * (x 0).val = _
    omega
  have a1 : (((Rect.unit (s := S3840x1024) ![o, 0] S384x1024.size inb).emb x) 1).val = (x 1).val := by
    show 0 + 1 * (x 1).val = _
    omega
  show _ = Z _ _ + part P H b _ _
  rw [a0, a1]
  rfl

theorem tens_eq (L : List (View.Piece (Elt Ideal) S3840x1024 .f32)) :
    E (s := S3840x1024) (View.canon (tens x0 x1 z ++ L)) (TE fun j n => Z j n + part P H b j n) := fun y => by
  refine View.canon_append_of_piecesOf (Val := Elt Ideal) (e := .f32) (TE (a := 3840) (b := 1024) fun j n => Z j n + part P H b j n) L
    (tens x0 x1 z) ⟨?_, ?_, ?_, ?_, ?_, ?_, ?_, ?_, ?_, ?_, trivial⟩ y (tens_cover x0 x1 z y)
  all_goals exact fun x => chunk h0 h1 hzz _ _ _ _ x rfl

end Step

theorem pay4 : E (s := S3840x1024) (k0_pay4 (F := Ideal)) (TE fun _ _ => 0) := fun _ => ofBits_zero.trans EReal.coe_zero

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel

variable {m : (ℓ : Loc nD τ sig) → Buf (Elt Idealize.ShloMosaic.Ideal) ℓ} {c : Dev nD}

theorem V_v0 : V m c main_v0 = (truncf .bf16 (m (c, main_arg0) : FVec Ideal S16384x3840 .f32) bitsLt_bf16_f32 : FVec Ideal S16384x3840 .bf16) := by
  unfold V
  after_results
theorem V_v1 : V m c main_v1 = (truncf .bf16 (m (c, main_arg1) : FVec Ideal S16384x1024 .f32) bitsLt_bf16_f32 : FVec Ideal S16384x1024 .bf16) := by
  unfold V
  after_results

theorem blk0 (h : E (s := S16384x3840) (m (c, main_arg0)) (TE P)) (t : Fin cfg0.N) :
    E (s := S512x3840) (iblk m c 0 t) (TE fun r n => P (512 * t.val + r) n) := fun j => by
  obtain ⟨h0, h1⟩ := at0 t
  unfold iblk
  rw [View.read_apply]
  show V m c main_v0 _ = _
  rw [V_v0]
  refine (h _).trans (congrArg₂ P ?_ ?_)
  · show win0_0.index t 0 * 512 + 1 * (j 0).val = _
    rw [h0]; omega
  · show win0_0.index t 1 * 3840 + 1 * (j 1).val = _
    rw [h1]; omega

theorem blk1 (h : E (s := S16384x1024) (m (c, main_arg1)) (TE H)) (t : Fin cfg0.N) :
    E (s := S512x1024) (iblk m c 1 t) (TE fun r n => H (512 * t.val + r) n) := fun j => by
  obtain ⟨h0, h1⟩ := at1 t
  unfold iblk
  rw [View.read_apply]
  show V m c main_v1 _ = _
  rw [V_v1]
  refine (h _).trans (congrArg₂ H ?_ ?_)
  · show win0_1.index t 0 * 512 + 1 * (j 0).val = _
    rw [h0]; omega
  · show win0_1.index t 1 * 1024 + 1 * (j 1).val = _
    rw [h1]; omega

variable (hp : E (s := S16384x3840) (m (c, main_arg0)) (TE P)) (hh : E (s := S16384x1024) (m (c, main_arg1)) (TE H))
include hp hh

/-- What the output's buffer holds after each grid point. -/
theorem after : ∀ (n : ℕ) (hn : n < cfg0.N),
    E (s := S3840x1024) (outsAt0 m c n hn) (TE fun j k => ∑ t ∈ Finset.range (512 * (n + 1)), P t j * H t k)
  | 0, hn => by
    rw [outsAt0_A m c ⟨0, hn⟩ rfl, outA]
    refine (tens_eq (blk0 hp ⟨0, hn⟩) (blk1 hh ⟨0, hn⟩) pay4 _).congr fun j => ?_
    show 0 + part P H 0 _ _ = _
    rw [zero_add]
    refine Finset.sum_congr rfl fun r _ => ?_
    rw [Nat.mul_zero, Nat.zero_add]
  | n + 1, hn => by
    have hN : n + 1 < 32 := lt_of_lt_of_eq hn N_0
    rw [outsAt0_B m c ⟨n + 1, hn⟩ (by show ¬(n + 1) % 32 = 0; omega), outB]
    refine (tens_eq (blk0 hp ⟨n + 1, hn⟩) (blk1 hh ⟨n + 1, hn⟩) (after n (Nat.lt_of_succ_lt hn)) _).congr fun j => ?_
    show _ = ∑ t ∈ Finset.range (512 * (n + 1 + 1)), P t (j 0).val * H t (j 1).val
    rw [Nat.mul_add _ (n + 1), Finset.sum_range_add]
    rfl

/-- The array the call leaves. -/
theorem result : E (s := S3840x1024) ((dats m 0 c).arrAt 2 cfg0.N) (TE fun j k => ∑ t ∈ Finset.range 16384, P t j * H t k) := fun i => by
  have hl : 31 < cfg0.N := lt_of_lt_of_eq (by norm_num) N_0.symm
  have hf : (cfg0.win 2).flush ⟨31, hl⟩ = true := (flush0_2 _).mpr rfl
  have hb := congrFun ((dats m 0 c).read_blk_arrAt_eq_flushed 2 (fun t t' h h' ne => absurd (Fin.ext (by
    have := (flush0_2 t).mp h
    have := (flush0_2 t').mp h'
    have := lt_of_lt_of_eq t.isLt N_0
    have := lt_of_lt_of_eq t'.isLt N_0
    omega)) ne) cfg0.N ⟨31, hl⟩ hl hf)
    (fun a => match a with | ⟨0, _⟩ => ⟨(i 0).val, (i 0).isLt⟩ | ⟨1, _⟩ => ⟨(i 1).val, (i 1).isLt⟩)
  rw [View.read_apply, Value.flushed2] at hb
  have e0 : win0_2.index ⟨31, hl⟩ 0 = 0 := (at2 _).1
  have e1 : win0_2.index ⟨31, hl⟩ 1 = 0 := (at2 _).2
  refine (congrArg _ ?_).trans (hb.trans (after hp hh 31 hl _))
  funext a
  apply Fin.ext
  match a with
  | ⟨0, _⟩ => show (i 0).val = win0_2.index ⟨31, hl⟩ 0 * 3840 + 1 * (i 0).val; rw [e0]; omega
  | ⟨1, _⟩ => show (i 1).val = win0_2.index ⟨31, hl⟩ 1 * 1024 + 1 * (i 1).val; rw [e1]; omega

end Cert.InProjDwIdeal.Call

namespace Cert.InProjDw

open Idealize.ShloMosaic Idealize.ShloMosaic.TcCoe Idealize.SL.Sem Cert.Lift
open InProjDwRefIdeal.Read

theorem reference : @quiescent_InProjDwRefIdeal InProjDwRefIdeal.Gen.facts := fun m ρ _ =>
  (θ_run InProjDwRefIdeal.defs _ _).mono (fun r h => ⟨fun c => (h c).2, sem_eq_zero_of_no_sems (by decide) r.2⟩)
    (InProjDwRefIdeal.Value.run (F := Ideal) m ρ)

theorem value : @algebraic_InProjDwIdeal_InProjDwRefIdeal InProjDwIdeal.Gen.facts InProjDwRefIdeal.Gen.facts := by
  intro m g m' g' hp hm
  refine ⟨fun c => (InProjDwIdeal.Gen.dats m 0 c).arrAt 2 InProjDwIdeal.cfg0.N, InProjDwIdeal.Value.run_blocks m g,
    (θ_run _ _ _).mono (fun r h c => ?_) (InProjDwRefIdeal.Value.run m' g')⟩
  obtain ⟨e0, e1⟩ := hm c
  obtain ⟨r0, rest⟩ := h c
  refine ⟨r0.trans ?_, rest⟩
  rw [val_main_v5_eq, e0, e1]
  funext i
  refine Eq.trans ?_ (InProjDwIdeal.Call.result (tabE2_eq (by norm_num) (by norm_num) _) (tabE2_eq (by norm_num) (by norm_num) _) i).symm
  rw [val_main_v5_apply, val_main_v4_apply, val_main_v3_apply]
  exact sumE _ fun k => congrArg₂ (· * ·) (tabE2_eq _ _ _ _) (tabE2_eq _ _ _ _)

end Cert.InProjDw
-- ==== Proof.NormGrad.lean ====
/-
  The gradient of a row's normalisation, in the two forms in which it is computed, over the extended reals: a row
  with an infinite entry has the factor zero, and every other row has a positive real factor.
-/
module

public import proofs.«01_k».proof.Proof.Ext

@[expose] public section

noncomputable section

namespace Cert.Lift

open Idealize.ShloMosaic

/-- A row's mean square plus the small constant. -/
def msE (X : ℕ → ℕ → EReal) (t : ℕ) : EReal :=
  Ideal.div (∑ k ∈ Finset.range 1024, X t k * X t k) (Ideal.ofBits .f32 0x44800000#32) + Ideal.ofBits .f32 0x358637BD#32

/-- The factor a row is normalised by. -/
def rsE (X : ℕ → ℕ → EReal) (t : ℕ) : EReal := Ideal.rsqrt (msE X t)

/-- The gradient of a row from the gradient `dy` of its normalised form, added to `O`. -/
def dxE (O X dy : ℕ → ℕ → EReal) (t n : ℕ) : EReal :=
  O t n + rsE X t * (dy t n - X t n * rsE X t
    * Ideal.div (∑ k ∈ Finset.range 1024, dy t k * (X t k * rsE X t)) (Ideal.ofBits .f32 0x44800000#32))

theorem div_1024 (x : EReal) : Ideal.div x (Ideal.ofBits .f32 0x44800000#32) = x * ((1024⁻¹ : ℝ) : EReal) := by
  rw [ofBits_1024]
  unfold Ideal.div
  rw [if_neg (by exact_mod_cast (by norm_num : (1024 : ℝ) ≠ 0)), EReal.coe_inv]

theorem mul_self_nonneg' (x : EReal) : 0 ≤ x * x := by
  induction x using EReal.rec with
  | bot => simp
  | coe r => rw [← EReal.coe_mul]; exact_mod_cast mul_self_nonneg r
  | top => simp

theorem msE_cases (X : ℕ → ℕ → EReal) (t : ℕ) : msE X t = ⊤ ∨ ∃ q : ℝ, 0 < q ∧ msE X t = (q : EReal) := by
  have hs : 0 ≤ (∑ k ∈ Finset.range 1024, X t k * X t k) * ((1024⁻¹ : ℝ) : EReal) :=
    mul_nonneg (Finset.sum_nonneg fun k _ => mul_self_nonneg' _) (by exact_mod_cast (by norm_num : (0 : ℝ) ≤ 1024⁻¹))
  unfold msE
  rw [div_1024, ofBits_eps]
  generalize (∑ k ∈ Finset.range 1024, X t k * X t k) * ((1024⁻¹ : ℝ) : EReal) = s at hs
  induction s using EReal.rec with
  | bot => simp at hs
  | coe r => exact .inr ⟨r + eps, add_pos_of_nonneg_of_pos (by exact_mod_cast hs) eps_pos, by rw [EReal.coe_add]⟩
  | top => exact .inl (EReal.top_add_coe _)

theorem sum_mul_real {n : ℕ} (f : ℕ → EReal) (r : ℝ) (hr : 0 ≤ r) :
    ∑ k ∈ Finset.range n, f k * (r : EReal) = (∑ k ∈ Finset.range n, f k) * (r : EReal) := by
  induction n with
  | zero => simp
  | succ n ih =>
    rw [Finset.sum_range_succ, Finset.sum_range_succ, ih,
      EReal.right_distrib_of_nonneg_of_ne_top (by exact_mod_cast hr) (EReal.coe_ne_top r)]

theorem add_self_eq (y : EReal) : y + y = y * ((2 : ℝ) : EReal) := by
  induction y using EReal.rec with
  | bot => rw [EReal.bot_add, EReal.bot_mul_coe_of_pos (by norm_num)]
  | coe r => rw [← EReal.coe_add, ← EReal.coe_mul, mul_two]
  | top => rw [EReal.top_add_top, EReal.top_mul_coe_of_pos (by norm_num)]

/-- The form that differentiates the inverse square root. -/
theorem dxE_eq (O X dy : ℕ → ℕ → EReal) (t n : ℕ) (v : EReal)
    (hv : v = Ideal.div ((∑ k ∈ Finset.range 1024, X t k * dy t k)
      * (Ideal.ofBits .f32 0xBF000000#32 * Ideal.div (rsE X t) (msE X t))) (Ideal.ofBits .f32 0x44800000#32)) :
    O t n + dy t n * rsE X t + X t n * v + v * X t n = dxE O X dy t n := by
  subst hv
  unfold dxE
  simp only [div_1024]
  rcases msE_cases X t with h | ⟨q, hq, h⟩
  · have h0 : rsE X t = 0 := by unfold rsE; rw [h]; rfl
    rw [h0, h]
    have hd : Ideal.div 0 ⊤ = 0 := by unfold Ideal.div; simp
    rw [hd]
    simp
  · have h0 : rsE X t = (((Real.sqrt q)⁻¹ : ℝ) : EReal) := by unfold rsE; rw [h, rsqrt_pos hq]
    have hr : 0 ≤ (Real.sqrt q)⁻¹ := inv_nonneg.mpr (Real.sqrt_nonneg q)
    have hq3 : (Real.sqrt q)⁻¹ / q = (Real.sqrt q)⁻¹ * ((Real.sqrt q)⁻¹ * (Real.sqrt q)⁻¹) := by
      rw [← mul_inv (√q) (√q), Real.mul_self_sqrt hq.le, div_eq_mul_inv]
    rw [h, h0, div_coe _ hq.ne', hq3, ofBits_neg_half]
    generalize (Real.sqrt q)⁻¹ = r at hr
    have hS : ∑ k ∈ Finset.range 1024, dy t k * (X t k * (r : EReal)) = (∑ k ∈ Finset.range 1024, X t k * dy t k) * (r : EReal) := by
      rw [← sum_mul_real _ r hr]
      exact Finset.sum_congr rfl fun k _ => by rw [← mul_assoc, mul_comm (dy t k)]
    rw [hS]
    generalize ∑ k ∈ Finset.range 1024, X t k * dy t k = S
    have e1 : X t n * (r : EReal) * (S * (r : EReal) * ((1024⁻¹ : ℝ) : EReal)) = (S * X t n) * ((r * r * 1024⁻¹ : ℝ) : EReal) := by
      rw [EReal.coe_mul, EReal.coe_mul]; ac_rfl
    have e2 : X t n * (S * (((-(1 / 2) : ℝ) : EReal) * ((r * (r * r) : ℝ) : EReal)) * ((1024⁻¹ : ℝ) : EReal))
        = (S * X t n) * ((-(1 / 2) * (r * (r * r)) * 1024⁻¹ : ℝ) : EReal) := by
      rw [← EReal.coe_mul, mul_assoc S, ← EReal.coe_mul]; ac_rfl
    rw [mul_comm _ (X t n), e1, e2, add_assoc, add_self_eq, mul_assoc (S * X t n), ← EReal.coe_mul, add_assoc]
    congr 1
    rw [sub_eq_add_neg, EReal.left_distrib_of_nonneg_of_ne_top (by exact_mod_cast hr) (EReal.coe_ne_top r), mul_comm (dy t n)]
    congr 1
    rw [← mul_neg, mul_left_comm (r : EReal), ← EReal.coe_neg, ← EReal.coe_mul]
    congr 2
    ring

end Cert.Lift
-- ==== Proof.InProjBwd.lean ====
/-
  The input projection, backward: each block of 512 tokens gives its rows of the gradient and adds its part to the
  gradient of the normalisation's weight.
-/
module

public import proofs.«01_k».proof.Proof.InProjDw
public import proofs.«01_k».proof.Proof.NormGrad
public import proofs.«01_k».proof.Proof.Gen.InProjBwdIdeal.Value
public import proofs.«01_k».proof.Proof.Gen.InProjBwdRefIdeal.Read

@[expose] public section

set_option maxRecDepth 16384

noncomputable section

namespace Cert.InProjBwdIdeal.Call

open Idealize.ShloMosaic Idealize.ShloMosaic.TcCoe Idealize.ShloMosaic.Tactic Idealize.SL.Sem
open Cert.InProjBwdIdeal Cert.InProjBwdIdeal.Gen Cert.Lift

variable {P O X W : ℕ → ℕ → EReal} {n : ℕ → EReal}

/-- The gradient of the normalised rows. -/
def dh (P W : ℕ → ℕ → EReal) (t d : ℕ) : EReal := ∑ p ∈ Finset.range 3840, P t p * W d p

/-- The gradient of the rows. -/
def dx (P O X W : ℕ → ℕ → EReal) (n : ℕ → EReal) : ℕ → ℕ → EReal := dxE O X (fun t d => dh P W t d * n d)

/-- One token's part of the gradient of the normalisation's weight. -/
def dn (P X W : ℕ → ℕ → EReal) (t d : ℕ) : EReal := dh P W t d * (X t d * rsE X t)

section Step

variable {x0 : Vec Ideal S512x3840 .bf16} {x1 : Vec Ideal S512x1024 .f32} {x2 : Vec Ideal S1x1024 .f32} {x3 : Vec Ideal S512x1024 .f32}
  {x4 : Vec Ideal S3840x1024 .bf16}

theorem pay3 (h0 : E x0 (TE P)) (h4 : E x4 (TE fun p d => W d p)) : E (k0_pay3 (F := Ideal) x0 x4) (TE (dh P W)) :=
  E.matmul 3840 rfl rfl none (h0.shapeCast_self shapeCasts_S512x3840_S512x3840) (h4.shapeCast_self shapeCasts_S3840x1024_S3840x1024)
    (fun j k => P (j 0).val k * W (j 1).val k) (fun j k => rfl)

/-- A column of row sums, from its table. -/
theorem column {x : Vec Ideal S512x1024 .f32} {f : S512x1024.Idx → EReal} (hx : E x f) (G : ℕ → ℕ → EReal) (hG : ∀ i, f i = G (i 0).val (i 1).val) :
    E (s := S512x1) (shapeCast S512x1 (multiReduction (F := Ideal) .add [1] S512 x 0x00000000#32 reduces_S512x1024_S512 (.inl rfl) rfl) shapeCasts_S512_S512x1)
      (TE fun r _ => ∑ k ∈ Finset.range 1024, G r k) :=
  (hx.sum (0x00000000#32) reduces_S512x1024_S512 (.inl rfl) rfl (fun j k => G (j 0).val k) (fun j k => hG _)).shapeCast
    shapeCasts_S512_S512x1 (fun j => fun a => match a with | ⟨0, _⟩ => ⟨(j 0).val, (j 0).isLt⟩) (fun j => by
      rw [Shape.rowMajor_val_one, Shape.rowMajor_val_two]
      have h1 : (j 1).val < 1 := (j 1).isLt
      show (j 0).val = (j 0).val * 1 + (j 1).val
      omega)

theorem pay4 (h1 : E x1 (TE X)) : E (k0_pay4 (F := Ideal) x1) (TE fun r _ => rsE X r) :=
  ((E.divf (φ := .f32) (column (E.mulf (φ := .f32) h1 h1) (fun r k => X r k * X r k) (fun i => rfl)) (E.const (Ideal.ofBits .f32 0x44800000#32))).addf
    (E.const (Ideal.ofBits .f32 0x358637BD#32))).rsqrt

/-- A column spread over the rows. -/
theorem spread {x : Vec Ideal S512x1 .f32} {g : ℕ → EReal} (hx : E x (TE fun r _ => g r)) :
    E (s := S512x1024) (broadcastTo S512x1024 x broadcasts_S512x1_S512x1024) (TE fun r _ => g r) :=
  hx.broadcastTo broadcasts_S512x1_S512x1024
    (fun j => fun a => match a with | ⟨0, _⟩ => ⟨(j 0).val, (j 0).isLt⟩ | ⟨1, _⟩ => ⟨0, Nat.one_pos⟩)
    (fun j a => match a with
      | ⟨0, _⟩ => by show (j 0).val = if (512 : Nat) = 1 then 0 else (j 0).val; rw [if_neg (by decide)]
      | ⟨1, _⟩ => by show 0 = if (1 : Nat) = 1 then 0 else (j 1).val; rw [if_pos rfl])

theorem pay5 (h1 : E x1 (TE X)) : E (k0_pay5 (F := Ideal) x1) (TE fun r d => X r d * rsE X r) := E.mulf (φ := .f32) h1 (spread (pay4 h1))

variable (h0 : E x0 (TE P)) (h1 : E x1 (TE X)) (h4 : E x4 (TE fun p d => W d p))
include h0 h1 h4

theorem pay6 : E (k0_pay6 (F := Ideal) x0 x4 x1) (TE fun _ d => ∑ r ∈ Finset.range 512, dn P X W r d) :=
  ((E.mulf (φ := .f32) (pay3 h0 h4) (pay5 h1)).sum (0x00000000#32) reduces_S512x1024_S1024 (.inl rfl) rfl
    (fun j k => dn P X W k (j 0).val) (fun j k => rfl)).shapeCast
    shapeCasts_S1024_S1x1024 (fun j => fun a => match a with | ⟨0, _⟩ => ⟨(j 1).val, (j 1).isLt⟩) (fun j => by
      rw [Shape.rowMajor_val_one, Shape.rowMajor_val_two]
      have h1 : (j 0).val < 1 := (j 0).isLt
      show (j 1).val = (j 0).val * 1024 + (j 1).val
      omega)

theorem pay7 (h2 : E x2 (TE fun _ d => n d)) (h3 : E x3 (TE O)) : E (k0_pay7 (F := Ideal) x0 x4 x1 x2 x3) (TE (dx P O X W n)) := by
  have h22 := E.mulf (φ := .f32) (pay3 h0 h4) ((h2.shapeCast_self shapeCasts_S1x1024_S1x1024).broadcastTo broadcasts_S1x1024_S512x1024
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)]))
  have h27 := E.divf (φ := .f32) (column (E.mulf (φ := .f32) h22 (pay5 h1)) (fun r k => dh P W r k * n k * (X r k * rsE X r)) (fun i => rfl))
    (E.const (Ideal.ofBits .f32 0x44800000#32))
  have h29 := E.mulf (φ := .f32) (pay5 h1) (spread (g := fun r => Ideal.div (∑ k ∈ Finset.range 1024, dh P W r k * n k * (X r k * rsE X r)) (Ideal.ofBits .f32 0x44800000#32)) h27)
  exact (E.addf (φ := .f32) h3 (E.mulf (φ := .f32) (spread (pay4 h1)) (E.subf (φ := .f32) h22 h29))).congr fun j => rfl

end Step

theorem hz : (![0, 0] : Fin 2 → Nat) = fun _ => 0 := funext fun a => by fin_cases a <;> rfl

section Outs

variable {F : FTy → Type} [FloatOps F]
  (c : Dev nD) (i : grid0.Coords) (arg1 : Memref sig .tc .vmem S512x3840 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S3840x1024 .bf16) (harg5 : arg5.IsWhole) (arg6 : Memref sig .tc .vmem S512x1024 .f32) (harg6 : arg6.IsWhole) (arg7 : Memref sig .tc .vmem S1x1024 .f32) (harg7 : arg7.IsWhole)
  (x0 : Vec F S512x3840 .bf16) (x1 : Vec F S512x1024 .f32) (x2 : Vec F S1x1024 .f32) (x3 : Vec F S512x1024 .f32) (x4 : Vec F S3840x1024 .bf16) (xo6 : Vec F S1x1024 .f32)

theorem outA5 (hc0 : cond0_0 i) :
    out0_A_5 c i arg1 harg1 arg2 harg2 arg3 harg3 arg4 harg4 arg5 harg5 arg6 harg6 arg7 harg7 hc0 x0 x1 x2 x3 x4 = k0_pay7 x0 x4 x1 x2 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  first | rw [View.canon_unit_zero hz] | rw [View.canon_cons_unit_zero hz]
  all_goals simp only [View.readAt_eq_ld, harg1.read_unread, harg2.read_unread, harg3.read_unread, harg4.read_unread, harg5.read_unread,
    View.ld_unit_zero (S := S512x3840) hz, View.ld_unit_zero (S := S512x1024) hz, View.ld_unit_zero (S := S1x1024) hz, View.ld_unit_zero (S := S3840x1024) hz]

theorem outA6 (hc0 : cond0_0 i) :
    out0_A_6 c i arg1 harg1 arg2 harg2 arg3 harg3 arg4 harg4 arg5 harg5 arg6 harg6 arg7 harg7 hc0 x0 x1 x2 x3 x4 = k0_pay1 (k0_pay6 x0 x4 x1) k0_pay2 := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  first | rw [View.canon_unit_zero hz] | rw [View.canon_cons_unit_zero hz]
  all_goals simp only [View.readAt_eq_ld, harg1.read_unread, harg2.read_unread, harg5.read_unread, harg7.read_unread, View.readCov_unit_zero (S := S1x1024) _ hz,
    View.ld_unit_zero (S := S512x3840) hz, View.ld_unit_zero (S := S512x1024) hz, View.ld_unit_zero (S := S1x1024) hz, View.ld_unit_zero (S := S3840x1024) hz]

theorem outB5 (hc0 : ¬cond0_0 i) :
    out0_B_5 c i arg1 harg1 arg2 harg2 arg3 harg3 arg4 harg4 arg5 harg5 arg6 harg6 arg7 harg7 hc0 x0 x1 x2 x3 x4 xo6 = k0_pay7 x0 x4 x1 x2 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  sl_unfold_words
  first | rw [View.canon_unit_zero hz] | rw [View.canon_cons_unit_zero hz]
  all_goals simp only [View.readAt_eq_ld, harg1.read_unread, harg2.read_unread, harg3.read_unread, harg4.read_unread, harg5.read_unread,
    View.ld_unit_zero (S := S512x3840) hz, View.ld_unit_zero (S := S512x1024) hz, View.ld_unit_zero (S := S1x1024) hz, View.ld_unit_zero (S := S3840x1024) hz]

theorem outB6 (hc0 : ¬cond0_0 i) :
    out0_B_6 c i arg1 harg1 arg2 harg2 arg3 harg3 arg4 harg4 arg5 harg5 arg6 harg6 arg7 harg7 hc0 x0 x1 x2 x3 x4 xo6 = k0_pay1 (k0_pay6 x0 x4 x1) xo6 := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  sl_unfold_words
  first | rw [View.canon_unit_zero hz] | rw [View.canon_cons_unit_zero hz]
  all_goals simp only [View.readAt_eq_ld, harg1.read_unread, harg2.read_unread, harg5.read_unread, harg7.read_unread,
    View.ld_unit_zero (S := S512x3840) hz, View.ld_unit_zero (S := S512x1024) hz, View.ld_unit_zero (S := S1x1024) hz, View.ld_unit_zero (S := S3840x1024) hz]

end Outs

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = t.val ∧ win0_5.index t 1 = 0 := by decide +kernel
theorem at6 : ∀ t : Fin cfg0.N, win0_6.index t 0 = 0 ∧ win0_6.index t 1 = 0 := by decide +kernel

variable {m : (ℓ : Loc nD τ sig) → Buf (Elt Idealize.ShloMosaic.Ideal) ℓ} {c : Dev nD}

theorem V_v0 : V m c main_v0 = (truncf .bf16 (m (c, main_arg0) : FVec Ideal S16384x3840 .f32) bitsLt_bf16_f32 : FVec Ideal S16384x3840 .bf16) := by
  unfold V
  after_results
theorem V_v1 : V m c main_v1 = (broadcastInDim S1x1024 ![1] bcast_S1024_S1x1024_1 (m (c, main_arg3) : FVec Ideal S1024 .f32) : FVec Ideal S1x1024 .f32) := by
  unfold V
  after_results
theorem V_v3 : V m c main_v3 = (truncf .bf16 (transpose S3840x1024 [1, 0] (m (c, main_arg4) : FVec Ideal S1024x3840 .f32) transposes_S1024x3840_S3840x1024_1_0 : FVec Ideal S3840x1024 .f32) bitsLt_bf16_f32 : FVec Ideal S3840x1024 .bf16) := by
  unfold V
  after_results

theorem blk0 (h : E (s := S16384x3840) (m (c, main_arg0)) (TE P)) (t : Fin cfg0.N) :
    E (s := S512x3840) (iblk m c 0 t) (TE fun r p => P (512 * t.val + r) p) := fun j => by
  obtain ⟨h0, h1⟩ := at0 t
  unfold iblk
  rw [View.read_apply]
  show V m c main_v0 _ = _
  rw [V_v0]
  refine (h _).trans (congrArg₂ P ?_ ?_)
  · show win0_0.index t 0 * 512 + 1 * (j 0).val = _
    rw [h0]; omega
  · show win0_0.index t 1 * 3840 + 1 * (j 1).val = _
    rw [h1]; omega

theorem blk1 (h : E (s := S16384x1024) (m (c, main_arg2)) (TE X)) (t : Fin cfg0.N) :
    E (s := S512x1024) (iblk m c 1 t) (TE fun r d => X (512 * t.val + r) d) := fun j => by
  obtain ⟨h0, h1⟩ := at1 t
  unfold iblk
  rw [View.read_apply]
  show V m c main_arg2 _ = _
  rw [V_main_arg2]
  refine (h _).trans (congrArg₂ X ?_ ?_)
  · show win0_1.index t 0 * 512 + 1 * (j 0).val = _
    rw [h0]; omega
  · show win0_1.index t 1 * 1024 + 1 * (j 1).val = _
    rw [h1]; omega

theorem blk2 (h : E (s := S1024) (m (c, main_arg3)) (fun i => n (i 0).val)) (t : Fin cfg0.N) :
    E (s := S1x1024) (iblk m c 2 t) (TE fun _ d => n d) := fun j => by
  obtain ⟨h0, h1⟩ := at2 t
  unfold iblk
  rw [View.read_apply]
  show V m c main_v1 _ = _
  rw [V_v1]
  refine (h _).trans (congrArg n ?_)
  show win0_2.index t 1 * 1024 + 1 * (j 1).val = _
  rw [h1]; omega

theorem blk3 (h : E (s := S16384x1024) (m (c, main_arg1)) (TE O)) (t : Fin cfg0.N) :
    E (s := S512x1024) (iblk m c 3 t) (TE fun r d => O (512 * t.val + r) d) := fun j => by
  obtain ⟨h0, h1⟩ := at3 t
  unfold iblk
  rw [View.read_apply]
  show V m c main_arg1 _ = _
  rw [V_main_arg1]
  refine (h _).trans (congrArg₂ O ?_ ?_)
  · show win0_3.index t 0 * 512 + 1 * (j 0).val = _
    rw [h0]; omega
  · show win0_3.index t 1 * 1024 + 1 * (j 1).val = _
    rw [h1]; omega

theorem blk4 (h : E (s := S1024x3840) (m (c, main_arg4)) (TE W)) (t : Fin cfg0.N) :
    E (s := S3840x1024) (iblk m c 4 t) (TE fun p d => W d p) := fun j => by
  obtain ⟨h0, h1⟩ := at4 t
  unfold iblk
  rw [View.read_apply]
  show V m c main_v3 _ = _
  rw [V_v3]
  refine (h _).trans (congrArg₂ W ?_ ?_)
  · show win0_4.index t 1 * 1024 + 1 * (j 1).val = _
    rw [h1]; omega
  · show win0_4.index t 0 * 3840 + 1 * (j 0).val = _
    rw [h0]; omega

variable (hp : E (s := S16384x3840) (m (c, main_arg0)) (TE P)) (hx : E (s := S16384x1024) (m (c, main_arg2)) (TE X))
  (hw : E (s := S1024x3840) (m (c, main_arg4)) (TE W))
include hp hx hw

/-- What the second output's buffer holds after each grid point. -/
theorem after : ∀ (k : ℕ) (hk : k < cfg0.N),
    E (s := S1x1024) (outsAt0 m c k hk).2 (TE fun _ d => ∑ t ∈ Finset.range (512 * (k + 1)), dn P X W t d)
  | 0, hk => by
    rw [outsAt0_A m c ⟨0, hk⟩ rfl]
    dsimp only
    rw [outA6]
    refine (E.addf (φ := .f32) (E.const (Ideal.ofBits .f32 0x00000000#32)) (pay6 (blk0 hp ⟨0, hk⟩) (blk1 hx ⟨0, hk⟩) (blk4 hw ⟨0, hk⟩))).congr fun j => ?_
    rw [ofBits_zero, EReal.coe_zero, zero_add]
    refine Finset.sum_congr rfl fun r _ => ?_
    unfold dn dh rsE msE
    dsimp only
    rw [Nat.mul_zero, Nat.zero_add]
  | k + 1, hk => by
    have hN : k + 1 < 32 := lt_of_lt_of_eq hk N_0
    rw [outsAt0_B m c ⟨k + 1, hk⟩ (by show ¬(k + 1) % 32 = 0; omega)]
    dsimp only
    rw [outB6]
    refine (E.addf (φ := .f32) ((after k (Nat.lt_of_succ_lt hk)).shapeCast_self shapeCasts_S1x1024_S1x1024)
      (pay6 (blk0 hp ⟨k + 1, hk⟩) (blk1 hx ⟨k + 1, hk⟩) (blk4 hw ⟨k + 1, hk⟩))).congr fun j => ?_
    show _ = ∑ t ∈ Finset.range (512 * (k + 1 + 1)), dn P X W t (j 1).val
    rw [Nat.mul_add _ (k + 1), Finset.sum_range_add]
    rfl

/-- The second array the call leaves. -/
theorem result6 : E (s := S1x1024) ((dats m 0 c).arrAt 6 cfg0.N) (TE fun _ d => ∑ t ∈ Finset.range 16384, dn P X W t d) := fun i => by
  have hl : 31 < cfg0.N := lt_of_lt_of_eq (by norm_num) N_0.symm
  have hf : (cfg0.win 6).flush ⟨31, hl⟩ = true := (flush0_6 _).mpr rfl
  have hb := congrFun ((dats m 0 c).read_blk_arrAt_eq_flushed 6 (fun t t' h h' ne => absurd (Fin.ext (by
    have := (flush0_6 t).mp h
    have := (flush0_6 t').mp h'
    have := lt_of_lt_of_eq t.isLt N_0
    have := lt_of_lt_of_eq t'.isLt N_0
    omega)) ne) cfg0.N ⟨31, hl⟩ hl hf)
    (fun a => match a with | ⟨0, _⟩ => ⟨(i 0).val, (i 0).isLt⟩ | ⟨1, _⟩ => ⟨(i 1).val, (i 1).isLt⟩)
  rw [View.read_apply, Value.flushed6] at hb
  have e0 : win0_6.index ⟨31, hl⟩ 0 = 0 := (at6 _).1
  have e1 : win0_6.index ⟨31, hl⟩ 1 = 0 := (at6 _).2
  refine (congrArg _ ?_).trans (hb.trans (after hp hx hw 31 hl _))
  funext a
  apply Fin.ext
  match a with
  | ⟨0, _⟩ => show (i 0).val = win0_6.index ⟨31, hl⟩ 0 * 1 + 1 * (i 0).val; rw [e0]; omega
  | ⟨1, _⟩ => show (i 1).val = win0_6.index ⟨31, hl⟩ 1 * 1024 + 1 * (i 1).val; rw [e1]; omega

variable (ho : E (s := S16384x1024) (m (c, main_arg1)) (TE O)) (hn : E (s := S1024) (m (c, main_arg3)) (fun i => n (i 0).val))
include ho hn

/-- What the first output's buffer holds after a grid point. -/
theorem rows (t : Fin cfg0.N) : E (s := S512x1024) (outsAt0 m c t.val t.isLt).1 (TE fun r d => dx P O X W n (512 * t.val + r) d) := by
  have h := pay7 (blk0 hp t) (blk1 hx t) (blk4 hw t) (blk2 hn t) (blk3 ho t)
  by_cases h0 : t.val % 32 = 0
  · rw [outsAt0_A m c t h0]
    dsimp only
    rw [outA5]
    exact h
  · rw [outsAt0_B m c t h0]
    dsimp only
    rw [outB5]
    exact h

/-- The first array the call leaves. -/
theorem result5 : E (s := S16384x1024) ((dats m 0 c).arrAt 5 cfg0.N) (TE (dx P O X W n)) := fun i => by
  have h0 : (i 0).val < 16384 := (i 0).isLt
  have h1 : (i 1).val < 1024 := (i 1).isLt
  have ht : (i 0).val / 512 < cfg0.N := lt_of_lt_of_eq (by omega) N_0.symm
  have e0 : win0_5.index ⟨(i 0).val / 512, ht⟩ 0 = (i 0).val / 512 := (at5 _).1
  have e1 : win0_5.index ⟨(i 0).val / 512, ht⟩ 1 = 0 := (at5 _).2
  have hb := congrFun (Value.blocks5 m c ⟨(i 0).val / 512, ht⟩ (flush0_5 _))
    (fun a => match a with | ⟨0, _⟩ => ⟨(i 0).val % 512, Nat.mod_lt _ (by norm_num)⟩ | ⟨1, _⟩ => ⟨(i 1).val, h1⟩)
  rw [View.read_apply, Value.flushed5] at hb
  refine (congrArg _ ?_).trans (hb.trans ((rows hp hx hw ho hn ⟨(i 0).val / 512, ht⟩ _).trans ?_))
  · funext a
    apply Fin.ext
    match a with
    | ⟨0, _⟩ => show (i 0).val = win0_5.index ⟨(i 0).val / 512, ht⟩ 0 * 512 + 1 * ((i 0).val % 512); rw [e0]; omega
    | ⟨1, _⟩ => show (i 1).val = win0_5.index ⟨(i 0).val / 512, ht⟩ 1 * 1024 + 1 * (i 1).val; rw [e1]; omega
  · show dx P O X W n (512 * ((i 0).val / 512) + (i 0).val % 512) (i 1).val = dx P O X W n (i 0).val (i 1).val
    rw [show 512 * ((i 0).val / 512) + (i 0).val % 512 = (i 0).val by omega]

end Cert.InProjBwdIdeal.Call

namespace Cert.InProjBwd

open Idealize.ShloMosaic Idealize.ShloMosaic.TcCoe Idealize.SL.Sem Cert.Lift
open InProjBwdIdeal.Call InProjBwdRefIdeal.Read

theorem reference : @quiescent_InProjBwdRefIdeal InProjBwdRefIdeal.Gen.facts := fun m ρ _ =>
  (θ_run InProjBwdRefIdeal.defs _ _).mono (fun r h => ⟨fun c => (h c).2.2, sem_eq_zero_of_no_sems (by decide) r.2⟩)
    (InProjBwdRefIdeal.Value.run (F := Ideal) m ρ)

variable {P O X W : ℕ → ℕ → EReal} {n : ℕ → EReal}
  {x0 : (⟨InProjBwdRefIdeal.S16384x3840, .f32⟩ : BufTy).Contents (Elt Ideal)} {x1 x2 : (⟨InProjBwdRefIdeal.S16384x1024, .f32⟩ : BufTy).Contents (Elt Ideal)}
  {x3 : (⟨InProjBwdRefIdeal.S1024, .f32⟩ : BufTy).Contents (Elt Ideal)} {x4 : (⟨InProjBwdRefIdeal.S1024x3840, .f32⟩ : BufTy).Contents (Elt Ideal)}

section Factor

variable (h2 : E x2 (TE X))
include h2

theorem square (i : InProjBwdRefIdeal.S16384x1.Idx) : val_main_v6 (F := Ideal) x2 i = msE X (i 0).val := by
  rw [val_main_v6_apply, val_main_v4_apply, val_main_v2_apply, val_main_v1_apply, Ideal.addf_def, Ideal.hostDivf_def,
    sumE (fun k => X (i 0).val k * X (i 0).val k) (fun k => by rw [val_main_v0_apply, Ideal.mulf_def, h2]),
    show (val_main_cst (F := Ideal)) (Shape.Idx.first InProjBwdRefIdeal.Gen.h_S_) = ((0 : ℝ) : EReal) from ofBits_zero, EReal.coe_zero, zero_add]
  rfl

theorem factor (i : InProjBwdRefIdeal.S16384x1.Idx) : val_main_v7 (F := Ideal) x2 i = rsE X (i 0).val := by
  rw [val_main_v7_apply, square h2, Ideal.hostUnary_rsqrt_def]
  rfl

theorem slope (i : InProjBwdRefIdeal.S16384x1.Idx) :
    val_main_v10 (F := Ideal) x2 i = Ideal.ofBits .f32 0xBF000000#32 * Ideal.div (rsE X (i 0).val) (msE X (i 0).val) := by
  rw [val_main_v10_apply, val_main_v8_apply, factor h2, square h2, Ideal.mulf_def, Ideal.hostDivf_def]
  rfl

theorem normed (i : InProjBwdRefIdeal.S16384x1024.Idx) : val_main_v12 (F := Ideal) x2 i = X (i 0).val (i 1).val * rsE X (i 0).val := by
  rw [val_main_v12_apply, val_main_v11_apply, factor h2, h2]
  rfl

end Factor

section Grad

variable (h0 : E x0 (TE P)) (h2 : E x2 (TE X)) (h4 : E x4 (TE W))
include h0 h4

theorem product (i : InProjBwdRefIdeal.S16384x1024.Idx) : val_main_v17 (F := Ideal) x0 x4 i = dh P W (i 0).val (i 1).val := by
  rw [val_main_v17_apply]
  exact sumE _ fun k => congrArg₂ (· * ·) (h0 _) (h4 _)

include h2

theorem weight (i : InProjBwdRefIdeal.S1x1024.Idx) :
    val_main_v39 (F := Ideal) x0 x2 x4 i = ∑ t ∈ Finset.range 16384, dn P X W t (i 1).val := by
  rw [val_main_v39_apply, val_main_v23_apply, Fin.sum_univ_one, val_main_v20_apply, val_main_v19_apply,
    show (val_main_cst_3 (F := Ideal)) (Shape.Idx.first InProjBwdRefIdeal.Gen.h_S_) = ((0 : ℝ) : EReal) from ofBits_zero,
    show (val_main_cst_4 (F := Ideal)) (Shape.Idx.first InProjBwdRefIdeal.Gen.h_S_) = ((0 : ℝ) : EReal) from ofBits_zero,
    EReal.coe_zero, zero_add, zero_add]
  refine sumE (fun t => dn P X W t (i 1).val) fun t => ?_
  rw [val_main_v18_apply, normed h2, product h0 h4, Ideal.mulf_def, mul_comm]
  unfold dn
  have e : ((InProjBwdRefIdeal.Read.idx_main_v19 (InProjBwdRefIdeal.Read.idx_main_v20 (InProjBwdRefIdeal.Read.idx_main_v23
    (InProjBwdRefIdeal.Read.idx_main_v39 i) 0)) t) 1).val = (i 1).val := by
    show 0 * 1024 + (i 1).val = (i 1).val
    omega
  rw [e]

variable (h1 : E x1 (TE O)) (h3 : E x3 (fun i => n (i 0).val))
include h3

theorem scaled (i : InProjBwdRefIdeal.S16384x1024.Idx) :
    val_main_v22 (F := Ideal) x0 x3 x4 i = dh P W (i 0).val (i 1).val * n (i 1).val := by
  rw [val_main_v22_apply, product h0 h4, val_main_v21_apply, val_main_v13_apply, h3]
  rfl

theorem through (i : InProjBwdRefIdeal.S16384x1024.Idx) :
    val_main_v34 (F := Ideal) x0 x2 x3 x4 i = Ideal.div ((∑ k ∈ Finset.range 1024, X (i 0).val k * (dh P W (i 0).val k * n k))
      * (Ideal.ofBits .f32 0xBF000000#32 * Ideal.div (rsE X (i 0).val) (msE X (i 0).val))) (Ideal.ofBits .f32 0x44800000#32) := by
  have e (k : Fin 1024) : (idx_main_v25 (idx_main_v26 (idx_main_v33 (idx_main_v34 i) 0)) k 0).val = (i 0).val := by
    show (i 0).val * 1 + 0 = (i 0).val
    omega
  rw [val_main_v34_apply, val_main_v33_apply, Fin.sum_univ_one, val_main_v32_apply, val_main_v30_apply, slope h2, val_main_v26_apply, val_main_v25_apply,
    show (val_main_cst_5 (F := Ideal)) (Shape.Idx.first InProjBwdRefIdeal.Gen.h_S_) = ((0 : ℝ) : EReal) from ofBits_zero,
    show (val_main_cst_7 (F := Ideal)) (Shape.Idx.first InProjBwdRefIdeal.Gen.h_S_) = ((0 : ℝ) : EReal) from ofBits_zero,
    EReal.coe_zero, zero_add, zero_add, Ideal.hostDivf_def, Ideal.mulf_def,
    sumE (fun k => X (i 0).val k * (dh P W (i 0).val k * n k)) (fun k => by rw [val_main_v24_apply, Ideal.mulf_def, h2, scaled h0 h2 h4 h3, TE, e])]
  rfl

include h1

theorem grad (i : InProjBwdRefIdeal.S16384x1024.Idx) :
    val_main_v38 (F := Ideal) x0 x1 x2 x3 x4 i = dx P O X W n (i 0).val (i 1).val := by
  rw [val_main_v38_apply, val_main_v36_apply, val_main_v35_apply, val_main_v37_apply, val_main_v29_apply, val_main_v28_apply, val_main_v27_apply,
    through h0 h2 h4 h3, scaled h0 h2 h4 h3, factor h2, h1, h2]
  exact dxE_eq O X (fun t d => dh P W t d * n d) (i 0).val (i 1).val _ rfl

end Grad

theorem value : @algebraic_InProjBwdIdeal_InProjBwdRefIdeal InProjBwdIdeal.Gen.facts InProjBwdRefIdeal.Gen.facts := by
  intro m g m' g' hp hm
  refine ⟨fun c => (InProjBwdIdeal.Gen.dats m 0 c).arrAt 5 InProjBwdIdeal.cfg0.N, fun c => (InProjBwdIdeal.Gen.dats m 0 c).arrAt 6 InProjBwdIdeal.cfg0.N,
    InProjBwdIdeal.Value.run_blocks m g, (θ_run _ _ _).mono (fun r h c => ?_) (InProjBwdRefIdeal.Value.run m' g')⟩
  obtain ⟨e0, e1, e2, e3, e4⟩ := hm c
  obtain ⟨r0, r1, rest⟩ := h c
  refine ⟨r0.trans ?_, r1.trans ?_, rest⟩
  · rw [val_main_v38_eq, e0, e1, e2, e3, e4]
    funext i
    exact (grad (tabE2_eq (by norm_num) (by norm_num) _) (tabE2_eq (by norm_num) (by norm_num) _) (tabE2_eq (by norm_num) (by norm_num) _)
      (tabE2_eq (by norm_num) (by norm_num) _) (tabE1_eq (by norm_num) _) i).trans
      (result5 (tabE2_eq (by norm_num) (by norm_num) _) (tabE2_eq (by norm_num) (by norm_num) _) (tabE2_eq (by norm_num) (by norm_num) _)
      (tabE2_eq (by norm_num) (by norm_num) _) (tabE1_eq (by norm_num) _) i).symm
  · rw [val_main_v39_eq, e0, e2, e4]
    funext i
    exact (weight (tabE2_eq (by norm_num) (by norm_num) _) (tabE2_eq (by norm_num) (by norm_num) _) (tabE2_eq (by norm_num) (by norm_num) _) i).trans
      (result6 (tabE2_eq (by norm_num) (by norm_num) _) (tabE2_eq (by norm_num) (by norm_num) _) (tabE2_eq (by norm_num) (by norm_num) _) i).symm

end Cert.InProjBwd
-- ==== Proof.BlocksA.lean ====
/-
  The backward kernel at the first layer's second half-step: a pack of 1792 rows, the blocks 0, 1, 2.
  What one grid point leaves in its blocks and in its two scratch buffers, and so one step of the recursion (Grid.lean).
  The program's windows and buffers are its own, its arithmetic is the first half-step's.
-/
module

public import proofs.«01_k».proof.Proof.Value
public import proofs.«01_k».proof.Proof.Gen.KernelAIdeal.Value

@[expose] public section

set_option maxRecDepth 16384

noncomputable section

namespace Cert.KernelAIdeal.Ffn

open Idealize.ShloMosaic Idealize.ShloMosaic.TcCoe Idealize.ShloMosaic.Tactic
open Cert.KernelAIdeal Cert.KernelAIdeal.Gen Cert.KernelAIdeal.Value
open Cert.KernelIdeal.Ffn (hz hz3 St In Step dohAt dhFrom dgAt duAt dhAt case_of)

variable {F : FTy → Type} [FloatOps F]

section Cases

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S2x384x1024 .bf16) (harg7 : arg7.IsWhole) (arg8 : Memref sig .tc .vmem S2x384x1024 .bf16) (harg8 : arg8.IsWhole) (arg9 : Memref sig .tc .vmem S2x384x1024 .bf16) (harg9 : arg9.IsWhole) (arg10 : Memref sig .tc .vmem S1024x1024 .f32) (harg10 : arg10.IsWhole) (arg11 : Memref sig .tc .vmem S1024x768 .bf16) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1024x1024 .f32) (harg15 : arg15.IsWhole)
variable (x0 : Vec F S1024x1024 .f32) (x1 : Vec F S1024x1024 .f32) (x2 : Vec F S1x1024 .f32) (x3 : Vec F S1024x768 .bf16)
  (x4 : Vec F S1024x768 .bf16) (x5 : Vec F S2x384x1024 .bf16) (x6 : Vec F S2x384x1024 .bf16) (x7 : Vec F S2x384x1024 .bf16)
  (x11 : Vec F S1x1024 .f32) (xs0 : Vec F S1024x1024 .bf16) (xs1 : Vec F S1024x1024 .f32)

theorem out0_A_9_eq (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_A_9
  rw [View.read_writes_eq_canon _ _ _ (fun _ => cover0_A_9 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_10_eq (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_A_10
  rw [View.read_writes_eq_canon _ _ _ (fun _ => cover0_A_10 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_11_eq (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay9 := by
  unfold out0_A_11
  rw [View.read_writes_eq_canon _ _ _ (fun _ => cover0_A_11 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_A_0
  rw [View.read_writes_eq_canon _ _ _ (fun _ => scover0_A_0 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_1_eq (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_A_1
  rw [View.read_writes_eq_canon _ _ _ (fun _ => scover0_A_1 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_9_eq (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay13 xs0 x7 x3 x4 := by
  unfold out0_B_9
  rw [View.read_writes_eq_canon _ _ _ (fun _ => cover0_B_9 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_10_eq (hc0 : ¬cond0_0 i) (hc1 : ¬cond0_1 i) (hc2 : ¬cond0_2 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay1 (k0_pay12 x3) (k0_pay14 xs0 x7 x3) := by
  unfold out0_B_10
  rw [View.read_writes_eq_canon _ _ _ (fun _ => cover0_B_10 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_11_eq (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 x11 = x11 := by
  rfl

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = xs0 := by
  rfl

theorem sout0_B_1_eq (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay2 (k0_pay12 x3) (k0_pay13 xs0 x7 x3 x4) (k0_pay14 xs0 x7 x3) x5 x6 xs1 := by
  unfold sout0_B_1
  rw [View.read_writes_eq_canon _ _ _ (fun _ => scover0_B_1 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_8_eq (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay5 (k0_pay2 (k0_pay12 x3) (k0_pay13 xs0 x7 x3 x4) (k0_pay14 xs0 x7 x3) x5 x6 xs1) x1 x2 x0 := by
  unfold out0_C_8
  rw [View.read_writes_eq_canon _ _ _ (fun _ => cover0_C_8 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_9_eq (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay13 xs0 x7 x3 x4 := by
  unfold out0_C_9
  rw [View.read_writes_eq_canon _ _ _ (fun _ => cover0_C_9 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_10_eq (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay1 (k0_pay12 x3) (k0_pay14 xs0 x7 x3) := by
  unfold out0_C_10
  rw [View.read_writes_eq_canon _ _ _ (fun _ => cover0_C_10 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_11_eq (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay6 (k0_pay2 (k0_pay12 x3) (k0_pay13 xs0 x7 x3 x4) (k0_pay14 xs0 x7 x3) x5 x6 xs1) x1 x11 := by
  unfold out0_C_11
  rw [View.read_writes_eq_canon _ _ _ (fun _ => cover0_C_11 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = xs0 := by
  rfl

theorem sout0_C_1_eq (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay2 (k0_pay12 x3) (k0_pay13 xs0 x7 x3 x4) (k0_pay14 xs0 x7 x3) x5 x6 xs1 := by
  unfold sout0_C_1
  rw [View.read_writes_eq_canon _ _ _ (fun _ => scover0_C_1 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_9_eq (hc0 : cond0_0 i) (hc1 : ¬cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_D_9
  rw [View.read_writes_eq_canon _ _ _ (fun _ => cover0_D_9 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_10_eq (hc0 : cond0_0 i) (hc1 : ¬cond0_1 i) (hc2 : ¬cond0_2 i) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_D_10
  rw [View.read_writes_eq_canon _ _ _ (fun _ => cover0_D_10 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_11_eq (hc0 : cond0_0 i) (hc1 : ¬cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 = x11 := by
  rfl

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_D_0
  rw [View.read_writes_eq_canon _ _ _ (fun _ => scover0_D_0 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_D_1_eq (hc0 : cond0_0 i) (hc1 : ¬cond0_1 i) (hc2 : ¬cond0_2 i) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_D_1
  rw [View.read_writes_eq_canon _ _ _ (fun _ => scover0_D_1 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

end Cases

variable (m : (ℓ : Loc nD τ sig) → Buf (Elt F) ℓ) (c : Dev nD) (t : Fin cfg0.N)

/-- The blocks the point reads. -/
def inAt : In F := ⟨iblk m c 0 t, iblk m c 1 t, iblk m c 2 t, iblk m c 3 t, iblk m c 4 t, X0_5 m c t, X0_6 m c t, X0_7 m c t⟩

variable (acc : St F)

theorem same1 : @k0_pay1 F _ = @Cert.KernelIdeal.Gen.k0_pay1 F _ := rfl
theorem same2 : @k0_pay2 F _ = @Cert.KernelIdeal.Gen.k0_pay2 F _ := rfl
theorem same5 : @k0_pay5 F _ = @Cert.KernelIdeal.Gen.k0_pay5 F _ := rfl
theorem same6 : @k0_pay6 F _ = @Cert.KernelIdeal.Gen.k0_pay6 F _ := rfl
theorem same7 : @k0_pay7 F _ = @Cert.KernelIdeal.Gen.k0_pay7 F _ := rfl
theorem same8 : @k0_pay8 F _ = @Cert.KernelIdeal.Gen.k0_pay8 F _ := rfl
theorem same9 : @k0_pay9 F _ = @Cert.KernelIdeal.Gen.k0_pay9 F _ := rfl
theorem same12 : @k0_pay12 F _ = @Cert.KernelIdeal.Gen.k0_pay12 F _ := rfl
theorem same13 : @k0_pay13 F _ = @Cert.KernelIdeal.Gen.k0_pay13 F _ := rfl
theorem same14 : @k0_pay14 F _ = @Cert.KernelIdeal.Gen.k0_pay14 F _ := rfl

theorem st_doh : (stAt0 m c t.val t.isLt acc).2.2.2.2.1 = dohAt (inAt m c t) t.val acc := by
  dsimp only [inAt, dohAt]
  rcases case_of t.val with ⟨h0, h1, h2⟩ | ⟨h0, h1, h2⟩ | ⟨h0, h1, h2⟩ | ⟨h0, h1, h2⟩
  · rw [stAt0_A m c t acc h0 h1 h2, if_pos h0]; dsimp only; rw [sout0_A_0_eq]; simp only [same1, same2, same5, same6, same7, same8, same9, same12, same13, same14]
  · rw [stAt0_D m c t acc h0 h1 h2, if_pos h0]; dsimp only; rw [sout0_D_0_eq]; simp only [same1, same2, same5, same6, same7, same8, same9, same12, same13, same14]
  · rw [stAt0_B m c t acc h0 h1 h2, if_neg h0]; dsimp only; unfold sout0_B_0; rfl
  · rw [stAt0_C m c t acc h0 h1 h2, if_neg h0]; dsimp only; unfold sout0_C_0; rfl

theorem st_dh : (stAt0 m c t.val t.isLt acc).2.2.2.2.2 = dhAt (inAt m c t) (dohAt (inAt m c t) t.val acc) (dhFrom t.val acc) := by
  dsimp only [inAt, dohAt, dhFrom, dhAt, dgAt]
  rcases case_of t.val with ⟨h0, h1, h2⟩ | ⟨h0, h1, h2⟩ | ⟨h0, h1, h2⟩ | ⟨h0, h1, h2⟩
  · rw [stAt0_A m c t acc h0 h1 h2, if_pos h0, if_pos h0]; dsimp only; rw [sout0_A_1_eq]; simp only [same1, same2, same5, same6, same7, same8, same9, same12, same13, same14]
  · rw [stAt0_D m c t acc h0 h1 h2, if_pos h0, if_pos h0]; dsimp only; rw [sout0_D_1_eq]; simp only [same1, same2, same5, same6, same7, same8, same9, same12, same13, same14]
  · rw [stAt0_B m c t acc h0 h1 h2, if_neg h0, if_neg h0]; dsimp only; rw [sout0_B_1_eq]; simp only [same1, same2, same5, same6, same7, same8, same9, same12, same13, same14]
  · rw [stAt0_C m c t acc h0 h1 h2, if_neg h0, if_neg h0]; dsimp only; rw [sout0_C_1_eq]; simp only [same1, same2, same5, same6, same7, same8, same9, same12, same13, same14]

theorem st_dg : (stAt0 m c t.val t.isLt acc).2.1 = dgAt (inAt m c t) (dohAt (inAt m c t) t.val acc) := by
  dsimp only [inAt, dohAt, dgAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_9_eq]; simp only [same1, same2, same5, same6, same7, same8, same9, same12, same13, same14]
  · rw [stAt0_D m c t acc h0 h1 h2, if_pos h0]; dsimp only; rw [out0_D_9_eq]; simp only [same1, same2, same5, same6, same7, same8, same9, same12, same13, same14]
  · rw [stAt0_B m c t acc h0 h1 h2, if_neg h0]; dsimp only; rw [out0_B_9_eq]; simp only [same1, same2, same5, same6, same7, same8, same9, same12, same13, same14]
  · rw [stAt0_C m c t acc h0 h1 h2, if_neg h0]; dsimp only; rw [out0_C_9_eq]; simp only [same1, same2, same5, same6, same7, same8, same9, same12, same13, same14]

theorem st_du : (stAt0 m c t.val t.isLt acc).2.2.1 = duAt (inAt m c t) (dohAt (inAt m c t) t.val acc) := by
  dsimp only [inAt, dohAt, duAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_10_eq]; simp only [same1, same2, same5, same6, same7, same8, same9, same12, same13, same14]
  · rw [stAt0_D m c t acc h0 h1 h2, if_pos h0]; dsimp only; rw [out0_D_10_eq]; simp only [same1, same2, same5, same6, same7, same8, same9, same12, same13, same14]
  · rw [stAt0_B m c t acc h0 h1 h2, if_neg h0]; dsimp only; rw [out0_B_10_eq]; simp only [same1, same2, same5, same6, same7, same8, same9, same12, same13, same14]
  · rw [stAt0_C m c t acc h0 h1 h2, if_neg h0]; dsimp only; rw [out0_C_10_eq]; simp only [same1, same2, same5, same6, same7, same8, same9, same12, same13, same14]

theorem st_dnw_first (h : t.val % 64 = 0) : (stAt0 m c t.val t.isLt acc).2.2.2.1 = k0_pay9 := by
  rw [stAt0_A m c t acc (by omega) h (by omega)]; dsimp only; rw [out0_A_11_eq]

theorem st_dnw_keep (h : ¬t.val % 64 = 0) (h' : ¬t.val % 4 = 3) : (stAt0 m c t.val t.isLt acc).2.2.2.1 = acc.2.2.2.1 := by
  by_cases h0 : t.val % 4 = 0
  · rw [stAt0_D m c t acc h0 h h']; dsimp only; unfold out0_D_11; rfl
  · rw [stAt0_B m c t acc h0 h h']; dsimp only; unfold out0_B_11; rfl

theorem st_dnw_add (h : t.val % 4 = 3) : (stAt0 m c t.val t.isLt acc).2.2.2.1
    = k0_pay6 (dhAt (inAt m c t) (dohAt (inAt m c t) t.val acc) (dhFrom t.val acc)) (inAt m c t).x acc.2.2.2.1 := by
  have h0 : ¬t.val % 4 = 0 := by omega
  dsimp only [inAt, dohAt, dhFrom, dhAt, dgAt]
  rw [stAt0_C m c t acc h0 (by omega) h, if_neg h0, if_neg h0]; dsimp only; rw [out0_C_11_eq]; simp only [same1, same2, same5, same6, same7, same8, same9, same12, same13, same14]

theorem st_dx (h : t.val % 4 = 3) : (stAt0 m c t.val t.isLt acc).1
    = k0_pay5 (dhAt (inAt m c t) (dohAt (inAt m c t) t.val acc) (dhFrom t.val acc)) (inAt m c t).x (inAt m c t).w (inAt m c t).o := by
  have h0 : ¬t.val % 4 = 0 := by omega
  dsimp only [inAt, dohAt, dhFrom, dhAt, dgAt]
  rw [stAt0_C m c t acc h0 (by omega) h, if_neg h0, if_neg h0]; dsimp only; rw [out0_C_8_eq]; simp only [same1, same2, same5, same6, same7, same8, same9, same12, same13, same14]

/-- The point's step. -/
theorem steps : Step (inAt m c t) t.val acc (stAt0 m c t.val t.isLt acc) :=
  ⟨st_doh m c t acc, st_dh m c t acc, st_dg m c t acc, st_du m c t acc, st_dnw_first m c t acc, st_dnw_keep m c t acc,
    st_dnw_add m c t acc, st_dx m c t acc⟩

end Cert.KernelAIdeal.Ffn
-- ==== Proof.HalfA.lean ====
/-
  The backward kernel at the first layer's second half-step: a pack of 1792 rows, the blocks 0, 1, 2: the blocks it reads, and its four results
  beside the reference's.
-/
module

public import proofs.«01_k».proof.Proof.BlocksA

@[expose] public section

set_option maxRecDepth 16384

noncomputable section

namespace Cert.KernelAIdeal.Ffn

open Idealize.ShloMosaic Idealize.ShloMosaic.TcCoe Idealize.ShloMosaic.Tactic
open Cert.KernelAIdeal Cert.KernelAIdeal.Gen Cert.KernelAIdeal.Value Cert.Lift Cert.Ffn
open Cert.ReferenceIdeal.Ffn (Args)
open Cert.KernelIdeal.Ffn (hnV packV weightsV hnV_real packV_real pack_real T1 T2 TW Reads After after_all)

section Host

variable {F : FTy → Type} [FloatOps F]
variable (m : (ℓ : Loc nD τ sig) → Buf (Elt F) ℓ) (c : Dev nD)

theorem V_v36 : V m c main_v36 = broadcastInDim S1x1024 ![1] bcast_S1024_S1x1024_1 (m (c, main_arg2)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_v19 : V m c main_v19 = packV (hnV (m (c, main_arg1)) (m (c, main_arg2))) (m (c, main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

theorem V_v24 : V m c main_v24 = packV (hnV (m (c, main_arg1)) (m (c, main_arg2))) (m (c, main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

set_option maxHeartbeats 4000000 in
theorem V_v35 : V m c main_v35 = pad S8x1792x1024 ![0, 0, 0] ![0, 640, 0] ![0, 0, 0]
    (weightsV (m (c, main_arg3)) (m (c, main_arg4)) (m (c, main_arg5))) (sitofp .bf16 (constantI S_ 32 0#32))
    pads_S8x1152x1024_S8x1792x1024_000_06400_000 h_S_ := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_steps
  after_results_loop
  rfl

theorem V_arg0 : V m c main_arg0 = m (c, main_arg0) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_arg1 : V m c main_arg1 = m (c, main_arg1) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

end Host

variable {O X : ℕ → ℕ → ℝ} {W : ℕ → ℝ} {G U D : ℕ → ℕ → ℝ}
variable {m : (ℓ : Loc nD τ sig) → Buf (Elt Idealize.ShloMosaic.Ideal) ℓ} {c : Dev nD}

/-- The windows' offsets at a point. -/
theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val / 4 ∧ win0_3.index t 1 = t.val % 4 := by decide +kernel
theorem at4 : ∀ t : Fin cfg0.N, win0_4.index t 0 = t.val / 4 ∧ win0_4.index t 1 = t.val % 4 := by decide +kernel
theorem at5 : ∀ t : Fin cfg0.N, win0_5.index t 0 = t.val % 4 ∧ win0_5.index t 1 = 0 ∧ win0_5.index t 2 = 0 := by decide +kernel
theorem at6 : ∀ t : Fin cfg0.N, win0_6.index t 0 = t.val % 4 ∧ win0_6.index t 1 = 1 ∧ win0_6.index t 2 = 0 := by decide +kernel
theorem at7 : ∀ t : Fin cfg0.N, win0_7.index t 0 = t.val % 4 ∧ win0_7.index t 1 = 2 ∧ win0_7.index t 2 = 0 := by decide +kernel

variable (hG : Args O X W G U D (m (c, main_arg0)) (m (c, main_arg1)) (m (c, main_arg2)) (m (c, main_arg3)) (m (c, main_arg4)) (m (c, main_arg5))) (t : Fin cfg0.N)
include hG

theorem blk0 : R (s := S1024x1024) (iblk m c 0 t) (T2 fun r n => O (1024 * (t.val / 4) + r) n) := fun j => by
  obtain ⟨h0, h1⟩ := at0 t
  unfold iblk
  rw [View.read_apply]
  show V m c main_arg0 _ = _
  rw [V_arg0, hG.h0]
  refine congrArg ((↑) : ℝ → EReal) (congrArg₂ O ?_ ?_)
  · show win0_0.index t 0 * 1024 + 1 * (j 0).val = _
    rw [h0]; omega
  · show win0_0.index t 1 * 1024 + 1 * (j 1).val = _
    rw [h1]; omega

theorem blk1 : R (s := S1024x1024) (iblk m c 1 t) (T2 fun r n => X (1024 * (t.val / 4) + r) n) := fun j => by
  obtain ⟨h0, h1⟩ := at1 t
  unfold iblk
  rw [View.read_apply]
  show V m c main_arg1 _ = _
  rw [V_arg1, hG.h1]
  refine congrArg ((↑) : ℝ → EReal) (congrArg₂ X ?_ ?_)
  · show win0_1.index t 0 * 1024 + 1 * (j 0).val = _
    rw [h0]; omega
  · show win0_1.index t 1 * 1024 + 1 * (j 1).val = _
    rw [h1]; omega

theorem blk2 : R (s := S1x1024) (iblk m c 2 t) (T2 fun _ n => W n) := fun j => by
  obtain ⟨h0, h1⟩ := at2 t
  unfold iblk
  rw [View.read_apply]
  show V m c main_v36 _ = _
  rw [V_v36]
  refine (hG.h2 _).trans (congrArg ((↑) : ℝ → EReal) (congrArg W ?_))
  show win0_2.index t 1 * 1024 + 1 * (j 1).val = _
  rw [h1]; omega

theorem blk3 : R (s := S1024x768) (iblk m c 3 t)
    (T2 fun r p => padF (mm (hn X W) G (1024 * (t.val / 4) + r)) (768 * (t.val % 4) + p)) := fun j => by
  obtain ⟨h0, h1⟩ := at3 t
  unfold iblk
  rw [View.read_apply]
  show V m c main_v19 _ = _
  rw [V_v19]
  refine (packV_real (hnV_real hG.h1 hG.h2) hG.h3 _).trans (congrArg ((↑) : ℝ → EReal)
    (congrArg₂ (fun a b => padF (mm (hn X W) G a) b) ?_ ?_))
  · show win0_3.index t 0 * 1024 + 1 * (j 0).val = _
    rw [h0]; omega
  · show win0_3.index t 1 * 768 + 1 * (j 1).val = _
    rw [h1]; omega

theorem blk4 : R (s := S1024x768) (iblk m c 4 t)
    (T2 fun r p => padF (mm (hn X W) U (1024 * (t.val / 4) + r)) (768 * (t.val % 4) + p)) := fun j => by
  obtain ⟨h0, h1⟩ := at4 t
  unfold iblk
  rw [View.read_apply]
  show V m c main_v24 _ = _
  rw [V_v24]
  refine (packV_real (hnV_real hG.h1 hG.h2) hG.h4 _).trans (congrArg ((↑) : ℝ → EReal)
    (congrArg₂ (fun a b => padF (mm (hn X W) U a) b) ?_ ?_))
  · show win0_4.index t 0 * 1024 + 1 * (j 0).val = _
    rw [h0]; omega
  · show win0_4.index t 1 * 768 + 1 * (j 1).val = _
    rw [h1]; omega

theorem blk5 : R (s := S2x384x1024) (X0_5 m c t) (TW fun p n => padF (G n) (768 * (t.val % 4) + p)) := fun j => by
  obtain ⟨h0, h1, h2⟩ := at5 t
  have hj : (j 1).val < 384 := (j 1).isLt
  unfold X0_5 Pipeline.Window.fill iblk
  rw [dif_pos (moved0_5 t j), View.read_apply]
  show V m c main_v35 _ = _
  rw [V_v35]
  refine ((pack_real hG.h3 hG.h4 hG.h5 pads_S8x1152x1024_S8x1792x1024_000_06400_000 _ (j 1).val hj).1 ?_).trans (congrArg ((↑) : ℝ → EReal)
    (congrArg₂ (fun a b => padF (G a) b) ?_ ?_))
  · show win0_5.index t 1 * 384 + 1 * (j 1).val = 0 + (j 1).val
    rw [h1]; omega
  · show win0_5.index t 2 * 1024 + 1 * (j 2).val = _
    rw [h2]; omega
  · show 384 * (win0_5.index t 0 * 2 + 1 * (j 0).val) + (j 1).val = _
    rw [h0]; omega

theorem blk6 : R (s := S2x384x1024) (X0_6 m c t) (TW fun p n => padF (U n) (768 * (t.val % 4) + p)) := fun j => by
  obtain ⟨h0, h1, h2⟩ := at6 t
  have hj : (j 1).val < 384 := (j 1).isLt
  unfold X0_6 Pipeline.Window.fill iblk
  rw [dif_pos (moved0_6 t j), View.read_apply]
  show V m c main_v35 _ = _
  rw [V_v35]
  refine ((pack_real hG.h3 hG.h4 hG.h5 pads_S8x1152x1024_S8x1792x1024_000_06400_000 _ (j 1).val hj).2.1 ?_).trans (congrArg ((↑) : ℝ → EReal)
    (congrArg₂ (fun a b => padF (U a) b) ?_ ?_))
  · show win0_6.index t 1 * 384 + 1 * (j 1).val = 0 + 384 + (j 1).val
    rw [h1]; omega
  · show win0_6.index t 2 * 1024 + 1 * (j 2).val = _
    rw [h2]; omega
  · show 384 * (win0_6.index t 0 * 2 + 1 * (j 0).val) + (j 1).val = _
    rw [h0]; omega

theorem blk7 : R (s := S2x384x1024) (X0_7 m c t) (TW fun p n => padF (fun q => D q n) (768 * (t.val % 4) + p)) := fun j => by
  obtain ⟨h0, h1, h2⟩ := at7 t
  have hj : (j 1).val < 384 := (j 1).isLt
  unfold X0_7 Pipeline.Window.fill iblk
  rw [dif_pos (moved0_7 t j), View.read_apply]
  show V m c main_v35 _ = _
  rw [V_v35]
  refine ((pack_real hG.h3 hG.h4 hG.h5 pads_S8x1152x1024_S8x1792x1024_000_06400_000 _ (j 1).val hj).2.2 ?_).trans (congrArg ((↑) : ℝ → EReal)
    (congrArg₂ (fun a b => padF (fun q => D q a) b) ?_ ?_))
  · show win0_7.index t 1 * 384 + 1 * (j 1).val = 0 + 768 + (j 1).val
    rw [h1]; omega
  · show win0_7.index t 2 * 1024 + 1 * (j 2).val = _
    rw [h2]; omega
  · show 384 * (win0_7.index t 0 * 2 + 1 * (j 0).val) + (j 1).val = _
    rw [h0]; omega

set_option maxHeartbeats 1600000 in
/-- The blocks of a point are the ones the step wants. -/
theorem reads : Reads O X W G U D t.val (inAt m c t) := by
  have h0 := blk0 hG t
  have h1 := blk1 hG t
  have h2 := blk2 hG t
  have h3 := blk3 hG t
  have h4 := blk4 hG t
  have h5 := blk5 hG t
  have h6 := blk6 hG t
  have h7 := blk7 hG t
  unfold inAt
  exact ⟨h0, h1, h2, h3, h4, h5, h6, h7⟩

/-- After every grid point. -/
theorem after : ∀ (n : ℕ) (hn : n < cfg0.N), After O X W G U D n (outsAt0 m c n hn) :=
  after_all N_0 (reads hG) (fun hn => ⟨junk0, by rw [outsAt0_zero]; exact steps m c ⟨0, hn⟩ junk0⟩)
    (fun n hn => by rw [outsAt0_succ]; exact steps m c ⟨n + 1, hn⟩ _)

theorem dx_real : R (s := S16384x1024) (G8 m c) (T2 (dx O X W G U D)) := fun i => by
  have h0 : (i 0).val < 16384 := (i 0).isLt
  have h1 : (i 1).val < 1024 := (i 1).isLt
  have hp : pt8Of i = 4 * ((i 0).val / 1024) + 3 := by
    show 4 * (1 * ((i 0).val / 1024 - 0) + 1 * ((i 1).val / 1024 - 0)) + 3 = _; omega
  have hb : pt8Of i < cfg0.N := lt_of_lt_of_eq (by omega) N_0.symm
  unfold G8
  rw [dif_pos hb, ← outsAt0_sweep]
  refine ((after hG (pt8Of i) hb).dx (by omega) (loc8Of i)).trans (congrArg ((↑) : ℝ → EReal) (congrArg₂ (dx O X W G U D) ?_ ?_))
  · show 1024 * (pt8Of i / 4) + (i 0).val % 1024 = _; omega
  · show (i 1).val % 1024 = _; omega

theorem dg_real : R (s := S16384x3072) (G9 m c) (T2 fun t => padF (dg O X W G U D t)) := fun i => by
  have h0 : (i 0).val < 16384 := (i 0).isLt
  have h1 : (i 1).val < 3072 := (i 1).isLt
  have hp : pt9Of i = 4 * ((i 0).val / 1024) + (i 1).val / 768 := by
    show 4 * ((i 0).val / 1024 - 0) + 1 * ((i 1).val / 768 - 0) = _; omega
  have hb : pt9Of i < cfg0.N := lt_of_lt_of_eq (by omega) N_0.symm
  unfold G9
  rw [dif_pos hb, ← outsAt0_sweep]
  refine ((after hG (pt9Of i) hb).dg (loc9Of i)).trans (congrArg ((↑) : ℝ → EReal)
    (congrArg₂ (fun a b => padF (dg O X W G U D a) b) ?_ ?_))
  · show 1024 * (pt9Of i / 4) + (i 0).val % 1024 = _; omega
  · show 768 * (pt9Of i % 4) + (i 1).val % 768 = _; omega

theorem du_real : R (s := S16384x3072) (G10 m c) (T2 fun t => padF (du O X W G D t)) := fun i => by
  have h0 : (i 0).val < 16384 := (i 0).isLt
  have h1 : (i 1).val < 3072 := (i 1).isLt
  have hp : pt10Of i = 4 * ((i 0).val / 1024) + (i 1).val / 768 := by
    show 4 * ((i 0).val / 1024 - 0) + 1 * ((i 1).val / 768 - 0) = _; omega
  have hb : pt10Of i < cfg0.N := lt_of_lt_of_eq (by omega) N_0.symm
  unfold G10
  rw [dif_pos hb, ← outsAt0_sweep]
  refine ((after hG (pt10Of i) hb).du (loc10Of i)).trans (congrArg ((↑) : ℝ → EReal)
    (congrArg₂ (fun a b => padF (du O X W G D a) b) ?_ ?_))
  · show 1024 * (pt10Of i / 4) + (i 0).val % 1024 = _; omega
  · show 768 * (pt10Of i % 4) + (i 1).val % 768 = _; omega

theorem dnw_real : R (s := S1x1024) (G11 m c) (T2 fun _ => dnw O X W G U D) := fun i => by
  rw [G11_last, ← outsAt0_sweep]
  exact (after hG 63 (lt_of_lt_of_eq (by decide) N_0.symm)).dnw i

end Cert.KernelAIdeal.Ffn

namespace Cert.Ffn

open Idealize.ShloMosaic Idealize.ShloMosaic.TcCoe Idealize.SL.Sem Cert.Lift

theorem valueA : @algebraic_KernelAIdeal_ReferenceIdeal_pre_finite KernelAIdeal.Gen.facts ReferenceIdeal.Gen.facts Pre_finite.facts := by
  intro m g m' g' hp hm
  refine ⟨fun c => KernelAIdeal.Value.G8 m c, fun c => KernelAIdeal.Value.G9 m c, fun c => KernelAIdeal.Value.G10 m c,
    fun c => KernelAIdeal.Value.G11 m c, KernelAIdeal.Value.run m g, (θ_run _ _ _).mono (fun r h c => ?_) (ReferenceIdeal.Value.run m' g')⟩
  obtain ⟨O, X, W, G, U, D, ha⟩ := tables_of (hp c)
  obtain ⟨e0, e1, e2, e3, e4, e5⟩ := hm c
  obtain ⟨r0, r1, r2, r3, rest⟩ := h c
  refine ⟨r0.trans ?_, r1.trans ?_, r2.trans ?_, r3.trans ?_, rest⟩
  · rw [ReferenceIdeal.Read.val_main_v57_eq, e0, e1, e2, e3, e4, e5]
    funext i
    exact (ReferenceIdeal.Ffn.v57 ha i).trans (KernelAIdeal.Ffn.dx_real ha i).symm
  · rw [ReferenceIdeal.Read.val_main_v61_eq, e0, e1, e2, e3, e4, e5]
    funext i
    exact (ReferenceIdeal.Ffn.v61 ha i).trans (KernelAIdeal.Ffn.dg_real ha i).symm
  · rw [ReferenceIdeal.Read.val_main_v65_eq, e0, e1, e2, e3, e5]
    funext i
    exact (ReferenceIdeal.Ffn.v65 ha i).trans (KernelAIdeal.Ffn.du_real ha i).symm
  · rw [ReferenceIdeal.Read.val_main_v66_eq, e0, e1, e2, e3, e4, e5]
    funext i
    exact (ReferenceIdeal.Ffn.v66 ha i).trans (KernelAIdeal.Ffn.dnw_real ha i).symm

end Cert.Ffn
-- ==== Proof.BlocksB.lean ====
/-
  The backward kernel at the second layer's first half-step: a pack of 2944 rows, the blocks 0, 1, 2.
  What one grid point leaves in its blocks and in its two scratch buffers, and so one step of the recursion (Grid.lean).
  The program's windows and buffers are its own, its arithmetic is the first half-step's.
-/
module

public import proofs.«01_k».proof.Proof.HalfA
public import proofs.«01_k».proof.Proof.Gen.KernelBIdeal.Value

@[expose] public section

set_option maxRecDepth 16384

noncomputable section

namespace Cert.KernelBIdeal.Ffn

open Idealize.ShloMosaic Idealize.ShloMosaic.TcCoe Idealize.ShloMosaic.Tactic
open Cert.KernelBIdeal Cert.KernelBIdeal.Gen Cert.KernelBIdeal.Value
open Cert.KernelIdeal.Ffn (hz hz3 St In Step dohAt dhFrom dgAt duAt dhAt case_of)

variable {F : FTy → Type} [FloatOps F]

section Cases

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S2x384x1024 .bf16) (harg7 : arg7.IsWhole) (arg8 : Memref sig .tc .vmem S2x384x1024 .bf16) (harg8 : arg8.IsWhole) (arg9 : Memref sig .tc .vmem S2x384x1024 .bf16) (harg9 : arg9.IsWhole) (arg10 : Memref sig .tc .vmem S1024x1024 .f32) (harg10 : arg10.IsWhole) (arg11 : Memref sig .tc .vmem S1024x768 .bf16) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1024x1024 .f32) (harg15 : arg15.IsWhole)
variable (x0 : Vec F S1024x1024 .f32) (x1 : Vec F S1024x1024 .f32) (x2 : Vec F S1x1024 .f32) (x3 : Vec F S1024x768 .bf16)
  (x4 : Vec F S1024x768 .bf16) (x5 : Vec F S2x384x1024 .bf16) (x6 : Vec F S2x384x1024 .bf16) (x7 : Vec F S2x384x1024 .bf16)
  (x11 : Vec F S1x1024 .f32) (xs0 : Vec F S1024x1024 .bf16) (xs1 : Vec F S1024x1024 .f32)

theorem out0_A_9_eq (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_A_9
  rw [View.read_writes_eq_canon _ _ _ (fun _ => cover0_A_9 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_10_eq (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_A_10
  rw [View.read_writes_eq_canon _ _ _ (fun _ => cover0_A_10 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_11_eq (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay9 := by
  unfold out0_A_11
  rw [View.read_writes_eq_canon _ _ _ (fun _ => cover0_A_11 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_A_0
  rw [View.read_writes_eq_canon _ _ _ (fun _ => scover0_A_0 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_1_eq (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_A_1
  rw [View.read_writes_eq_canon _ _ _ (fun _ => scover0_A_1 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_9_eq (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay13 xs0 x7 x3 x4 := by
  unfold out0_B_9
  rw [View.read_writes_eq_canon _ _ _ (fun _ => cover0_B_9 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_10_eq (hc0 : ¬cond0_0 i) (hc1 : ¬cond0_1 i) (hc2 : ¬cond0_2 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay1 (k0_pay12 x3) (k0_pay14 xs0 x7 x3) := by
  unfold out0_B_10
  rw [View.read_writes_eq_canon _ _ _ (fun _ => cover0_B_10 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_11_eq (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 x11 = x11 := by
  rfl

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = xs0 := by
  rfl

theorem sout0_B_1_eq (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay2 (k0_pay12 x3) (k0_pay13 xs0 x7 x3 x4) (k0_pay14 xs0 x7 x3) x5 x6 xs1 := by
  unfold sout0_B_1
  rw [View.read_writes_eq_canon _ _ _ (fun _ => scover0_B_1 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_8_eq (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay5 (k0_pay2 (k0_pay12 x3) (k0_pay13 xs0 x7 x3 x4) (k0_pay14 xs0 x7 x3) x5 x6 xs1) x1 x2 x0 := by
  unfold out0_C_8
  rw [View.read_writes_eq_canon _ _ _ (fun _ => cover0_C_8 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_9_eq (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay13 xs0 x7 x3 x4 := by
  unfold out0_C_9
  rw [View.read_writes_eq_canon _ _ _ (fun _ => cover0_C_9 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_10_eq (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay1 (k0_pay12 x3) (k0_pay14 xs0 x7 x3) := by
  unfold out0_C_10
  rw [View.read_writes_eq_canon _ _ _ (fun _ => cover0_C_10 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_11_eq (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay6 (k0_pay2 (k0_pay12 x3) (k0_pay13 xs0 x7 x3 x4) (k0_pay14 xs0 x7 x3) x5 x6 xs1) x1 x11 := by
  unfold out0_C_11
  rw [View.read_writes_eq_canon _ _ _ (fun _ => cover0_C_11 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = xs0 := by
  rfl

theorem sout0_C_1_eq (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay2 (k0_pay12 x3) (k0_pay13 xs0 x7 x3 x4) (k0_pay14 xs0 x7 x3) x5 x6 xs1 := by
  unfold sout0_C_1
  rw [View.read_writes_eq_canon _ _ _ (fun _ => scover0_C_1 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_9_eq (hc0 : cond0_0 i) (hc1 : ¬cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_D_9
  rw [View.read_writes_eq_canon _ _ _ (fun _ => cover0_D_9 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_10_eq (hc0 : cond0_0 i) (hc1 : ¬cond0_1 i) (hc2 : ¬cond0_2 i) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_D_10
  rw [View.read_writes_eq_canon _ _ _ (fun _ => cover0_D_10 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_11_eq (hc0 : cond0_0 i) (hc1 : ¬cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 = x11 := by
  rfl

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_D_0
  rw [View.read_writes_eq_canon _ _ _ (fun _ => scover0_D_0 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_D_1_eq (hc0 : cond0_0 i) (hc1 : ¬cond0_1 i) (hc2 : ¬cond0_2 i) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_D_1
  rw [View.read_writes_eq_canon _ _ _ (fun _ => scover0_D_1 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

end Cases

variable (m : (ℓ : Loc nD τ sig) → Buf (Elt F) ℓ) (c : Dev nD) (t : Fin cfg0.N)

/-- The blocks the point reads. -/
def inAt : In F := ⟨iblk m c 0 t, iblk m c 1 t, iblk m c 2 t, iblk m c 3 t, iblk m c 4 t, X0_5 m c t, X0_6 m c t, X0_7 m c t⟩

variable (acc : St F)

theorem same1 : @k0_pay1 F _ = @Cert.KernelIdeal.Gen.k0_pay1 F _ := rfl
theorem same2 : @k0_pay2 F _ = @Cert.KernelIdeal.Gen.k0_pay2 F _ := rfl
theorem same5 : @k0_pay5 F _ = @Cert.KernelIdeal.Gen.k0_pay5 F _ := rfl
theorem same6 : @k0_pay6 F _ = @Cert.KernelIdeal.Gen.k0_pay6 F _ := rfl
theorem same7 : @k0_pay7 F _ = @Cert.KernelIdeal.Gen.k0_pay7 F _ := rfl
theorem same8 : @k0_pay8 F _ = @Cert.KernelIdeal.Gen.k0_pay8 F _ := rfl
theorem same9 : @k0_pay9 F _ = @Cert.KernelIdeal.Gen.k0_pay9 F _ := rfl
theorem same12 : @k0_pay12 F _ = @Cert.KernelIdeal.Gen.k0_pay12 F _ := rfl
theorem same13 : @k0_pay13 F _ = @Cert.KernelIdeal.Gen.k0_pay13 F _ := rfl
theorem same14 : @k0_pay14 F _ = @Cert.KernelIdeal.Gen.k0_pay14 F _ := rfl

theorem st_doh : (stAt0 m c t.val t.isLt acc).2.2.2.2.1 = dohAt (inAt m c t) t.val acc := by
  dsimp only [inAt, dohAt]
  rcases case_of t.val with ⟨h0, h1, h2⟩ | ⟨h0, h1, h2⟩ | ⟨h0, h1, h2⟩ | ⟨h0, h1, h2⟩
  · rw [stAt0_A m c t acc h0 h1 h2, if_pos h0]; dsimp only; rw [sout0_A_0_eq]; simp only [same1, same2, same5, same6, same7, same8, same9, same12, same13, same14]
  · rw [stAt0_D m c t acc h0 h1 h2, if_pos h0]; dsimp only; rw [sout0_D_0_eq]; simp only [same1, same2, same5, same6, same7, same8, same9, same12, same13, same14]
  · rw [stAt0_B m c t acc h0 h1 h2, if_neg h0]; dsimp only; unfold sout0_B_0; rfl
  · rw [stAt0_C m c t acc h0 h1 h2, if_neg h0]; dsimp only; unfold sout0_C_0; rfl

theorem st_dh : (stAt0 m c t.val t.isLt acc).2.2.2.2.2 = dhAt (inAt m c t) (dohAt (inAt m c t) t.val acc) (dhFrom t.val acc) := by
  dsimp only [inAt, dohAt, dhFrom, dhAt, dgAt]
  rcases case_of t.val with ⟨h0, h1, h2⟩ | ⟨h0, h1, h2⟩ | ⟨h0, h1, h2⟩ | ⟨h0, h1, h2⟩
  · rw [stAt0_A m c t acc h0 h1 h2, if_pos h0, if_pos h0]; dsimp only; rw [sout0_A_1_eq]; simp only [same1, same2, same5, same6, same7, same8, same9, same12, same13, same14]
  · rw [stAt0_D m c t acc h0 h1 h2, if_pos h0, if_pos h0]; dsimp only; rw [sout0_D_1_eq]; simp only [same1, same2, same5, same6, same7, same8, same9, same12, same13, same14]
  · rw [stAt0_B m c t acc h0 h1 h2, if_neg h0, if_neg h0]; dsimp only; rw [sout0_B_1_eq]; simp only [same1, same2, same5, same6, same7, same8, same9, same12, same13, same14]
  · rw [stAt0_C m c t acc h0 h1 h2, if_neg h0, if_neg h0]; dsimp only; rw [sout0_C_1_eq]; simp only [same1, same2, same5, same6, same7, same8, same9, same12, same13, same14]

theorem st_dg : (stAt0 m c t.val t.isLt acc).2.1 = dgAt (inAt m c t) (dohAt (inAt m c t) t.val acc) := by
  dsimp only [inAt, dohAt, dgAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_9_eq]; simp only [same1, same2, same5, same6, same7, same8, same9, same12, same13, same14]
  · rw [stAt0_D m c t acc h0 h1 h2, if_pos h0]; dsimp only; rw [out0_D_9_eq]; simp only [same1, same2, same5, same6, same7, same8, same9, same12, same13, same14]
  · rw [stAt0_B m c t acc h0 h1 h2, if_neg h0]; dsimp only; rw [out0_B_9_eq]; simp only [same1, same2, same5, same6, same7, same8, same9, same12, same13, same14]
  · rw [stAt0_C m c t acc h0 h1 h2, if_neg h0]; dsimp only; rw [out0_C_9_eq]; simp only [same1, same2, same5, same6, same7, same8, same9, same12, same13, same14]

theorem st_du : (stAt0 m c t.val t.isLt acc).2.2.1 = duAt (inAt m c t) (dohAt (inAt m c t) t.val acc) := by
  dsimp only [inAt, dohAt, duAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_10_eq]; simp only [same1, same2, same5, same6, same7, same8, same9, same12, same13, same14]
  · rw [stAt0_D m c t acc h0 h1 h2, if_pos h0]; dsimp only; rw [out0_D_10_eq]; simp only [same1, same2, same5, same6, same7, same8, same9, same12, same13, same14]
  · rw [stAt0_B m c t acc h0 h1 h2, if_neg h0]; dsimp only; rw [out0_B_10_eq]; simp only [same1, same2, same5, same6, same7, same8, same9, same12, same13, same14]
  · rw [stAt0_C m c t acc h0 h1 h2, if_neg h0]; dsimp only; rw [out0_C_10_eq]; simp only [same1, same2, same5, same6, same7, same8, same9, same12, same13, same14]

theorem st_dnw_first (h : t.val % 64 = 0) : (stAt0 m c t.val t.isLt acc).2.2.2.1 = k0_pay9 := by
  rw [stAt0_A m c t acc (by omega) h (by omega)]; dsimp only; rw [out0_A_11_eq]

theorem st_dnw_keep (h : ¬t.val % 64 = 0) (h' : ¬t.val % 4 = 3) : (stAt0 m c t.val t.isLt acc).2.2.2.1 = acc.2.2.2.1 := by
  by_cases h0 : t.val % 4 = 0
  · rw [stAt0_D m c t acc h0 h h']; dsimp only; unfold out0_D_11; rfl
  · rw [stAt0_B m c t acc h0 h h']; dsimp only; unfold out0_B_11; rfl

theorem st_dnw_add (h : t.val % 4 = 3) : (stAt0 m c t.val t.isLt acc).2.2.2.1
    = k0_pay6 (dhAt (inAt m c t) (dohAt (inAt m c t) t.val acc) (dhFrom t.val acc)) (inAt m c t).x acc.2.2.2.1 := by
  have h0 : ¬t.val % 4 = 0 := by omega
  dsimp only [inAt, dohAt, dhFrom, dhAt, dgAt]
  rw [stAt0_C m c t acc h0 (by omega) h, if_neg h0, if_neg h0]; dsimp only; rw [out0_C_11_eq]; simp only [same1, same2, same5, same6, same7, same8, same9, same12, same13, same14]

theorem st_dx (h : t.val % 4 = 3) : (stAt0 m c t.val t.isLt acc).1
    = k0_pay5 (dhAt (inAt m c t) (dohAt (inAt m c t) t.val acc) (dhFrom t.val acc)) (inAt m c t).x (inAt m c t).w (inAt m c t).o := by
  have h0 : ¬t.val % 4 = 0 := by omega
  dsimp only [inAt, dohAt, dhFrom, dhAt, dgAt]
  rw [stAt0_C m c t acc h0 (by omega) h, if_neg h0, if_neg h0]; dsimp only; rw [out0_C_8_eq]; simp only [same1, same2, same5, same6, same7, same8, same9, same12, same13, same14]

/-- The point's step. -/
theorem steps : Step (inAt m c t) t.val acc (stAt0 m c t.val t.isLt acc) :=
  ⟨st_doh m c t acc, st_dh m c t acc, st_dg m c t acc, st_du m c t acc, st_dnw_first m c t acc, st_dnw_keep m c t acc,
    st_dnw_add m c t acc, st_dx m c t acc⟩

end Cert.KernelBIdeal.Ffn
-- ==== Proof.HalfB.lean ====
/-
  The backward kernel at the second layer's first half-step: a pack of 2944 rows, the blocks 0, 1, 2: the blocks it reads, and its four results
  beside the reference's.
-/
module

public import proofs.«01_k».proof.Proof.BlocksB

@[expose] public section

set_option maxRecDepth 16384

noncomputable section

namespace Cert.KernelBIdeal.Ffn

open Idealize.ShloMosaic Idealize.ShloMosaic.TcCoe Idealize.ShloMosaic.Tactic
open Cert.KernelBIdeal Cert.KernelBIdeal.Gen Cert.KernelBIdeal.Value Cert.Lift Cert.Ffn
open Cert.ReferenceIdeal.Ffn (Args)
open Cert.KernelIdeal.Ffn (hnV packV weightsV hnV_real packV_real pack_real T1 T2 TW Reads After after_all)

section Host

variable {F : FTy → Type} [FloatOps F]
variable (m : (ℓ : Loc nD τ sig) → Buf (Elt F) ℓ) (c : Dev nD)

theorem V_v36 : V m c main_v36 = broadcastInDim S1x1024 ![1] bcast_S1024_S1x1024_1 (m (c, main_arg2)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_v19 : V m c main_v19 = packV (hnV (m (c, main_arg1)) (m (c, main_arg2))) (m (c, main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

theorem V_v24 : V m c main_v24 = packV (hnV (m (c, main_arg1)) (m (c, main_arg2))) (m (c, main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

set_option maxHeartbeats 4000000 in
theorem V_v35 : V m c main_v35 = pad S8x2944x1024 ![0, 0, 0] ![0, 1792, 0] ![0, 0, 0]
    (weightsV (m (c, main_arg3)) (m (c, main_arg4)) (m (c, main_arg5))) (sitofp .bf16 (constantI S_ 32 0#32))
    pads_S8x1152x1024_S8x2944x1024_000_017920_000 h_S_ := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_steps
  after_results_loop
  rfl

theorem V_arg0 : V m c main_arg0 = m (c, main_arg0) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_arg1 : V m c main_arg1 = m (c, main_arg1) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

end Host

variable {O X : ℕ → ℕ → ℝ} {W : ℕ → ℝ} {G U D : ℕ → ℕ → ℝ}
variable {m : (ℓ : Loc nD τ sig) → Buf (Elt Idealize.ShloMosaic.Ideal) ℓ} {c : Dev nD}

/-- The windows' offsets at a point. -/
theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val / 4 ∧ win0_3.index t 1 = t.val % 4 := by decide +kernel
theorem at4 : ∀ t : Fin cfg0.N, win0_4.index t 0 = t.val / 4 ∧ win0_4.index t 1 = t.val % 4 := by decide +kernel
theorem at5 : ∀ t : Fin cfg0.N, win0_5.index t 0 = t.val % 4 ∧ win0_5.index t 1 = 0 ∧ win0_5.index t 2 = 0 := by decide +kernel
theorem at6 : ∀ t : Fin cfg0.N, win0_6.index t 0 = t.val % 4 ∧ win0_6.index t 1 = 1 ∧ win0_6.index t 2 = 0 := by decide +kernel
theorem at7 : ∀ t : Fin cfg0.N, win0_7.index t 0 = t.val % 4 ∧ win0_7.index t 1 = 2 ∧ win0_7.index t 2 = 0 := by decide +kernel

variable (hG : Args O X W G U D (m (c, main_arg0)) (m (c, main_arg1)) (m (c, main_arg2)) (m (c, main_arg3)) (m (c, main_arg4)) (m (c, main_arg5))) (t : Fin cfg0.N)
include hG

theorem blk0 : R (s := S1024x1024) (iblk m c 0 t) (T2 fun r n => O (1024 * (t.val / 4) + r) n) := fun j => by
  obtain ⟨h0, h1⟩ := at0 t
  unfold iblk
  rw [View.read_apply]
  show V m c main_arg0 _ = _
  rw [V_arg0, hG.h0]
  refine congrArg ((↑) : ℝ → EReal) (congrArg₂ O ?_ ?_)
  · show win0_0.index t 0 * 1024 + 1 * (j 0).val = _
    rw [h0]; omega
  · show win0_0.index t 1 * 1024 + 1 * (j 1).val = _
    rw [h1]; omega

theorem blk1 : R (s := S1024x1024) (iblk m c 1 t) (T2 fun r n => X (1024 * (t.val / 4) + r) n) := fun j => by
  obtain ⟨h0, h1⟩ := at1 t
  unfold iblk
  rw [View.read_apply]
  show V m c main_arg1 _ = _
  rw [V_arg1, hG.h1]
  refine congrArg ((↑) : ℝ → EReal) (congrArg₂ X ?_ ?_)
  · show win0_1.index t 0 * 1024 + 1 * (j 0).val = _
    rw [h0]; omega
  · show win0_1.index t 1 * 1024 + 1 * (j 1).val = _
    rw [h1]; omega

theorem blk2 : R (s := S1x1024) (iblk m c 2 t) (T2 fun _ n => W n) := fun j => by
  obtain ⟨h0, h1⟩ := at2 t
  unfold iblk
  rw [View.read_apply]
  show V m c main_v36 _ = _
  rw [V_v36]
  refine (hG.h2 _).trans (congrArg ((↑) : ℝ → EReal) (congrArg W ?_))
  show win0_2.index t 1 * 1024 + 1 * (j 1).val = _
  rw [h1]; omega

theorem blk3 : R (s := S1024x768) (iblk m c 3 t)
    (T2 fun r p => padF (mm (hn X W) G (1024 * (t.val / 4) + r)) (768 * (t.val % 4) + p)) := fun j => by
  obtain ⟨h0, h1⟩ := at3 t
  unfold iblk
  rw [View.read_apply]
  show V m c main_v19 _ = _
  rw [V_v19]
  refine (packV_real (hnV_real hG.h1 hG.h2) hG.h3 _).trans (congrArg ((↑) : ℝ → EReal)
    (congrArg₂ (fun a b => padF (mm (hn X W) G a) b) ?_ ?_))
  · show win0_3.index t 0 * 1024 + 1 * (j 0).val = _
    rw [h0]; omega
  · show win0_3.index t 1 * 768 + 1 * (j 1).val = _
    rw [h1]; omega

theorem blk4 : R (s := S1024x768) (iblk m c 4 t)
    (T2 fun r p => padF (mm (hn X W) U (1024 * (t.val / 4) + r)) (768 * (t.val % 4) + p)) := fun j => by
  obtain ⟨h0, h1⟩ := at4 t
  unfold iblk
  rw [View.read_apply]
  show V m c main_v24 _ = _
  rw [V_v24]
  refine (packV_real (hnV_real hG.h1 hG.h2) hG.h4 _).trans (congrArg ((↑) : ℝ → EReal)
    (congrArg₂ (fun a b => padF (mm (hn X W) U a) b) ?_ ?_))
  · show win0_4.index t 0 * 1024 + 1 * (j 0).val = _
    rw [h0]; omega
  · show win0_4.index t 1 * 768 + 1 * (j 1).val = _
    rw [h1]; omega

theorem blk5 : R (s := S2x384x1024) (X0_5 m c t) (TW fun p n => padF (G n) (768 * (t.val % 4) + p)) := fun j => by
  obtain ⟨h0, h1, h2⟩ := at5 t
  have hj : (j 1).val < 384 := (j 1).isLt
  unfold X0_5 Pipeline.Window.fill iblk
  rw [dif_pos (moved0_5 t j), View.read_apply]
  show V m c main_v35 _ = _
  rw [V_v35]
  refine ((pack_real hG.h3 hG.h4 hG.h5 pads_S8x1152x1024_S8x2944x1024_000_017920_000 _ (j 1).val hj).1 ?_).trans (congrArg ((↑) : ℝ → EReal)
    (congrArg₂ (fun a b => padF (G a) b) ?_ ?_))
  · show win0_5.index t 1 * 384 + 1 * (j 1).val = 0 + (j 1).val
    rw [h1]; omega
  · show win0_5.index t 2 * 1024 + 1 * (j 2).val = _
    rw [h2]; omega
  · show 384 * (win0_5.index t 0 * 2 + 1 * (j 0).val) + (j 1).val = _
    rw [h0]; omega

theorem blk6 : R (s := S2x384x1024) (X0_6 m c t) (TW fun p n => padF (U n) (768 * (t.val % 4) + p)) := fun j => by
  obtain ⟨h0, h1, h2⟩ := at6 t
  have hj : (j 1).val < 384 := (j 1).isLt
  unfold X0_6 Pipeline.Window.fill iblk
  rw [dif_pos (moved0_6 t j), View.read_apply]
  show V m c main_v35 _ = _
  rw [V_v35]
  refine ((pack_real hG.h3 hG.h4 hG.h5 pads_S8x1152x1024_S8x2944x1024_000_017920_000 _ (j 1).val hj).2.1 ?_).trans (congrArg ((↑) : ℝ → EReal)
    (congrArg₂ (fun a b => padF (U a) b) ?_ ?_))
  · show win0_6.index t 1 * 384 + 1 * (j 1).val = 0 + 384 + (j 1).val
    rw [h1]; omega
  · show win0_6.index t 2 * 1024 + 1 * (j 2).val = _
    rw [h2]; omega
  · show 384 * (win0_6.index t 0 * 2 + 1 * (j 0).val) + (j 1).val = _
    rw [h0]; omega

theorem blk7 : R (s := S2x384x1024) (X0_7 m c t) (TW fun p n => padF (fun q => D q n) (768 * (t.val % 4) + p)) := fun j => by
  obtain ⟨h0, h1, h2⟩ := at7 t
  have hj : (j 1).val < 384 := (j 1).isLt
  unfold X0_7 Pipeline.Window.fill iblk
  rw [dif_pos (moved0_7 t j), View.read_apply]
  show V m c main_v35 _ = _
  rw [V_v35]
  refine ((pack_real hG.h3 hG.h4 hG.h5 pads_S8x1152x1024_S8x2944x1024_000_017920_000 _ (j 1).val hj).2.2 ?_).trans (congrArg ((↑) : ℝ → EReal)
    (congrArg₂ (fun a b => padF (fun q => D q a) b) ?_ ?_))
  · show win0_7.index t 1 * 384 + 1 * (j 1).val = 0 + 768 + (j 1).val
    rw [h1]; omega
  · show win0_7.index t 2 * 1024 + 1 * (j 2).val = _
    rw [h2]; omega
  · show 384 * (win0_7.index t 0 * 2 + 1 * (j 0).val) + (j 1).val = _
    rw [h0]; omega

set_option maxHeartbeats 1600000 in
/-- The blocks of a point are the ones the step wants. -/
theorem reads : Reads O X W G U D t.val (inAt m c t) := by
  have h0 := blk0 hG t
  have h1 := blk1 hG t
  have h2 := blk2 hG t
  have h3 := blk3 hG t
  have h4 := blk4 hG t
  have h5 := blk5 hG t
  have h6 := blk6 hG t
  have h7 := blk7 hG t
  unfold inAt
  exact ⟨h0, h1, h2, h3, h4, h5, h6, h7⟩

/-- After every grid point. -/
theorem after : ∀ (n : ℕ) (hn : n < cfg0.N), After O X W G U D n (outsAt0 m c n hn) :=
  after_all N_0 (reads hG) (fun hn => ⟨junk0, by rw [outsAt0_zero]; exact steps m c ⟨0, hn⟩ junk0⟩)
    (fun n hn => by rw [outsAt0_succ]; exact steps m c ⟨n + 1, hn⟩ _)

theorem dx_real : R (s := S16384x1024) (G8 m c) (T2 (dx O X W G U D)) := fun i => by
  have h0 : (i 0).val < 16384 := (i 0).isLt
  have h1 : (i 1).val < 1024 := (i 1).isLt
  have hp : pt8Of i = 4 * ((i 0).val / 1024) + 3 := by
    show 4 * (1 * ((i 0).val / 1024 - 0) + 1 * ((i 1).val / 1024 - 0)) + 3 = _; omega
  have hb : pt8Of i < cfg0.N := lt_of_lt_of_eq (by omega) N_0.symm
  unfold G8
  rw [dif_pos hb, ← outsAt0_sweep]
  refine ((after hG (pt8Of i) hb).dx (by omega) (loc8Of i)).trans (congrArg ((↑) : ℝ → EReal) (congrArg₂ (dx O X W G U D) ?_ ?_))
  · show 1024 * (pt8Of i / 4) + (i 0).val % 1024 = _; omega
  · show (i 1).val % 1024 = _; omega

theorem dg_real : R (s := S16384x3072) (G9 m c) (T2 fun t => padF (dg O X W G U D t)) := fun i => by
  have h0 : (i 0).val < 16384 := (i 0).isLt
  have h1 : (i 1).val < 3072 := (i 1).isLt
  have hp : pt9Of i = 4 * ((i 0).val / 1024) + (i 1).val / 768 := by
    show 4 * ((i 0).val / 1024 - 0) + 1 * ((i 1).val / 768 - 0) = _; omega
  have hb : pt9Of i < cfg0.N := lt_of_lt_of_eq (by omega) N_0.symm
  unfold G9
  rw [dif_pos hb, ← outsAt0_sweep]
  refine ((after hG (pt9Of i) hb).dg (loc9Of i)).trans (congrArg ((↑) : ℝ → EReal)
    (congrArg₂ (fun a b => padF (dg O X W G U D a) b) ?_ ?_))
  · show 1024 * (pt9Of i / 4) + (i 0).val % 1024 = _; omega
  · show 768 * (pt9Of i % 4) + (i 1).val % 768 = _; omega

theorem du_real : R (s := S16384x3072) (G10 m c) (T2 fun t => padF (du O X W G D t)) := fun i => by
  have h0 : (i 0).val < 16384 := (i 0).isLt
  have h1 : (i 1).val < 3072 := (i 1).isLt
  have hp : pt10Of i = 4 * ((i 0).val / 1024) + (i 1).val / 768 := by
    show 4 * ((i 0).val / 1024 - 0) + 1 * ((i 1).val / 768 - 0) = _; omega
  have hb : pt10Of i < cfg0.N := lt_of_lt_of_eq (by omega) N_0.symm
  unfold G10
  rw [dif_pos hb, ← outsAt0_sweep]
  refine ((after hG (pt10Of i) hb).du (loc10Of i)).trans (congrArg ((↑) : ℝ → EReal)
    (congrArg₂ (fun a b => padF (du O X W G D a) b) ?_ ?_))
  · show 1024 * (pt10Of i / 4) + (i 0).val % 1024 = _; omega
  · show 768 * (pt10Of i % 4) + (i 1).val % 768 = _; omega

theorem dnw_real : R (s := S1x1024) (G11 m c) (T2 fun _ => dnw O X W G U D) := fun i => by
  rw [G11_last, ← outsAt0_sweep]
  exact (after hG 63 (lt_of_lt_of_eq (by decide) N_0.symm)).dnw i

end Cert.KernelBIdeal.Ffn

namespace Cert.Ffn

open Idealize.ShloMosaic Idealize.ShloMosaic.TcCoe Idealize.SL.Sem Cert.Lift

theorem valueB : @algebraic_KernelBIdeal_ReferenceIdeal_pre_finite KernelBIdeal.Gen.facts ReferenceIdeal.Gen.facts Pre_finite.facts := by
  intro m g m' g' hp hm
  refine ⟨fun c => KernelBIdeal.Value.G8 m c, fun c => KernelBIdeal.Value.G9 m c, fun c => KernelBIdeal.Value.G10 m c,
    fun c => KernelBIdeal.Value.G11 m c, KernelBIdeal.Value.run m g, (θ_run _ _ _).mono (fun r h c => ?_) (ReferenceIdeal.Value.run m' g')⟩
  obtain ⟨O, X, W, G, U, D, ha⟩ := tables_of (hp c)
  obtain ⟨e0, e1, e2, e3, e4, e5⟩ := hm c
  obtain ⟨r0, r1, r2, r3, rest⟩ := h c
  refine ⟨r0.trans ?_, r1.trans ?_, r2.trans ?_, r3.trans ?_, rest⟩
  · rw [ReferenceIdeal.Read.val_main_v57_eq, e0, e1, e2, e3, e4, e5]
    funext i
    exact (ReferenceIdeal.Ffn.v57 ha i).trans (KernelBIdeal.Ffn.dx_real ha i).symm
  · rw [ReferenceIdeal.Read.val_main_v61_eq, e0, e1, e2, e3, e4, e5]
    funext i
    exact (ReferenceIdeal.Ffn.v61 ha i).trans (KernelBIdeal.Ffn.dg_real ha i).symm
  · rw [ReferenceIdeal.Read.val_main_v65_eq, e0, e1, e2, e3, e5]
    funext i
    exact (ReferenceIdeal.Ffn.v65 ha i).trans (KernelBIdeal.Ffn.du_real ha i).symm
  · rw [ReferenceIdeal.Read.val_main_v66_eq, e0, e1, e2, e3, e4, e5]
    funext i
    exact (ReferenceIdeal.Ffn.v66 ha i).trans (KernelBIdeal.Ffn.dnw_real ha i).symm

end Cert.Ffn
-- ==== Proof.BlocksC.lean ====
/-
  The backward kernel at the second layer's second half-step: a pack of 2944 rows, the blocks 3, 4, 5.
  What one grid point leaves in its blocks and in its two scratch buffers, and so one step of the recursion (Grid.lean).
  The program's windows and buffers are its own, its arithmetic is the first half-step's.
-/
module

public import proofs.«01_k».proof.Proof.HalfB
public import proofs.«01_k».proof.Proof.Gen.KernelCIdeal.Value

@[expose] public section

set_option maxRecDepth 16384

noncomputable section

namespace Cert.KernelCIdeal.Ffn

open Idealize.ShloMosaic Idealize.ShloMosaic.TcCoe Idealize.ShloMosaic.Tactic
open Cert.KernelCIdeal Cert.KernelCIdeal.Gen Cert.KernelCIdeal.Value
open Cert.KernelIdeal.Ffn (hz hz3 St In Step dohAt dhFrom dgAt duAt dhAt case_of)

variable {F : FTy → Type} [FloatOps F]

section Cases

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S2x384x1024 .bf16) (harg7 : arg7.IsWhole) (arg8 : Memref sig .tc .vmem S2x384x1024 .bf16) (harg8 : arg8.IsWhole) (arg9 : Memref sig .tc .vmem S2x384x1024 .bf16) (harg9 : arg9.IsWhole) (arg10 : Memref sig .tc .vmem S1024x1024 .f32) (harg10 : arg10.IsWhole) (arg11 : Memref sig .tc .vmem S1024x768 .bf16) (harg11 : arg11.IsWhole) (arg12 : Memref sig .tc .vmem S1024x768 .bf16) (harg12 : arg12.IsWhole) (arg13 : Memref sig .tc .vmem S1x1024 .f32) (harg13 : arg13.IsWhole) (arg14 : Memref sig .tc .vmem S1024x1024 .bf16) (harg14 : arg14.IsWhole) (arg15 : Memref sig .tc .vmem S1024x1024 .f32) (harg15 : arg15.IsWhole)
variable (x0 : Vec F S1024x1024 .f32) (x1 : Vec F S1024x1024 .f32) (x2 : Vec F S1x1024 .f32) (x3 : Vec F S1024x768 .bf16)
  (x4 : Vec F S1024x768 .bf16) (x5 : Vec F S2x384x1024 .bf16) (x6 : Vec F S2x384x1024 .bf16) (x7 : Vec F S2x384x1024 .bf16)
  (x11 : Vec F S1x1024 .f32) (xs0 : Vec F S1024x1024 .bf16) (xs1 : Vec F S1024x1024 .f32)

theorem out0_A_9_eq (hc0 : cond0_0 i) (hc1 : cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_A_9
  rw [View.read_writes_eq_canon _ _ _ (fun _ => cover0_A_9 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_10_eq (hc0 : cond0_0 i) (hc1 : cond0_1 i) (hc2 : ¬cond0_2 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_A_10
  rw [View.read_writes_eq_canon _ _ _ (fun _ => cover0_A_10 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_A_11_eq (hc0 : cond0_0 i) (hc1 : cond0_1 i) (hc2 : ¬cond0_2 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay9 := by
  unfold out0_A_11
  rw [View.read_writes_eq_canon _ _ _ (fun _ => cover0_A_11 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_0_eq (hc0 : cond0_0 i) (hc1 : cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_A_0
  rw [View.read_writes_eq_canon _ _ _ (fun _ => scover0_A_0 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_A_1_eq (hc0 : cond0_0 i) (hc1 : cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_A_1
  rw [View.read_writes_eq_canon _ _ _ (fun _ => scover0_A_1 ..)]
  unfold kernelRun0_A
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_9_eq (hc0 : ¬cond0_0 i) (hc1 : ¬cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay13 xs0 x7 x3 x4 := by
  unfold out0_B_9
  rw [View.read_writes_eq_canon _ _ _ (fun _ => cover0_B_9 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_10_eq (hc0 : ¬cond0_0 i) (hc1 : ¬cond0_1 i) (hc2 : ¬cond0_2 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay1 (k0_pay12 x3) (k0_pay14 xs0 x7 x3) := by
  unfold out0_B_10
  rw [View.read_writes_eq_canon _ _ _ (fun _ => cover0_B_10 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_B_11_eq (hc0 : ¬cond0_0 i) (hc1 : ¬cond0_1 i) (hc2 : ¬cond0_2 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 x11 = x11 := by
  rfl

theorem sout0_B_0_eq (hc0 : ¬cond0_0 i) (hc1 : ¬cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = xs0 := by
  rfl

theorem sout0_B_1_eq (hc0 : ¬cond0_0 i) (hc1 : ¬cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs0 xs1 = k0_pay2 (k0_pay12 x3) (k0_pay13 xs0 x7 x3 x4) (k0_pay14 xs0 x7 x3) x5 x6 xs1 := by
  unfold sout0_B_1
  rw [View.read_writes_eq_canon _ _ _ (fun _ => scover0_B_1 ..)]
  unfold kernelRun0_B
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_8_eq (hc0 : ¬cond0_0 i) (hc1 : ¬cond0_1 i) (hc2 : cond0_2 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay5 (k0_pay2 (k0_pay12 x3) (k0_pay13 xs0 x7 x3 x4) (k0_pay14 xs0 x7 x3) x5 x6 xs1) x1 x2 x0 := by
  unfold out0_C_8
  rw [View.read_writes_eq_canon _ _ _ (fun _ => cover0_C_8 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_9_eq (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay13 xs0 x7 x3 x4 := by
  unfold out0_C_9
  rw [View.read_writes_eq_canon _ _ _ (fun _ => cover0_C_9 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_10_eq (hc0 : ¬cond0_0 i) (hc1 : ¬cond0_1 i) (hc2 : cond0_2 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay1 (k0_pay12 x3) (k0_pay14 xs0 x7 x3) := by
  unfold out0_C_10
  rw [View.read_writes_eq_canon _ _ _ (fun _ => cover0_C_10 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_C_11_eq (hc0 : ¬cond0_0 i) (hc1 : ¬cond0_1 i) (hc2 : cond0_2 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay6 (k0_pay2 (k0_pay12 x3) (k0_pay13 xs0 x7 x3 x4) (k0_pay14 xs0 x7 x3) x5 x6 xs1) x1 x11 := by
  unfold out0_C_11
  rw [View.read_writes_eq_canon _ _ _ (fun _ => cover0_C_11 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_C_0_eq (hc0 : ¬cond0_0 i) (hc1 : ¬cond0_1 i) (hc2 : cond0_2 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = xs0 := by
  rfl

theorem sout0_C_1_eq (hc0 : ¬cond0_0 i) (hc1 : ¬cond0_1 i) (hc2 : cond0_2 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 xs0 xs1 = k0_pay2 (k0_pay12 x3) (k0_pay13 xs0 x7 x3 x4) (k0_pay14 xs0 x7 x3) x5 x6 xs1 := by
  unfold sout0_C_1
  rw [View.read_writes_eq_canon _ _ _ (fun _ => scover0_C_1 ..)]
  unfold kernelRun0_C
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_9_eq (hc0 : cond0_0 i) (hc1 : ¬cond0_1 i) (hc2 : ¬cond0_2 i) :
    out0_D_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay13 (k0_pay7 x0) x7 x3 x4 := by
  unfold out0_D_9
  rw [View.read_writes_eq_canon _ _ _ (fun _ => cover0_D_9 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_10_eq (hc0 : cond0_0 i) (hc1 : ¬cond0_1 i) (hc2 : ¬cond0_2 i) :
    out0_D_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay1 (k0_pay12 x3) (k0_pay14 (k0_pay7 x0) x7 x3) := by
  unfold out0_D_10
  rw [View.read_writes_eq_canon _ _ _ (fun _ => cover0_D_10 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem out0_D_11_eq (hc0 : cond0_0 i) (hc1 : ¬cond0_1 i) (hc2 : ¬cond0_2 i) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x11 = x11 := by
  rfl

theorem sout0_D_0_eq (hc0 : cond0_0 i) (hc1 : ¬cond0_1 i) (hc2 : ¬cond0_2 i) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay7 x0 := by
  unfold sout0_D_0
  rw [View.read_writes_eq_canon _ _ _ (fun _ => scover0_D_0 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

theorem sout0_D_1_eq (hc0 : cond0_0 i) (hc1 : ¬cond0_1 i) (hc2 : ¬cond0_2 i) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 = k0_pay2 (k0_pay12 x3) (k0_pay13 (k0_pay7 x0) x7 x3 x4) (k0_pay14 (k0_pay7 x0) x7 x3) x5 x6 k0_pay8 := by
  unfold sout0_D_1
  rw [View.read_writes_eq_canon _ _ _ (fun _ => scover0_D_1 ..)]
  unfold kernelRun0_D
  dsimp only
  sl_unfold_words
  first
    | rw [View.canon_unit_zero hz]
    | rw [View.canon_cons_unit_zero hz]
  all_goals simp (disch := assumption) only [View.readAt_eq_ld, Memref.IsWhole.read_unread,
    View.readCov_unit_zero (S := S1024x1024) _ hz, View.ld_unit_zero (S := S1024x1024) hz, View.ld_unit_zero (S := S1024x768) hz, View.ld_unit_zero (S := S1x1024) hz,
    View.ld_unit_zero (S := S2x384x1024) hz3]

end Cases

variable (m : (ℓ : Loc nD τ sig) → Buf (Elt F) ℓ) (c : Dev nD) (t : Fin cfg0.N)

/-- The blocks the point reads. -/
def inAt : In F := ⟨iblk m c 0 t, iblk m c 1 t, iblk m c 2 t, iblk m c 3 t, iblk m c 4 t, X0_5 m c t, X0_6 m c t, X0_7 m c t⟩

variable (acc : St F)

theorem same1 : @k0_pay1 F _ = @Cert.KernelIdeal.Gen.k0_pay1 F _ := rfl
theorem same2 : @k0_pay2 F _ = @Cert.KernelIdeal.Gen.k0_pay2 F _ := rfl
theorem same5 : @k0_pay5 F _ = @Cert.KernelIdeal.Gen.k0_pay5 F _ := rfl
theorem same6 : @k0_pay6 F _ = @Cert.KernelIdeal.Gen.k0_pay6 F _ := rfl
theorem same7 : @k0_pay7 F _ = @Cert.KernelIdeal.Gen.k0_pay7 F _ := rfl
theorem same8 : @k0_pay8 F _ = @Cert.KernelIdeal.Gen.k0_pay8 F _ := rfl
theorem same9 : @k0_pay9 F _ = @Cert.KernelIdeal.Gen.k0_pay9 F _ := rfl
theorem same12 : @k0_pay12 F _ = @Cert.KernelIdeal.Gen.k0_pay12 F _ := rfl
theorem same13 : @k0_pay13 F _ = @Cert.KernelIdeal.Gen.k0_pay13 F _ := rfl
theorem same14 : @k0_pay14 F _ = @Cert.KernelIdeal.Gen.k0_pay14 F _ := rfl

theorem st_doh : (stAt0 m c t.val t.isLt acc).2.2.2.2.1 = dohAt (inAt m c t) t.val acc := by
  dsimp only [inAt, dohAt]
  rcases case_of t.val with ⟨h0, h1, h2⟩ | ⟨h0, h1, h2⟩ | ⟨h0, h1, h2⟩ | ⟨h0, h1, h2⟩
  · rw [stAt0_A m c t acc h0 h1 h2, if_pos h0]; dsimp only; rw [sout0_A_0_eq]; simp only [same1, same2, same5, same6, same7, same8, same9, same12, same13, same14]
  · rw [stAt0_D m c t acc h0 h1 h2, if_pos h0]; dsimp only; rw [sout0_D_0_eq]; simp only [same1, same2, same5, same6, same7, same8, same9, same12, same13, same14]
  · rw [stAt0_B m c t acc h0 h1 h2, if_neg h0]; dsimp only; unfold sout0_B_0; rfl
  · rw [stAt0_C m c t acc h0 h1 h2, if_neg h0]; dsimp only; unfold sout0_C_0; rfl

theorem st_dh : (stAt0 m c t.val t.isLt acc).2.2.2.2.2 = dhAt (inAt m c t) (dohAt (inAt m c t) t.val acc) (dhFrom t.val acc) := by
  dsimp only [inAt, dohAt, dhFrom, dhAt, dgAt]
  rcases case_of t.val with ⟨h0, h1, h2⟩ | ⟨h0, h1, h2⟩ | ⟨h0, h1, h2⟩ | ⟨h0, h1, h2⟩
  · rw [stAt0_A m c t acc h0 h1 h2, if_pos h0, if_pos h0]; dsimp only; rw [sout0_A_1_eq]; simp only [same1, same2, same5, same6, same7, same8, same9, same12, same13, same14]
  · rw [stAt0_D m c t acc h0 h1 h2, if_pos h0, if_pos h0]; dsimp only; rw [sout0_D_1_eq]; simp only [same1, same2, same5, same6, same7, same8, same9, same12, same13, same14]
  · rw [stAt0_B m c t acc h0 h1 h2, if_neg h0, if_neg h0]; dsimp only; rw [sout0_B_1_eq]; simp only [same1, same2, same5, same6, same7, same8, same9, same12, same13, same14]
  · rw [stAt0_C m c t acc h0 h1 h2, if_neg h0, if_neg h0]; dsimp only; rw [sout0_C_1_eq]; simp only [same1, same2, same5, same6, same7, same8, same9, same12, same13, same14]

theorem st_dg : (stAt0 m c t.val t.isLt acc).2.1 = dgAt (inAt m c t) (dohAt (inAt m c t) t.val acc) := by
  dsimp only [inAt, dohAt, dgAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_9_eq]; simp only [same1, same2, same5, same6, same7, same8, same9, same12, same13, same14]
  · rw [stAt0_D m c t acc h0 h1 h2, if_pos h0]; dsimp only; rw [out0_D_9_eq]; simp only [same1, same2, same5, same6, same7, same8, same9, same12, same13, same14]
  · rw [stAt0_B m c t acc h0 h1 h2, if_neg h0]; dsimp only; rw [out0_B_9_eq]; simp only [same1, same2, same5, same6, same7, same8, same9, same12, same13, same14]
  · rw [stAt0_C m c t acc h0 h1 h2, if_neg h0]; dsimp only; rw [out0_C_9_eq]; simp only [same1, same2, same5, same6, same7, same8, same9, same12, same13, same14]

theorem st_du : (stAt0 m c t.val t.isLt acc).2.2.1 = duAt (inAt m c t) (dohAt (inAt m c t) t.val acc) := by
  dsimp only [inAt, dohAt, duAt]
  rcases case_of t.val with ⟨h0, h1, h2⟩ | ⟨h0, h1, h2⟩ | ⟨h0, h1, h2⟩ | ⟨h0, h1, h2⟩
  · rw [stAt0_A m c t acc h0 h1 h2, if_pos h0]; dsimp only; rw [out0_A_10_eq]; simp only [same1, same2, same5, same6, same7, same8, same9, same12, same13, same14]
  · rw [stAt0_D m c t acc h0 h1 h2, if_pos h0]; dsimp only; rw [out0_D_10_eq]; simp only [same1, same2, same5, same6, same7, same8, same9, same12, same13, same14]
  · rw [stAt0_B m c t acc h0 h1 h2, if_neg h0]; dsimp only; rw [out0_B_10_eq]; simp only [same1, same2, same5, same6, same7, same8, same9, same12, same13, same14]
  · rw [stAt0_C m c t acc h0 h1 h2, if_neg h0]; dsimp only; rw [out0_C_10_eq]; simp only [same1, same2, same5, same6, same7, same8, same9, same12, same13, same14]

theorem st_dnw_first (h : t.val % 64 = 0) : (stAt0 m c t.val t.isLt acc).2.2.2.1 = k0_pay9 := by
  rw [stAt0_A m c t acc (by omega) h (by omega)]; dsimp only; rw [out0_A_11_eq]

theorem st_dnw_keep (h : ¬t.val % 64 = 0) (h' : ¬t.val % 4 = 3) : (stAt0 m c t.val t.isLt acc).2.2.2.1 = acc.2.2.2.1 := by
  by_cases h0 : t.val % 4 = 0
  · rw [stAt0_D m c t acc h0 h h']; dsimp only; unfold out0_D_11; rfl
  · rw [stAt0_B m c t acc h0 h h']; dsimp only; unfold out0_B_11; rfl

theorem st_dnw_add (h : t.val % 4 = 3) : (stAt0 m c t.val t.isLt acc).2.2.2.1
    = k0_pay6 (dhAt (inAt m c t) (dohAt (inAt m c t) t.val acc) (dhFrom t.val acc)) (inAt m c t).x acc.2.2.2.1 := by
  have h0 : ¬t.val % 4 = 0 := by omega
  dsimp only [inAt, dohAt, dhFrom, dhAt, dgAt]
  rw [stAt0_C m c t acc h0 (by omega) h, if_neg h0, if_neg h0]; dsimp only; rw [out0_C_11_eq]; simp only [same1, same2, same5, same6, same7, same8, same9, same12, same13, same14]

theorem st_dx (h : t.val % 4 = 3) : (stAt0 m c t.val t.isLt acc).1
    = k0_pay5 (dhAt (inAt m c t) (dohAt (inAt m c t) t.val acc) (dhFrom t.val acc)) (inAt m c t).x (inAt m c t).w (inAt m c t).o := by
  have h0 : ¬t.val % 4 = 0 := by omega
  dsimp only [inAt, dohAt, dhFrom, dhAt, dgAt]
  rw [stAt0_C m c t acc h0 (by omega) h, if_neg h0, if_neg h0]; dsimp only; rw [out0_C_8_eq]; simp only [same1, same2, same5, same6, same7, same8, same9, same12, same13, same14]

/-- The point's step. -/
theorem steps : Step (inAt m c t) t.val acc (stAt0 m c t.val t.isLt acc) :=
  ⟨st_doh m c t acc, st_dh m c t acc, st_dg m c t acc, st_du m c t acc, st_dnw_first m c t acc, st_dnw_keep m c t acc,
    st_dnw_add m c t acc, st_dx m c t acc⟩

end Cert.KernelCIdeal.Ffn
-- ==== Proof.HalfC.lean ====
/-
  The backward kernel at the second layer's second half-step: a pack of 2944 rows, the blocks 3, 4, 5: the blocks it reads, and its four results
  beside the reference's.
-/
module

public import proofs.«01_k».proof.Proof.BlocksC

@[expose] public section

set_option maxRecDepth 16384

noncomputable section

namespace Cert.KernelCIdeal.Ffn

open Idealize.ShloMosaic Idealize.ShloMosaic.TcCoe Idealize.ShloMosaic.Tactic
open Cert.KernelCIdeal Cert.KernelCIdeal.Gen Cert.KernelCIdeal.Value Cert.Lift Cert.Ffn
open Cert.ReferenceIdeal.Ffn (Args)
open Cert.KernelIdeal.Ffn (hnV packV weightsV hnV_real packV_real pack_real T1 T2 TW Reads After after_all)

section Host

variable {F : FTy → Type} [FloatOps F]
variable (m : (ℓ : Loc nD τ sig) → Buf (Elt F) ℓ) (c : Dev nD)

theorem V_v36 : V m c main_v36 = broadcastInDim S1x1024 ![1] bcast_S1024_S1x1024_1 (m (c, main_arg2)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_v19 : V m c main_v19 = packV (hnV (m (c, main_arg1)) (m (c, main_arg2))) (m (c, main_arg3)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

theorem V_v24 : V m c main_v24 = packV (hnV (m (c, main_arg1)) (m (c, main_arg2))) (m (c, main_arg4)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

set_option maxHeartbeats 4000000 in
theorem V_v35 : V m c main_v35 = pad S8x2944x1024 ![0, 1152, 0] ![0, 640, 0] ![0, 0, 0]
    (weightsV (m (c, main_arg3)) (m (c, main_arg4)) (m (c, main_arg5))) (sitofp .bf16 (constantI S_ 32 0#32))
    pads_S8x1152x1024_S8x2944x1024_000_11526400_000 h_S_ := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results_steps
  after_results_loop
  rfl

theorem V_arg0 : V m c main_arg0 = m (c, main_arg0) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

theorem V_arg1 : V m c main_arg1 = m (c, main_arg1) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results

end Host

variable {O X : ℕ → ℕ → ℝ} {W : ℕ → ℝ} {G U D : ℕ → ℕ → ℝ}
variable {m : (ℓ : Loc nD τ sig) → Buf (Elt Idealize.ShloMosaic.Ideal) ℓ} {c : Dev nD}

/-- The windows' offsets at a point. -/
theorem at0 : ∀ t : Fin cfg0.N, win0_0.index t 0 = t.val / 4 ∧ win0_0.index t 1 = 0 := by decide +kernel
theorem at1 : ∀ t : Fin cfg0.N, win0_1.index t 0 = t.val / 4 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val / 4 ∧ win0_3.index t 1 = t.val % 4 := by decide +kernel
theorem at4 : ∀ t : Fin cfg0.N, win0_4.index t 0 = t.val / 4 ∧ win0_4.index t 1 = t.val % 4 := by decide +kernel
theorem at5 : ∀ t : Fin cfg0.N, win0_5.index t 0 = t.val % 4 ∧ win0_5.index t 1 = 3 ∧ win0_5.index t 2 = 0 := by decide +kernel
theorem at6 : ∀ t : Fin cfg0.N, win0_6.index t 0 = t.val % 4 ∧ win0_6.index t 1 = 4 ∧ win0_6.index t 2 = 0 := by decide +kernel
theorem at7 : ∀ t : Fin cfg0.N, win0_7.index t 0 = t.val % 4 ∧ win0_7.index t 1 = 5 ∧ win0_7.index t 2 = 0 := by decide +kernel

variable (hG : Args O X W G U D (m (c, main_arg0)) (m (c, main_arg1)) (m (c, main_arg2)) (m (c, main_arg3)) (m (c, main_arg4)) (m (c, main_arg5))) (t : Fin cfg0.N)
include hG

theorem blk0 : R (s := S1024x1024) (iblk m c 0 t) (T2 fun r n => O (1024 * (t.val / 4) + r) n) := fun j => by
  obtain ⟨h0, h1⟩ := at0 t
  unfold iblk
  rw [View.read_apply]
  show V m c main_arg0 _ = _
  rw [V_arg0, hG.h0]
  refine congrArg ((↑) : ℝ → EReal) (congrArg₂ O ?_ ?_)
  · show win0_0.index t 0 * 1024 + 1 * (j 0).val = _
    rw [h0]; omega
  · show win0_0.index t 1 * 1024 + 1 * (j 1).val = _
    rw [h1]; omega

theorem blk1 : R (s := S1024x1024) (iblk m c 1 t) (T2 fun r n => X (1024 * (t.val / 4) + r) n) := fun j => by
  obtain ⟨h0, h1⟩ := at1 t
  unfold iblk
  rw [View.read_apply]
  show V m c main_arg1 _ = _
  rw [V_arg1, hG.h1]
  refine congrArg ((↑) : ℝ → EReal) (congrArg₂ X ?_ ?_)
  · show win0_1.index t 0 * 1024 + 1 * (j 0).val = _
    rw [h0]; omega
  · show win0_1.index t 1 * 1024 + 1 * (j 1).val = _
    rw [h1]; omega

theorem blk2 : R (s := S1x1024) (iblk m c 2 t) (T2 fun _ n => W n) := fun j => by
  obtain ⟨h0, h1⟩ := at2 t
  unfold iblk
  rw [View.read_apply]
  show V m c main_v36 _ = _
  rw [V_v36]
  refine (hG.h2 _).trans (congrArg ((↑) : ℝ → EReal) (congrArg W ?_))
  show win0_2.index t 1 * 1024 + 1 * (j 1).val = _
  rw [h1]; omega

theorem blk3 : R (s := S1024x768) (iblk m c 3 t)
    (T2 fun r p => padF (mm (hn X W) G (1024 * (t.val / 4) + r)) (768 * (t.val % 4) + p)) := fun j => by
  obtain ⟨h0, h1⟩ := at3 t
  unfold iblk
  rw [View.read_apply]
  show V m c main_v19 _ = _
  rw [V_v19]
  refine (packV_real (hnV_real hG.h1 hG.h2) hG.h3 _).trans (congrArg ((↑) : ℝ → EReal)
    (congrArg₂ (fun a b => padF (mm (hn X W) G a) b) ?_ ?_))
  · show win0_3.index t 0 * 1024 + 1 * (j 0).val = _
    rw [h0]; omega
  · show win0_3.index t 1 * 768 + 1 * (j 1).val = _
    rw [h1]; omega

theorem blk4 : R (s := S1024x768) (iblk m c 4 t)
    (T2 fun r p => padF (mm (hn X W) U (1024 * (t.val / 4) + r)) (768 * (t.val % 4) + p)) := fun j => by
  obtain ⟨h0, h1⟩ := at4 t
  unfold iblk
  rw [View.read_apply]
  show V m c main_v24 _ = _
  rw [V_v24]
  refine (packV_real (hnV_real hG.h1 hG.h2) hG.h4 _).trans (congrArg ((↑) : ℝ → EReal)
    (congrArg₂ (fun a b => padF (mm (hn X W) U a) b) ?_ ?_))
  · show win0_4.index t 0 * 1024 + 1 * (j 0).val = _
    rw [h0]; omega
  · show win0_4.index t 1 * 768 + 1 * (j 1).val = _
    rw [h1]; omega

theorem blk5 : R (s := S2x384x1024) (X0_5 m c t) (TW fun p n => padF (G n) (768 * (t.val % 4) + p)) := fun j => by
  obtain ⟨h0, h1, h2⟩ := at5 t
  have hj : (j 1).val < 384 := (j 1).isLt
  unfold X0_5 Pipeline.Window.fill iblk
  rw [dif_pos (moved0_5 t j), View.read_apply]
  show V m c main_v35 _ = _
  rw [V_v35]
  refine ((pack_real hG.h3 hG.h4 hG.h5 pads_S8x1152x1024_S8x2944x1024_000_11526400_000 _ (j 1).val hj).1 ?_).trans (congrArg ((↑) : ℝ → EReal)
    (congrArg₂ (fun a b => padF (G a) b) ?_ ?_))
  · show win0_5.index t 1 * 384 + 1 * (j 1).val = 1152 + (j 1).val
    rw [h1]; omega
  · show win0_5.index t 2 * 1024 + 1 * (j 2).val = _
    rw [h2]; omega
  · show 384 * (win0_5.index t 0 * 2 + 1 * (j 0).val) + (j 1).val = _
    rw [h0]; omega

theorem blk6 : R (s := S2x384x1024) (X0_6 m c t) (TW fun p n => padF (U n) (768 * (t.val % 4) + p)) := fun j => by
  obtain ⟨h0, h1, h2⟩ := at6 t
  have hj : (j 1).val < 384 := (j 1).isLt
  unfold X0_6 Pipeline.Window.fill iblk
  rw [dif_pos (moved0_6 t j), View.read_apply]
  show V m c main_v35 _ = _
  rw [V_v35]
  refine ((pack_real hG.h3 hG.h4 hG.h5 pads_S8x1152x1024_S8x2944x1024_000_11526400_000 _ (j 1).val hj).2.1 ?_).trans (congrArg ((↑) : ℝ → EReal)
    (congrArg₂ (fun a b => padF (U a) b) ?_ ?_))
  · show win0_6.index t 1 * 384 + 1 * (j 1).val = 1152 + 384 + (j 1).val
    rw [h1]; omega
  · show win0_6.index t 2 * 1024 + 1 * (j 2).val = _
    rw [h2]; omega
  · show 384 * (win0_6.index t 0 * 2 + 1 * (j 0).val) + (j 1).val = _
    rw [h0]; omega

theorem blk7 : R (s := S2x384x1024) (X0_7 m c t) (TW fun p n => padF (fun q => D q n) (768 * (t.val % 4) + p)) := fun j => by
  obtain ⟨h0, h1, h2⟩ := at7 t
  have hj : (j 1).val < 384 := (j 1).isLt
  unfold X0_7 Pipeline.Window.fill iblk
  rw [dif_pos (moved0_7 t j), View.read_apply]
  show V m c main_v35 _ = _
  rw [V_v35]
  refine ((pack_real hG.h3 hG.h4 hG.h5 pads_S8x1152x1024_S8x2944x1024_000_11526400_000 _ (j 1).val hj).2.2 ?_).trans (congrArg ((↑) : ℝ → EReal)
    (congrArg₂ (fun a b => padF (fun q => D q a) b) ?_ ?_))
  · show win0_7.index t 1 * 384 + 1 * (j 1).val = 1152 + 768 + (j 1).val
    rw [h1]; omega
  · show win0_7.index t 2 * 1024 + 1 * (j 2).val = _
    rw [h2]; omega
  · show 384 * (win0_7.index t 0 * 2 + 1 * (j 0).val) + (j 1).val = _
    rw [h0]; omega

set_option maxHeartbeats 1600000 in
/-- The blocks of a point are the ones the step wants. -/
theorem reads : Reads O X W G U D t.val (inAt m c t) := by
  have h0 := blk0 hG t
  have h1 := blk1 hG t
  have h2 := blk2 hG t
  have h3 := blk3 hG t
  have h4 := blk4 hG t
  have h5 := blk5 hG t
  have h6 := blk6 hG t
  have h7 := blk7 hG t
  unfold inAt
  exact ⟨h0, h1, h2, h3, h4, h5, h6, h7⟩

/-- After every grid point. -/
theorem after : ∀ (n : ℕ) (hn : n < cfg0.N), After O X W G U D n (outsAt0 m c n hn) :=
  after_all N_0 (reads hG) (fun hn => ⟨junk0, by rw [outsAt0_zero]; exact steps m c ⟨0, hn⟩ junk0⟩)
    (fun n hn => by rw [outsAt0_succ]; exact steps m c ⟨n + 1, hn⟩ _)

theorem dx_real : R (s := S16384x1024) (G8 m c) (T2 (dx O X W G U D)) := fun i => by
  have h0 : (i 0).val < 16384 := (i 0).isLt
  have h1 : (i 1).val < 1024 := (i 1).isLt
  have hp : pt8Of i = 4 * ((i 0).val / 1024) + 3 := by
    show 4 * (1 * ((i 0).val / 1024 - 0) + 1 * ((i 1).val / 1024 - 0)) + 3 = _; omega
  have hb : pt8Of i < cfg0.N := lt_of_lt_of_eq (by omega) N_0.symm
  unfold G8
  rw [dif_pos hb, ← outsAt0_sweep]
  refine ((after hG (pt8Of i) hb).dx (by omega) (loc8Of i)).trans (congrArg ((↑) : ℝ → EReal) (congrArg₂ (dx O X W G U D) ?_ ?_))
  · show 1024 * (pt8Of i / 4) + (i 0).val % 1024 = _; omega
  · show (i 1).val % 1024 = _; omega

theorem dg_real : R (s := S16384x3072) (G9 m c) (T2 fun t => padF (dg O X W G U D t)) := fun i => by
  have h0 : (i 0).val < 16384 := (i 0).isLt
  have h1 : (i 1).val < 3072 := (i 1).isLt
  have hp : pt9Of i = 4 * ((i 0).val / 1024) + (i 1).val / 768 := by
    show 4 * ((i 0).val / 1024 - 0) + 1 * ((i 1).val / 768 - 0) = _; omega
  have hb : pt9Of i < cfg0.N := lt_of_lt_of_eq (by omega) N_0.symm
  unfold G9
  rw [dif_pos hb, ← outsAt0_sweep]
  refine ((after hG (pt9Of i) hb).dg (loc9Of i)).trans (congrArg ((↑) : ℝ → EReal)
    (congrArg₂ (fun a b => padF (dg O X W G U D a) b) ?_ ?_))
  · show 1024 * (pt9Of i / 4) + (i 0).val % 1024 = _; omega
  · show 768 * (pt9Of i % 4) + (i 1).val % 768 = _; omega

theorem du_real : R (s := S16384x3072) (G10 m c) (T2 fun t => padF (du O X W G D t)) := fun i => by
  have h0 : (i 0).val < 16384 := (i 0).isLt
  have h1 : (i 1).val < 3072 := (i 1).isLt
  have hp : pt10Of i = 4 * ((i 0).val / 1024) + (i 1).val / 768 := by
    show 4 * ((i 0).val / 1024 - 0) + 1 * ((i 1).val / 768 - 0) = _; omega
  have hb : pt10Of i < cfg0.N := lt_of_lt_of_eq (by omega) N_0.symm
  unfold G10
  rw [dif_pos hb, ← outsAt0_sweep]
  refine ((after hG (pt10Of i) hb).du (loc10Of i)).trans (congrArg ((↑) : ℝ → EReal)
    (congrArg₂ (fun a b => padF (du O X W G D a) b) ?_ ?_))
  · show 1024 * (pt10Of i / 4) + (i 0).val % 1024 = _; omega
  · show 768 * (pt10Of i % 4) + (i 1).val % 768 = _; omega

theorem dnw_real : R (s := S1x1024) (G11 m c) (T2 fun _ => dnw O X W G U D) := fun i => by
  rw [G11_last, ← outsAt0_sweep]
  exact (after hG 63 (lt_of_lt_of_eq (by decide) N_0.symm)).dnw i

end Cert.KernelCIdeal.Ffn

namespace Cert.Ffn

open Idealize.ShloMosaic Idealize.ShloMosaic.TcCoe Idealize.SL.Sem Cert.Lift

theorem valueC : @algebraic_KernelCIdeal_ReferenceIdeal_pre_finite KernelCIdeal.Gen.facts ReferenceIdeal.Gen.facts Pre_finite.facts := by
  intro m g m' g' hp hm
  refine ⟨fun c => KernelCIdeal.Value.G8 m c, fun c => KernelCIdeal.Value.G9 m c, fun c => KernelCIdeal.Value.G10 m c,
    fun c => KernelCIdeal.Value.G11 m c, KernelCIdeal.Value.run m g, (θ_run _ _ _).mono (fun r h c => ?_) (ReferenceIdeal.Value.run m' g')⟩
  obtain ⟨O, X, W, G, U, D, ha⟩ := tables_of (hp c)
  obtain ⟨e0, e1, e2, e3, e4, e5⟩ := hm c
  obtain ⟨r0, r1, r2, r3, rest⟩ := h c
  refine ⟨r0.trans ?_, r1.trans ?_, r2.trans ?_, r3.trans ?_, rest⟩
  · rw [ReferenceIdeal.Read.val_main_v57_eq, e0, e1, e2, e3, e4, e5]
    funext i
    exact (ReferenceIdeal.Ffn.v57 ha i).trans (KernelCIdeal.Ffn.dx_real ha i).symm
  · rw [ReferenceIdeal.Read.val_main_v61_eq, e0, e1, e2, e3, e4, e5]
    funext i
    exact (ReferenceIdeal.Ffn.v61 ha i).trans (KernelCIdeal.Ffn.dg_real ha i).symm
  · rw [ReferenceIdeal.Read.val_main_v65_eq, e0, e1, e2, e3, e5]
    funext i
    exact (ReferenceIdeal.Ffn.v65 ha i).trans (KernelCIdeal.Ffn.du_real ha i).symm
  · rw [ReferenceIdeal.Read.val_main_v66_eq, e0, e1, e2, e3, e4, e5]
    funext i
    exact (ReferenceIdeal.Ffn.v66 ha i).trans (KernelCIdeal.Ffn.dnw_real ha i).symm

end Cert.Ffn
-- ==== Proof.Dw.lean ====
/-
  The weight products of the feed-forward half-steps, for any call that makes them: over 16 blocks of 1024 tokens the
  products of the one array's transposed columns with the other's rows are added up in a buffer, eight blocks of rows at
  a time; the last block of tokens then scales the eight blocks of rows and writes them to the slots of their devices, the
  even devices' slots first. And the same in the reference's words: the eight shards put between the other rows.
-/
module

public import proofs.«01_k».proof.Proof.Ext
public import proofs.«01_k».proof.Proof.Gen.DwGate12Ideal.Skeleton
public import Idealize.ShloMosaic.Lib.Pipeline.ReadBack
public import Idealize.ShloMosaic.Lib.Pipeline.Value
public import Idealize.ShloMosaic.Lib.Tactic
public import Idealize.ShloMosaic.Lib.Ring

@[expose] public section

set_option maxRecDepth 16384

noncomputable section

namespace Cert.Dw

open Idealize.ShloMosaic Idealize.ShloMosaic.TcCoe Idealize.ShloMosaic.Tactic
open Cert.DwGate12Ideal Cert.DwGate12Ideal.Gen Cert.Lift

/-- An array of rank three as a table. -/
def tabE3 {a b d : ℕ} (ha : 0 < a) (hb : 0 < b) (hd : 0 < d) (x : (⟨3, ![a, b, d]⟩ : Shape).Idx → EReal) (s r n : ℕ) : EReal :=
  x (fun k => match k with | ⟨0, _⟩ => ⟨s % a, Nat.mod_lt _ ha⟩ | ⟨1, _⟩ => ⟨r % b, Nat.mod_lt _ hb⟩ | ⟨2, _⟩ => ⟨n % d, Nat.mod_lt _ hd⟩)

theorem tabE3_eq {a b d : ℕ} (ha : 0 < a) (hb : 0 < b) (hd : 0 < d) (x : (⟨3, ![a, b, d]⟩ : Shape).Idx → EReal) :
    E x fun i => tabE3 ha hb hd x (i 0).val (i 1).val (i 2).val := fun i => by
  refine (congrArg x ?_).symm
  funext k
  apply Fin.ext
  match k with
  | ⟨0, _⟩ => exact Nat.mod_eq_of_lt (i 0).isLt
  | ⟨1, _⟩ => exact Nat.mod_eq_of_lt (i 1).isLt
  | ⟨2, _⟩ => exact Nat.mod_eq_of_lt (i 2).isLt

theorem hz : (![0, 0] : Fin 2 → Nat) = fun _ => 0 := funext fun a => by fin_cases a <;> rfl

/-- The device whose rows go to slot `s`: the even devices' slots come first. -/
def dev (s : ℕ) : ℕ := if s < 4 then 2 * s else 2 * s - 7

section Words

variable {F : FTy → Type} [FloatOps F]
variable (y : Vec F S1024x1024 .bf16) (x : Vec F S1024x3072 .bf16) (z : Vec F S3072x1024 .f32)

/-- One block of rows of the sum after a block of tokens, from row `o` on; `z` is what the sum held. -/
def upd (o : ℕ) (inb : ∀ a, (![o, 0] : Fin 2 → ℕ) a + S384x1024.size a ≤ S3072x1024.size a)
    (inb' : ∀ a, (![0, o] : Fin 2 → ℕ) a + S1024x384.size a ≤ S1024x3072.size a) : FVec F S384x1024 .f32 :=
  k0_pay2 y (View.ld z (Rect.unit ![o, 0] S384x1024.size inb)) (View.ld x (Rect.unit ![0, o] S1024x384.size inb'))

/-- A block of tokens' eight updates of the sum, the last one first. -/
def eights : List (View.Piece (Elt F) S3072x1024 .f32) :=
  [⟨Rect.unit ![2688, 0] S384x1024.size inb_S3072x1024_S384x1024_2688_0, upd y x z 2688 inb_S3072x1024_S384x1024_2688_0 inb_S1024x3072_S1024x384_0_2688⟩,
   ⟨Rect.unit ![2304, 0] S384x1024.size inb_S3072x1024_S384x1024_2304_0, upd y x z 2304 inb_S3072x1024_S384x1024_2304_0 inb_S1024x3072_S1024x384_0_2304⟩,
   ⟨Rect.unit ![1920, 0] S384x1024.size inb_S3072x1024_S384x1024_1920_0, upd y x z 1920 inb_S3072x1024_S384x1024_1920_0 inb_S1024x3072_S1024x384_0_1920⟩,
   ⟨Rect.unit ![1536, 0] S384x1024.size inb_S3072x1024_S384x1024_1536_0, upd y x z 1536 inb_S3072x1024_S384x1024_1536_0 inb_S1024x3072_S1024x384_0_1536⟩,
   ⟨Rect.unit ![1152, 0] S384x1024.size inb_S3072x1024_S384x1024_1152_0, upd y x z 1152 inb_S3072x1024_S384x1024_1152_0 inb_S1024x3072_S1024x384_0_1152⟩,
   ⟨Rect.unit ![768, 0] S384x1024.size inb_S3072x1024_S384x1024_768_0, upd y x z 768 inb_S3072x1024_S384x1024_768_0 inb_S1024x3072_S1024x384_0_768⟩,
   ⟨Rect.unit ![384, 0] S384x1024.size inb_S3072x1024_S384x1024_384_0, upd y x z 384 inb_S3072x1024_S384x1024_384_0 inb_S1024x3072_S1024x384_0_384⟩,
   ⟨Rect.unit ![0, 0] S384x1024.size inb_S3072x1024_S384x1024_0_0, upd y x z 0 inb_S3072x1024_S384x1024_0_0 inb_S1024x3072_S1024x384_0_0⟩]

theorem eights_cover (i : S3072x1024.Idx) : ∃ p ∈ eights y x z, i ∈ p.1.set :=
  View.cover_of_tiledL (eights y x z) S384x1024.size (by sl_kernel_rfl) i

/-- The last block of tokens' eight blocks of rows, scaled by `k` and put in their slots, the last one first. -/
def slots (k : F .f32) : List (View.Piece (Elt F) S8x384x1024 .bf16) :=
  [⟨Rect.unit ![7, 0, 0] S1x384x1024.size inb_S8x384x1024_S1x384x1024_7_0_0, k0_pay3 (upd y x z 2688 inb_S3072x1024_S384x1024_2688_0 inb_S1024x3072_S1024x384_0_2688) k⟩,
   ⟨Rect.unit ![3, 0, 0] S1x384x1024.size inb_S8x384x1024_S1x384x1024_3_0_0, k0_pay3 (upd y x z 2304 inb_S3072x1024_S384x1024_2304_0 inb_S1024x3072_S1024x384_0_2304) k⟩,
   ⟨Rect.unit ![6, 0, 0] S1x384x1024.size inb_S8x384x1024_S1x384x1024_6_0_0, k0_pay3 (upd y x z 1920 inb_S3072x1024_S384x1024_1920_0 inb_S1024x3072_S1024x384_0_1920) k⟩,
   ⟨Rect.unit ![2, 0, 0] S1x384x1024.size inb_S8x384x1024_S1x384x1024_2_0_0, k0_pay3 (upd y x z 1536 inb_S3072x1024_S384x1024_1536_0 inb_S1024x3072_S1024x384_0_1536) k⟩,
   ⟨Rect.unit ![5, 0, 0] S1x384x1024.size inb_S8x384x1024_S1x384x1024_5_0_0, k0_pay3 (upd y x z 1152 inb_S3072x1024_S384x1024_1152_0 inb_S1024x3072_S1024x384_0_1152) k⟩,
   ⟨Rect.unit ![1, 0, 0] S1x384x1024.size inb_S8x384x1024_S1x384x1024_1_0_0, k0_pay3 (upd y x z 768 inb_S3072x1024_S384x1024_768_0 inb_S1024x3072_S1024x384_0_768) k⟩,
   ⟨Rect.unit ![4, 0, 0] S1x384x1024.size inb_S8x384x1024_S1x384x1024_4_0_0, k0_pay3 (upd y x z 384 inb_S3072x1024_S384x1024_384_0 inb_S1024x3072_S1024x384_0_384) k⟩,
   ⟨Rect.unit ![0, 0, 0] S1x384x1024.size inb_S8x384x1024_S1x384x1024_0_0_0, k0_pay3 (upd y x z 0 inb_S3072x1024_S384x1024_0_0 inb_S1024x3072_S1024x384_0_0) k⟩]

theorem slots_cover (k : F .f32) (i : S8x384x1024.Idx) : ∃ p ∈ slots y x z k, i ∈ p.1.set :=
  View.cover_of_tiledL (slots y x z k) S1x384x1024.size (by sl_kernel_rfl) i

end Words

variable {A B Z : ℕ → ℕ → EReal}

/-- What one block of tokens adds to the sum. -/
def part (A B : ℕ → ℕ → EReal) (b j n : ℕ) : EReal := ∑ r ∈ Finset.range 1024, A (1024 * b + r) j * B (1024 * b + r) n

section Step

variable {y : Vec Ideal S1024x1024 .bf16} {x : Vec Ideal S1024x3072 .bf16} {z : Vec Ideal S3072x1024 .f32} {b : ℕ}
  (hx : E x (TE fun r j => A (1024 * b + r) j)) (hy : E y (TE fun r n => B (1024 * b + r) n)) (hzz : E z (TE Z))
include hx hy hzz

theorem upd_eq (o : ℕ) (inb : ∀ a, (![o, 0] : Fin 2 → ℕ) a + S384x1024.size a ≤ S3072x1024.size a)
    (inb' : ∀ a, (![0, o] : Fin 2 → ℕ) a + S1024x384.size a ≤ S1024x3072.size a) :
    E (s := S384x1024) (upd y x z o inb inb') (TE fun j n => Z (o + j) n + part A B b (o + j) n) := by
  have e0 : E (s := S1024x384) (View.ld x (Rect.unit ![0, o] S1024x384.size inb')) (TE fun r j => A (1024 * b + r) (o + j)) := fun k => by
    refine (hx _).trans (congrArg₂ A ?_ ?_)
    · show 1024 * b + (0 + 1 * (k 0).val) = 1024 * b + (k 0).val
      omega
    · show o + 1 * (k 1).val = o + (k 1).val
      omega
  have ez : E (s := S384x1024) (View.ld z (Rect.unit ![o, 0] S384x1024.size inb)) (TE fun j n => Z (o + j) n) := fun k => by
    refine (hzz _).trans (congrArg₂ Z ?_ ?_)
    · show o + 1 * (k 0).val = o + (k 0).val
      omega
    · show 0 + 1 * (k 1).val = (k 1).val
      omega
  have hm := E.matmul (D := dot_S1024x384_S1024x1024_S384x1024_0_0_1_1_n_n) (φ₁ := .bf16) (φ₂ := .bf16) 1024 rfl rfl none
    (e0.shapeCast_self shapeCasts_S1024x384_S1024x384) hy
    (fun j r => A (1024 * b + r) (o + (j 0).val) * B (1024 * b + r) (j 1).val) (fun j k => rfl)
  exact (E.addf (φ := .f32) ez hm).shapeCast_self shapeCasts_S384x1024_S384x1024

theorem piece (o : ℕ) (inb : ∀ a, (![o, 0] : Fin 2 → ℕ) a + S384x1024.size a ≤ S3072x1024.size a)
    (inb' : ∀ a, (![0, o] : Fin 2 → ℕ) a + S1024x384.size a ≤ S1024x3072.size a) (i : (Rect.unit (s := S3072x1024) ![o, 0] S384x1024.size inb).shape.Idx) :
    upd y x z o inb inb' i = TE (a := 3072) (b := 1024) (fun j n => Z j n + part A B b j n) ((Rect.unit (s := S3072x1024) ![o, 0] S384x1024.size inb).emb i) := by
  have a0 : (((Rect.unit (s := S3072x1024) ![o, 0] S384x1024.size inb).emb i) 0).val = o + (i 0).val := by
    show o + 1 * (i 0).val = _
    omega
  have a1 : (((Rect.unit (s := S3072x1024) ![o, 0] S384x1024.size inb).emb i) 1).val = (i 1).val := by
    show 0 + 1 * (i 1).val = _
    omega
  refine (upd_eq hx hy hzz o inb inb' i).trans ?_
  show _ = Z _ _ + part A B b _ _
  rw [a0, a1]

theorem eights_eq (L : List (View.Piece (Elt Ideal) S3072x1024 .f32)) :
    E (s := S3072x1024) (View.canon (eights y x z ++ L)) (TE fun j n => Z j n + part A B b j n) := fun i => by
  refine View.canon_append_of_piecesOf (Val := Elt Ideal) (e := .f32) (TE (a := 3072) (b := 1024) fun j n => Z j n + part A B b j n) L
    (eights y x z) ⟨?_, ?_, ?_, ?_, ?_, ?_, ?_, ?_, trivial⟩ i (eights_cover y x z i)
  all_goals exact fun w => piece hx hy hzz _ _ _ w

theorem slot (k : EReal) (s o : ℕ) (ho : o = 384 * dev s) (inb : ∀ a, (![o, 0] : Fin 2 → ℕ) a + S384x1024.size a ≤ S3072x1024.size a)
    (inb' : ∀ a, (![0, o] : Fin 2 → ℕ) a + S1024x384.size a ≤ S1024x3072.size a)
    (inb'' : ∀ a, (![s, 0, 0] : Fin 3 → ℕ) a + S1x384x1024.size a ≤ S8x384x1024.size a)
    (i : (Rect.unit (s := S8x384x1024) ![s, 0, 0] S1x384x1024.size inb'').shape.Idx) :
    k0_pay3 (F := Ideal) (upd y x z o inb inb') k i = (fun i : S8x384x1024.Idx => (Z (384 * dev (i 0).val + (i 1).val) (i 2).val
        + part A B b (384 * dev (i 0).val + (i 1).val) (i 2).val) * k) ((Rect.unit (s := S8x384x1024) ![s, 0, 0] S1x384x1024.size inb'').emb i) := by
  have h := (((upd_eq hx hy hzz o inb inb').mulf (φ := .f32) (E.const k)).truncf (ψ := .bf16) bitsLt_bf16_f32).shapeCast
    shapeCasts_S384x1024_S1x384x1024 (fun j a => match a with | ⟨0, _⟩ => ⟨(j 1).val, (j 1).isLt⟩ | ⟨1, _⟩ => ⟨(j 2).val, (j 2).isLt⟩)
    (fun j => by
      rw [Shape.rowMajor_val_two, Shape.rowMajor_val_three]
      have h0 : (j 0).val < 1 := (j 0).isLt
      show (j 1).val * 1024 + (j 2).val = ((j 0).val * 384 + (j 1).val) * 1024 + (j 2).val
      omega)
  have i0 : (i 0).val < 1 := (i 0).isLt
  have a0 : (((Rect.unit (s := S8x384x1024) ![s, 0, 0] S1x384x1024.size inb'').emb i) 0).val = s := by
    show s + 1 * (i 0).val = _
    omega
  have a1 : (((Rect.unit (s := S8x384x1024) ![s, 0, 0] S1x384x1024.size inb'').emb i) 1).val = (i 1).val := by
    show 0 + 1 * (i 1).val = _
    omega
  have a2 : (((Rect.unit (s := S8x384x1024) ![s, 0, 0] S1x384x1024.size inb'').emb i) 2).val = (i 2).val := by
    show 0 + 1 * (i 2).val = _
    omega
  refine (h i).trans ?_
  show (Z (o + (i 1).val) (i 2).val + part A B b (o + (i 1).val) (i 2).val) * k = _
  dsimp only
  rw [a0, a1, a2, ho]

theorem slots_eq (k : EReal) (L : List (View.Piece (Elt Ideal) S8x384x1024 .bf16)) :
    E (s := S8x384x1024) (View.canon (slots y x z k ++ L)) (fun i => (Z (384 * dev (i 0).val + (i 1).val) (i 2).val
      + part A B b (384 * dev (i 0).val + (i 1).val) (i 2).val) * k) := fun i => by
  refine View.canon_append_of_piecesOf (Val := Elt Ideal) (e := .bf16) (fun i : S8x384x1024.Idx => (Z (384 * dev (i 0).val + (i 1).val) (i 2).val
      + part A B b (384 * dev (i 0).val + (i 1).val) (i 2).val) * k) L (slots y x z k)
   ⟨fun w => slot hx hy hzz k 7 _ rfl _ _ inb_S8x384x1024_S1x384x1024_7_0_0 w,
    fun w => slot hx hy hzz k 3 _ rfl _ _ inb_S8x384x1024_S1x384x1024_3_0_0 w,
    fun w => slot hx hy hzz k 6 _ rfl _ _ inb_S8x384x1024_S1x384x1024_6_0_0 w,
    fun w => slot hx hy hzz k 2 _ rfl _ _ inb_S8x384x1024_S1x384x1024_2_0_0 w,
    fun w => slot hx hy hzz k 5 _ rfl _ _ inb_S8x384x1024_S1x384x1024_5_0_0 w,
    fun w => slot hx hy hzz k 1 _ rfl _ _ inb_S8x384x1024_S1x384x1024_1_0_0 w,
    fun w => slot hx hy hzz k 4 _ rfl _ _ inb_S8x384x1024_S1x384x1024_4_0_0 w,
    fun w => slot hx hy hzz k 0 _ rfl _ _ inb_S8x384x1024_S1x384x1024_0_0_0 w, trivial⟩ i (slots_cover y x z k i)

end Step

theorem zero_eq : E (s := S3072x1024) (k0_pay11 (F := Ideal)) (TE fun _ _ => 0) :=
  (((E.const (s := S3072x1024) (Ideal.ofBits .f32 0x00000000#32)).shapeCast_self shapeCasts_S3072x1024_S3072x1024)).congr
    fun _ => ofBits_zero.trans EReal.coe_zero

/-- The blocks a call reads at each of its points, the sum it carries from point to point, and what the last point writes. -/
structure Run (A B : ℕ → ℕ → EReal) (k : EReal) (x : ℕ → Vec Ideal S1024x3072 .bf16) (y : ℕ → Vec Ideal S1024x1024 .bf16)
    (st : ℕ → Vec Ideal S3072x1024 .f32) (out : Vec Ideal S8x384x1024 .bf16) : Prop where
  hx : ∀ n < 16, E (x n) (TE fun r j => A (1024 * n + r) j)
  hy : ∀ n < 16, E (y n) (TE fun r j => B (1024 * n + r) j)
  first : ∃ L, st 0 = View.canon (eights (y 0) (x 0) (k0_pay11 (F := Ideal)) ++ L)
  later : ∀ n, n + 1 < 15 → ∃ L, st (n + 1) = View.canon (eights (y (n + 1)) (x (n + 1)) (st n) ++ L)
  last : ∃ L, out = View.canon (slots (y 15) (x 15) (st 14) k ++ L)

theorem Run.sum {k : EReal} {x y st out} (h : Run A B k x y st out) :
    ∀ n < 15, E (st n) (TE fun j m => ∑ t ∈ Finset.range (1024 * (n + 1)), A t j * B t m)
  | 0, hn => by
    obtain ⟨L, hL⟩ := h.first
    rw [hL]
    refine (eights_eq (h.hx 0 (by omega)) (h.hy 0 (by omega)) zero_eq L).congr fun j => ?_
    show 0 + part A B 0 _ _ = _
    rw [zero_add]
    refine Finset.sum_congr rfl fun r _ => ?_
    rw [Nat.mul_zero, Nat.zero_add]
  | n + 1, hn => by
    obtain ⟨L, hL⟩ := h.later n hn
    rw [hL]
    refine (eights_eq (h.hx (n + 1) (by omega)) (h.hy (n + 1) (by omega)) (h.sum n (by omega)) L).congr fun j => ?_
    show _ = ∑ t ∈ Finset.range (1024 * (n + 1 + 1)), A t (j 0).val * B t (j 1).val
    rw [Nat.mul_add _ (n + 1), Finset.sum_range_add]
    rfl

/-- What the last point writes. -/
theorem Run.out_eq {k : EReal} {x y st out} (h : Run A B k x y st out) :
    E out (fun i => (∑ t ∈ Finset.range 16384, A t (384 * dev (i 0).val + (i 1).val) * B t (i 2).val) * k) := by
  obtain ⟨L, hL⟩ := h.last
  rw [hL]
  refine (slots_eq (h.hx 15 (by omega)) (h.hy 15 (by omega)) (h.sum 14 (by omega)) k L).congr fun j => ?_
  refine congrArg (· * k) ?_
  rw [show (16384 : ℕ) = 1024 * (14 + 1) + 1024 from rfl, Finset.sum_range_add]
  rfl

/-- The reference's eight shards of the product, in the order of their slots. -/
theorem shards {P : ℕ → ℕ → EReal} {p : FVec Ideal ⟨2, ![3072, 1024]⟩ .f32} (hp : E p (TE P))
    (h₁ : (⟨2, ![3072, 1024]⟩ : Shape).ShapeCasts ⟨4, ![4, 2, 384, 1024]⟩)
    (h₂ : (⟨4, ![4, 2, 384, 1024]⟩ : Shape).Transposes [1, 0, 2, 3] ⟨4, ![2, 4, 384, 1024]⟩)
    (h₃ : (⟨4, ![2, 4, 384, 1024]⟩ : Shape).ShapeCasts ⟨3, ![8, 384, 1024]⟩) :
    E (s := ⟨3, ![8, 384, 1024]⟩) (shapeCast ⟨3, ![8, 384, 1024]⟩ (transpose ⟨4, ![2, 4, 384, 1024]⟩ [1, 0, 2, 3] (shapeCast ⟨4, ![4, 2, 384, 1024]⟩ p h₁) h₂) h₃)
      (fun i => P (384 * dev (i 0).val + (i 1).val) (i 2).val) := fun i => by
  have i0 : (i 0).val < 8 := (i 0).isLt
  have i1 : (i 1).val < 384 := (i 1).isLt
  have i2 : (i 2).val < 1024 := (i 2).isLt
  rw [shapeCast_apply _ h₃ i (fun a => match a with
      | ⟨0, _⟩ => ⟨(i 0).val / 4, by show _ < 2; omega⟩ | ⟨1, _⟩ => ⟨(i 0).val % 4, Nat.mod_lt _ (by decide)⟩
      | ⟨2, _⟩ => ⟨(i 1).val, i1⟩ | ⟨3, _⟩ => ⟨(i 2).val, i2⟩) (by
      rw [Shape.rowMajor_val_four, Shape.rowMajor_val_three]
      show (((i 0).val / 4 * 4 + (i 0).val % 4) * 384 + (i 1).val) * 1024 + (i 2).val = ((i 0).val * 384 + (i 1).val) * 1024 + (i 2).val
      omega),
    transpose_apply [1, 0, 2, 3] _ h₂ _ (fun a => match a with
      | ⟨0, _⟩ => ⟨(i 0).val % 4, Nat.mod_lt _ (by decide)⟩ | ⟨1, _⟩ => ⟨(i 0).val / 4, by show _ < 2; omega⟩
      | ⟨2, _⟩ => ⟨(i 1).val, i1⟩ | ⟨3, _⟩ => ⟨(i 2).val, i2⟩) (fun b => match b with
      | ⟨0, _⟩ => rfl | ⟨1, _⟩ => rfl | ⟨2, _⟩ => rfl | ⟨3, _⟩ => rfl),
    shapeCast_apply _ h₁ _ (fun a => match a with
      | ⟨0, _⟩ => ⟨384 * (2 * ((i 0).val % 4) + (i 0).val / 4) + (i 1).val, by show _ < 3072; omega⟩ | ⟨1, _⟩ => ⟨(i 2).val, i2⟩) (by
      rw [Shape.rowMajor_val_two, Shape.rowMajor_val_four]
      show (384 * (2 * ((i 0).val % 4) + (i 0).val / 4) + (i 1).val) * 1024 + (i 2).val
        = (((i 0).val % 4 * 2 + (i 0).val / 4) * 384 + (i 1).val) * 1024 + (i 2).val
      omega), hp]
  refine congrArg₂ P ?_ rfl
  show 384 * (2 * ((i 0).val % 4) + (i 0).val / 4) + (i 1).val = _
  unfold dev
  split <;> omega

/-- The packed gradient with the rows from `o` on replaced by `f`'s. -/
def put (o : ℕ) (f g : ℕ → ℕ → ℕ → EReal) (s r n : ℕ) : EReal := if o ≤ r ∧ r < o + 384 then f s (r - o) n else g s r n

/-- The rows between the rows above and the rows below. -/
theorem between {o q : ℕ} {f g : ℕ → ℕ → ℕ → EReal} {u : FVec Ideal ⟨3, ![8, o, 1024]⟩ .f32} {v : FVec Ideal ⟨3, ![8, 384, 1024]⟩ .f32}
    {w : FVec Ideal ⟨3, ![8, q, 1024]⟩ .f32} (hu : E u fun i => g (i 0).val (i 1).val (i 2).val)
    (hv : E v fun i => f (i 0).val (i 1).val (i 2).val) (hw : E w fun i => g (i 0).val (o + 384 + (i 1).val) (i 2).val) (hq : o + 384 + q = 5888)
    (h : Shape.Concatenates [⟨3, ![8, o, 1024]⟩, ⟨3, ![8, 384, 1024]⟩, ⟨3, ![8, q, 1024]⟩] ⟨3, ![8, 5888, 1024]⟩ 1) :
    E (s := ⟨3, ![8, 5888, 1024]⟩) (concatenate ⟨3, ![8, 5888, 1024]⟩ 1 [⟨⟨3, ![8, o, 1024]⟩, u⟩, ⟨⟨3, ![8, 384, 1024]⟩, v⟩, ⟨⟨3, ![8, q, 1024]⟩, w⟩] h)
      (fun i => put o f g (i 0).val (i 1).val (i 2).val) := fun i => by
  have i1 : (i 1).val < 5888 := (i 1).isLt
  have key : ∀ (k : ℕ) (hk : k < 3) (n pre : ℕ) (x : (⟨3, ![8, n, 1024]⟩ : Shape).Idx → EReal)
      (hx : ([⟨⟨3, ![8, o, 1024]⟩, u⟩, ⟨⟨3, ![8, 384, 1024]⟩, v⟩, ⟨⟨3, ![8, q, 1024]⟩, w⟩] : List ((s : Shape) × (s.Idx → EReal)))[k] = ⟨⟨3, ![8, n, 1024]⟩, x⟩)
      (hp : (((([⟨⟨3, ![8, o, 1024]⟩, u⟩, ⟨⟨3, ![8, 384, 1024]⟩, v⟩, ⟨⟨3, ![8, q, 1024]⟩, w⟩] : List ((s : Shape) × (s.Idx → EReal))).take k).map (·.1)).map
          fun s => if h : s.rank = 3 then s.size ((1 : Fin 3).cast h.symm) else 0).sum = pre)
      (r : ℕ) (hr : r < n) (hi : pre + r = (i 1).val),
      concatenate ⟨3, ![8, 5888, 1024]⟩ 1 [⟨⟨3, ![8, o, 1024]⟩, u⟩, ⟨⟨3, ![8, 384, 1024]⟩, v⟩, ⟨⟨3, ![8, q, 1024]⟩, w⟩] h i
        = x (fun a => match a with | ⟨0, _⟩ => ⟨(i 0).val, (i 0).isLt⟩ | ⟨1, _⟩ => ⟨r, hr⟩ | ⟨2, _⟩ => ⟨(i 2).val, (i 2).isLt⟩) := by
    intro k hk n pre x hx hp r hr hi
    exact concatenate_apply_piece (t := ⟨3, ![8, 5888, 1024]⟩) (1 : Fin 3) [⟨⟨3, ![8, o, 1024]⟩, u⟩, ⟨⟨3, ![8, 384, 1024]⟩, v⟩, ⟨⟨3, ![8, q, 1024]⟩, w⟩] h i k hk _ x hx rfl pre hp _
      (fun b hb => match b with | ⟨0, _⟩ => rfl | ⟨1, _⟩ => absurd rfl hb | ⟨2, _⟩ => rfl) hi
  show _ = put o f g (i 0).val (i 1).val (i 2).val
  unfold put
  by_cases h1 : o ≤ (i 1).val
  · by_cases h2 : (i 1).val < o + 384
    · rw [if_pos ⟨h1, h2⟩]
      exact (key 1 (by decide) 384 o v rfl (Nat.add_zero o) ((i 1).val - o) (by omega) (by omega)).trans (hv _)
    · rw [if_neg (by omega)]
      refine (key 2 (by decide) q (o + 384) w rfl rfl ((i 1).val - (o + 384)) (by omega) (by omega)).trans ((hw _).trans ?_)
      exact congrArg (g (i 0).val · (i 2).val) (show o + 384 + ((i 1).val - (o + 384)) = (i 1).val by omega)
  · rw [if_neg (by omega)]
    exact (key 0 (by decide) o 0 u rfl rfl (i 1).val (by omega) (by omega)).trans (hu _)

/-- The first rows, before the rows below. -/
theorem atop {q : ℕ} {f g : ℕ → ℕ → ℕ → EReal} {v : FVec Ideal ⟨3, ![8, 384, 1024]⟩ .f32} {w : FVec Ideal ⟨3, ![8, q, 1024]⟩ .f32}
    (hv : E v fun i => f (i 0).val (i 1).val (i 2).val) (hw : E w fun i => g (i 0).val (384 + (i 1).val) (i 2).val) (hq : 384 + q = 5888)
    (h : Shape.Concatenates [⟨3, ![8, 384, 1024]⟩, ⟨3, ![8, q, 1024]⟩] ⟨3, ![8, 5888, 1024]⟩ 1) :
    E (s := ⟨3, ![8, 5888, 1024]⟩) (concatenate ⟨3, ![8, 5888, 1024]⟩ 1 [⟨⟨3, ![8, 384, 1024]⟩, v⟩, ⟨⟨3, ![8, q, 1024]⟩, w⟩] h)
      (fun i => put 0 f g (i 0).val (i 1).val (i 2).val) := fun i => by
  have i1 : (i 1).val < 5888 := (i 1).isLt
  show _ = put 0 f g (i 0).val (i 1).val (i 2).val
  unfold put
  by_cases h2 : (i 1).val < 384
  · rw [if_pos ⟨Nat.zero_le _, by omega⟩]
    exact (concatenate_apply_piece (t := ⟨3, ![8, 5888, 1024]⟩) (1 : Fin 3) [⟨⟨3, ![8, 384, 1024]⟩, v⟩, ⟨⟨3, ![8, q, 1024]⟩, w⟩] h i 0 Nat.zero_lt_two _ v rfl rfl 0 rfl
      (fun a => match a with | ⟨0, _⟩ => ⟨(i 0).val, (i 0).isLt⟩ | ⟨1, _⟩ => ⟨(i 1).val, h2⟩ | ⟨2, _⟩ => ⟨(i 2).val, (i 2).isLt⟩)
      (fun b hb => match b with | ⟨0, _⟩ => rfl | ⟨1, _⟩ => absurd rfl hb | ⟨2, _⟩ => rfl) (Nat.zero_add _)).trans (hv _)
  · rw [if_neg (by omega)]
    refine (concatenate_apply_piece (t := ⟨3, ![8, 5888, 1024]⟩) (1 : Fin 3) [⟨⟨3, ![8, 384, 1024]⟩, v⟩, ⟨⟨3, ![8, q, 1024]⟩, w⟩] h i 1 Nat.one_lt_two _ w rfl rfl 384 rfl
      (fun a => match a with | ⟨0, _⟩ => ⟨(i 0).val, (i 0).isLt⟩ | ⟨1, _⟩ => ⟨(i 1).val - 384, by show _ < q; omega⟩ | ⟨2, _⟩ => ⟨(i 2).val, (i 2).isLt⟩)
      (fun b hb => match b with | ⟨0, _⟩ => rfl | ⟨1, _⟩ => absurd rfl hb | ⟨2, _⟩ => rfl) (show 384 + ((i 1).val - 384) = (i 1).val by omega)).trans ((hw _).trans ?_)
    exact congrArg (g (i 0).val · (i 2).val) (show 384 + ((i 1).val - 384) = (i 1).val by omega)

/-- A finite factor may be taken out of a sum of extended reals. -/
theorem scaled (c : ℝ) (hc : 0 ≤ c) (a b : ℕ → EReal) (n : ℕ) :
    ∑ t ∈ Finset.range n, (c : EReal) * b t * a t = (∑ t ∈ Finset.range n, a t * b t) * (c : EReal) := by
  induction n with
  | zero => rw [Finset.sum_range_zero, Finset.sum_range_zero, zero_mul]
  | succ n ih =>
    rw [Finset.sum_range_succ, Finset.sum_range_succ, ih, EReal.right_distrib_of_nonneg_of_ne_top (EReal.coe_nonneg.mpr hc) (EReal.coe_ne_top c),
      mul_comm (a n) (b n), mul_comm (b n * a n), mul_assoc]

end Cert.Dw
-- ==== Proof.DwGate01.lean ====
/-
  The gate weight's product of layer 0's first half-step: the kernel's program and its reference leave the same packed
  gradient (Dw.lean).
-/
module

public import proofs.«01_k».proof.Proof.Dw
public import proofs.«01_k».proof.Proof.Gen.DwGate01Ideal.Value
public import proofs.«01_k».proof.Proof.Gen.DwGate01RefIdeal.Run
public import proofs.«01_k».proof.Proof.Gen.DwGate01RefIdeal.Read
public import proofs.«01_k».proof.Defs

@[expose] public section

set_option maxRecDepth 16384

noncomputable section

namespace Cert.DwGate01Ideal.Call

open Idealize.ShloMosaic Idealize.ShloMosaic.TcCoe Idealize.ShloMosaic.Tactic Idealize.SL.Sem
open Cert.DwGate01Ideal Cert.DwGate01Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 0 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 0
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 0 _ G (i 0).val (i 1).val (i 2).val
  unfold put
  by_cases hi : 0 ≤ (i 1).val ∧ (i 1).val < 0 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 0, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 0); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwGate01Ideal.Call

namespace Cert.DwGate01

open Idealize.ShloMosaic Idealize.ShloMosaic.TcCoe Idealize.SL.Sem Cert.Lift Cert.Dw
open DwGate01RefIdeal DwGate01RefIdeal.Read DwGate01RefIdeal.Gen

theorem reference : @quiescent_DwGate01RefIdeal DwGate01RefIdeal.Gen.facts := fun m ρ _ =>
  (θ_run DwGate01RefIdeal.defs _ _).mono (fun r h => ⟨fun c => (h c).2, sem_eq_zero_of_no_sems (by decide) r.2⟩)
    (DwGate01RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 0
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine atop (q := 5504) (g := G) (f := fun s r n => (∑ t ∈ Finset.range 16384, A t (384 * dev s + r) * B t n) * Ideal.ofBits .f32 0x3F800000#32) (v := val_main_v8 (F := Ideal) a b)
    (w := val_main_v10 (F := Ideal) g) hv (fun i => ?_) rfl concatenates_S8x384x1024_S8x5504x1024_S8x5888x1024_d1
  rw [val_main_v10_apply]
  exact hg _

theorem value : @algebraic_DwGate01Ideal_DwGate01RefIdeal DwGate01Ideal.Gen.facts DwGate01RefIdeal.Gen.facts := by
  intro m g m' g' hp hm
  refine ⟨fun c => (DwGate01Ideal.Gen.dats m 0 c).arrAt 2 DwGate01Ideal.cfg0.N, DwGate01Ideal.Value.run_blocks m g,
    (θ_run _ _ _).mono (fun r h c => ?_) (DwGate01RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwGate01Ideal.Call.result (tabE2_eq (by norm_num) (by norm_num) _) (tabE2_eq (by norm_num) (by norm_num) _) (tabE3_eq (by norm_num) (by norm_num) (by norm_num) _) i).symm

end Cert.DwGate01
-- ==== Proof.DwUp01.lean ====
/-
  The up-projection weight's product of layer 0's first half-step: the kernel's program and its reference leave the same packed
  gradient (Dw.lean).
-/
module

public import proofs.«01_k».proof.Proof.Dw
public import proofs.«01_k».proof.Proof.Gen.DwUp01Ideal.Value
public import proofs.«01_k».proof.Proof.Gen.DwUp01RefIdeal.Run
public import proofs.«01_k».proof.Proof.Gen.DwUp01RefIdeal.Read
public import proofs.«01_k».proof.Defs

@[expose] public section

set_option maxRecDepth 16384

noncomputable section

namespace Cert.DwUp01Ideal.Call

open Idealize.ShloMosaic Idealize.ShloMosaic.TcCoe Idealize.ShloMosaic.Tactic Idealize.SL.Sem
open Cert.DwUp01Ideal Cert.DwUp01Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 1 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 384
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 384 _ G (i 0).val (i 1).val (i 2).val
  unfold put
  by_cases hi : 384 ≤ (i 1).val ∧ (i 1).val < 384 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 384, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 384); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwUp01Ideal.Call

namespace Cert.DwUp01

open Idealize.ShloMosaic Idealize.ShloMosaic.TcCoe Idealize.SL.Sem Cert.Lift Cert.Dw
open DwUp01RefIdeal DwUp01RefIdeal.Read DwUp01RefIdeal.Gen

theorem reference : @quiescent_DwUp01RefIdeal DwUp01RefIdeal.Gen.facts := fun m ρ _ =>
  (θ_run DwUp01RefIdeal.defs _ _).mono (fun r h => ⟨fun c => (h c).2, sem_eq_zero_of_no_sems (by decide) r.2⟩)
    (DwUp01RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 384
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 384) (q := 5120) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x384x1024_S8x384x1024_S8x5120x1024_S8x5888x1024_d1
  · rw [val_main_v9_apply]
    exact hg _
  · rw [val_main_v10_apply]
    exact hg _

theorem value : @algebraic_DwUp01Ideal_DwUp01RefIdeal DwUp01Ideal.Gen.facts DwUp01RefIdeal.Gen.facts := by
  intro m g m' g' hp hm
  refine ⟨fun c => (DwUp01Ideal.Gen.dats m 0 c).arrAt 2 DwUp01Ideal.cfg0.N, DwUp01Ideal.Value.run_blocks m g,
    (θ_run _ _ _).mono (fun r h c => ?_) (DwUp01RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwUp01Ideal.Call.result (tabE2_eq (by norm_num) (by norm_num) _) (tabE2_eq (by norm_num) (by norm_num) _) (tabE3_eq (by norm_num) (by norm_num) (by norm_num) _) i).symm

end Cert.DwUp01
-- ==== Proof.DwDown01.lean ====
/-
  The down-projection weight's product of layer 0's first half-step: the kernel's program and its reference leave the same packed
  gradient (Dw.lean).
-/
module

public import proofs.«01_k».proof.Proof.Dw
public import proofs.«01_k».proof.Proof.Gen.DwDown01Ideal.Value
public import proofs.«01_k».proof.Proof.Gen.DwDown01RefIdeal.Run
public import proofs.«01_k».proof.Proof.Gen.DwDown01RefIdeal.Read
public import proofs.«01_k».proof.Defs

@[expose] public section

set_option maxRecDepth 16384

noncomputable section

namespace Cert.DwDown01Ideal.Call

open Idealize.ShloMosaic Idealize.ShloMosaic.TcCoe Idealize.ShloMosaic.Tactic Idealize.SL.Sem
open Cert.DwDown01Ideal Cert.DwDown01Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .f32) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .f32) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F000000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 2 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v0 = (truncf .bf16 (m (c, main_arg0) : FVec Ideal S16384x3072 .f32) bitsLt_bf16_f32 : FVec Ideal S16384x3072 .bf16) := by
  unfold V
  after_results
theorem V_b : V m c main_arg1 = m (c, main_arg1) := V_main_arg1 m c
theorem V_g : V m c main_v2 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v0 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  fun j => by
    show iblk m c 1 t j = _
    obtain ⟨h0, h1⟩ := at1 t
    unfold iblk
    rw [View.read_apply]
    show V m c main_arg1 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F000000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F000000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 768
    (fun s r n => (∑ t ∈ Finset.range 16384, A t (384 * dev s + r) * B t n) * Ideal.ofBits .f32 0x3F000000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 768 _ G (i 0).val (i 1).val (i 2).val
  unfold put
  by_cases hi : 768 ≤ (i 1).val ∧ (i 1).val < 768 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 768, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 768); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v2 i = _
    rw [V_g]
    exact hg i

end Cert.DwDown01Ideal.Call

namespace Cert.DwDown01

open Idealize.ShloMosaic Idealize.ShloMosaic.TcCoe Idealize.SL.Sem Cert.Lift Cert.Dw
open DwDown01RefIdeal DwDown01RefIdeal.Read DwDown01RefIdeal.Gen

theorem reference : @quiescent_DwDown01RefIdeal DwDown01RefIdeal.Gen.facts := fun m ρ _ =>
  (θ_run DwDown01RefIdeal.defs _ _).mono (fun r h => ⟨fun c => (h c).2, sem_eq_zero_of_no_sems (by decide) r.2⟩)
    (DwDown01RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v14 (F := Ideal) a b g) fun i => put 768
    (fun s r n => (∑ t ∈ Finset.range 16384, A t (384 * dev s + r) * B t n) * Ideal.ofBits .f32 0x3F000000#32) G (i 0).val (i 1).val (i 2).val := by
  have hp : E (s := S3072x1024) (val_main_v7 (F := Ideal) a b) (TE fun j n => (∑ t ∈ Finset.range 16384, A t j * B t n) * Ideal.ofBits .f32 0x3F000000#32) := fun i => by
    rw [val_main_v7_apply, val_main_v6_apply, ofBits_half]
    show _ = (∑ t ∈ Finset.range 16384, A t (i 0).val * B t (i 1).val) * _
    rw [← scaled _ (by norm_num)]
    refine sumE _ fun k => congrArg₂ (· * ·) ?_ (ha _)
    rw [val_main_v5_apply, val_main_v4_apply]
    exact congrArg₂ (· * ·) ofBits_half (hb _)
  have hv : E (s := S8x384x1024) (val_main_v10 (F := Ideal) a b) fun i => (∑ t ∈ Finset.range 16384, A t (384 * dev (i 0).val + (i 1).val) * B t (i 2).val) * Ideal.ofBits .f32 0x3F000000#32 := by
    unfold val_main_v10 val_main_v9 val_main_v8
    exact shards hp _ _ _
  refine between (o := 768) (q := 4736) (g := G) (f := fun s r n => (∑ t ∈ Finset.range 16384, A t (384 * dev s + r) * B t n) * Ideal.ofBits .f32 0x3F000000#32) (u := val_main_v11 (F := Ideal) g) (v := val_main_v10 (F := Ideal) a b) (w := val_main_v12 (F := Ideal) g)
    (fun i => ?_) hv (fun i => ?_) rfl concatenates_S8x768x1024_S8x384x1024_S8x4736x1024_S8x5888x1024_d1
  · rw [val_main_v11_apply]
    exact hg _
  · rw [val_main_v12_apply]
    exact hg _

theorem value : @algebraic_DwDown01Ideal_DwDown01RefIdeal DwDown01Ideal.Gen.facts DwDown01RefIdeal.Gen.facts := by
  intro m g m' g' hp hm
  refine ⟨fun c => (DwDown01Ideal.Gen.dats m 0 c).arrAt 2 DwDown01Ideal.cfg0.N, DwDown01Ideal.Value.run_blocks m g,
    (θ_run _ _ _).mono (fun r h c => ?_) (DwDown01RefIdeal.Value.run m' g')⟩
  obtain ⟨e0, e1, e2⟩ := hm c
  obtain ⟨r0, rest⟩ := h c
  refine ⟨r0.trans ?_, rest⟩
  rw [val_main_v14_eq, e0, e1, e2]
  funext i
  exact (expected (tabE2_eq (by norm_num) (by norm_num) _) (tabE2_eq (by norm_num) (by norm_num) _) (tabE3_eq (by norm_num) (by norm_num) (by norm_num) _) i).trans
    (DwDown01Ideal.Call.result (tabE2_eq (by norm_num) (by norm_num) _) (tabE2_eq (by norm_num) (by norm_num) _) (tabE3_eq (by norm_num) (by norm_num) (by norm_num) _) i).symm

end Cert.DwDown01
-- ==== Proof.DwGate02.lean ====
/-
  The gate weight's product of layer 0's second half-step: the kernel's program and its reference leave the same packed
  gradient (Dw.lean).
-/
module

public import proofs.«01_k».proof.Proof.Dw
public import proofs.«01_k».proof.Proof.Gen.DwGate02Ideal.Value
public import proofs.«01_k».proof.Proof.Gen.DwGate02RefIdeal.Run
public import proofs.«01_k».proof.Proof.Gen.DwGate02RefIdeal.Read
public import proofs.«01_k».proof.Defs

@[expose] public section

set_option maxRecDepth 16384

noncomputable section

namespace Cert.DwGate02Ideal.Call

open Idealize.ShloMosaic Idealize.ShloMosaic.TcCoe Idealize.ShloMosaic.Tactic Idealize.SL.Sem
open Cert.DwGate02Ideal Cert.DwGate02Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 3 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 1152
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 1152 _ G (i 0).val (i 1).val (i 2).val
  unfold put
  by_cases hi : 1152 ≤ (i 1).val ∧ (i 1).val < 1152 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 1152, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 1152); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwGate02Ideal.Call

namespace Cert.DwGate02

open Idealize.ShloMosaic Idealize.ShloMosaic.TcCoe Idealize.SL.Sem Cert.Lift Cert.Dw
open DwGate02RefIdeal DwGate02RefIdeal.Read DwGate02RefIdeal.Gen

theorem reference : @quiescent_DwGate02RefIdeal DwGate02RefIdeal.Gen.facts := fun m ρ _ =>
  (θ_run DwGate02RefIdeal.defs _ _).mono (fun r h => ⟨fun c => (h c).2, sem_eq_zero_of_no_sems (by decide) r.2⟩)
    (DwGate02RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 1152
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 1152) (q := 4352) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x1152x1024_S8x384x1024_S8x4352x1024_S8x5888x1024_d1
  · rw [val_main_v9_apply]
    exact hg _
  · rw [val_main_v10_apply]
    exact hg _

theorem value : @algebraic_DwGate02Ideal_DwGate02RefIdeal DwGate02Ideal.Gen.facts DwGate02RefIdeal.Gen.facts := by
  intro m g m' g' hp hm
  refine ⟨fun c => (DwGate02Ideal.Gen.dats m 0 c).arrAt 2 DwGate02Ideal.cfg0.N, DwGate02Ideal.Value.run_blocks m g,
    (θ_run _ _ _).mono (fun r h c => ?_) (DwGate02RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwGate02Ideal.Call.result (tabE2_eq (by norm_num) (by norm_num) _) (tabE2_eq (by norm_num) (by norm_num) _) (tabE3_eq (by norm_num) (by norm_num) (by norm_num) _) i).symm

end Cert.DwGate02
-- ==== Proof.DwUp02.lean ====
/-
  The up-projection weight's product of layer 0's second half-step: the kernel's program and its reference leave the same packed
  gradient (Dw.lean).
-/
module

public import proofs.«01_k».proof.Proof.Dw
public import proofs.«01_k».proof.Proof.Gen.DwUp02Ideal.Value
public import proofs.«01_k».proof.Proof.Gen.DwUp02RefIdeal.Run
public import proofs.«01_k».proof.Proof.Gen.DwUp02RefIdeal.Read
public import proofs.«01_k».proof.Defs

@[expose] public section

set_option maxRecDepth 16384

noncomputable section

namespace Cert.DwUp02Ideal.Call

open Idealize.ShloMosaic Idealize.ShloMosaic.TcCoe Idealize.ShloMosaic.Tactic Idealize.SL.Sem
open Cert.DwUp02Ideal Cert.DwUp02Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 4 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 1536
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 1536 _ G (i 0).val (i 1).val (i 2).val
  unfold put
  by_cases hi : 1536 ≤ (i 1).val ∧ (i 1).val < 1536 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 1536, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 1536); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwUp02Ideal.Call

namespace Cert.DwUp02

open Idealize.ShloMosaic Idealize.ShloMosaic.TcCoe Idealize.SL.Sem Cert.Lift Cert.Dw
open DwUp02RefIdeal DwUp02RefIdeal.Read DwUp02RefIdeal.Gen

theorem reference : @quiescent_DwUp02RefIdeal DwUp02RefIdeal.Gen.facts := fun m ρ _ =>
  (θ_run DwUp02RefIdeal.defs _ _).mono (fun r h => ⟨fun c => (h c).2, sem_eq_zero_of_no_sems (by decide) r.2⟩)
    (DwUp02RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 1536
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 1536) (q := 3968) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x1536x1024_S8x384x1024_S8x3968x1024_S8x5888x1024_d1
  · rw [val_main_v9_apply]
    exact hg _
  · rw [val_main_v10_apply]
    exact hg _

theorem value : @algebraic_DwUp02Ideal_DwUp02RefIdeal DwUp02Ideal.Gen.facts DwUp02RefIdeal.Gen.facts := by
  intro m g m' g' hp hm
  refine ⟨fun c => (DwUp02Ideal.Gen.dats m 0 c).arrAt 2 DwUp02Ideal.cfg0.N, DwUp02Ideal.Value.run_blocks m g,
    (θ_run _ _ _).mono (fun r h c => ?_) (DwUp02RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwUp02Ideal.Call.result (tabE2_eq (by norm_num) (by norm_num) _) (tabE2_eq (by norm_num) (by norm_num) _) (tabE3_eq (by norm_num) (by norm_num) (by norm_num) _) i).symm

end Cert.DwUp02
-- ==== Proof.DwDown02.lean ====
/-
  The down-projection weight's product of layer 0's second half-step: the kernel's program and its reference leave the same packed
  gradient (Dw.lean).
-/
module

public import proofs.«01_k».proof.Proof.Dw
public import proofs.«01_k».proof.Proof.Gen.DwDown02Ideal.Value
public import proofs.«01_k».proof.Proof.Gen.DwDown02RefIdeal.Run
public import proofs.«01_k».proof.Proof.Gen.DwDown02RefIdeal.Read
public import proofs.«01_k».proof.Defs

@[expose] public section

set_option maxRecDepth 16384

noncomputable section

namespace Cert.DwDown02Ideal.Call

open Idealize.ShloMosaic Idealize.ShloMosaic.TcCoe Idealize.ShloMosaic.Tactic Idealize.SL.Sem
open Cert.DwDown02Ideal Cert.DwDown02Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .f32) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .f32) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F000000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 5 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v0 = (truncf .bf16 (m (c, main_arg0) : FVec Ideal S16384x3072 .f32) bitsLt_bf16_f32 : FVec Ideal S16384x3072 .bf16) := by
  unfold V
  after_results
theorem V_b : V m c main_arg1 = m (c, main_arg1) := V_main_arg1 m c
theorem V_g : V m c main_v2 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v0 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  fun j => by
    show iblk m c 1 t j = _
    obtain ⟨h0, h1⟩ := at1 t
    unfold iblk
    rw [View.read_apply]
    show V m c main_arg1 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F000000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F000000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 1920
    (fun s r n => (∑ t ∈ Finset.range 16384, A t (384 * dev s + r) * B t n) * Ideal.ofBits .f32 0x3F000000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 1920 _ G (i 0).val (i 1).val (i 2).val
  unfold put
  by_cases hi : 1920 ≤ (i 1).val ∧ (i 1).val < 1920 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 1920, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 1920); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v2 i = _
    rw [V_g]
    exact hg i

end Cert.DwDown02Ideal.Call

namespace Cert.DwDown02

open Idealize.ShloMosaic Idealize.ShloMosaic.TcCoe Idealize.SL.Sem Cert.Lift Cert.Dw
open DwDown02RefIdeal DwDown02RefIdeal.Read DwDown02RefIdeal.Gen

theorem reference : @quiescent_DwDown02RefIdeal DwDown02RefIdeal.Gen.facts := fun m ρ _ =>
  (θ_run DwDown02RefIdeal.defs _ _).mono (fun r h => ⟨fun c => (h c).2, sem_eq_zero_of_no_sems (by decide) r.2⟩)
    (DwDown02RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v14 (F := Ideal) a b g) fun i => put 1920
    (fun s r n => (∑ t ∈ Finset.range 16384, A t (384 * dev s + r) * B t n) * Ideal.ofBits .f32 0x3F000000#32) G (i 0).val (i 1).val (i 2).val := by
  have hp : E (s := S3072x1024) (val_main_v7 (F := Ideal) a b) (TE fun j n => (∑ t ∈ Finset.range 16384, A t j * B t n) * Ideal.ofBits .f32 0x3F000000#32) := fun i => by
    rw [val_main_v7_apply, val_main_v6_apply, ofBits_half]
    show _ = (∑ t ∈ Finset.range 16384, A t (i 0).val * B t (i 1).val) * _
    rw [← scaled _ (by norm_num)]
    refine sumE _ fun k => congrArg₂ (· * ·) ?_ (ha _)
    rw [val_main_v5_apply, val_main_v4_apply]
    exact congrArg₂ (· * ·) ofBits_half (hb _)
  have hv : E (s := S8x384x1024) (val_main_v10 (F := Ideal) a b) fun i => (∑ t ∈ Finset.range 16384, A t (384 * dev (i 0).val + (i 1).val) * B t (i 2).val) * Ideal.ofBits .f32 0x3F000000#32 := by
    unfold val_main_v10 val_main_v9 val_main_v8
    exact shards hp _ _ _
  refine between (o := 1920) (q := 3584) (g := G) (f := fun s r n => (∑ t ∈ Finset.range 16384, A t (384 * dev s + r) * B t n) * Ideal.ofBits .f32 0x3F000000#32) (u := val_main_v11 (F := Ideal) g) (v := val_main_v10 (F := Ideal) a b) (w := val_main_v12 (F := Ideal) g)
    (fun i => ?_) hv (fun i => ?_) rfl concatenates_S8x1920x1024_S8x384x1024_S8x3584x1024_S8x5888x1024_d1
  · rw [val_main_v11_apply]
    exact hg _
  · rw [val_main_v12_apply]
    exact hg _

theorem value : @algebraic_DwDown02Ideal_DwDown02RefIdeal DwDown02Ideal.Gen.facts DwDown02RefIdeal.Gen.facts := by
  intro m g m' g' hp hm
  refine ⟨fun c => (DwDown02Ideal.Gen.dats m 0 c).arrAt 2 DwDown02Ideal.cfg0.N, DwDown02Ideal.Value.run_blocks m g,
    (θ_run _ _ _).mono (fun r h c => ?_) (DwDown02RefIdeal.Value.run m' g')⟩
  obtain ⟨e0, e1, e2⟩ := hm c
  obtain ⟨r0, rest⟩ := h c
  refine ⟨r0.trans ?_, rest⟩
  rw [val_main_v14_eq, e0, e1, e2]
  funext i
  exact (expected (tabE2_eq (by norm_num) (by norm_num) _) (tabE2_eq (by norm_num) (by norm_num) _) (tabE3_eq (by norm_num) (by norm_num) (by norm_num) _) i).trans
    (DwDown02Ideal.Call.result (tabE2_eq (by norm_num) (by norm_num) _) (tabE2_eq (by norm_num) (by norm_num) _) (tabE3_eq (by norm_num) (by norm_num) (by norm_num) _) i).symm

end Cert.DwDown02
-- ==== Proof.DwGate11.lean ====
/-
  The gate weight's product of layer 1's first half-step: the kernel's program and its reference leave the same packed
  gradient (Dw.lean).
-/
module

public import proofs.«01_k».proof.Proof.Dw
public import proofs.«01_k».proof.Proof.Gen.DwGate11Ideal.Value
public import proofs.«01_k».proof.Proof.Gen.DwGate11RefIdeal.Run
public import proofs.«01_k».proof.Proof.Gen.DwGate11RefIdeal.Read
public import proofs.«01_k».proof.Defs

@[expose] public section

set_option maxRecDepth 16384

noncomputable section

namespace Cert.DwGate11Ideal.Call

open Idealize.ShloMosaic Idealize.ShloMosaic.TcCoe Idealize.ShloMosaic.Tactic Idealize.SL.Sem
open Cert.DwGate11Ideal Cert.DwGate11Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 6 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 2304
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 2304 _ G (i 0).val (i 1).val (i 2).val
  unfold put
  by_cases hi : 2304 ≤ (i 1).val ∧ (i 1).val < 2304 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 2304, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 2304); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwGate11Ideal.Call

namespace Cert.DwGate11

open Idealize.ShloMosaic Idealize.ShloMosaic.TcCoe Idealize.SL.Sem Cert.Lift Cert.Dw
open DwGate11RefIdeal DwGate11RefIdeal.Read DwGate11RefIdeal.Gen

theorem reference : @quiescent_DwGate11RefIdeal DwGate11RefIdeal.Gen.facts := fun m ρ _ =>
  (θ_run DwGate11RefIdeal.defs _ _).mono (fun r h => ⟨fun c => (h c).2, sem_eq_zero_of_no_sems (by decide) r.2⟩)
    (DwGate11RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 2304
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 2304) (q := 3200) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x2304x1024_S8x384x1024_S8x3200x1024_S8x5888x1024_d1
  · rw [val_main_v9_apply]
    exact hg _
  · rw [val_main_v10_apply]
    exact hg _

theorem value : @algebraic_DwGate11Ideal_DwGate11RefIdeal DwGate11Ideal.Gen.facts DwGate11RefIdeal.Gen.facts := by
  intro m g m' g' hp hm
  refine ⟨fun c => (DwGate11Ideal.Gen.dats m 0 c).arrAt 2 DwGate11Ideal.cfg0.N, DwGate11Ideal.Value.run_blocks m g,
    (θ_run _ _ _).mono (fun r h c => ?_) (DwGate11RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwGate11Ideal.Call.result (tabE2_eq (by norm_num) (by norm_num) _) (tabE2_eq (by norm_num) (by norm_num) _) (tabE3_eq (by norm_num) (by norm_num) (by norm_num) _) i).symm

end Cert.DwGate11
-- ==== Proof.DwUp11.lean ====
/-
  The up-projection weight's product of layer 1's first half-step: the kernel's program and its reference leave the same packed
  gradient (Dw.lean).
-/
module

public import proofs.«01_k».proof.Proof.Dw
public import proofs.«01_k».proof.Proof.Gen.DwUp11Ideal.Value
public import proofs.«01_k».proof.Proof.Gen.DwUp11RefIdeal.Run
public import proofs.«01_k».proof.Proof.Gen.DwUp11RefIdeal.Read
public import proofs.«01_k».proof.Defs

@[expose] public section

set_option maxRecDepth 16384

noncomputable section

namespace Cert.DwUp11Ideal.Call

open Idealize.ShloMosaic Idealize.ShloMosaic.TcCoe Idealize.ShloMosaic.Tactic Idealize.SL.Sem
open Cert.DwUp11Ideal Cert.DwUp11Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 7 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 2688
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 2688 _ G (i 0).val (i 1).val (i 2).val
  unfold put
  by_cases hi : 2688 ≤ (i 1).val ∧ (i 1).val < 2688 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 2688, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 2688); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwUp11Ideal.Call

namespace Cert.DwUp11

open Idealize.ShloMosaic Idealize.ShloMosaic.TcCoe Idealize.SL.Sem Cert.Lift Cert.Dw
open DwUp11RefIdeal DwUp11RefIdeal.Read DwUp11RefIdeal.Gen

theorem reference : @quiescent_DwUp11RefIdeal DwUp11RefIdeal.Gen.facts := fun m ρ _ =>
  (θ_run DwUp11RefIdeal.defs _ _).mono (fun r h => ⟨fun c => (h c).2, sem_eq_zero_of_no_sems (by decide) r.2⟩)
    (DwUp11RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 2688
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 2688) (q := 2816) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x2688x1024_S8x384x1024_S8x2816x1024_S8x5888x1024_d1
  · rw [val_main_v9_apply]
    exact hg _
  · rw [val_main_v10_apply]
    exact hg _

theorem value : @algebraic_DwUp11Ideal_DwUp11RefIdeal DwUp11Ideal.Gen.facts DwUp11RefIdeal.Gen.facts := by
  intro m g m' g' hp hm
  refine ⟨fun c => (DwUp11Ideal.Gen.dats m 0 c).arrAt 2 DwUp11Ideal.cfg0.N, DwUp11Ideal.Value.run_blocks m g,
    (θ_run _ _ _).mono (fun r h c => ?_) (DwUp11RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwUp11Ideal.Call.result (tabE2_eq (by norm_num) (by norm_num) _) (tabE2_eq (by norm_num) (by norm_num) _) (tabE3_eq (by norm_num) (by norm_num) (by norm_num) _) i).symm

end Cert.DwUp11
-- ==== Proof.DwDown11.lean ====
/-
  The down-projection weight's product of layer 1's first half-step: the kernel's program and its reference leave the same packed
  gradient (Dw.lean).
-/
module

public import proofs.«01_k».proof.Proof.Dw
public import proofs.«01_k».proof.Proof.Gen.DwDown11Ideal.Value
public import proofs.«01_k».proof.Proof.Gen.DwDown11RefIdeal.Run
public import proofs.«01_k».proof.Proof.Gen.DwDown11RefIdeal.Read
public import proofs.«01_k».proof.Defs

@[expose] public section

set_option maxRecDepth 16384

noncomputable section

namespace Cert.DwDown11Ideal.Call

open Idealize.ShloMosaic Idealize.ShloMosaic.TcCoe Idealize.ShloMosaic.Tactic Idealize.SL.Sem
open Cert.DwDown11Ideal Cert.DwDown11Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .f32) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .f32) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F000000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 8 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v0 = (truncf .bf16 (m (c, main_arg0) : FVec Ideal S16384x3072 .f32) bitsLt_bf16_f32 : FVec Ideal S16384x3072 .bf16) := by
  unfold V
  after_results
theorem V_b : V m c main_arg1 = m (c, main_arg1) := V_main_arg1 m c
theorem V_g : V m c main_v2 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v0 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  fun j => by
    show iblk m c 1 t j = _
    obtain ⟨h0, h1⟩ := at1 t
    unfold iblk
    rw [View.read_apply]
    show V m c main_arg1 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F000000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F000000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 3072
    (fun s r n => (∑ t ∈ Finset.range 16384, A t (384 * dev s + r) * B t n) * Ideal.ofBits .f32 0x3F000000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 3072 _ G (i 0).val (i 1).val (i 2).val
  unfold put
  by_cases hi : 3072 ≤ (i 1).val ∧ (i 1).val < 3072 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 3072, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 3072); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v2 i = _
    rw [V_g]
    exact hg i

end Cert.DwDown11Ideal.Call

namespace Cert.DwDown11

open Idealize.ShloMosaic Idealize.ShloMosaic.TcCoe Idealize.SL.Sem Cert.Lift Cert.Dw
open DwDown11RefIdeal DwDown11RefIdeal.Read DwDown11RefIdeal.Gen

theorem reference : @quiescent_DwDown11RefIdeal DwDown11RefIdeal.Gen.facts := fun m ρ _ =>
  (θ_run DwDown11RefIdeal.defs _ _).mono (fun r h => ⟨fun c => (h c).2, sem_eq_zero_of_no_sems (by decide) r.2⟩)
    (DwDown11RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v14 (F := Ideal) a b g) fun i => put 3072
    (fun s r n => (∑ t ∈ Finset.range 16384, A t (384 * dev s + r) * B t n) * Ideal.ofBits .f32 0x3F000000#32) G (i 0).val (i 1).val (i 2).val := by
  have hp : E (s := S3072x1024) (val_main_v7 (F := Ideal) a b) (TE fun j n => (∑ t ∈ Finset.range 16384, A t j * B t n) * Ideal.ofBits .f32 0x3F000000#32) := fun i => by
    rw [val_main_v7_apply, val_main_v6_apply, ofBits_half]
    show _ = (∑ t ∈ Finset.range 16384, A t (i 0).val * B t (i 1).val) * _
    rw [← scaled _ (by norm_num)]
    refine sumE _ fun k => congrArg₂ (· * ·) ?_ (ha _)
    rw [val_main_v5_apply, val_main_v4_apply]
    exact congrArg₂ (· * ·) ofBits_half (hb _)
  have hv : E (s := S8x384x1024) (val_main_v10 (F := Ideal) a b) fun i => (∑ t ∈ Finset.range 16384, A t (384 * dev (i 0).val + (i 1).val) * B t (i 2).val) * Ideal.ofBits .f32 0x3F000000#32 := by
    unfold val_main_v10 val_main_v9 val_main_v8
    exact shards hp _ _ _
  refine between (o := 3072) (q := 2432) (g := G) (f := fun s r n => (∑ t ∈ Finset.range 16384, A t (384 * dev s + r) * B t n) * Ideal.ofBits .f32 0x3F000000#32) (u := val_main_v11 (F := Ideal) g) (v := val_main_v10 (F := Ideal) a b) (w := val_main_v12 (F := Ideal) g)
    (fun i => ?_) hv (fun i => ?_) rfl concatenates_S8x3072x1024_S8x384x1024_S8x2432x1024_S8x5888x1024_d1
  · rw [val_main_v11_apply]
    exact hg _
  · rw [val_main_v12_apply]
    exact hg _

theorem value : @algebraic_DwDown11Ideal_DwDown11RefIdeal DwDown11Ideal.Gen.facts DwDown11RefIdeal.Gen.facts := by
  intro m g m' g' hp hm
  refine ⟨fun c => (DwDown11Ideal.Gen.dats m 0 c).arrAt 2 DwDown11Ideal.cfg0.N, DwDown11Ideal.Value.run_blocks m g,
    (θ_run _ _ _).mono (fun r h c => ?_) (DwDown11RefIdeal.Value.run m' g')⟩
  obtain ⟨e0, e1, e2⟩ := hm c
  obtain ⟨r0, rest⟩ := h c
  refine ⟨r0.trans ?_, rest⟩
  rw [val_main_v14_eq, e0, e1, e2]
  funext i
  exact (expected (tabE2_eq (by norm_num) (by norm_num) _) (tabE2_eq (by norm_num) (by norm_num) _) (tabE3_eq (by norm_num) (by norm_num) (by norm_num) _) i).trans
    (DwDown11Ideal.Call.result (tabE2_eq (by norm_num) (by norm_num) _) (tabE2_eq (by norm_num) (by norm_num) _) (tabE3_eq (by norm_num) (by norm_num) (by norm_num) _) i).symm

end Cert.DwDown11
-- ==== Proof.DwGate12.lean ====
/-
  The gate weight's product of layer 1's second half-step: the kernel's program and its reference leave the same packed
  gradient (Dw.lean).
-/
module

public import proofs.«01_k».proof.Proof.Dw
public import proofs.«01_k».proof.Proof.Gen.DwGate12Ideal.Value
public import proofs.«01_k».proof.Proof.Gen.DwGate12RefIdeal.Run
public import proofs.«01_k».proof.Proof.Gen.DwGate12RefIdeal.Read
public import proofs.«01_k».proof.Defs

@[expose] public section

set_option maxRecDepth 16384

noncomputable section

namespace Cert.DwGate12Ideal.Call

open Idealize.ShloMosaic Idealize.ShloMosaic.TcCoe Idealize.ShloMosaic.Tactic Idealize.SL.Sem
open Cert.DwGate12Ideal Cert.DwGate12Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 9 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 3456
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 3456 _ G (i 0).val (i 1).val (i 2).val
  unfold put
  by_cases hi : 3456 ≤ (i 1).val ∧ (i 1).val < 3456 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 3456, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 3456); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwGate12Ideal.Call

namespace Cert.DwGate12

open Idealize.ShloMosaic Idealize.ShloMosaic.TcCoe Idealize.SL.Sem Cert.Lift Cert.Dw
open DwGate12RefIdeal DwGate12RefIdeal.Read DwGate12RefIdeal.Gen

theorem reference : @quiescent_DwGate12RefIdeal DwGate12RefIdeal.Gen.facts := fun m ρ _ =>
  (θ_run DwGate12RefIdeal.defs _ _).mono (fun r h => ⟨fun c => (h c).2, sem_eq_zero_of_no_sems (by decide) r.2⟩)
    (DwGate12RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 3456
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 3456) (q := 2048) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x3456x1024_S8x384x1024_S8x2048x1024_S8x5888x1024_d1
  · rw [val_main_v9_apply]
    exact hg _
  · rw [val_main_v10_apply]
    exact hg _

theorem value : @algebraic_DwGate12Ideal_DwGate12RefIdeal DwGate12Ideal.Gen.facts DwGate12RefIdeal.Gen.facts := by
  intro m g m' g' hp hm
  refine ⟨fun c => (DwGate12Ideal.Gen.dats m 0 c).arrAt 2 DwGate12Ideal.cfg0.N, DwGate12Ideal.Value.run_blocks m g,
    (θ_run _ _ _).mono (fun r h c => ?_) (DwGate12RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwGate12Ideal.Call.result (tabE2_eq (by norm_num) (by norm_num) _) (tabE2_eq (by norm_num) (by norm_num) _) (tabE3_eq (by norm_num) (by norm_num) (by norm_num) _) i).symm

end Cert.DwGate12
-- ==== Proof.DwUp12.lean ====
/-
  The up-projection weight's product of layer 1's second half-step: the kernel's program and its reference leave the same packed
  gradient (Dw.lean).
-/
module

public import proofs.«01_k».proof.Proof.Dw
public import proofs.«01_k».proof.Proof.Gen.DwUp12Ideal.Value
public import proofs.«01_k».proof.Proof.Gen.DwUp12RefIdeal.Run
public import proofs.«01_k».proof.Proof.Gen.DwUp12RefIdeal.Read
public import proofs.«01_k».proof.Defs

@[expose] public section

set_option maxRecDepth 16384

noncomputable section

namespace Cert.DwUp12Ideal.Call

open Idealize.ShloMosaic Idealize.ShloMosaic.TcCoe Idealize.ShloMosaic.Tactic Idealize.SL.Sem
open Cert.DwUp12Ideal Cert.DwUp12Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .bf16) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .bf16) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F800000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 10 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v1 = (truncf .bf16 (m (c, main_arg0) : FVec Ideal S16384x3072 .f32) bitsLt_bf16_f32 : FVec Ideal S16384x3072 .bf16) := by
  unfold V
  after_results
theorem V_b : V m c main_v0 = (truncf .bf16 (m (c, main_arg1) : FVec Ideal S16384x1024 .f32) bitsLt_bf16_f32 : FVec Ideal S16384x1024 .bf16) := by
  unfold V
  after_results
theorem V_g : V m c main_v3 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v1 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  E.shapeCast_self (s := S1024x1024) (fun j => by
    obtain ⟨h0, h1⟩ := at1 t
    unfold iblk
    rw [View.read_apply]
    show V m c main_v0 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega) shapeCasts_S1024x1024_S1024x1024

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F800000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F800000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 3840
    (fun s r n => (∑ t ∈ Finset.range 16384, A t (384 * dev s + r) * B t n) * Ideal.ofBits .f32 0x3F800000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 3840 _ G (i 0).val (i 1).val (i 2).val
  unfold put
  by_cases hi : 3840 ≤ (i 1).val ∧ (i 1).val < 3840 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 3840, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 3840); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v3 i = _
    rw [V_g]
    exact hg i

end Cert.DwUp12Ideal.Call

namespace Cert.DwUp12

open Idealize.ShloMosaic Idealize.ShloMosaic.TcCoe Idealize.SL.Sem Cert.Lift Cert.Dw
open DwUp12RefIdeal DwUp12RefIdeal.Read DwUp12RefIdeal.Gen

theorem reference : @quiescent_DwUp12RefIdeal DwUp12RefIdeal.Gen.facts := fun m ρ _ =>
  (θ_run DwUp12RefIdeal.defs _ _).mono (fun r h => ⟨fun c => (h c).2, sem_eq_zero_of_no_sems (by decide) r.2⟩)
    (DwUp12RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v12 (F := Ideal) a b g) fun i => put 3840
    (fun s r n => (∑ t ∈ Finset.range 16384, A t (384 * dev s + r) * B t n) * Ideal.ofBits .f32 0x3F800000#32) G (i 0).val (i 1).val (i 2).val := by
  have hp : E (s := S3072x1024) (val_main_v5 (F := Ideal) a b) (TE fun j n => (∑ t ∈ Finset.range 16384, A t j * B t n) * Ideal.ofBits .f32 0x3F800000#32) := fun i => by
    rw [val_main_v5_apply, val_main_v4_apply, val_main_v3_apply, ofBits_one, EReal.coe_one]
    show _ = (∑ t ∈ Finset.range 16384, A t (i 0).val * B t (i 1).val) * 1
    rw [mul_one]
    exact sumE _ fun k => congrArg₂ (· * ·) (ha _) (hb _)
  have hv : E (s := S8x384x1024) (val_main_v8 (F := Ideal) a b) fun i => (∑ t ∈ Finset.range 16384, A t (384 * dev (i 0).val + (i 1).val) * B t (i 2).val) * Ideal.ofBits .f32 0x3F800000#32 := by
    unfold val_main_v8 val_main_v7 val_main_v6
    exact shards hp _ _ _
  refine between (o := 3840) (q := 1664) (g := G) (f := fun s r n => (∑ t ∈ Finset.range 16384, A t (384 * dev s + r) * B t n) * Ideal.ofBits .f32 0x3F800000#32) (u := val_main_v9 (F := Ideal) g) (v := val_main_v8 (F := Ideal) a b) (w := val_main_v10 (F := Ideal) g)
    (fun i => ?_) hv (fun i => ?_) rfl concatenates_S8x3840x1024_S8x384x1024_S8x1664x1024_S8x5888x1024_d1
  · rw [val_main_v9_apply]
    exact hg _
  · rw [val_main_v10_apply]
    exact hg _

theorem value : @algebraic_DwUp12Ideal_DwUp12RefIdeal DwUp12Ideal.Gen.facts DwUp12RefIdeal.Gen.facts := by
  intro m g m' g' hp hm
  refine ⟨fun c => (DwUp12Ideal.Gen.dats m 0 c).arrAt 2 DwUp12Ideal.cfg0.N, DwUp12Ideal.Value.run_blocks m g,
    (θ_run _ _ _).mono (fun r h c => ?_) (DwUp12RefIdeal.Value.run m' g')⟩
  obtain ⟨e0, e1, e2⟩ := hm c
  obtain ⟨r0, rest⟩ := h c
  refine ⟨r0.trans ?_, rest⟩
  rw [val_main_v12_eq, e0, e1, e2]
  funext i
  exact (expected (tabE2_eq (by norm_num) (by norm_num) _) (tabE2_eq (by norm_num) (by norm_num) _) (tabE3_eq (by norm_num) (by norm_num) (by norm_num) _) i).trans
    (DwUp12Ideal.Call.result (tabE2_eq (by norm_num) (by norm_num) _) (tabE2_eq (by norm_num) (by norm_num) _) (tabE3_eq (by norm_num) (by norm_num) (by norm_num) _) i).symm

end Cert.DwUp12
-- ==== Proof.DwDown12.lean ====
/-
  The down-projection weight's product of layer 1's second half-step: the kernel's program and its reference leave the same packed
  gradient (Dw.lean).
-/
module

public import proofs.«01_k».proof.Proof.Dw
public import proofs.«01_k».proof.Proof.Gen.DwDown12Ideal.Value
public import proofs.«01_k».proof.Proof.Gen.DwDown12RefIdeal.Run
public import proofs.«01_k».proof.Proof.Gen.DwDown12RefIdeal.Read
public import proofs.«01_k».proof.Defs

@[expose] public section

set_option maxRecDepth 16384

noncomputable section

namespace Cert.DwDown12Ideal.Call

open Idealize.ShloMosaic Idealize.ShloMosaic.TcCoe Idealize.ShloMosaic.Tactic Idealize.SL.Sem
open Cert.DwDown12Ideal Cert.DwDown12Ideal.Gen Cert.Lift Cert.Dw

section Pieces

variable {F : FTy → Type} [FloatOps F]
variable (c : Dev nD) (i : grid0.Coords) (arg1 : Memref sig .tc .vmem S1024x3072 .bf16) (harg1 : arg1.IsWhole) (arg2 : Memref sig .tc .vmem S1024x1024 .f32) (harg2 : arg2.IsWhole) (arg4 : Memref sig .tc .vmem S8x384x1024 .bf16) (harg4 : arg4.IsWhole) (arg5 : Memref sig .tc .vmem S3072x1024 .f32) (harg5 : arg5.IsWhole)
    (x0 : Vec F S1024x3072 .bf16) (x1 : Vec F S1024x1024 .f32) (z : Vec F S3072x1024 .f32)

theorem sumA (hc0 : cond0_0 i) (hc1 : ¬cond0_1 i) : sout0_A_0 c i arg1 harg1 arg2 harg2 arg4 harg4 arg5 harg5 hc0 hc1 x0 x1
    = View.canon (eights (k0_pay12 x1) x0 k0_pay11 ++ [⟨Rect.unit ![0, 0] S3072x1024.size inb_S3072x1024_S3072x1024_0_0, k0_pay11⟩]) := by
  unfold sout0_A_0
  rw [View.read_writes_eq_canon _ _ _ (scover0_A_0 c i arg1 harg1 arg2 harg2 arg4 harg4 arg5 harg5 hc0 hc1 x0 x1)]
  unfold kernelRun0_A
  dsimp only
  sl_unfold_words
  simp (disch := first | decide | exact fun a => congrFun hz a) only [View.readAt_eq_ld, harg1.read_unread, harg2.read_unread, harg5.read_unread, ↓View.readCov_skip, ↓View.readCov_fill,
    View.ld_unit_zero (S := S1024x1024) hz]
  rfl

theorem sumB (hc0 : ¬cond0_0 i) (hc1 : ¬cond0_1 i) : sout0_B_0 c i arg1 harg1 arg2 harg2 arg4 harg4 arg5 harg5 hc0 hc1 x0 x1 z
    = View.canon (eights (k0_pay12 x1) x0 z ++ []) := by
  unfold sout0_B_0
  rw [View.read_writes_eq_canon _ _ _ (scover0_B_0 c i arg1 harg1 arg2 harg2 arg4 harg4 arg5 harg5 hc0 hc1 x0 x1 z)]
  unfold kernelRun0_B
  dsimp only
  sl_unfold_words
  simp only [View.readAt_eq_ld, harg1.read_unread, harg2.read_unread, harg5.read_unread, View.ld_unit_zero (S := S1024x1024) hz]
  rfl

theorem outC (hc0 : ¬cond0_0 i) (hc1 : cond0_1 i) : out0_C_2 c i arg1 harg1 arg2 harg2 arg4 harg4 arg5 harg5 hc0 hc1 x0 x1 z
    = View.canon (slots (k0_pay12 x1) x0 z (Scalar.ofBits .f32 0x3F000000#32) ++ []) := by
  unfold out0_C_2
  rw [View.read_writes_eq_canon _ _ _ (cover0_C_2 c i arg1 harg1 arg2 harg2 arg4 harg4 arg5 harg5 hc0 hc1 x0 x1 z)]
  unfold kernelRun0_C
  dsimp only
  sl_unfold_words
  simp (disch := decide) only [View.readAt_eq_ld, harg1.read_unread, harg2.read_unread, harg5.read_unread, ↓View.readCov_skip, ↓View.readCov_cons_toLoadRect,
    View.ld_unit_zero (S := S1024x1024) hz]
  rfl

end Pieces

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = 0 ∧ win0_2.index t 1 = 11 ∧ win0_2.index t 2 = 0 := by decide +kernel

variable {m : (ℓ : Loc nD τ sig) → Buf (Elt Idealize.ShloMosaic.Ideal) ℓ} {c : Dev nD} {A B : ℕ → ℕ → EReal} {G : ℕ → ℕ → ℕ → EReal}

theorem V_a : V m c main_v0 = (truncf .bf16 (m (c, main_arg0) : FVec Ideal S16384x3072 .f32) bitsLt_bf16_f32 : FVec Ideal S16384x3072 .bf16) := by
  unfold V
  after_results
theorem V_b : V m c main_arg1 = m (c, main_arg1) := V_main_arg1 m c
theorem V_g : V m c main_v2 = (truncf .bf16 (m (c, main_arg2) : FVec Ideal S8x5888x1024 .f32) bitsLt_bf16_f32 : FVec Ideal S8x5888x1024 .bf16) := by
  unfold V
  after_results
  rfl

theorem blk0 (h : E (s := S16384x3072) (m (c, main_arg0)) (TE A)) (t : Fin cfg0.N) :
    E (s := S1024x3072) (iblk m c 0 t) (TE fun r n => A (1024 * t.val + r) n) := fun j => by
  obtain ⟨h0, h1⟩ := at0 t
  unfold iblk
  rw [View.read_apply]
  show V m c main_v0 _ = _
  rw [V_a]
  refine (h _).trans (congrArg₂ A ?_ ?_)
  · show win0_0.index t 0 * 1024 + 1 * (j 0).val = _
    rw [h0]; omega
  · show win0_0.index t 1 * 3072 + 1 * (j 1).val = _
    rw [h1]; omega

theorem blk1 (h : E (s := S16384x1024) (m (c, main_arg1)) (TE B)) (t : Fin cfg0.N) :
    E (s := S1024x1024) (k0_pay12 (iblk m c 1 t)) (TE fun r n => B (1024 * t.val + r) n) :=
  fun j => by
    show iblk m c 1 t j = _
    obtain ⟨h0, h1⟩ := at1 t
    unfold iblk
    rw [View.read_apply]
    show V m c main_arg1 _ = _
    rw [V_b]
    refine (h _).trans (congrArg₂ B ?_ ?_)
    · show win0_1.index t 0 * 1024 + 1 * (j 0).val = _
      rw [h0]; omega
    · show win0_1.index t 1 * 1024 + 1 * (j 1).val = _
      rw [h1]; omega

variable (ha : E (s := S16384x3072) (m (c, main_arg0)) (TE A)) (hb : E (s := S16384x1024) (m (c, main_arg1)) (TE B))
  (hg : E (s := S8x5888x1024) (m (c, main_arg2)) fun i => G (i 0).val (i 1).val (i 2).val)
/-- Point `n` of the call, for `n` below 16. -/
def pt (n : ℕ) : Fin cfg0.N := ⟨n % 16, lt_of_lt_of_eq (Nat.mod_lt _ (by decide)) N_0.symm⟩

theorem before (n : ℕ) : ∀ (k : ℕ) (hk : k < cfg0.N), k = (pt n).val → (outsAt0 m c k hk).2 = (outsAt0 m c (pt n).val (pt n).isLt).2 := by
  rintro k hk rfl; rfl

theorem first : ∃ L, (outsAt0 m c (pt 0).val (pt 0).isLt).2 = View.canon (eights (k0_pay12 (iblk m c 1 (pt 0))) (iblk m c 0 (pt 0)) (k0_pay11 (F := Ideal)) ++ L) := by
  refine ⟨[⟨Rect.unit ![0, 0] S3072x1024.size inb_S3072x1024_S3072x1024_0_0, k0_pay11 (F := Ideal)⟩], ?_⟩
  rw [outsAt0_A m c (pt 0) rfl (by decide)]
  dsimp only
  rw [sumA]

theorem later (n : ℕ) (hn : n + 1 < 15) : ∃ L, (outsAt0 m c (pt (n + 1)).val (pt (n + 1)).isLt).2
    = View.canon (eights (k0_pay12 (iblk m c 1 (pt (n + 1)))) (iblk m c 0 (pt (n + 1))) (outsAt0 m c (pt n).val (pt n).isLt).2 ++ L) := by
  have e : (pt (n + 1)).val = n + 1 := Nat.mod_eq_of_lt (by omega)
  have e' : (pt n).val = n := Nat.mod_eq_of_lt (by omega)
  refine ⟨[], ?_⟩
  rw [← before n _ (lt_of_le_of_lt (Nat.sub_le _ 1) (pt (n + 1)).isLt) (show (pt (n + 1)).val - 1 = (pt n).val by omega)]
  rw [outsAt0_B m c (pt (n + 1)) (by omega) (by omega)]
  dsimp only
  rw [sumB]

theorem last : ∃ L, (outsAt0 m c (pt 15).val (pt 15).isLt).1
    = View.canon (slots (k0_pay12 (iblk m c 1 (pt 15))) (iblk m c 0 (pt 15)) (outsAt0 m c (pt 14).val (pt 14).isLt).2 (Ideal.ofBits .f32 0x3F000000#32) ++ L) := by
  refine ⟨[], ?_⟩
  rw [← before 14 _ (lt_of_le_of_lt (Nat.sub_le _ 1) (pt 15).isLt) (show (pt 15).val - 1 = (pt 14).val by decide)]
  rw [outsAt0_C m c (pt 15) (by decide) (by decide)]
  dsimp only
  rw [outC]
  rfl

include ha hb

theorem run : Run A B (Ideal.ofBits .f32 0x3F000000#32) (fun n => iblk m c 0 (pt n)) (fun n => k0_pay12 (iblk m c 1 (pt n)))
    (fun n => (outsAt0 m c (pt n).val (pt n).isLt).2) ((outsAt0 m c (pt 15).val (pt 15).isLt).1) where
  hx n hn := by
    have := blk0 ha (pt n)
    rwa [show (pt n).val = n from Nat.mod_eq_of_lt hn] at this
  hy n hn := by
    have := blk1 hb (pt n)
    rwa [show (pt n).val = n from Nat.mod_eq_of_lt hn] at this
  first := first
  later := later
  last := last

include hg

/-- The packed gradient the call leaves. -/
theorem result : E (s := S8x5888x1024) ((dats m 0 c).arrAt 2 cfg0.N) fun i => put 4224
    (fun s r n => (∑ t ∈ Finset.range 16384, A t (384 * dev s + r) * B t n) * Ideal.ofBits .f32 0x3F000000#32) G (i 0).val (i 1).val (i 2).val := fun i => by
  have hf : (cfg0.win 2).flush (pt 15) = true := (flush0_2 _).mpr rfl
  have h15 : ∀ t : Fin cfg0.N, (cfg0.win 2).flush t = true → t = pt 15 := fun t h => Fin.ext (by
    have := (flush0_2 t).mp h
    have := lt_of_lt_of_eq t.isLt N_0
    show t.val = 15
    omega)
  obtain ⟨e0, e1, e2⟩ := at2 (pt 15)
  show _ = put 4224 _ G (i 0).val (i 1).val (i 2).val
  unfold put
  by_cases hi : 4224 ≤ (i 1).val ∧ (i 1).val < 4224 + 384
  · rw [if_pos hi]
    have hb' := congrFun ((dats m 0 c).read_blk_arrAt_eq_flushed 2 (fun t t' h h' ne => absurd ((h15 t h).trans (h15 t' h').symm) ne) cfg0.N (pt 15) (pt 15).isLt hf)
      (fun a => match a with | ⟨0, _⟩ => ⟨(i 0).val, (i 0).isLt⟩ | ⟨1, _⟩ => ⟨(i 1).val - 4224, by show _ < 384; omega⟩ | ⟨2, _⟩ => ⟨(i 2).val, (i 2).isLt⟩)
    rw [View.read_apply, Value.flushed2] at hb'
    refine (congrArg _ ?_).trans (hb'.trans ((run ha hb).out_eq _))
    funext a
    apply Fin.ext
    match a with
    | ⟨0, _⟩ => show (i 0).val = win0_2.index (pt 15) 0 * 8 + 1 * (i 0).val; rw [e0]; omega
    | ⟨1, _⟩ => show (i 1).val = win0_2.index (pt 15) 1 * 384 + 1 * ((i 1).val - 4224); rw [e1]; omega
    | ⟨2, _⟩ => show (i 2).val = win0_2.index (pt 15) 2 * 1024 + 1 * (i 2).val; rw [e2]; omega
  · rw [if_neg hi, Value.entry2 m c i fun t h => by
      rw [h15 t h]
      intro hk
      refine Exists.elim (Finset.mem_map.mp hk) fun k hk => hi ?_
      have h1 : win0_2.index (pt 15) 1 * 384 + 1 * (k 1).val = (i 1).val := congrArg Fin.val (congrFun hk.2 1)
      have := (k 1).isLt
      rw [e1] at h1
      have h2 : (k 1).val < 384 := (k 1).isLt
      omega]
    show V m c main_v2 i = _
    rw [V_g]
    exact hg i

end Cert.DwDown12Ideal.Call

namespace Cert.DwDown12

open Idealize.ShloMosaic Idealize.ShloMosaic.TcCoe Idealize.SL.Sem Cert.Lift Cert.Dw
open DwDown12RefIdeal DwDown12RefIdeal.Read DwDown12RefIdeal.Gen

theorem reference : @quiescent_DwDown12RefIdeal DwDown12RefIdeal.Gen.facts := fun m ρ _ =>
  (θ_run DwDown12RefIdeal.defs _ _).mono (fun r h => ⟨fun c => (h c).2, sem_eq_zero_of_no_sems (by decide) r.2⟩)
    (DwDown12RefIdeal.Value.run (F := Ideal) m ρ)

variable {A B : ℕ → ℕ → EReal} {G : ℕ → ℕ → ℕ → EReal}

/-- The packed gradient the reference leaves. -/
theorem expected {a : FVec Ideal S16384x3072 .f32} {b : FVec Ideal S16384x1024 .f32} {g : FVec Ideal S8x5888x1024 .f32} (ha : E a (TE A)) (hb : E b (TE B))
    (hg : E g fun i => G (i 0).val (i 1).val (i 2).val) : E (s := S8x5888x1024) (val_main_v14 (F := Ideal) a b g) fun i => put 4224
    (fun s r n => (∑ t ∈ Finset.range 16384, A t (384 * dev s + r) * B t n) * Ideal.ofBits .f32 0x3F000000#32) G (i 0).val (i 1).val (i 2).val := by
  have hp : E (s := S3072x1024) (val_main_v7 (F := Ideal) a b) (TE fun j n => (∑ t ∈ Finset.range 16384, A t j * B t n) * Ideal.ofBits .f32 0x3F000000#32) := fun i => by
    rw [val_main_v7_apply, val_main_v6_apply, ofBits_half]
    show _ = (∑ t ∈ Finset.range 16384, A t (i 0).val * B t (i 1).val) * _
    rw [← scaled _ (by norm_num)]
    refine sumE _ fun k => congrArg₂ (· * ·) ?_ (ha _)
    rw [val_main_v5_apply, val_main_v4_apply]
    exact congrArg₂ (· * ·) ofBits_half (hb _)
  have hv : E (s := S8x384x1024) (val_main_v10 (F := Ideal) a b) fun i => (∑ t ∈ Finset.range 16384, A t (384 * dev (i 0).val + (i 1).val) * B t (i 2).val) * Ideal.ofBits .f32 0x3F000000#32 := by
    unfold val_main_v10 val_main_v9 val_main_v8
    exact shards hp _ _ _
  refine between (o := 4224) (q := 1280) (g := G) (f := fun s r n => (∑ t ∈ Finset.range 16384, A t (384 * dev s + r) * B t n) * Ideal.ofBits .f32 0x3F000000#32) (u := val_main_v11 (F := Ideal) g) (v := val_main_v10 (F := Ideal) a b) (w := val_main_v12 (F := Ideal) g)
    (fun i => ?_) hv (fun i => ?_) rfl concatenates_S8x4224x1024_S8x384x1024_S8x1280x1024_S8x5888x1024_d1
  · rw [val_main_v11_apply]
    exact hg _
  · rw [val_main_v12_apply]
    exact hg _

theorem value : @algebraic_DwDown12Ideal_DwDown12RefIdeal DwDown12Ideal.Gen.facts DwDown12RefIdeal.Gen.facts := by
  intro m g m' g' hp hm
  refine ⟨fun c => (DwDown12Ideal.Gen.dats m 0 c).arrAt 2 DwDown12Ideal.cfg0.N, DwDown12Ideal.Value.run_blocks m g,
    (θ_run _ _ _).mono (fun r h c => ?_) (DwDown12RefIdeal.Value.run m' g')⟩
  obtain ⟨e0, e1, e2⟩ := hm c
  obtain ⟨r0, rest⟩ := h c
  refine ⟨r0.trans ?_, rest⟩
  rw [val_main_v14_eq, e0, e1, e2]
  funext i
  exact (expected (tabE2_eq (by norm_num) (by norm_num) _) (tabE2_eq (by norm_num) (by norm_num) _) (tabE3_eq (by norm_num) (by norm_num) (by norm_num) _) i).trans
    (DwDown12Ideal.Call.result (tabE2_eq (by norm_num) (by norm_num) _) (tabE2_eq (by norm_num) (by norm_num) _) (tabE3_eq (by norm_num) (by norm_num) (by norm_num) _) i).symm

end Cert.DwDown12
-- ==== Proof.FfnFwdTab.lean ====
/-
  The feed-forward half-step over tables of extended real numbers: its results, the packed order of the hidden
  units, and the sums over blocks of that order. Nothing here asks that an entry be finite.
-/
module

public import proofs.«01_k».proof.Proof.InProjBwd
public import proofs.«01_k».proof.Proof.HalfC

@[expose] public section

noncomputable section

namespace Cert.Lift

open Idealize.ShloMosaic

variable {s t : Shape} {φ : FTy} {f : s.Idx → EReal}

theorem E.tanh {x : FVec Ideal s φ} (hx : E x f) : E (Idealize.ShloMosaic.tanh x) (fun i => Ideal.tanh (f i)) := fun i => by
  show Ideal.tanh (x i) = _
  rw [hx i]

theorem E.broadcastInDim {x : s.Idx → EReal} (hx : E x f) (dims : Fin s.rank → Fin t.rank) (h : s.BroadcastsInDim t dims) (k : t.Idx → s.Idx)
    (hk : ∀ (j : t.Idx) (a : Fin s.rank), (k j a).val = if s.size a = 1 then 0 else (j (dims a)).val) :
    E (Idealize.ShloMosaic.broadcastInDim t dims h x) (fun j => f (k j)) := fun j => by
  rw [broadcastInDim_apply dims h x j (k j) (hk j), hx]

theorem E.transpose {x : s.Idx → EReal} (hx : E x f) (perm : List (Fin s.rank)) (h : s.Transposes perm t) (k : t.Idx → s.Idx)
    (hk : ∀ (j : t.Idx) (b : Fin t.rank), (k j perm[b.cast h.2.1]).val = (j b).val) :
    E (Idealize.ShloMosaic.transpose t perm x h) (fun j => f (k j)) := fun j => by
  rw [transpose_apply perm x h j (k j) (hk j), hx]

theorem E.hostSum {u : Shape} {a : Fin s.rank} {x : FVec Ideal s φ} (hx : E x f) {v : FVec Ideal u φ} (hv : E v (fun _ => 0))
    (h' : s.ReducesTo [a] t) (h0 : 0 < u.numel) (h : s.Reduces [a] t) (F : t.Idx → ℕ → EReal)
    (hF : ∀ j (k : Fin (s.size a)), f (h.lift j k) = F j k.val) :
    E (Host.reduceAdd x v h' h0) (fun j => ∑ k ∈ Finset.range (s.size a), F j k) := fun j => by
  simp only [Host.reduceAdd, Ideal.hostReduceAdd_def]
  rw [Ideal.hostReduceAdd_single h' h, hv, sumE (F j) (fun k => by rw [hx, hF]), zero_add]

theorem E.dot {sl sr so : Shape} {φ₁ φ₂ : FTy} {D : DotDims sl sr so} (n : ℕ) (hr : D.contr.rank = 1) (hs : D.contr.size ⟨0, by omega⟩ = n)
    (prec : Option ContractPrecision) {l : FVec Ideal sl φ₁} {r : FVec Ideal sr φ₂} {fl : sl.Idx → EReal} {fr : sr.Idx → EReal}
    (hl : E l fl) (hr' : E r fr) (F : so.Idx → ℕ → EReal)
    (h : ∀ j k, fl (D.lhsIdx j k) * fr (D.rhsIdx j k) = F j (k ⟨0, by omega⟩).val) :
    E (Host.dotGeneral D prec l r) (fun j => ∑ k ∈ Finset.range n, F j k) := fun j => by
  unfold Host.dotGeneral
  rw [Ideal.dotGeneral_apply]
  exact sumE_contr D n hr hs _ (F j) fun k => by rw [hl, hr', h]

end Cert.Lift

namespace Cert.Fwd

open Idealize.ShloMosaic Cert.Lift

/-! ## The results -/

/-- The factor a row is normalised by. -/
def rs (X : ℕ → ℕ → EReal) (t : ℕ) : EReal :=
  Ideal.rsqrt (Ideal.div (∑ k ∈ Finset.range 1024, X t k * X t k) (Ideal.ofBits .f32 0x44800000#32) + Ideal.ofBits .f32 0x358637BD#32)

/-- The normalised rows. -/
def norm (X : ℕ → ℕ → EReal) (n : ℕ → EReal) (t d : ℕ) : EReal := X t d * rs X t * n d

/-- A product of rows with a weight. -/
def mm (H A : ℕ → ℕ → EReal) (t m : ℕ) : EReal := ∑ k ∈ Finset.range 1024, H t k * A k m

/-- The activation. -/
def act (g u : EReal) : EReal := g * Ideal.logistic g * u

/-- The hidden units of a row. -/
def hid (X : ℕ → ℕ → EReal) (n : ℕ → EReal) (G U : ℕ → ℕ → EReal) (t m : ℕ) : EReal := act (mm (norm X n) G t m) (mm (norm X n) U t m)

/-- One half. -/
def half : EReal := Ideal.ofBits .f32 0x3F000000#32

/-- The half-step. -/
def step (X : ℕ → ℕ → EReal) (n : ℕ → EReal) (G U D : ℕ → ℕ → EReal) (t d : ℕ) : EReal :=
  X t d + half * ∑ m ∈ Finset.range 2816, hid X n G U t m * D m d

/-! ## The packed order of the hidden units: eight shards of 352, each followed by 32 zeros -/

/-- A list of hidden units in the packed order. -/
def padE (f : ℕ → EReal) (p : ℕ) : EReal := if p % 384 < 352 then f (352 * (p / 384) + p % 384) else 0

variable {X G U D H A : ℕ → ℕ → EReal} {n : ℕ → EReal}

theorem padE_act (g u : ℕ → EReal) (p : ℕ) : act (padE g p) (padE u p) = padE (fun m => act (g m) (u m)) p := by
  unfold padE; split
  · rfl
  · simp [act]

theorem padE_mul (f g : ℕ → EReal) (p : ℕ) : padE f p * padE g p = padE (fun m => f m * g m) p := by
  unfold padE; split
  · rfl
  · simp

/-- A product with a padded weight. -/
theorem mm_padE (t p : ℕ) : ∑ k ∈ Finset.range 1024, H t k * padE (A k) p = padE (mm H A t) p := by
  unfold padE; split
  · rfl
  · simp

theorem sum_blocks (a b : ℕ) (f : ℕ → EReal) :
    ∑ p ∈ Finset.range (a * b), f p = ∑ r ∈ Finset.range a, ∑ c ∈ Finset.range b, f (b * r + c) := by
  induction a with
  | zero => simp
  | succ a ih =>
    rw [Finset.sum_range_succ, ← ih, Nat.succ_mul, Finset.sum_range_add]
    congr 1
    exact Finset.sum_congr rfl fun c _ => by rw [Nat.mul_comm]

/-- The padding contributes nothing to a sum. -/
theorem sum_padE (f : ℕ → EReal) : ∑ p ∈ Finset.range 3072, padE f p = ∑ m ∈ Finset.range 2816, f m := by
  rw [show (3072 : ℕ) = 8 * 384 from rfl, show (2816 : ℕ) = 8 * 352 from rfl, sum_blocks, sum_blocks]
  refine Finset.sum_congr rfl fun r _ => ?_
  rw [show (384 : ℕ) = 352 + 32 from rfl, Finset.sum_range_add]
  have h0 : ∑ x ∈ Finset.range 32, padE f ((352 + 32) * r + (352 + x)) = 0 :=
    Finset.sum_eq_zero fun x hx => by
      have := Finset.mem_range.mp hx
      unfold padE; rw [if_neg (by omega)]
  rw [h0, add_zero]
  refine Finset.sum_congr rfl fun c hc => ?_
  have := Finset.mem_range.mp hc
  unfold padE
  rw [if_pos (by omega)]
  congr 1; omega

/-! ## The constants -/

theorem half_eq : half = ((1 / 2 : ℝ) : EReal) := ofBits_half

/-- The logistic function as half of one plus the hyperbolic tangent of the half. -/
theorem half_logistic (x : EReal) : half * (Ideal.tanh (half * x) + Ideal.ofBits .f32 0x3F800000#32) = Ideal.logistic x := by
  rw [half_eq, show Ideal.ofBits .f32 0x3F800000#32 = ((1 : ℝ) : EReal) from ofBits_one]
  induction x with
  | bot =>
    rw [EReal.coe_mul_bot_of_pos (by norm_num), Ideal.tanh_bot, Ideal.logistic_bot, EReal.coe_one, ← EReal.coe_one, ← EReal.coe_neg, ← EReal.coe_add,
      ← EReal.coe_mul]
    norm_num
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_add, ← EReal.coe_mul]
    exact congrArg _ (half_tanh r)

/-- One more block of terms of the halved sum. -/
theorem grow (x : EReal) (f : ℕ → EReal) (k b : ℕ) :
    x + half * ∑ p ∈ Finset.range k, f p + half * ∑ p ∈ Finset.range b, f (k + p) = x + half * ∑ p ∈ Finset.range (k + b), f p := by
  rw [Finset.sum_range_add, half_eq,
    EReal.left_distrib_of_nonneg_of_ne_top (EReal.coe_nonneg.mpr (by norm_num)) (EReal.coe_ne_top _), add_assoc]

/-- The half-step's sum in the packed order. -/
theorem step_packed (t d : ℕ) :
    X t d + half * ∑ p ∈ Finset.range 3072, padE (hid X n G U t) p * padE (fun m => D m d) p = step X n G U D t d := by
  simp only [padE_mul, sum_padE, step]

end Cert.Fwd
-- ==== Proof.FfnFwdRef.lean ====
/-
  The reference's half-step, forward: its operations in order, what each result is in terms of the arguments, and
  what the results are entry by entry.
-/
module

public import proofs.«01_k».proof.Proof.FfnFwdTab
public import proofs.«01_k».proof.Proof.Gen.FfnFwdRefIdeal
public import Idealize.ShloMosaic.Lib.StableHlo.Run

@[expose] public section

set_option maxRecDepth 16384

noncomputable section

namespace Cert.FfnFwdRefIdeal.Call

open Cert.FfnFwdRefIdeal Cert.FfnFwdRefIdeal.Gen Idealize.ShloMosaic Idealize.ShloMosaic.TcCoe Idealize.SL.Sem Idealize.ShloMosaic.StableHlo
open Cert.Lift

section Run

variable {F : FTy → Type} [FloatOps F]

/-- The operations, in order. -/
abbrev ops : List (HloOp τ sig (Elt F)) :=
  [ binary main_arg0 main_arg0 main_v0 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v0 main_cst main_v1 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44800000#32),
    unary main_cst_0 main_v3 (broadcastInDim S16384x1 ![] bcast_S_S16384x1 : (⟨S_, .f32⟩ : BufTy).Contents (Elt F) → (⟨S16384x1, .f32⟩ : BufTy).Contents (Elt F)),
    binary main_v2 main_v3 main_v4 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v5 (broadcastInDim S16384x1 ![] bcast_S_S16384x1 : (⟨S_, .f32⟩ : BufTy).Contents (Elt F) → (⟨S16384x1, .f32⟩ : BufTy).Contents (Elt F)),
    binary main_v4 main_v5 main_v6 (addf : (⟨S16384x1, .f32⟩ : BufTy).Contents (Elt F) → (⟨S16384x1, .f32⟩ : BufTy).Contents (Elt F) → (⟨S16384x1, .f32⟩ : BufTy).Contents (Elt F)),
    unary main_v6 main_v7 (Host.rsqrt : (⟨S16384x1, .f32⟩ : BufTy).Contents (Elt F) → (⟨S16384x1, .f32⟩ : BufTy).Contents (Elt F)),
    unary main_v7 main_v8 (broadcastInDim S16384x1024 ![0, 1] bcast_S16384x1_S16384x1024_0_1 : (⟨S16384x1, .f32⟩ : BufTy).Contents (Elt F) → (⟨S16384x1024, .f32⟩ : BufTy).Contents (Elt F)),
    binary main_arg0 main_v8 main_v9 (mulf : (⟨S16384x1024, .f32⟩ : BufTy).Contents (Elt F) → (⟨S16384x1024, .f32⟩ : BufTy).Contents (Elt F) → (⟨S16384x1024, .f32⟩ : BufTy).Contents (Elt F)),
    unary main_arg1 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S16384x1024 ![0, 1] bcast_S1x1024_S16384x1024_0_1 : (⟨S1x1024, .f32⟩ : BufTy).Contents (Elt F) → (⟨S16384x1024, .f32⟩ : BufTy).Contents (Elt F)),
    binary main_v9 main_v11 main_v12 (mulf : (⟨S16384x1024, .f32⟩ : BufTy).Contents (Elt F) → (⟨S16384x1024, .f32⟩ : BufTy).Contents (Elt F) → (⟨S16384x1024, .f32⟩ : BufTy).Contents (Elt F)),
    binary main_v12 main_arg2 main_v13 ((fun l r => Host.dotGeneral dot_S16384x1024_S1024x2816_S16384x2816_1_0_0_1_n_n none l r) : (⟨S16384x1024, .f32⟩ : BufTy).Contents (Elt F) → (⟨S1024x2816, .f32⟩ : BufTy).Contents (Elt F) → (⟨S16384x2816, .f32⟩ : BufTy).Contents (Elt F)),
    binary main_v12 main_arg3 main_v14 ((fun l r => Host.dotGeneral dot_S16384x1024_S1024x2816_S16384x2816_1_0_0_1_n_n none l r) : (⟨S16384x1024, .f32⟩ : BufTy).Contents (Elt F) → (⟨S1024x2816, .f32⟩ : BufTy).Contents (Elt F) → (⟨S16384x2816, .f32⟩ : BufTy).Contents (Elt F)),
    TRef.unary (TRef.of (T := ⟨S16384x2816, .f32⟩) main_v13) (TRef.of (T := ⟨S16384x2816, .f32⟩) main_call0_v0) Host.negf,
    TRef.unary (TRef.of (T := ⟨S16384x2816, .f32⟩) main_call0_v0) (TRef.of (T := ⟨S16384x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x2816, .f32⟩) main_call0_v2) (broadcastInDim S16384x2816 ![] bcast_S_S16384x2816),
    TRef.binary (TRef.of (T := ⟨S16384x2816, .f32⟩) main_call0_v2) (TRef.of (T := ⟨S16384x2816, .f32⟩) main_call0_v1) (TRef.of (T := ⟨S16384x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x2816, .f32⟩) main_call0_v4) (broadcastInDim S16384x2816 ![] bcast_S_S16384x2816),
    TRef.binary (TRef.of (T := ⟨S16384x2816, .f32⟩) main_call0_v4) (TRef.of (T := ⟨S16384x2816, .f32⟩) main_call0_v3) (TRef.of (T := ⟨S16384x2816, .f32⟩) main_call0_v5) Host.divf,
    TRef.binary (TRef.of (T := ⟨S16384x2816, .f32⟩) main_v13) (TRef.of (T := ⟨S16384x2816, .f32⟩) main_call0_v5) (TRef.of (T := ⟨S16384x2816, .f32⟩) main_v15) mulf,
    binary main_v15 main_v14 main_v16 (mulf : (⟨S16384x2816, .f32⟩ : BufTy).Contents (Elt F) → (⟨S16384x2816, .f32⟩ : BufTy).Contents (Elt F) → (⟨S16384x2816, .f32⟩ : BufTy).Contents (Elt F)),
    binary main_v16 main_arg4 main_v17 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)),
    nullary main_cst_2 (constant S_ .f32 0x3F000000#32),
    unary main_cst_2 main_v18 (broadcastInDim S16384x1024 ![] bcast_S_S16384x1024 : (⟨S_, .f32⟩ : BufTy).Contents (Elt F) → (⟨S16384x1024, .f32⟩ : BufTy).Contents (Elt F)),
    binary main_v18 main_v17 main_v19 (mulf : (⟨S16384x1024, .f32⟩ : BufTy).Contents (Elt F) → (⟨S16384x1024, .f32⟩ : BufTy).Contents (Elt F) → (⟨S16384x1024, .f32⟩ : BufTy).Contents (Elt F)),
    binary main_arg0 main_v19 main_v20 (addf : (⟨S16384x1024, .f32⟩ : BufTy).Contents (Elt F) → (⟨S16384x1024, .f32⟩ : BufTy).Contents (Elt F) → (⟨S16384x1024, .f32⟩ : BufTy).Contents (Elt F)),
    unary main_v12 main_v21 ((truncf .bf16 · bitsLt_bf16_f32) : (⟨S16384x1024, .f32⟩ : BufTy).Contents (Elt F) → (⟨S16384x1024, .bf16⟩ : BufTy).Contents (Elt F)),
    reshape main_v13 main_v22 (rfl : (.f32 : EltTy) = .f32) shapeCasts_S16384x2816_S16384x8x352,
    nullary main_c (constantI S_ 32 0#32),
    TRef.unary (TRef.of (T := ⟨S_, .i32⟩) main_c) (TRef.of (T := ⟨S_, .f32⟩) main_call1_v0) (sitofp .f32),
    TRef.binary (TRef.of (T := ⟨S16384x8x352, .f32⟩) main_v22) (TRef.of (T := ⟨S_, .f32⟩) main_call1_v0) (TRef.of (T := ⟨S16384x8x384, .f32⟩) main_v23) (fun x v => pad S16384x8x384 ![0, 0, 0] ![0, 0, 32] ![0, 0, 0] x v pads_S16384x8x352_S16384x8x384_000_000_0320 h_S_),
    reshape main_v23 main_v24 (rfl : (.f32 : EltTy) = .f32) shapeCasts_S16384x8x384_S16384x3072,
    unary main_v24 main_v25 ((truncf .bf16 · bitsLt_bf16_f32) : (⟨S16384x3072, .f32⟩ : BufTy).Contents (Elt F) → (⟨S16384x3072, .bf16⟩ : BufTy).Contents (Elt F)),
    reshape main_v14 main_v26 (rfl : (.f32 : EltTy) = .f32) shapeCasts_S16384x2816_S16384x8x352,
    nullary main_c_3 (constantI S_ 32 0#32),
    TRef.unary (TRef.of (T := ⟨S_, .i32⟩) main_c_3) (TRef.of (T := ⟨S_, .f32⟩) main_call2_v0) (sitofp .f32),
    TRef.binary (TRef.of (T := ⟨S16384x8x352, .f32⟩) main_v26) (TRef.of (T := ⟨S_, .f32⟩) main_call2_v0) (TRef.of (T := ⟨S16384x8x384, .f32⟩) main_v27) (fun x v => pad S16384x8x384 ![0, 0, 0] ![0, 0, 32] ![0, 0, 0] x v pads_S16384x8x352_S16384x8x384_000_000_0320 h_S_),
    reshape main_v27 main_v28 (rfl : (.f32 : EltTy) = .f32) shapeCasts_S16384x8x384_S16384x3072,
    unary main_v28 main_v29 ((truncf .bf16 · bitsLt_bf16_f32) : (⟨S16384x3072, .f32⟩ : BufTy).Contents (Elt F) → (⟨S16384x3072, .bf16⟩ : BufTy).Contents (Elt F)),
    reshape main_v16 main_v30 (rfl : (.f32 : EltTy) = .f32) shapeCasts_S16384x2816_S16384x8x352,
    nullary main_c_4 (constantI S_ 32 0#32),
    TRef.unary (TRef.of (T := ⟨S_, .i32⟩) main_c_4) (TRef.of (T := ⟨S_, .f32⟩) main_call3_v0) (sitofp .f32),
    TRef.binary (TRef.of (T := ⟨S16384x8x352, .f32⟩) main_v30) (TRef.of (T := ⟨S_, .f32⟩) main_call3_v0) (TRef.of (T := ⟨S16384x8x384, .f32⟩) main_v31) (fun x v => pad S16384x8x384 ![0, 0, 0] ![0, 0, 32] ![0, 0, 0] x v pads_S16384x8x352_S16384x8x384_000_000_0320 h_S_),
    reshape main_v31 main_v32 (rfl : (.f32 : EltTy) = .f32) shapeCasts_S16384x8x384_S16384x3072,
    unary main_v32 main_v33 ((truncf .bf16 · bitsLt_bf16_f32) : (⟨S16384x3072, .f32⟩ : BufTy).Contents (Elt F) → (⟨S16384x3072, .bf16⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., nullary_bufs_sub .., unary_bufs_sub .., binary_bufs_sub .., reshape_bufs_sub .., unary_bufs_sub .., reshape_bufs_sub .., nullary_bufs_sub .., unary_bufs_sub .., binary_bufs_sub .., reshape_bufs_sub .., unary_bufs_sub .., reshape_bufs_sub .., nullary_bufs_sub .., unary_bufs_sub .., binary_bufs_sub .., reshape_bufs_sub .., unary_bufs_sub ..⟩

/-! ## The results as terms -/

/-- The factors the rows are normalised by. -/
def factorV (x : FVec F S16384x1024 .f32) : FVec F S16384x1 .f32 :=
  Host.rsqrt (addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

/-- The normalised rows. -/
def normV (x : FVec F S16384x1024 .f32) (n : FVec F S1024 .f32) : FVec F S16384x1024 .f32 :=
  mulf (mulf x (broadcastInDim S16384x1024 ![0, 1] bcast_S16384x1_S16384x1024_0_1 (factorV x)))
    (broadcastInDim S16384x1024 ![0, 1] bcast_S1x1024_S16384x1024_0_1 (broadcastInDim S1x1024 ![1] bcast_S1024_S1x1024_1 n))

/-- A product of rows with a weight. -/
def mmV (h : FVec F S16384x1024 .f32) (w : FVec F S1024x2816 .f32) : FVec F S16384x2816 .f32 :=
  Host.dotGeneral dot_S16384x1024_S1024x2816_S16384x2816_1_0_0_1_n_n none h w

/-- The activation. -/
def actV (g u : FVec F S16384x2816 .f32) : FVec F S16384x2816 .f32 :=
  mulf (mulf g (Host.divf (broadcastInDim S16384x2816 ![] bcast_S_S16384x2816 (constant S_ .f32 0x3F800000#32))
    (addf (broadcastInDim S16384x2816 ![] bcast_S_S16384x2816 (constant S_ .f32 0x3F800000#32)) (Host.exp (Host.negf g))))) u

/-- The half-step's result. -/
def stepV (x : FVec F S16384x1024 .f32) (a : FVec F S16384x2816 .f32) (w : FVec F S2816x1024 .f32) : FVec F S16384x1024 .f32 :=
  addf x (mulf (broadcastInDim S16384x1024 ![] bcast_S_S16384x1024 (constant S_ .f32 0x3F000000#32))
    (Host.dotGeneral dot_S16384x2816_S2816x1024_S16384x1024_1_0_0_1_n_n none a w))

/-- Hidden columns in the packed order. -/
def packV (p : FVec F S16384x2816 .f32) : FVec F S16384x3072 .bf16 :=
  truncf .bf16 (shapeCast S16384x3072 (pad S16384x8x384 ![0, 0, 0] ![0, 0, 32] ![0, 0, 0]
    (shapeCast S16384x8x352 p shapeCasts_S16384x2816_S16384x8x352) (sitofp .f32 (constantI S_ 32 0#32))
    pads_S16384x8x352_S16384x8x384_000_000_0320 h_S_) shapeCasts_S16384x8x384_S16384x3072) bitsLt_bf16_f32

set_option maxHeartbeats 2000000 in
/-- Every run ends with each result at its term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = stepV (m ((c.tc : Thread nD τ).loc main_arg0)) (actV (mmV (normV (m ((c.tc : Thread nD τ).loc main_arg0)) (m ((c.tc : Thread nD τ).loc main_arg1))) (m ((c.tc : Thread nD τ).loc main_arg2))) (mmV (normV (m ((c.tc : Thread nD τ).loc main_arg0)) (m ((c.tc : Thread nD τ).loc main_arg1))) (m ((c.tc : Thread nD τ).loc main_arg3)))) (m ((c.tc : Thread nD τ).loc main_arg4))
      ∧ r.2.mem ((c.tc : Thread nD τ).loc main_v21) = truncf .bf16 (normV (m ((c.tc : Thread nD τ).loc main_arg0)) (m ((c.tc : Thread nD τ).loc main_arg1))) bitsLt_bf16_f32
      ∧ r.2.mem ((c.tc : Thread nD τ).loc main_v25) = packV (mmV (normV (m ((c.tc : Thread nD τ).loc main_arg0)) (m ((c.tc : Thread nD τ).loc main_arg1))) (m ((c.tc : Thread nD τ).loc main_arg2)))
      ∧ r.2.mem ((c.tc : Thread nD τ).loc main_v29) = packV (mmV (normV (m ((c.tc : Thread nD τ).loc main_arg0)) (m ((c.tc : Thread nD τ).loc main_arg1))) (m ((c.tc : Thread nD τ).loc main_arg3)))
      ∧ r.2.mem ((c.tc : Thread nD τ).loc main_v33) = packV (actV (mmV (normV (m ((c.tc : Thread nD τ).loc main_arg0)) (m ((c.tc : Thread nD τ).loc main_arg1))) (m ((c.tc : Thread nD τ).loc main_arg2))) (mmV (normV (m ((c.tc : Thread nD τ).loc main_arg0)) (m ((c.tc : Thread nD τ).loc main_arg1))) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c main_v20).trans ?_, (h c main_v21).trans ?_, (h c main_v25).trans ?_, (h c main_v29).trans ?_,
    (h c main_v33).trans ?_, (h c main_arg0).trans ?_, (h c main_arg1).trans ?_, (h c main_arg2).trans ?_, (h c main_arg3).trans ?_,
    (h c main_arg4).trans ?_, (h c main_arg5).trans ?_⟩) (run_seq scopedRefs_eq scopedSems_eq defs main (fun _ => ops) main_eq (fun _ => ops_sub) m ρ)
  all_goals
    simp only [ops, TRef.binary, TRef.nullary, TRef.unary, TRef.toBuf, TRef.ofBuf, cast_eq]
    after_results_simp <;> rfl

end Run

/-! ## The results, entry by entry -/

variable {X G U D H A : ℕ → ℕ → EReal} {n : ℕ → EReal}

theorem root_tab {b : FVec Ideal S16384x1 .f32} {f : S16384x1.Idx → EReal} (hb : E b f) :
    E (Host.rsqrt (addf (Host.divf b (broadcastInDim S16384x1 ![] bcast_S_S16384x1 (constant S_ .f32 0x44800000#32)))
      (broadcastInDim S16384x1 ![] bcast_S_S16384x1 (constant S_ .f32 0x358637BD#32))))
      (fun i => Ideal.rsqrt (Ideal.div (f i) (Ideal.ofBits .f32 0x44800000#32) + Ideal.ofBits .f32 0x358637BD#32)) := fun i => by
  show Ideal.rsqrt (Ideal.div (b i) (Ideal.ofBits .f32 0x44800000#32) + Ideal.ofBits .f32 0x358637BD#32) = _
  rw [hb i]

theorem factorV_tab {x : FVec Ideal S16384x1024 .f32} (hx : E x (TE X)) : E (factorV x) (TE fun t _ => Fwd.rs X t) := by
  have h1 : E (Host.reduceAdd (mulf x x) (constant S_ .f32 0x00000000#32) reducesTo_S16384x1024_S16384_d1 h_S_) _ :=
    (E.mulf (φ := .f32) hx hx).hostSum (v := constant S_ .f32 0x00000000#32) (fun _ => ofBits_zero) reducesTo_S16384x1024_S16384_d1 h_S_ (by decide)
      (fun j k => X (j 0).val k * X (j 0).val k) (fun j k => rfl)
  have h2 := E.broadcastInDim (t := S16384x1) h1 ![0] bcast_S16384_S16384x1_0 (fun j => fun a => match a with | ⟨0, _⟩ => ⟨(j 0).val, (j 0).isLt⟩)
    (fun j a => match a with
      | ⟨0, _⟩ => by show (j 0).val = if (16384 : Nat) = 1 then 0 else (j 0).val; rw [if_neg (by decide)])
  exact root_tab h2

theorem normV_tab {x : FVec Ideal S16384x1024 .f32} {w : FVec Ideal S1024 .f32} (hx : E x (TE X)) (hw : E w (fun i => n (i 0).val)) :
    E (normV x w) (TE (Fwd.norm X n)) := by
  have h1 := E.broadcastInDim (t := S16384x1024) (factorV_tab hx) ![0, 1] bcast_S16384x1_S16384x1024_0_1
    (fun j => fun a => match a with | ⟨0, _⟩ => ⟨(j 0).val, (j 0).isLt⟩ | ⟨1, _⟩ => ⟨0, Nat.one_pos⟩)
    (fun j a => match a with
      | ⟨0, _⟩ => by show (j 0).val = if (16384 : Nat) = 1 then 0 else (j 0).val; rw [if_neg (by decide)]
      | ⟨1, _⟩ => by show 0 = if (1 : Nat) = 1 then 0 else (j 1).val; rw [if_pos rfl])
  have h2 := E.broadcastInDim (t := S1x1024) hw ![1] bcast_S1024_S1x1024_1 (fun j => fun a => match a with | ⟨0, _⟩ => ⟨(j 1).val, (j 1).isLt⟩)
    (fun j a => match a with
      | ⟨0, _⟩ => by show (j 1).val = if (1024 : Nat) = 1 then 0 else (j 1).val; rw [if_neg (by decide)])
  have h3 := E.broadcastInDim (t := S16384x1024) h2 ![0, 1] bcast_S1x1024_S16384x1024_0_1
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)])
  exact E.mulf (φ := .f32) (E.mulf (φ := .f32) hx h1) h3

theorem mmV_tab {h : FVec Ideal S16384x1024 .f32} {w : FVec Ideal S1024x2816 .f32} (hh : E h (TE H)) (hw : E w (TE A)) :
    E (mmV h w) (TE (Fwd.mm H A)) :=
  E.dot 1024 rfl rfl none hh hw (fun j k => H (j 0).val k * A k (j 1).val) (fun j k => rfl)

theorem actV_tab {g u : FVec Ideal S16384x2816 .f32} (hg : E g (TE G)) (hu : E u (TE U)) :
    E (actV g u) (TE fun t m => Fwd.act (G t m) (U t m)) := fun i => by
  show g i * Ideal.div (Ideal.ofBits .f32 0x3F800000#32) (Ideal.ofBits .f32 0x3F800000#32 + Ideal.exp (-(g i))) * u i = _
  rw [hg, hu, show Ideal.ofBits .f32 0x3F800000#32 = ((1 : ℝ) : EReal) from ofBits_one, EReal.coe_one]
  rfl

theorem stepV_tab {x : FVec Ideal S16384x1024 .f32} {a : FVec Ideal S16384x2816 .f32} {w : FVec Ideal S2816x1024 .f32}
    (hx : E x (TE X)) (ha : E a (TE H)) (hw : E w (TE D)) :
    E (stepV x a w) (TE fun t d => X t d + Fwd.half * ∑ m ∈ Finset.range 2816, H t m * D m d) :=
  E.addf (φ := .f32) hx (E.mulf (φ := .f32) (fun _ => rfl : E _ (fun _ => Fwd.half))
    (E.dot 2816 rfl rfl none ha hw (fun j k => H (j 0).val k * D k (j 1).val) (fun j k => rfl)))

theorem packV_tab {p : FVec Ideal S16384x2816 .f32} (hp : E p (TE H)) : E (packV p) (TE fun t => Fwd.padE (H t)) := by
  have h2 : E _ (fun j : S16384x8x352.Idx => H (j 0).val (352 * (j 1).val + (j 2).val)) := hp.shapeCast shapeCasts_S16384x2816_S16384x8x352
    (fun j => fun a => match a with
      | ⟨0, _⟩ => ⟨(j 0).val, (j 0).isLt⟩
      | ⟨1, _⟩ => ⟨352 * (j 1).val + (j 2).val, by have h1 : (j 1).val < 8 := (j 1).isLt; have h2 : (j 2).val < 352 := (j 2).isLt; show _ < 2816; omega⟩)
    (fun j => by
      rw [Shape.rowMajor_val_three, Shape.rowMajor_val_two]
      show (j 0).val * 2816 + (352 * (j 1).val + (j 2).val) = ((j 0).val * 8 + (j 1).val) * 352 + (j 2).val
      omega)
  have h3 : E (pad S16384x8x384 ![0, 0, 0] ![0, 0, 32] ![0, 0, 0] (shapeCast S16384x8x352 p shapeCasts_S16384x2816_S16384x8x352)
      (sitofp (F := Ideal) .f32 (constantI S_ 32 0#32)) pads_S16384x8x352_S16384x8x384_000_000_0320 h_S_)
      (fun i => Fwd.padE (H (i 0).val) (384 * (i 1).val + (i 2).val)) := fun i => by
    have h0 : (i 0).val < 16384 := (i 0).isLt
    have h1 : (i 1).val < 8 := (i 1).isLt
    have h2' : (i 2).val < 384 := (i 2).isLt
    show _ = if (384 * (i 1).val + (i 2).val) % 384 < 352
      then H (i 0).val (352 * ((384 * (i 1).val + (i 2).val) / 384) + (384 * (i 1).val + (i 2).val) % 384) else 0
    by_cases hc : (i 2).val < 352
    · rw [pad_apply_of_inside _ _ _ _ _ _ _ i (fun a => match a with | ⟨0, _⟩ => ⟨(i 0).val, h0⟩ | ⟨1, _⟩ => ⟨(i 1).val, h1⟩ | ⟨2, _⟩ => ⟨(i 2).val, hc⟩)
        (fun a => by match a with
          | ⟨0, _⟩ => show (i 0).val = 0 + (i 0).val * (0 + 1); omega
          | ⟨1, _⟩ => show (i 1).val = 0 + (i 1).val * (0 + 1); omega
          | ⟨2, _⟩ => show (i 2).val = 0 + (i 2).val * (0 + 1); omega),
        h2, if_pos (by omega)]
      exact congrArg (H (i 0).val) (show 352 * (i 1).val + (i 2).val = _ by omega)
    · rw [pad_apply_of_not_inside _ _ _ _ _ _ _ i 2 (by
        show ¬(0 ≤ (i 2).val ∧ ((i 2).val - 0) % (0 + 1) = 0 ∧ ((i 2).val - 0) / (0 + 1) < 352); omega),
        if_neg (by omega)]
      show (((0#32 : BitVec 32).toInt : ℝ) : EReal) = 0
      simp
  exact (E.truncf (φ := .f32) (ψ := .bf16) bitsLt_bf16_f32 (h3.shapeCast shapeCasts_S16384x8x384_S16384x3072
    (fun j => fun a => match a with
      | ⟨0, _⟩ => ⟨(j 0).val, (j 0).isLt⟩
      | ⟨1, _⟩ => ⟨(j 1).val / 384, by have h1 : (j 1).val < 3072 := (j 1).isLt; show _ < 8; omega⟩
      | ⟨2, _⟩ => ⟨(j 1).val % 384, Nat.mod_lt _ (by norm_num)⟩)
    (fun j => by
      rw [Shape.rowMajor_val_three, Shape.rowMajor_val_two]
      show ((j 0).val * 8 + (j 1).val / 384) * 384 + (j 1).val % 384 = (j 0).val * 3072 + (j 1).val
      omega))).congr fun j =>
    congrArg (Fwd.padE (H (j 0).val)) (show 384 * ((j 1).val / 384) + (j 1).val % 384 = (j 1).val by omega)

end Cert.FfnFwdRefIdeal.Call
-- ==== Proof.FfnFwdRun.lean ====
/-
  The feed-forward half, forward: the kernel's run over its sixty-four points. Each row of four points starts by
  normalising its block of tokens; every point adds one quarter of the hidden units to the sum of the row, and the
  last point of a row stores that sum.
-/
module

public import proofs.«01_k».proof.Proof.FfnFwdRef
public import proofs.«01_k».proof.Proof.Gen.FfnFwdIdeal.Frame
public import proofs.«01_k».proof.Proof.Gen.FfnFwdIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.TableIdle

@[expose] public section

set_option maxRecDepth 16384

noncomputable section

namespace Cert.FfnFwdIdeal.Call

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branches -/

abbrev first (i : grid0.Coords) : Prop := k0_cond1 i = 1#1
abbrev last (i : grid0.Coords) : Prop := k0_cond2 i = 1#1

theorem first_iff (t : Fin cfg0.N) : first (grid0.coords t) ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [first, k0_cond1, e0, e1]
  word_cmp

theorem last_iff (t : Fin cfg0.N) : last (grid0.coords t) ↔ t.val % 4 = 3 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [last, k0_cond2, e0, e1]
  word_cmp

/-! ## The body on any buffers -/

theorem hz : (![0, 0] : Fin 2 → Nat) = fun _ => 0 := funext fun a => by fin_cases a <;> rfl
theorem hz3 : (![0, 0, 0] : Fin 3 → Nat) = fun _ => 0 := funext fun a => by fin_cases a <;> rfl

/-- A buffer stored whole, last, holds what was stored. -/
theorem stored {Val : EltTy → Type} [∀ e, Nonempty (Val e)] {sg : RefSig} {κ : Kind} {sp : Space} {S : Shape} {e : EltTy} (v : View sg κ sp S e)
    (f : v.ty.Contents Val) {off : Fin S.rank → Nat} (h : off = fun _ => 0) (inb : ∀ a, off a + S.size a ≤ S.size a) (w : S.Idx → Val e)
    (L : List (View.Piece Val S e)) : v.read Val (v.writes Val f (⟨Rect.unit off S.size inb, w⟩ :: L)) = w :=
  (View.read_writes_eq_canon v f _ fun y => ⟨_, List.mem_cons_self .., View.mem_set_unit_zero h inb y⟩).trans (View.canon_cons_unit_zero h inb w L)

theorem pay3_eq (x : Vec F S1024x1024 .f32) (y : Vec F S1x1024 .f32) : k0_pay3 x y = k0_pay2 x y := shapeCast_self _ _

section Cases

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S2x384x1024 .bf16) (harg4 : arg4.IsWhole)
  (arg5 : Memref sig .tc .vmem S2x384x1024 .bf16) (harg5 : arg5.IsWhole)
  (arg6 : Memref sig .tc .vmem S2x384x1024 .bf16) (harg6 : arg6.IsWhole)
  (arg7 : Memref sig .tc .vmem S1024x1024 .f32) (harg7 : arg7.IsWhole)
  (arg8 : Memref sig .tc .vmem S1024x1024 .bf16) (harg8 : arg8.IsWhole)
  (arg9 : Memref sig .tc .vmem S1024x768 .bf16) (harg9 : arg9.IsWhole)
  (arg10 : Memref sig .tc .vmem S1024x768 .bf16) (harg10 : arg10.IsWhole)
  (arg11 : Memref sig .tc .vmem S1024x768 .bf16) (harg11 : arg11.IsWhole)
  (arg12 : Memref sig .tc .vmem S1024x1024 .bf16) (harg12 : arg12.IsWhole)
  (arg13 : Memref sig .tc .vmem S1024x1024 .f32) (harg13 : arg13.IsWhole)
  (x0 : Vec F S1024x1024 .f32) (x1 : Vec F S1x1024 .f32) (x2 x3 x4 : Vec F S2x384x1024 .bf16)
  (d5 : Vec F S1024x1024 .f32) (d6 s0 : Vec F S1024x1024 .bf16) (s1 : Vec F S1024x1024 .f32)

set_option maxHeartbeats 2000000 in
/-- The first point of a row. -/
theorem run_first (hc0 : first i) (hc1 : ¬last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare (k0_pay3 x0 x1) ∗ owns (c : Thread nD τ) arg9 fullShare (k0_pay8 (k0_pay3 x0 x1) x2) ∗ owns (c : Thread nD τ) arg10 fullShare (k0_pay9 (k0_pay3 x0 x1) x3) ∗ owns (c : Thread nD τ) arg11 fullShare (k0_pay7 (k0_pay3 x0 x1) x2 x3) ∗ owns (c : Thread nD τ) arg12 fullShare (k0_pay3 x0 x1) ∗ owns (c : Thread nD τ) arg13 fullShare (k0_pay1 (k0_pay7 (k0_pay3 x0 x1) x2 x3) (k0_pay4 x0) x4)) -∗ K ⟨⟩))
      ⊢ wp frame (wpE (defs₀ (F := F)) Variants.none c none) E (cc0_ffn_fwd_l1_1 i arg2 harg2 arg3 harg3 arg4 harg4 arg5 harg5 arg6 harg6 arg7 harg7 arg8 harg8 arg9 harg9 arg10 harg10 arg11 harg11 arg12 harg12 arg13 harg13) K := by
  simp only [cc0_ffn_fwd_l1_1_eq_skeleton]; unfold cc0_ffn_fwd_l1_1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact hf5
  isplitl [H6]
  · iexists _; isplitr; swap; · iexact H6
    ipureintro; sl_unfold_words; refine (stored _ _ hz _ _ _).trans (Eq.trans ?_ (pay3_eq x0 x1).symm); simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H7]
  · iexists _; isplitr; swap; · iexact H7
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H8]
  · iexists _; isplitr; swap; · iexact H8
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H9]
  · iexists _; isplitr; swap; · iexact H9
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H10]
  · iexists _; isplitr; swap; · iexact H10
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  iexists _; isplitr; swap; · iexact H11
  ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]

set_option maxHeartbeats 2000000 in
/-- A point inside a row. -/
theorem run_mid (hc0 : ¬first i) (hc1 : ¬last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (k0_pay8 s0 x2) ∗ owns (c : Thread nD τ) arg10 fullShare (k0_pay9 s0 x3) ∗ owns (c : Thread nD τ) arg11 fullShare (k0_pay7 s0 x2 x3) ∗ owns (c : Thread nD τ) arg12 fullShare s0 ∗ owns (c : Thread nD τ) arg13 fullShare (k0_pay1 (k0_pay7 s0 x2 x3) s1 x4)) -∗ K ⟨⟩))
      ⊢ wp frame (wpE (defs₀ (F := F)) Variants.none c none) E (cc0_ffn_fwd_l1_1 i arg2 harg2 arg3 harg3 arg4 harg4 arg5 harg5 arg6 harg6 arg7 harg7 arg8 harg8 arg9 harg9 arg10 harg10 arg11 harg11 arg12 harg12 arg13 harg13) K := by
  simp only [cc0_ffn_fwd_l1_1_eq_skeleton]; unfold cc0_ffn_fwd_l1_1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg12.eq_unread hf10; obtain rfl := harg13.eq_unread hf11
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H8]
  · iexists _; isplitr; swap; · iexact H8
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H9]
  · iexists _; isplitr; swap; · iexact H9
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H10]
  · iexists _; isplitr; swap; · iexact H10
    ipureintro; exact harg12.read_unread _
  iexists _; isplitr; swap; · iexact H11
  ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]

set_option maxHeartbeats 2000000 in
/-- The last point of a row. -/
theorem run_last (hc0 : ¬first i) (hc1 : last i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay1 (k0_pay7 s0 x2 x3) s1 x4) ∗ owns (c : Thread nD τ) arg8 fullShare d6 ∗ owns (c : Thread nD τ) arg9 fullShare (k0_pay8 s0 x2) ∗ owns (c : Thread nD τ) arg10 fullShare (k0_pay9 s0 x3) ∗ owns (c : Thread nD τ) arg11 fullShare (k0_pay7 s0 x2 x3) ∗ owns (c : Thread nD τ) arg12 fullShare s0 ∗ owns (c : Thread nD τ) arg13 fullShare (k0_pay1 (k0_pay7 s0 x2 x3) s1 x4)) -∗ K ⟨⟩))
      ⊢ wp frame (wpE (defs₀ (F := F)) Variants.none c none) E (cc0_ffn_fwd_l1_1 i arg2 harg2 arg3 harg3 arg4 harg4 arg5 harg5 arg6 harg6 arg7 harg7 arg8 harg8 arg9 harg9 arg10 harg10 arg11 harg11 arg12 harg12 arg13 harg13) K := by
  simp only [cc0_ffn_fwd_l1_1_eq_skeleton]; unfold cc0_ffn_fwd_l1_1_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg12.eq_unread hf10; obtain rfl := harg13.eq_unread hf11
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H6]
  · iexists _; isplitr; swap; · iexact H6
    ipureintro; exact hf6
  isplitl [H7]
  · iexists _; isplitr; swap; · iexact H7
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H8]
  · iexists _; isplitr; swap; · iexact H8
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H9]
  · iexists _; isplitr; swap; · iexact H9
    ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]
  isplitl [H10]
  · iexists _; isplitr; swap; · iexact H10
    ipureintro; exact harg12.read_unread _
  iexists _; isplitr; swap; · iexact H11
  ipureintro; sl_unfold_words; refine (stored _ _ hz _ _ _).trans ?_; simp (disch := assumption) only [View.readAt_eq_ld, Memref.IsWhole.read_unread, View.readCov_unit_zero (S := S1024x1024) _ hz, View.ld_unit_zero (S := S1024x1024) hz, View.ld_unit_zero (S := S1x1024) hz, View.ld_unit_zero (S := S2x384x1024) hz3]

end Cases

/-! ## What the buffers hold, point by point -/

variable (m : (ℓ : Loc nD τ sig) → Buf (Elt F) ℓ) (ρ : Dev nD → PrngReg)

abbrev ms_0 (t : Fin cfg0.N) : Memref sig .tc .vmem S1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2x384x1024 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2x384x1024 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2x384x1024 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x1024 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1024x1024 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1024x768 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1024x768 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1024x768 .bf16 := win0_9.stage (cfg0.slots t 9)
abbrev hs_9 (t : Fin cfg0.N) : (ms_9 t).IsWhole := hstage0_9 ((cfg0.slots t 9).cast nbuf0_9)
abbrev scH : Memref sig .tc .vmem S1024x1024 .bf16 := Memref.whole cc0_scratch0
abbrev scA : Memref sig .tc .vmem S1024x1024 .f32 := Memref.whole cc0_scratch1

/-- The two scratch buffers after the first point of a row: its tokens, normalised, and the sum begun. -/
def start (c : Dev nD) (t : Fin cfg0.N) : Vec F S1024x1024 .bf16 × Vec F S1024x1024 .f32 :=
  (k0_pay3 (iblk m c 0 t) (iblk m c 1 t),
    k0_pay1 (k0_pay7 (k0_pay3 (iblk m c 0 t) (iblk m c 1 t)) (X0_2 m c t) (X0_3 m c t)) (k0_pay4 (iblk m c 0 t)) (X0_4 m c t))

/-- The two scratch buffers after another point, from what they held before it. -/
def next (c : Dev nD) (t : Fin cfg0.N) (p : Vec F S1024x1024 .bf16 × Vec F S1024x1024 .f32) : Vec F S1024x1024 .bf16 × Vec F S1024x1024 .f32 :=
  (p.1, k0_pay1 (k0_pay7 p.1 (X0_2 m c t) (X0_3 m c t)) p.2 (X0_4 m c t))

/-- The two scratch buffers after the point at position `n`. -/
def at_ (c : Dev nD) : (n : ℕ) → n < cfg0.N → Vec F S1024x1024 .bf16 × Vec F S1024x1024 .f32
  | 0, hn => start m c ⟨0, hn⟩
  | n + 1, hn => if (n + 1) % 4 = 0 then start m c ⟨n + 1, hn⟩ else next m c ⟨n + 1, hn⟩ (at_ c n (Nat.lt_of_succ_lt hn))

theorem at_first (c : Dev nD) (t : Fin cfg0.N) (h : t.val % 4 = 0) : at_ m c t.val t.isLt = start m c t := by
  obtain ⟨n, hn⟩ := t
  cases n with
  | zero => rfl
  | succ n => exact if_pos h

theorem at_next (c : Dev nD) (t : Fin cfg0.N) (h : ¬t.val % 4 = 0) :
    at_ m c t.val t.isLt = next m c t (at_ m c (t.val - 1) (Nat.lt_of_le_of_lt (Nat.sub_le _ _) t.isLt)) := by
  obtain ⟨n, hn⟩ := t
  cases n with
  | zero => exact absurd (Nat.zero_mod _) h
  | succ n => exact if_neg h

/-- What holds between two points: before the first the scratch buffers hold anything, then what the point left. -/
def Φat (c : Dev nD) : (n : ℕ) → n ≤ cfg0.N → sProp 𝕄
  | 0, _ => Pipeline.ΦA spec0 c
  | n + 1, hn => iprop(iprop(owns (c : Thread nD τ) scH fullShare ((at_ m c n hn).1) ∗ owns (c : Thread nD τ) scA fullShare ((at_ m c n hn).2)) ∗ (∃ r, prngReg c r))

theorem Φat_zero (c : Dev nD) (n : ℕ) (h : n ≤ cfg0.N) (hz : n = 0) : Φat m c n h = Pipeline.ΦA spec0 c := by
  subst hz; rfl

theorem Φat_pos (c : Dev nD) (n : ℕ) (h : n ≤ cfg0.N) (hz : n ≠ 0) :
    Φat m c n h = iprop(iprop(owns (c : Thread nD τ) scH fullShare ((at_ m c (n - 1) (by omega)).1) ∗ owns (c : Thread nD τ) scA fullShare ((at_ m c (n - 1) (by omega)).2)) ∗ (∃ r, prngReg c r)) := by
  cases n with
  | zero => exact absurd rfl hz
  | succ n => rfl

/-- The launch's invariant, the scratch buffers named. -/
theorem ΦA_eq (c : Dev nD) :
    (Pipeline.ΦA spec0 c : sProp 𝕄)
      = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => (at_ m c t.val t.isLt).2
    | ⟨6, _⟩ => (at_ m c t.val t.isLt).1
    | ⟨7, _⟩ => k0_pay8 (at_ m c t.val t.isLt).1 (X0_2 m c t)
    | ⟨8, _⟩ => k0_pay9 (at_ m c t.val t.isLt).1 (X0_3 m c t)
    | ⟨9, _⟩ => k0_pay7 (at_ m c t.val t.isLt).1 (X0_2 m c t) (X0_3 m c t)
  Φ t := Φat m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Φat_castSucc (c : Dev nD) (t : Fin cfg0.N) :
    (dats m 0 c).Φ t.castSucc = Φat m c t.val (Nat.le_of_lt t.isLt) := by
  dsimp only [dats]; exact Pipeline.Dat.Φ_castSucc (Φat m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = (at_ m c t.val t.isLt).2 := by dsimp only [dats]
theorem after_6 (c : Dev nD) (t : Fin cfg0.N) : (dats m 0 c).after 6 t = (at_ m c t.val t.isLt).1 := by dsimp only [dats]
theorem after_7 (c : Dev nD) (t : Fin cfg0.N) : (dats m 0 c).after 7 t = k0_pay8 (at_ m c t.val t.isLt).1 (X0_2 m c t) := by dsimp only [dats]
theorem after_8 (c : Dev nD) (t : Fin cfg0.N) : (dats m 0 c).after 8 t = k0_pay9 (at_ m c t.val t.isLt).1 (X0_3 m c t) := by dsimp only [dats]
theorem after_9 (c : Dev nD) (t : Fin cfg0.N) : (dats m 0 c).after 9 t = k0_pay7 (at_ m c t.val t.isLt).1 (X0_2 m c t) (X0_3 m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d

/-! ## Which outputs a point leaves alone -/

theorem idle5 (t : Fin cfg0.N) (h : ¬t.val % 4 = 3) : cfg0.idle 5 (grid0.coords t) = true := by
  show (!(k0_cond2 (grid0.coords t) == 1#1)) = true
  rw [beq_eq_false_iff_ne.mpr fun e => h ((last_iff t).mp e)]; rfl
theorem live5 (t : Fin cfg0.N) (h : t.val % 4 = 3) : cfg0.idle 5 (grid0.coords t) = false := by
  show (!(k0_cond2 (grid0.coords t) == 1#1)) = false
  rw [beq_iff_eq.mpr ((last_iff t).mpr h)]; rfl
theorem idle6 (t : Fin cfg0.N) (h : ¬t.val % 4 = 0) : cfg0.idle 6 (grid0.coords t) = true := by
  show (!(k0_cond1 (grid0.coords t) == 1#1)) = true
  rw [beq_eq_false_iff_ne.mpr fun e => h ((first_iff t).mp e)]; rfl
theorem live6 (t : Fin cfg0.N) (h : t.val % 4 = 0) : cfg0.idle 6 (grid0.coords t) = false := by
  show (!(k0_cond1 (grid0.coords t) == 1#1)) = false
  rw [beq_iff_eq.mpr ((first_iff t).mpr h)]; rfl
theorem stay5 (t : Fin cfg0.N) (h : ¬t.val % 4 = 3) : (cfg0.win 5).flush t = false :=
  Bool.eq_false_iff.mpr fun e => h ((flush0_5 t).mp e)
theorem stay6 (t : Fin cfg0.N) (h : ¬t.val % 4 = 3) : (cfg0.win 6).flush t = false :=
  Bool.eq_false_iff.mpr fun e => h ((flush0_6 t).mp e)

/-- Inside a row the block of normalised tokens has been stored. -/
theorem fresh6 (n : ℕ) (hn : n < cfg0.N) (h : ¬n % 4 = 0) : cfg0.fresh 6 n = false := by
  induction n with
  | zero => exact absurd (Nat.zero_mod _) h
  | succ n ih =>
    rw [Pipeline.Cfg.fresh_succ cfg0 6 n (Nat.lt_of_succ_lt hn), stay6 ⟨n, Nat.lt_of_succ_lt hn⟩ (by show ¬n % 4 = 3; omega), Bool.false_or]
    by_cases h0 : n % 4 = 0
    · rw [live6 ⟨n, Nat.lt_of_succ_lt hn⟩ h0]; rfl
    · rw [ih (Nat.lt_of_succ_lt hn) h0, Bool.and_false]

theorem carry6 (c : Dev nD) (t : Fin cfg0.N) (h : ¬t.val % 4 = 0) :
    (dats m 0 c).after 6 t = (dats m 0 c).after 6 ⟨t.val - 1, Nat.lt_of_le_of_lt (Nat.sub_le _ _) t.isLt⟩ := by
  rw [after_6, after_6, at_next m c t h]; rfl

theorem before_6 (c : Dev nD) (t : Fin cfg0.N) (h : ¬t.val % 4 = 0) (d) : (dats m 0 c).before 6 t d = (dats m 0 c).after 6 t := by
  rw [(dats m 0 c).before_out_traj 6 rfl (fun _ _ => rfl) (fun t _ hi _ => carry6 m c t fun e => by rw [live6 t e] at hi; exact Bool.false_ne_true hi) t.val t rfl d,
    fresh6 t.val t.isLt h, if_neg Bool.false_ne_true]
  exact (carry6 m c t h).symm

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = iprop(iprop(owns (c : Thread nD τ) scH fullShare ((at_ m c t.val t.isLt).1) ∗ owns (c : Thread nD τ) scA fullShare ((at_ m c t.val t.isLt).2)) ∗ (∃ r, prngReg c r)) from rfl]
  rw [leaves_live m c 0 t rfl, leaves_live m c 1 t rfl, leaves_live m c 2 t rfl, leaves_live m c 3 t rfl, leaves_live m c 4 t rfl, leaves_live m c 7 t rfl, leaves_live m c 8 t rfl, leaves_live m c 9 t rfl]
  rw [after_0, after_1, after_2, after_3, after_4, after_7, after_8, after_9]
  have hN : t.val < 64 := lt_of_lt_of_eq t.isLt (show cfg0.N = 64 from N_0)
  by_cases h0 : t.val % 4 = 0
  · have h1 : ¬t.val % 4 = 3 := by omega
    rw [(dats m 0 c).leavesExact_idle 5 t (idle5 t h1) (stay5 t h1), leaves_live m c 6 t (live6 t h0), after_6, at_first m c t h0]
    unfold start
    by_cases hz : t.val = 0
    · rw [Φat_castSucc m c t, Φat_zero m c _ _ hz, ΦA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply run_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scH (Memref.isWhole_whole _) scA (Memref.isWhole_whole _) (iblk m c 0 t) (iblk m c 1 t) (X0_2 m c t) (X0_3 m c t) (X0_4 m c t) ((dats m 0 c).before 5 t d5) ((first_iff t).mpr h0) (fun h => h1 ((last_iff t).mp h)) Set.univ _
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      iexact H9
    · rw [Φat_castSucc m c t, Φat_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply run_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scH (Memref.isWhole_whole _) scA (Memref.isWhole_whole _) (iblk m c 0 t) (iblk m c 1 t) (X0_2 m c t) (X0_3 m c t) (X0_4 m c t) ((dats m 0 c).before 5 t d5) ((first_iff t).mpr h0) (fun h => h1 ((last_iff t).mp h)) Set.univ _
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexists _; iexact HS0
      isplitl [HS1]; · iexists _; iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      iexact H9
  · have hz : t.val ≠ 0 := fun e => h0 (by rw [e])
    by_cases h1 : t.val % 4 = 3
    · have e6 := before_6 m c t h0
      rw [leaves_live m c 5 t (live5 t h1), after_5, leaves_flush m c 6 t (idle6 t h0) ((flush0_6 t).mpr h1)]
      simp only [e6]
      rw [after_6, at_next m c t h0]
      unfold next
      dsimp only
      rw [Φat_castSucc m c t, Φat_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply run_last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scH (Memref.isWhole_whole _) scA (Memref.isWhole_whole _) (iblk m c 0 t) (iblk m c 1 t) (X0_2 m c t) (X0_3 m c t) (X0_4 m c t)  (at_ m c (t.val - 1) (Nat.lt_of_le_of_lt (Nat.sub_le _ _) t.isLt)).1 (at_ m c (t.val - 1) (Nat.lt_of_le_of_lt (Nat.sub_le _ _) t.isLt)).1 (at_ m c (t.val - 1) (Nat.lt_of_le_of_lt (Nat.sub_le _ _) t.isLt)).2 (fun h => h0 ((first_iff t).mp h)) ((last_iff t).mpr h1) Set.univ _
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [(dats m 0 c).leavesExact_idle 5 t (idle5 t h1) (stay5 t h1), (dats m 0 c).leavesExact_idle 6 t (idle6 t h0) (stay6 t h1), at_next m c t h0]
      unfold next
      dsimp only
      rw [Φat_castSucc m c t, Φat_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply run_mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scH (Memref.isWhole_whole _) scA (Memref.isWhole_whole _) (iblk m c 0 t) (iblk m c 1 t) (X0_2 m c t) (X0_3 m c t) (X0_4 m c t) ((dats m 0 c).before 5 t d5) ((dats m 0 c).before 6 t d6) (at_ m c (t.val - 1) (Nat.lt_of_le_of_lt (Nat.sub_le _ _) t.isLt)).1 (at_ m c (t.val - 1) (Nat.lt_of_le_of_lt (Nat.sub_le _ _) t.isLt)).2 (fun h => h0 ((first_iff t).mp h)) (fun h => h1 ((last_iff t).mp h)) Set.univ _
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      isplitl [H8]; · iexact H8
      iexact H9

/-! ## The run -/

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Φat m c 0 (Nat.zero_le _) from rfl, Φat_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Φat m c cfg0.N (Nat.le_refl _) from rfl,
    Φat_pos m c _ _ (by have : cfg0.N = 64 := N_0; omega), ΦA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every run ends with the pipeline's arrays at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_post m ρ)) ((θ_run defs _ _).mono (fun _ h => h.2) (run_quiescent m ρ))

end Cert.FfnFwdIdeal.Call
-- ==== Proof.FfnFwdKer.lean ====
/-
  The feed-forward half, forward: the call as printed and the call as idealised are one program, no operation having
  been replaced, so what is known of the run of one holds of the other.
-/
module

public import proofs.«01_k».proof.Proof.FfnFwdRun
public import proofs.«01_k».proof.Defs

@[expose] public section

set_option maxRecDepth 16384

noncomputable section

namespace Cert.FfnFwd.Call

open Idealize.ShloMosaic Idealize.ShloMosaic.TcCoe Idealize.SL.Sem

variable {F : FTy → Type} [FloatOps F] [Cert.FfnFwd.Facts]

theorem body_eq : @Cert.FfnFwdIdeal.cc0_ffn_fwd_l1_1 F _ _ = @Cert.FfnFwd.cc0_ffn_fwd_l1_1 F _ _ := rfl

theorem bodies_eq : @Cert.FfnFwdIdeal.defs₀ F _ _ = @Cert.FfnFwd.defs₀ F _ _ := by
  unfold Cert.FfnFwdIdeal.defs₀ Cert.FfnFwd.defs₀
  refine congrArg (Defs.onTc (Λ := Cert.FfnFwd.Λ₀)) (funext fun l => funext fun a => ?_)
  obtain ⟨l, hl⟩ := l
  cases l with
  | zero => obtain ⟨t, s⟩ := a; exact rfl
  | succ n => exact absurd hl (Nat.not_lt.2 (Nat.le_add_left _ _))

theorem defs_eq : @Cert.FfnFwdIdeal.defs F _ _ = @Cert.FfnFwd.defs F _ _ :=
  congrArg (Pipeline.defs (Cert.FfnFwd.pcfgs (F := F))) bodies_eq

theorem main_eq : @Cert.FfnFwdIdeal.main F _ _ = @Cert.FfnFwd.main F _ _ := rfl

/-- The arguments end unchanged and the counters at zero. -/
theorem frame : Cert.quiescent_FfnFwd := by
  intro m ρ _
  have h := Cert.FfnFwdIdeal.Call.frame (F := Bits) m ρ
  rw [← defs_eq, ← main_eq]
  exact h

end Cert.FfnFwd.Call
-- ==== Proof.FfnFwd.lean ====
/-
  The feed-forward half, forward: what the kernel's run leaves in its five arrays, and that the reference leaves the same.
-/
module

public import proofs.«01_k».proof.Defs
public import proofs.«01_k».proof.Proof.FfnFwdRun
public import proofs.«01_k».proof.Proof.FfnFwdRef

@[expose] public section

set_option maxRecDepth 16384

noncomputable section

namespace Cert.FfnFwdIdeal.Call

open Idealize.ShloMosaic Idealize.ShloMosaic.TcCoe Idealize.ShloMosaic.Tactic Idealize.SL.Sem
open Cert.FfnFwdIdeal Cert.FfnFwdIdeal.Gen Cert.Lift Cert.Fwd
open Idealize.ShloMosaic.Pipeline (Dat)

variable {X G U D H : ℕ → ℕ → EReal} {n : ℕ → EReal} {wa wb : ℕ → ℕ → EReal}

/-! ## The body's values -/

/-- A weight block's table: its rows in one line. -/
abbrev TB (f : ℕ → ℕ → EReal) : S2x384x1024.Idx → EReal := fun i => f (384 * (i 0).val + (i 1).val) (i 2).val

theorem pay3 {x : Vec Ideal S1024x1024 .f32} {y : Vec Ideal S1x1024 .f32} (hx : E x (TE X)) (hy : E y (TE fun _ d => n d)) :
    E (k0_pay3 (F := Ideal) x y) (TE (norm X n)) := by
  have h10 := ((E.divf (φ := .f32) (((hx.mulf hx).sum (0x00000000#32) reduces_S1024x1024_S1024 (.inl rfl) rfl
    (fun j k => X (j 0).val k * X (j 0).val k) (fun j k => rfl)).shapeCast
    shapeCasts_S1024_S1024x1 (fun j => fun a => match a with | ⟨0, _⟩ => ⟨(j 0).val, (j 0).isLt⟩) (fun j => by
      rw [Shape.rowMajor_val_one, Shape.rowMajor_val_two]
      have h1 : (j 1).val < 1 := (j 1).isLt
      show (j 0).val = (j 0).val * 1 + (j 1).val
      omega)) (E.const (Ideal.ofBits .f32 0x44800000#32))).addf (E.const (Ideal.ofBits .f32 0x358637BD#32))).rsqrt
  have h : E (k0_pay2 (F := Ideal) x y) (TE (norm X n)) :=
    (E.mulf (φ := .f32) (E.mulf (φ := .f32) hx (h10.broadcastTo broadcasts_S1024x1_S1024x1024
    (fun j => fun a => match a with | ⟨0, _⟩ => ⟨(j 0).val, (j 0).isLt⟩ | ⟨1, _⟩ => ⟨0, Nat.one_pos⟩)
    (fun j a => match a with
      | ⟨0, _⟩ => by show (j 0).val = if (1024 : Nat) = 1 then 0 else (j 0).val; rw [if_neg (by decide)]
      | ⟨1, _⟩ => by show 0 = if (1 : Nat) = 1 then 0 else (j 1).val; rw [if_pos rfl])))
    ((hy.shapeCast_self shapeCasts_S1x1024_S1x1024).broadcastTo broadcasts_S1x1024_S1024x1024
    (fun j => fun a => match a with | ⟨0, _⟩ => ⟨0, Nat.one_pos⟩ | ⟨1, _⟩ => ⟨(j 1).val, (j 1).isLt⟩)
    (fun j a => match a with
      | ⟨0, _⟩ => by show 0 = if (1 : Nat) = 1 then 0 else (j 0).val; rw [if_pos rfl]
      | ⟨1, _⟩ => by show (j 1).val = if (1024 : Nat) = 1 then 0 else (j 1).val; rw [if_neg (by decide)]))).congr fun j => rfl
  exact h.shapeCast_self _

theorem pay4 {x : Vec Ideal S1024x1024 .f32} (hx : E x (TE X)) : E (k0_pay4 (F := Ideal) x) (TE X) := hx.shapeCast_self _

theorem rows {x : Vec Ideal S2x384x1024 .bf16} (h : E x (TB wa)) :
    E (shapeCast S768x1024 (shapeCast S2x384x1024 x shapeCasts_S2x384x1024_S2x384x1024) shapeCasts_S2x384x1024_S768x1024) (TE wa) :=
  ((h.shapeCast_self _).shapeCast _
    (fun j => fun a => match a with
      | ⟨0, _⟩ => ⟨(j 0).val / 384, by have := (j 0).isLt; show _ < 2; change (j 0).val < 768 at this; omega⟩
      | ⟨1, _⟩ => ⟨(j 0).val % 384, Nat.mod_lt _ (by norm_num)⟩
      | ⟨2, _⟩ => ⟨(j 1).val, (j 1).isLt⟩)
    (fun j => by
      rw [Shape.rowMajor_val_three, Shape.rowMajor_val_two]
      have h0 : (j 0).val < 768 := (j 0).isLt
      have h1 : (j 1).val < 1024 := (j 1).isLt
      show ((j 0).val / 384 * 384 + (j 0).val % 384) * 1024 + (j 1).val = (j 0).val * 1024 + (j 1).val
      omega)).congr (fun j => by
        show wa (384 * ((j 0).val / 384) + (j 0).val % 384) (j 1).val = wa (j 0).val (j 1).val
        congr 1; omega)

/-- The product of the rows with one weight block. -/
def prod (H w : ℕ → ℕ → EReal) (t p : ℕ) : EReal := ∑ k ∈ Finset.range 1024, H t k * w p k

theorem pay8 {h : Vec Ideal S1024x1024 .bf16} {w : Vec Ideal S2x384x1024 .bf16} (hh : E h (TE H)) (hw : E w (TB wa)) :
    E (k0_pay8 (F := Ideal) h w) (TE (prod H wa)) :=
  E.matmul (φ₁ := .bf16) (φ₂ := .bf16) 1024 rfl rfl none hh (rows hw) (fun j k => H (j 0).val k * wa (j 1).val k) (fun j k => rfl)

theorem pay9 {h : Vec Ideal S1024x1024 .bf16} {w : Vec Ideal S2x384x1024 .bf16} (hh : E h (TE H)) (hw : E w (TB wa)) :
    E (k0_pay9 (F := Ideal) h w) (TE (prod H wa)) := pay8 hh hw

theorem pay7 {h : Vec Ideal S1024x1024 .bf16} {v w : Vec Ideal S2x384x1024 .bf16} (hh : E h (TE H)) (hv : E v (TB wa)) (hw : E w (TB wb)) :
    E (k0_pay7 (F := Ideal) h v w) (TE fun t p => act (prod H wa t p) (prod H wb t p)) := by
  have hg : E (k0_pay5 (F := Ideal) h v) (TE (prod H wa)) := pay8 hh hv
  have hu : E (k0_pay6 (F := Ideal) h w) (TE (prod H wb)) := pay8 hh hw
  have hs := E.mulf (φ := .f32) (E.const half) (E.addf (φ := .f32) (E.tanh (φ := .f32) (E.mulf (φ := .f32) (E.const half) hg))
    (E.const (Ideal.ofBits .f32 0x3F800000#32)))
  exact (E.mulf (φ := .f32) (E.mulf (φ := .f32) hg (hs.congr fun i => half_logistic _)) hu)

theorem pay1 {a : FVec Ideal S1024x768 .bf16} {x : Vec Ideal S1024x1024 .f32} {w : Vec Ideal S2x384x1024 .bf16}
    (ha : E a (TE H)) (hx : E x (TE X)) (hw : E w (TB wa)) :
    E (k0_pay1 (F := Ideal) a x w) (TE fun t d => X t d + half * ∑ p ∈ Finset.range 768, H t p * wa p d) :=
  (E.addf (φ := .f32) hx (E.mulf (φ := .f32) (E.const half)
    (E.matmul (φ₁ := .bf16) (φ₂ := .bf16) 768 rfl rfl none ha (rows hw) (fun j k => H (j 0).val k * wa k (j 1).val) (fun j k => rfl)))).shapeCast_self _

/-! ## The blocks the body reads -/

/-- A weight's hidden rows in the packed order. -/
def rowsV {F : FTy → Type} [FloatOps F] (w : FVec F S2816x1024 .f32) : FVec F S8x384x1024 .f32 :=
  pad S8x384x1024 ![0, 0, 0] ![0, 32, 0] ![0, 0, 0] (shapeCast S8x352x1024 w shapeCasts_S2816x1024_S8x352x1024)
    (sitofp .f32 (constantI S_ 32 0#32)) pads_S8x352x1024_S8x384x1024_000_0320_000 h_S_

theorem rowsV_tab {w : FVec Ideal S2816x1024 .f32} (hw : E w (TE D)) :
    E (rowsV w) (fun i => padE (fun q => D q (i 2).val) (384 * (i 0).val + (i 1).val)) := fun i => by
  have h0 : (i 0).val < 8 := (i 0).isLt
  have h1 : (i 1).val < 384 := (i 1).isLt
  have h2' : (i 2).val < 1024 := (i 2).isLt
  have h2 : E _ (fun j : S8x352x1024.Idx => D (352 * (j 0).val + (j 1).val) (j 2).val) := hw.shapeCast shapeCasts_S2816x1024_S8x352x1024
    (fun j => fun a => match a with
      | ⟨0, _⟩ => ⟨352 * (j 0).val + (j 1).val, by have h1 : (j 0).val < 8 := (j 0).isLt; have h2 : (j 1).val < 352 := (j 1).isLt; show _ < 2816; omega⟩
      | ⟨1, _⟩ => ⟨(j 2).val, (j 2).isLt⟩)
    (fun j => by
      rw [Shape.rowMajor_val_three, Shape.rowMajor_val_two]
      show (352 * (j 0).val + (j 1).val) * 1024 + (j 2).val = ((j 0).val * 352 + (j 1).val) * 1024 + (j 2).val
      omega)
  show rowsV w i = if (384 * (i 0).val + (i 1).val) % 384 < 352
    then D (352 * ((384 * (i 0).val + (i 1).val) / 384) + (384 * (i 0).val + (i 1).val) % 384) (i 2).val else 0
  unfold rowsV
  by_cases hc : (i 1).val < 352
  · rw [pad_apply_of_inside _ _ _ _ _ _ _ i (fun a => match a with | ⟨0, _⟩ => ⟨(i 0).val, h0⟩ | ⟨1, _⟩ => ⟨(i 1).val, hc⟩ | ⟨2, _⟩ => ⟨(i 2).val, h2'⟩)
      (fun a => by match a with
        | ⟨0, _⟩ => show (i 0).val = 0 + (i 0).val * (0 + 1); omega
        | ⟨1, _⟩ => show (i 1).val = 0 + (i 1).val * (0 + 1); omega
        | ⟨2, _⟩ => show (i 2).val = 0 + (i 2).val * (0 + 1); omega),
      h2, if_pos (by omega)]
    exact congrArg (D · (i 2).val) (show 352 * (i 0).val + (i 1).val = _ by omega)
  · rw [pad_apply_of_not_inside _ _ _ _ _ _ _ i 1 (by
      show ¬(0 ≤ (i 1).val ∧ ((i 1).val - 0) % (0 + 1) = 0 ∧ ((i 1).val - 0) / (0 + 1) < 352); omega),
      if_neg (by omega)]
    show (((0#32 : BitVec 32).toInt : ℝ) : EReal) = 0
    simp

/-- A weight transposed. -/
theorem turn {w : FVec Ideal S1024x2816 .f32} (hw : E w (TE G)) :
    E (transpose S2816x1024 [1, 0] w transposes_S1024x2816_S2816x1024_1_0) (TE fun a b => G b a) :=
  hw.transpose [1, 0] transposes_S1024x2816_S2816x1024_1_0
    (fun j => fun a => match a with | ⟨0, _⟩ => ⟨(j 1).val, (j 1).isLt⟩ | ⟨1, _⟩ => ⟨(j 0).val, (j 0).isLt⟩)
    (fun j a => match a with | ⟨0, _⟩ => rfl | ⟨1, _⟩ => rfl)

/-- The parts of the pack. -/
abbrev pieces (wg wu : FVec Ideal S1024x2816 .f32) (wd : FVec Ideal S2816x1024 .f32) (rest : FVec Ideal S8x1792x1024 .f32) :
    List ((s : Shape) × (s.Idx → EReal)) :=
  [⟨S8x384x1024, rowsV (transpose S2816x1024 [1, 0] wg transposes_S1024x2816_S2816x1024_1_0)⟩,
    ⟨S8x384x1024, rowsV (transpose S2816x1024 [1, 0] wu transposes_S1024x2816_S2816x1024_1_0)⟩, ⟨S8x384x1024, rowsV wd⟩, ⟨S8x1792x1024, rest⟩]

/-- The pack. -/
def packW (wg wu : FVec Ideal S1024x2816 .f32) (wd : FVec Ideal S2816x1024 .f32) (rest : FVec Ideal S8x1792x1024 .f32) : FVec Ideal S8x2944x1024 .bf16 :=
  truncf .bf16 (concatenate S8x2944x1024 1 (pieces wg wu wd rest)
    concatenates_S8x384x1024_S8x384x1024_S8x384x1024_S8x1792x1024_S8x2944x1024_d1 : FVec Ideal S8x2944x1024 .f32) bitsLt_bf16_f32

theorem packW_tab {wg wu : FVec Ideal S1024x2816 .f32} {wd : FVec Ideal S2816x1024 .f32} (rest : FVec Ideal S8x1792x1024 .f32)
    (hg : E wg (TE G)) (hu : E wu (TE U)) (hd : E wd (TE D)) (j : S8x2944x1024.Idx) (r : ℕ) (hr : r < 384) :
    ((j 1).val = r → packW wg wu wd rest j = padE (G (j 2).val) (384 * (j 0).val + r))
    ∧ ((j 1).val = 384 + r → packW wg wu wd rest j = padE (U (j 2).val) (384 * (j 0).val + r))
    ∧ ((j 1).val = 768 + r → packW wg wu wd rest j = padE (fun m => D m (j 2).val) (384 * (j 0).val + r)) := by
  have key : ∀ (k : ℕ) (hk : k < 4) (x : S8x384x1024.Idx → EReal)
      (hx : (pieces wg wu wd rest)[k] = ⟨S8x384x1024, x⟩)
      (hp : ((((pieces wg wu wd rest).take k).map (·.1)).map
          fun s => if h : s.rank = S8x2944x1024.rank then s.size ((1 : Fin S8x2944x1024.rank).cast h.symm) else 0).sum = 384 * k)
      (hj : (j 1).val = 384 * k + r), packW wg wu wd rest j
        = x (fun a => match a with | ⟨0, _⟩ => ⟨(j 0).val, (j 0).isLt⟩ | ⟨1, _⟩ => ⟨r, hr⟩ | ⟨2, _⟩ => ⟨(j 2).val, (j 2).isLt⟩) := by
    intro k hk x hx hp hj
    exact concatenate_apply_piece (1 : Fin S8x2944x1024.rank) (pieces wg wu wd rest)
      concatenates_S8x384x1024_S8x384x1024_S8x384x1024_S8x1792x1024_S8x2944x1024_d1 j k hk S8x384x1024 x hx rfl
      (384 * k) hp _ (fun b hb => match b with | ⟨0, _⟩ => rfl | ⟨1, _⟩ => absurd rfl hb | ⟨2, _⟩ => rfl) hj.symm
  exact ⟨fun h => (key 0 (by decide) _ rfl rfl (by omega)).trans (rowsV_tab (turn hg) _),
    fun h => (key 1 (by decide) _ rfl rfl (by omega)).trans (rowsV_tab (turn hu) _),
    fun h => (key 2 (by decide) _ rfl rfl (by omega)).trans (rowsV_tab hd _)⟩

theorem at0 : ∀ t : Fin cfg0.N, win0_0.index t 0 = t.val / 4 ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = t.val % 4 ∧ win0_2.index t 1 = 0 ∧ win0_2.index t 2 = 0 := by decide +kernel
theorem at3 : ∀ t : Fin cfg0.N, win0_3.index t 0 = t.val % 4 ∧ win0_3.index t 1 = 1 ∧ win0_3.index t 2 = 0 := by decide +kernel
theorem at4 : ∀ t : Fin cfg0.N, win0_4.index t 0 = t.val % 4 ∧ win0_4.index t 1 = 2 ∧ win0_4.index t 2 = 0 := by decide +kernel
theorem at5 : ∀ t : Fin cfg0.N, win0_5.index t 0 = t.val / 4 ∧ win0_5.index t 1 = 0 := by decide +kernel
theorem at6 : ∀ t : Fin cfg0.N, win0_6.index t 0 = t.val / 4 ∧ win0_6.index t 1 = 0 := by decide +kernel
theorem at7 : ∀ t : Fin cfg0.N, win0_7.index t 0 = t.val / 4 ∧ win0_7.index t 1 = t.val % 4 := by decide +kernel
theorem at8 : ∀ t : Fin cfg0.N, win0_8.index t 0 = t.val / 4 ∧ win0_8.index t 1 = t.val % 4 := by decide +kernel
theorem at9 : ∀ t : Fin cfg0.N, win0_9.index t 0 = t.val / 4 ∧ win0_9.index t 1 = t.val % 4 := by decide +kernel

variable {m : (ℓ : Loc nD τ sig) → Buf (Elt Idealize.ShloMosaic.Ideal) ℓ} {c : Dev nD}

theorem V_v10 : V m c main_v10 = (broadcastInDim S1x1024 ![1] bcast_S1024_S1x1024_1 (m (c, main_arg1) : FVec Ideal S1024 .f32) : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  after_results

set_option maxHeartbeats 4000000 in
theorem V_v9 : V m c main_v9 = packW (m (c, main_arg2)) (m (c, main_arg3)) (m (c, main_arg4)) (m (c, main_arg5)) := by
  unfold V hostOps0 hostOps0_1 hostOps0_2 hostOps0_3 hostOps0_4 hostOps0_5 hostOps0_6
  simp only [List.flatten_cons, List.flatten_nil, List.append_nil, List.cons_append, List.nil_append]
  after_results_steps
  after_results_loop
  rfl

variable (hx : E (s := S16384x1024) (m (c, main_arg0)) (TE X)) (hn : E (s := S1024) (m (c, main_arg1)) (fun i => n (i 0).val))
  (hg : E (s := S1024x2816) (m (c, main_arg2)) (TE G)) (hu : E (s := S1024x2816) (m (c, main_arg3)) (TE U))
  (hd : E (s := S2816x1024) (m (c, main_arg4)) (TE D))

include hx in
theorem blk0 (t : Fin cfg0.N) : E (s := S1024x1024) (iblk m c 0 t) (TE fun r d => X (1024 * (t.val / 4) + r) d) := fun j => by
  obtain ⟨h0, h1⟩ := at0 t
  unfold iblk
  rw [View.read_apply]
  show V m c main_arg0 _ = _
  rw [V_main_arg0]
  refine (hx _).trans (congrArg₂ X ?_ ?_)
  · show win0_0.index t 0 * 1024 + 1 * (j 0).val = _
    rw [h0]; omega
  · show win0_0.index t 1 * 1024 + 1 * (j 1).val = _
    rw [h1]; omega

include hn in
theorem blk1 (t : Fin cfg0.N) : E (s := S1x1024) (iblk m c 1 t) (TE fun _ d => n d) := fun j => by
  obtain ⟨h0, h1⟩ := at1 t
  unfold iblk
  rw [View.read_apply]
  show V m c main_v10 _ = _
  rw [V_v10]
  refine (hn _).trans (congrArg n ?_)
  show win0_1.index t 1 * 1024 + 1 * (j 1).val = _
  rw [h1]; omega

include hg hu hd

theorem blk2 (t : Fin cfg0.N) : E (s := S2x384x1024) (X0_2 m c t) (TB fun p k => padE (G k) (768 * (t.val % 4) + p)) := fun j => by
  obtain ⟨h0, h1, h2⟩ := at2 t
  have hj : (j 1).val < 384 := (j 1).isLt
  unfold X0_2 Pipeline.Window.fill iblk
  rw [dif_pos (moved0_2 t j), View.read_apply]
  show V m c main_v9 _ = _
  rw [V_v9]
  refine ((packW_tab _ hg hu hd _ (j 1).val hj).1 ?_).trans (congrArg₂ (fun a b => padE (G a) b) ?_ ?_)
  · show win0_2.index t 1 * 384 + 1 * (j 1).val = _
    rw [h1]; omega
  · show win0_2.index t 2 * 1024 + 1 * (j 2).val = _
    rw [h2]; omega
  · show 384 * (win0_2.index t 0 * 2 + 1 * (j 0).val) + (j 1).val = _
    rw [h0]; omega

theorem blk3 (t : Fin cfg0.N) : E (s := S2x384x1024) (X0_3 m c t) (TB fun p k => padE (U k) (768 * (t.val % 4) + p)) := fun j => by
  obtain ⟨h0, h1, h2⟩ := at3 t
  have hj : (j 1).val < 384 := (j 1).isLt
  unfold X0_3 Pipeline.Window.fill iblk
  rw [dif_pos (moved0_3 t j), View.read_apply]
  show V m c main_v9 _ = _
  rw [V_v9]
  refine ((packW_tab _ hg hu hd _ (j 1).val hj).2.1 ?_).trans (congrArg₂ (fun a b => padE (U a) b) ?_ ?_)
  · show win0_3.index t 1 * 384 + 1 * (j 1).val = _
    rw [h1]; omega
  · show win0_3.index t 2 * 1024 + 1 * (j 2).val = _
    rw [h2]; omega
  · show 384 * (win0_3.index t 0 * 2 + 1 * (j 0).val) + (j 1).val = _
    rw [h0]; omega

theorem blk4 (t : Fin cfg0.N) : E (s := S2x384x1024) (X0_4 m c t) (TB fun p d => padE (fun q => D q d) (768 * (t.val % 4) + p)) := fun j => by
  obtain ⟨h0, h1, h2⟩ := at4 t
  have hj : (j 1).val < 384 := (j 1).isLt
  unfold X0_4 Pipeline.Window.fill iblk
  rw [dif_pos (moved0_4 t j), View.read_apply]
  show V m c main_v9 _ = _
  rw [V_v9]
  refine ((packW_tab _ hg hu hd _ (j 1).val hj).2.2 ?_).trans (congrArg₂ (fun a b => padE (fun q => D q a) b) ?_ ?_)
  · show win0_4.index t 1 * 384 + 1 * (j 1).val = _
    rw [h1]; omega
  · show win0_4.index t 2 * 1024 + 1 * (j 2).val = _
    rw [h2]; omega
  · show 384 * (win0_4.index t 0 * 2 + 1 * (j 0).val) + (j 1).val = _
    rw [h0]; omega

/-! ## The two buffers carried from point to point -/

/-- The hidden units, and the half-step's sum over the first `k` of them, in the packed order. -/
def sumTo (X : ℕ → ℕ → EReal) (n : ℕ → EReal) (G U D : ℕ → ℕ → EReal) (k t d : ℕ) : EReal :=
  X t d + half * ∑ p ∈ Finset.range k, padE (hid X n G U t) p * padE (fun q => D q d) p

omit hg hu hd in
theorem sumTo_zero (t d : ℕ) : sumTo X n G U D 0 t d = X t d := by
  unfold sumTo
  rw [Finset.range_zero, Finset.sum_empty, mul_zero, add_zero]

/-- One point's block of hidden units, from the normalised rows. -/
theorem block {h : Vec Ideal S1024x1024 .bf16} (t : Fin cfg0.N) (hh : E h (TE fun r => norm X n (1024 * (t.val / 4) + r))) :
    E (k0_pay7 (F := Ideal) h (X0_2 m c t) (X0_3 m c t)) (TE fun r p => padE (hid X n G U (1024 * (t.val / 4) + r)) (768 * (t.val % 4) + p)) :=
  (pay7 hh (blk2 hg hu hd t) (blk3 hg hu hd t)).congr fun i =>
    (congrArg₂ act (mm_padE _ _) (mm_padE _ _)).trans (padE_act _ _ _)

/-- One point adds its block. -/
theorem added {h : Vec Ideal S1024x1024 .bf16} {a : Vec Ideal S1024x1024 .f32} (t : Fin cfg0.N)
    (hh : E h (TE fun r => norm X n (1024 * (t.val / 4) + r))) (ha : E a (TE fun r => sumTo X n G U D (768 * (t.val % 4)) (1024 * (t.val / 4) + r))) :
    E (k0_pay1 (F := Ideal) (k0_pay7 h (X0_2 m c t) (X0_3 m c t)) a (X0_4 m c t))
      (TE fun r => sumTo X n G U D (768 * (t.val % 4) + 768) (1024 * (t.val / 4) + r)) :=
  (pay1 (block hg hu hd t hh) ha (blk4 hg hu hd t)).congr fun i => grow _ _ _ _

include hx hn

/-- After every point the buffers hold the normalised rows and the sum so far. -/
theorem held : ∀ (k : ℕ) (hk : k < cfg0.N),
    E (at_ m c k hk).1 (TE fun r => norm X n (1024 * (k / 4) + r))
    ∧ E (at_ m c k hk).2 (TE fun r => sumTo X n G U D (768 * (k % 4) + 768) (1024 * (k / 4) + r)) := by
  intro k
  induction k with
  | zero =>
    intro hk
    rw [at_first m c ⟨0, hk⟩ rfl]
    have h3 := pay3 (blk0 hx ⟨0, hk⟩) (blk1 hn ⟨0, hk⟩)
    exact ⟨h3, added hg hu hd ⟨0, hk⟩ h3 ((pay4 (blk0 hx ⟨0, hk⟩)).congr fun i => (sumTo_zero _ _).symm)⟩
  | succ k ih =>
    intro hk
    by_cases hf : (k + 1) % 4 = 0
    · rw [at_first m c ⟨k + 1, hk⟩ hf]
      have h3 := pay3 (blk0 hx ⟨k + 1, hk⟩) (blk1 hn ⟨k + 1, hk⟩)
      exact ⟨h3, added hg hu hd ⟨k + 1, hk⟩ h3 ((pay4 (blk0 hx ⟨k + 1, hk⟩)).congr fun i => by
        show X _ _ = sumTo X n G U D (768 * ((k + 1) % 4)) _ _
        rw [hf]
        exact (sumTo_zero _ _).symm)⟩
    · obtain ⟨i1, i2⟩ := ih (Nat.lt_of_succ_lt hk)
      rw [show k / 4 = (k + 1) / 4 by omega] at i1 i2
      rw [show 768 * (k % 4) + 768 = 768 * ((k + 1) % 4) by omega] at i2
      rw [at_next m c ⟨k + 1, hk⟩ hf]
      exact ⟨i1, added hg hu hd ⟨k + 1, hk⟩ i1 i2⟩

/-! ## The arrays the call leaves -/

omit hx hn hg hu hd

theorem blocks5 (t : Fin cfg0.N) (hf : t.val % 4 = 3) :
    ((cfg0.win 5).blk t).view.read (Elt Ideal) ((dats m 0 c).arrAt 5 cfg0.N) = (at_ m c t.val t.isLt).2 :=
  (dats m 0 c).read_blk_arrAt_eq_flushed 5 (fun a b ha hb hne => (cfg0.win 5).disjoint_blk fun h => hne (Fin.ext (by
    have e : win0_5.index a 0 = win0_5.index b 0 := congrFun h 0
    rw [(at5 a).1, (at5 b).1] at e
    have h1 := (flush0_5 a).mp ha
    have h2 := (flush0_5 b).mp hb
    omega))) cfg0.N t t.isLt ((flush0_5 t).mpr hf)

theorem blocks6 (t : Fin cfg0.N) (hf : t.val % 4 = 3) :
    ((cfg0.win 6).blk t).view.read (Elt Ideal) ((dats m 0 c).arrAt 6 cfg0.N) = (at_ m c t.val t.isLt).1 :=
  (dats m 0 c).read_blk_arrAt_eq_flushed 6 (fun a b ha hb hne => (cfg0.win 6).disjoint_blk fun h => hne (Fin.ext (by
    have e : win0_6.index a 0 = win0_6.index b 0 := congrFun h 0
    rw [(at6 a).1, (at6 b).1] at e
    have h1 := (flush0_6 a).mp ha
    have h2 := (flush0_6 b).mp hb
    omega))) cfg0.N t t.isLt ((flush0_6 t).mpr hf)

theorem blocks7 (t : Fin cfg0.N) :
    ((cfg0.win 7).blk t).view.read (Elt Ideal) ((dats m 0 c).arrAt 7 cfg0.N) = k0_pay8 (at_ m c t.val t.isLt).1 (X0_2 m c t) :=
  (dats m 0 c).read_blk_arrAt_eq_flushed 7 (fun a b _ _ hne => (cfg0.win 7).disjoint_blk fun h => hne (Fin.ext (by
    have e : win0_7.index a 0 = win0_7.index b 0 := congrFun h 0
    have e' : win0_7.index a 1 = win0_7.index b 1 := congrFun h 1
    rw [(at7 a).1, (at7 b).1] at e
    rw [(at7 a).2, (at7 b).2] at e'
    omega))) cfg0.N t t.isLt (flush0_7 t)

theorem blocks8 (t : Fin cfg0.N) :
    ((cfg0.win 8).blk t).view.read (Elt Ideal) ((dats m 0 c).arrAt 8 cfg0.N) = k0_pay9 (at_ m c t.val t.isLt).1 (X0_3 m c t) :=
  (dats m 0 c).read_blk_arrAt_eq_flushed 8 (fun a b _ _ hne => (cfg0.win 8).disjoint_blk fun h => hne (Fin.ext (by
    have e : win0_8.index a 0 = win0_8.index b 0 := congrFun h 0
    have e' : win0_8.index a 1 = win0_8.index b 1 := congrFun h 1
    rw [(at8 a).1, (at8 b).1] at e
    rw [(at8 a).2, (at8 b).2] at e'
    omega))) cfg0.N t t.isLt (flush0_8 t)

theorem blocks9 (t : Fin cfg0.N) :
    ((cfg0.win 9).blk t).view.read (Elt Ideal) ((dats m 0 c).arrAt 9 cfg0.N)
      = k0_pay7 (at_ m c t.val t.isLt).1 (X0_2 m c t) (X0_3 m c t) :=
  (dats m 0 c).read_blk_arrAt_eq_flushed 9 (fun a b _ _ hne => (cfg0.win 9).disjoint_blk fun h => hne (Fin.ext (by
    have e : win0_9.index a 0 = win0_9.index b 0 := congrFun h 0
    have e' : win0_9.index a 1 = win0_9.index b 1 := congrFun h 1
    rw [(at9 a).1, (at9 b).1] at e
    rw [(at9 a).2, (at9 b).2] at e'
    omega))) cfg0.N t t.isLt (flush0_9 t)

/-- The last point of the row of points that an array row belongs to. -/
theorem lastPoint (k : ℕ) (h : k < 16384) : 4 * (k / 1024) + 3 < cfg0.N := lt_of_lt_of_eq (by omega) N_0.symm

/-- The point that writes an entry of a hidden array. -/
theorem onePoint (k p : ℕ) (h : k < 16384) (h' : p < 3072) : 4 * (k / 1024) + p / 768 < cfg0.N := lt_of_lt_of_eq (by omega) N_0.symm

include hx hn hg hu hd

/-- The half-step. -/
theorem result5 : E (s := S16384x1024) ((dats m 0 c).arrAt 5 cfg0.N) (TE (step X n G U D)) := fun i => by
  have h0 : (i 0).val < 16384 := (i 0).isLt
  have h1 : (i 1).val < 1024 := (i 1).isLt
  obtain ⟨e0, e1⟩ := at5 ⟨_, lastPoint _ h0⟩
  have hb := congrFun (blocks5 (m := m) (c := c) ⟨_, lastPoint _ h0⟩ (by show (4 * ((i 0).val / 1024) + 3) % 4 = 3; omega))
    (fun a => match a with | ⟨0, _⟩ => ⟨(i 0).val % 1024, Nat.mod_lt _ (by norm_num)⟩ | ⟨1, _⟩ => ⟨(i 1).val, h1⟩)
  rw [View.read_apply] at hb
  refine (congrArg _ ?_).trans (hb.trans (((held hx hn hg hu hd _ (lastPoint _ h0)).2 _).trans ?_))
  · funext a
    apply Fin.ext
    match a with
    | ⟨0, _⟩ =>
      show (i 0).val = win0_5.index ⟨_, lastPoint _ h0⟩ 0 * 1024 + 1 * ((i 0).val % 1024)
      rw [e0]; show (i 0).val = (4 * ((i 0).val / 1024) + 3) / 4 * 1024 + 1 * ((i 0).val % 1024); omega
    | ⟨1, _⟩ => show (i 1).val = win0_5.index ⟨_, lastPoint _ h0⟩ 1 * 1024 + 1 * (i 1).val; rw [e1]; omega
  · show sumTo X n G U D (768 * ((4 * ((i 0).val / 1024) + 3) % 4) + 768) (1024 * ((4 * ((i 0).val / 1024) + 3) / 4) + (i 0).val % 1024) (i 1).val
      = step X n G U D (i 0).val (i 1).val
    rw [show 768 * ((4 * ((i 0).val / 1024) + 3) % 4) + 768 = 3072 by omega,
      show 1024 * ((4 * ((i 0).val / 1024) + 3) / 4) + (i 0).val % 1024 = (i 0).val by omega]
    exact step_packed _ _

/-- The normalised rows. -/
theorem result6 : E (s := S16384x1024) ((dats m 0 c).arrAt 6 cfg0.N) (TE (norm X n)) := fun i => by
  have h0 : (i 0).val < 16384 := (i 0).isLt
  have h1 : (i 1).val < 1024 := (i 1).isLt
  obtain ⟨e0, e1⟩ := at6 ⟨_, lastPoint _ h0⟩
  have hb := congrFun (blocks6 (m := m) (c := c) ⟨_, lastPoint _ h0⟩ (by show (4 * ((i 0).val / 1024) + 3) % 4 = 3; omega))
    (fun a => match a with | ⟨0, _⟩ => ⟨(i 0).val % 1024, Nat.mod_lt _ (by norm_num)⟩ | ⟨1, _⟩ => ⟨(i 1).val, h1⟩)
  rw [View.read_apply] at hb
  refine (congrArg _ ?_).trans (hb.trans (((held hx hn hg hu hd _ (lastPoint _ h0)).1 _).trans ?_))
  · funext a
    apply Fin.ext
    match a with
    | ⟨0, _⟩ =>
      show (i 0).val = win0_6.index ⟨_, lastPoint _ h0⟩ 0 * 1024 + 1 * ((i 0).val % 1024)
      rw [e0]; show (i 0).val = (4 * ((i 0).val / 1024) + 3) / 4 * 1024 + 1 * ((i 0).val % 1024); omega
    | ⟨1, _⟩ => show (i 1).val = win0_6.index ⟨_, lastPoint _ h0⟩ 1 * 1024 + 1 * (i 1).val; rw [e1]; omega
  · exact congrArg (norm X n · (i 1).val) (show 1024 * ((4 * ((i 0).val / 1024) + 3) / 4) + (i 0).val % 1024 = (i 0).val by omega)

/-- A hidden array from its blocks. -/
theorem spread {A : S16384x3072.Idx → EReal} {w : Fin cfg0.N → S1024x768.Idx → EReal} {f : ℕ → ℕ → EReal} (i : S16384x3072.Idx)
    (hA : ∀ (t : Fin cfg0.N) (j : S1024x768.Idx), t.val = 4 * ((i 0).val / 1024) + (i 1).val / 768 →
      (j 0).val = (i 0).val % 1024 → (j 1).val = (i 1).val % 768 → A i = w t j)
    (hw : ∀ t, E (w t) (TE fun r p => f (1024 * (t.val / 4) + r) (768 * (t.val % 4) + p))) : A i = f (i 0).val (i 1).val := by
  have h0 : (i 0).val < 16384 := (i 0).isLt
  have h1 : (i 1).val < 3072 := (i 1).isLt
  refine (hA ⟨_, onePoint _ _ h0 h1⟩
    (fun a => match a with | ⟨0, _⟩ => ⟨(i 0).val % 1024, Nat.mod_lt _ (by norm_num)⟩ | ⟨1, _⟩ => ⟨(i 1).val % 768, Nat.mod_lt _ (by norm_num)⟩)
    rfl rfl rfl).trans ((hw _ _).trans (congrArg₂ f ?_ ?_))
  · show 1024 * ((4 * ((i 0).val / 1024) + (i 1).val / 768) / 4) + (i 0).val % 1024 = (i 0).val
    omega
  · show 768 * ((4 * ((i 0).val / 1024) + (i 1).val / 768) % 4) + (i 1).val % 768 = (i 1).val
    omega

/-- The gate's products, packed. -/
theorem result7 : E (s := S16384x3072) ((dats m 0 c).arrAt 7 cfg0.N) (TE fun t => padE (mm (norm X n) G t)) := fun i =>
  spread hx hn hg hu hd i (w := fun t => k0_pay8 (at_ m c t.val t.isLt).1 (X0_2 m c t)) (f := fun t => padE (mm (norm X n) G t))
    (fun t j ht j0 j1 => by
      obtain ⟨e0, e1⟩ := at7 t
      have h1 : (i 1).val < 3072 := (i 1).isLt
      have hb := congrFun (blocks7 (m := m) (c := c) t) j
      rw [View.read_apply] at hb
      refine (congrArg _ ?_).trans hb
      funext a
      apply Fin.ext
      match a with
      | ⟨0, _⟩ => show (i 0).val = win0_7.index t 0 * 1024 + 1 * (j 0).val; rw [e0]; omega
      | ⟨1, _⟩ => show (i 1).val = win0_7.index t 1 * 768 + 1 * (j 1).val; rw [e1]; omega)
    (fun t => (pay8 (held hx hn hg hu hd _ t.isLt).1 (blk2 hg hu hd t)).congr fun j => mm_padE _ _)

/-- The other products, packed. -/
theorem result8 : E (s := S16384x3072) ((dats m 0 c).arrAt 8 cfg0.N) (TE fun t => padE (mm (norm X n) U t)) := fun i =>
  spread hx hn hg hu hd i (w := fun t => k0_pay9 (at_ m c t.val t.isLt).1 (X0_3 m c t)) (f := fun t => padE (mm (norm X n) U t))
    (fun t j ht j0 j1 => by
      obtain ⟨e0, e1⟩ := at8 t
      have h1 : (i 1).val < 3072 := (i 1).isLt
      have hb := congrFun (blocks8 (m := m) (c := c) t) j
      rw [View.read_apply] at hb
      refine (congrArg _ ?_).trans hb
      funext a
      apply Fin.ext
      match a with
      | ⟨0, _⟩ => show (i 0).val = win0_8.index t 0 * 1024 + 1 * (j 0).val; rw [e0]; omega
      | ⟨1, _⟩ => show (i 1).val = win0_8.index t 1 * 768 + 1 * (j 1).val; rw [e1]; omega)
    (fun t => (pay9 (held hx hn hg hu hd _ t.isLt).1 (blk3 hg hu hd t)).congr fun j => mm_padE _ _)

/-- The hidden units, packed. -/
theorem result9 : E (s := S16384x3072) ((dats m 0 c).arrAt 9 cfg0.N) (TE fun t => padE (hid X n G U t)) := fun i =>
  spread hx hn hg hu hd i (w := fun t => k0_pay7 (at_ m c t.val t.isLt).1 (X0_2 m c t) (X0_3 m c t)) (f := fun t => padE (hid X n G U t))
    (fun t j ht j0 j1 => by
      obtain ⟨e0, e1⟩ := at9 t
      have h1 : (i 1).val < 3072 := (i 1).isLt
      have hb := congrFun (blocks9 (m := m) (c := c) t) j
      rw [View.read_apply] at hb
      refine (congrArg _ ?_).trans hb
      funext a
      apply Fin.ext
      match a with
      | ⟨0, _⟩ => show (i 0).val = win0_9.index t 0 * 1024 + 1 * (j 0).val; rw [e0]; omega
      | ⟨1, _⟩ => show (i 1).val = win0_9.index t 1 * 768 + 1 * (j 1).val; rw [e1]; omega)
    (fun t => block hg hu hd t (held hx hn hg hu hd _ t.isLt).1)

end Cert.FfnFwdIdeal.Call

namespace Cert.FfnFwd

open Idealize.ShloMosaic Idealize.ShloMosaic.TcCoe Idealize.SL.Sem Cert.Lift
open FfnFwdIdeal.Call FfnFwdRefIdeal.Call

theorem reference : @quiescent_FfnFwdRefIdeal FfnFwdRefIdeal.Gen.facts := fun m ρ _ =>
  (θ_run FfnFwdRefIdeal.defs _ _).mono (fun r h => ⟨fun c => (h c).2.2.2.2.2, sem_eq_zero_of_no_sems (by decide) r.2⟩)
    (FfnFwdRefIdeal.Call.run (F := Ideal) m ρ)

theorem value : @algebraic_FfnFwdIdeal_FfnFwdRefIdeal FfnFwdIdeal.Gen.facts FfnFwdRefIdeal.Gen.facts := by
  intro m g m' g' hp hm
  refine ⟨fun c => (dats m 0 c).arrAt 5 FfnFwdIdeal.cfg0.N, fun c => (dats m 0 c).arrAt 6 FfnFwdIdeal.cfg0.N,
    fun c => (dats m 0 c).arrAt 7 FfnFwdIdeal.cfg0.N, fun c => (dats m 0 c).arrAt 8 FfnFwdIdeal.cfg0.N, fun c => (dats m 0 c).arrAt 9 FfnFwdIdeal.cfg0.N,
    (θ_run _ _ _).mono (fun r h c => ⟨(h.1 c).1 5, (h.1 c).1 6, (h.1 c).1 7, (h.1 c).1 8, (h.1 c).1 9, h.2.1 c⟩)
      (θ_run_and (run_post m g) (frame m g)), (θ_run _ _ _).mono (fun r h c => ?_) (FfnFwdRefIdeal.Call.run m' g')⟩
  obtain ⟨e0, e1, e2, e3, e4, e5⟩ := hm c
  obtain ⟨r0, r1, r2, r3, r4, rest⟩ := h c
  rw [e0, e1, e2, e3, e4] at r0
  rw [e0, e1] at r1
  rw [e0, e1, e2] at r2
  rw [e0, e1, e3] at r3
  rw [e0, e1, e2, e3] at r4
  have hx := tabE2_eq (a := 16384) (b := 1024) (by norm_num) (by norm_num) (m (c, FfnFwdIdeal.main_arg0))
  have hn := tabE1_eq (a := 1024) (by norm_num) (m (c, FfnFwdIdeal.main_arg1))
  have hg := tabE2_eq (a := 1024) (b := 2816) (by norm_num) (by norm_num) (m (c, FfnFwdIdeal.main_arg2))
  have hu := tabE2_eq (a := 1024) (b := 2816) (by norm_num) (by norm_num) (m (c, FfnFwdIdeal.main_arg3))
  have hd := tabE2_eq (a := 2816) (b := 1024) (by norm_num) (by norm_num) (m (c, FfnFwdIdeal.main_arg4))
  have gt := mmV_tab (normV_tab hx hn) hg
  have ut := mmV_tab (normV_tab hx hn) hu
  refine ⟨r0.trans (funext fun i => ?_), r1.trans (funext fun i => ?_), r2.trans (funext fun i => ?_), r3.trans (funext fun i => ?_),
    r4.trans (funext fun i => ?_), rest⟩
  · exact (stepV_tab hx (actV_tab gt ut) hd i).trans (result5 hx hn hg hu hd i).symm
  · exact (normV_tab hx hn i).trans (result6 hx hn hg hu hd i).symm
  · exact (packV_tab gt i).trans (result7 hx hn hg hu hd i).symm
  · exact (packV_tab ut i).trans (result8 hx hn hg hu hd i).symm
  · exact (packV_tab (actV_tab gt ut) i).trans (result9 hx hn hg hu hd i).symm

end Cert.FfnFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Value
public import proofs.«01_k».proof.Proof.Gen.InProjIdeal.Value
public import proofs.«01_k».proof.Proof.Gen.InProjRefIdeal.Read
public import proofs.«01_k».proof.Proof.Gen.InProjBwdIdeal.Value
public import proofs.«01_k».proof.Proof.Gen.InProjBwdRefIdeal.Read
public import proofs.«01_k».proof.Proof.Gen.InProjDwIdeal.Value
public import proofs.«01_k».proof.Proof.Gen.InProjDwRefIdeal.Read
public import proofs.«01_k».proof.Proof.Gen.OutProjIdeal.Value
public import proofs.«01_k».proof.Proof.Gen.OutProjRefIdeal.Read
public import proofs.«01_k».proof.Proof.Gen.OutProjBwdIdeal.Value
public import proofs.«01_k».proof.Proof.Gen.OutProjBwdRefIdeal.Read
public import proofs.«01_k».proof.Proof.Gen.InProj.Frame
public import proofs.«01_k».proof.Proof.Gen.InProjBwd.Frame
public import proofs.«01_k».proof.Proof.Gen.InProjDw.Frame
public import proofs.«01_k».proof.Proof.Gen.OutProj.Frame
public import proofs.«01_k».proof.Proof.Gen.OutProjBwd.Frame
public import proofs.«01_k».proof.Proof.Gen.KernelA.Frame
public import proofs.«01_k».proof.Proof.Gen.KernelAIdeal.Value
public import proofs.«01_k».proof.Proof.Gen.KernelB.Frame
public import proofs.«01_k».proof.Proof.Gen.KernelBIdeal.Value
public import proofs.«01_k».proof.Proof.Gen.KernelC.Frame
public import proofs.«01_k».proof.Proof.Gen.KernelCIdeal.Value
public import proofs.«01_k».proof.Proof.InProjBwd
public import proofs.«01_k».proof.Proof.HalfC
public import proofs.«01_k».proof.Proof.Gen.DwGate01.Frame
public import proofs.«01_k».proof.Proof.Gen.DwGate01Ideal.Value
public import proofs.«01_k».proof.Proof.Gen.DwGate01RefIdeal.Read
public import proofs.«01_k».proof.Proof.DwGate01
public import proofs.«01_k».proof.Proof.Gen.DwUp01.Frame
public import proofs.«01_k».proof.Proof.Gen.DwUp01Ideal.Value
public import proofs.«01_k».proof.Proof.Gen.DwUp01RefIdeal.Read
public import proofs.«01_k».proof.Proof.DwUp01
public import proofs.«01_k».proof.Proof.Gen.DwDown01.Frame
public import proofs.«01_k».proof.Proof.Gen.DwDown01Ideal.Value
public import proofs.«01_k».proof.Proof.Gen.DwDown01RefIdeal.Read
public import proofs.«01_k».proof.Proof.DwDown01
public import proofs.«01_k».proof.Proof.Gen.DwGate02.Frame
public import proofs.«01_k».proof.Proof.Gen.DwGate02Ideal.Value
public import proofs.«01_k».proof.Proof.Gen.DwGate02RefIdeal.Read
public import proofs.«01_k».proof.Proof.DwGate02
public import proofs.«01_k».proof.Proof.Gen.DwUp02.Frame
public import proofs.«01_k».proof.Proof.Gen.DwUp02Ideal.Value
public import proofs.«01_k».proof.Proof.Gen.DwUp02RefIdeal.Read
public import proofs.«01_k».proof.Proof.DwUp02
public import proofs.«01_k».proof.Proof.Gen.DwDown02.Frame
public import proofs.«01_k».proof.Proof.Gen.DwDown02Ideal.Value
public import proofs.«01_k».proof.Proof.Gen.DwDown02RefIdeal.Read
public import proofs.«01_k».proof.Proof.DwDown02
public import proofs.«01_k».proof.Proof.Gen.DwGate11.Frame
public import proofs.«01_k».proof.Proof.Gen.DwGate11Ideal.Value
public import proofs.«01_k».proof.Proof.Gen.DwGate11RefIdeal.Read
public import proofs.«01_k».proof.Proof.DwGate11
public import proofs.«01_k».proof.Proof.Gen.DwUp11.Frame
public import proofs.«01_k».proof.Proof.Gen.DwUp11Ideal.Value
public import proofs.«01_k».proof.Proof.Gen.DwUp11RefIdeal.Read
public import proofs.«01_k».proof.Proof.DwUp11
public import proofs.«01_k».proof.Proof.Gen.DwDown11.Frame
public import proofs.«01_k».proof.Proof.Gen.DwDown11Ideal.Value
public import proofs.«01_k».proof.Proof.Gen.DwDown11RefIdeal.Read
public import proofs.«01_k».proof.Proof.DwDown11
public import proofs.«01_k».proof.Proof.Gen.DwGate12.Frame
public import proofs.«01_k».proof.Proof.Gen.DwGate12Ideal.Value
public import proofs.«01_k».proof.Proof.Gen.DwGate12RefIdeal.Read
public import proofs.«01_k».proof.Proof.DwGate12
public import proofs.«01_k».proof.Proof.Gen.DwUp12.Frame
public import proofs.«01_k».proof.Proof.Gen.DwUp12Ideal.Value
public import proofs.«01_k».proof.Proof.Gen.DwUp12RefIdeal.Read
public import proofs.«01_k».proof.Proof.DwUp12
public import proofs.«01_k».proof.Proof.Gen.DwDown12.Frame
public import proofs.«01_k».proof.Proof.Gen.DwDown12Ideal.Value
public import proofs.«01_k».proof.Proof.Gen.DwDown12RefIdeal.Read
public import proofs.«01_k».proof.Proof.DwDown12
public import proofs.«01_k».proof.Proof.Gen.FfnFwd.Frame
public import proofs.«01_k».proof.Proof.FfnFwdKer
public import proofs.«01_k».proof.Proof.FfnFwd
public import Idealize.ShloMosaic.Adequacy
public import Idealize.ShloMosaic.Init

@[expose] public section

noncomputable section

namespace Cert.Proof

open Idealize.ShloMosaic Idealize.SL.Sem Cert.Kernel

/-- The reference runs, leaves its arguments as they were and no counter raised. -/
theorem reference : @Cert.quiescent_ReferenceIdeal Cert.ReferenceIdeal.Gen.facts := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.InProjBwd.Gen.facts, Cert.InProjBwdIdeal.Gen.facts, Cert.InProjBwdRefIdeal.Gen.facts,
    Cert.InProjDw.Gen.facts, Cert.InProjDwIdeal.Gen.facts, Cert.InProjDwRefIdeal.Gen.facts,
    Cert.OutProj.Gen.facts, Cert.OutProjIdeal.Gen.facts, Cert.OutProjRefIdeal.Gen.facts,
    Cert.OutProjBwd.Gen.facts, Cert.OutProjBwdIdeal.Gen.facts, Cert.OutProjBwdRefIdeal.Gen.facts,
    Cert.KernelA.Gen.facts, Cert.KernelAIdeal.Gen.facts,
    Cert.KernelB.Gen.facts, Cert.KernelBIdeal.Gen.facts,
    Cert.KernelC.Gen.facts, Cert.KernelCIdeal.Gen.facts,
    Cert.DwGate01.Gen.facts, Cert.DwGate01Ideal.Gen.facts, Cert.DwGate01RefIdeal.Gen.facts,
    Cert.DwUp01.Gen.facts, Cert.DwUp01Ideal.Gen.facts, Cert.DwUp01RefIdeal.Gen.facts,
    Cert.DwDown01.Gen.facts, Cert.DwDown01Ideal.Gen.facts, Cert.DwDown01RefIdeal.Gen.facts,
    Cert.DwGate02.Gen.facts, Cert.DwGate02Ideal.Gen.facts, Cert.DwGate02RefIdeal.Gen.facts,
    Cert.DwUp02.Gen.facts, Cert.DwUp02Ideal.Gen.facts, Cert.DwUp02RefIdeal.Gen.facts,
    Cert.DwDown02.Gen.facts, Cert.DwDown02Ideal.Gen.facts, Cert.DwDown02RefIdeal.Gen.facts,
    Cert.DwGate11.Gen.facts, Cert.DwGate11Ideal.Gen.facts, Cert.DwGate11RefIdeal.Gen.facts,
    Cert.DwUp11.Gen.facts, Cert.DwUp11Ideal.Gen.facts, Cert.DwUp11RefIdeal.Gen.facts,
    Cert.DwDown11.Gen.facts, Cert.DwDown11Ideal.Gen.facts, Cert.DwDown11RefIdeal.Gen.facts,
    Cert.DwGate12.Gen.facts, Cert.DwGate12Ideal.Gen.facts, Cert.DwGate12RefIdeal.Gen.facts,
    Cert.DwUp12.Gen.facts, Cert.DwUp12Ideal.Gen.facts, Cert.DwUp12RefIdeal.Gen.facts,
    Cert.DwDown12.Gen.facts, Cert.DwDown12Ideal.Gen.facts, Cert.DwDown12RefIdeal.Gen.facts,
    Cert.FfnFwd.Gen.facts, Cert.FfnFwdIdeal.Gen.facts, Cert.FfnFwdRefIdeal.Gen.facts,
    Cert.Pre_finite.facts,
    fun m ρ _ => Cert.Kernel.Gen.frame m ρ,
    fun m ρ _ => Cert.KernelIdeal.Gen.frame m ρ,
    fun m ρ _ => Cert.KernelIdeal.Gen.frame m ρ,
    reference,
    fun m ρ _ => reference m ρ trivial,
    fun m ρ _ => Cert.InProj.Gen.frame m ρ, fun m ρ _ => Cert.InProjIdeal.Gen.frame m ρ, Cert.InProj.reference,
    fun m ρ _ => Cert.InProjBwd.Gen.frame m ρ, fun m ρ _ => Cert.InProjBwdIdeal.Gen.frame m ρ, Cert.InProjBwd.reference,
    fun m ρ _ => Cert.InProjDw.Gen.frame m ρ, fun m ρ _ => Cert.InProjDwIdeal.Gen.frame m ρ, Cert.InProjDw.reference,
    fun m ρ _ => Cert.OutProj.Gen.frame m ρ, fun m ρ _ => Cert.OutProjIdeal.Gen.frame m ρ, Cert.OutProj.reference,
    fun m ρ _ => Cert.OutProjBwd.Gen.frame m ρ, fun m ρ _ => Cert.OutProjBwdIdeal.Gen.frame m ρ, Cert.OutProjBwd.reference,
    fun m ρ _ => Cert.KernelA.Gen.frame m ρ, fun m ρ _ => Cert.KernelAIdeal.Gen.frame m ρ, fun m ρ _ => Cert.KernelAIdeal.Gen.frame m ρ,
    fun m ρ _ => Cert.KernelB.Gen.frame m ρ, fun m ρ _ => Cert.KernelBIdeal.Gen.frame m ρ, fun m ρ _ => Cert.KernelBIdeal.Gen.frame m ρ,
    fun m ρ _ => Cert.KernelC.Gen.frame m ρ, fun m ρ _ => Cert.KernelCIdeal.Gen.frame m ρ, fun m ρ _ => Cert.KernelCIdeal.Gen.frame m ρ,
    fun m ρ _ => Cert.DwGate01.Gen.frame m ρ, fun m ρ _ => Cert.DwGate01Ideal.Gen.frame m ρ, Cert.DwGate01.reference,
    fun m ρ _ => Cert.DwUp01.Gen.frame m ρ, fun m ρ _ => Cert.DwUp01Ideal.Gen.frame m ρ, Cert.DwUp01.reference,
    fun m ρ _ => Cert.DwDown01.Gen.frame m ρ, fun m ρ _ => Cert.DwDown01Ideal.Gen.frame m ρ, Cert.DwDown01.reference,
    fun m ρ _ => Cert.DwGate02.Gen.frame m ρ, fun m ρ _ => Cert.DwGate02Ideal.Gen.frame m ρ, Cert.DwGate02.reference,
    fun m ρ _ => Cert.DwUp02.Gen.frame m ρ, fun m ρ _ => Cert.DwUp02Ideal.Gen.frame m ρ, Cert.DwUp02.reference,
    fun m ρ _ => Cert.DwDown02.Gen.frame m ρ, fun m ρ _ => Cert.DwDown02Ideal.Gen.frame m ρ, Cert.DwDown02.reference,
    fun m ρ _ => Cert.DwGate11.Gen.frame m ρ, fun m ρ _ => Cert.DwGate11Ideal.Gen.frame m ρ, Cert.DwGate11.reference,
    fun m ρ _ => Cert.DwUp11.Gen.frame m ρ, fun m ρ _ => Cert.DwUp11Ideal.Gen.frame m ρ, Cert.DwUp11.reference,
    fun m ρ _ => Cert.DwDown11.Gen.frame m ρ, fun m ρ _ => Cert.DwDown11Ideal.Gen.frame m ρ, Cert.DwDown11.reference,
    fun m ρ _ => Cert.DwGate12.Gen.frame m ρ, fun m ρ _ => Cert.DwGate12Ideal.Gen.frame m ρ, Cert.DwGate12.reference,
    fun m ρ _ => Cert.DwUp12.Gen.frame m ρ, fun m ρ _ => Cert.DwUp12Ideal.Gen.frame m ρ, Cert.DwUp12.reference,
    fun m ρ _ => Cert.DwDown12.Gen.frame m ρ, fun m ρ _ => Cert.DwDown12Ideal.Gen.frame m ρ, Cert.DwDown12.reference,
    Cert.FfnFwd.Call.frame, fun m ρ _ => Cert.FfnFwdIdeal.Call.frame m ρ, Cert.FfnFwd.reference,
    trivial, Cert.Ffn.value,
    trivial, Cert.InProj.value,
    trivial, Cert.InProjBwd.value,
    trivial, Cert.InProjDw.value,
    trivial, Cert.OutProj.value,
    trivial, Cert.OutProjBwd.value,
    trivial, Cert.Ffn.valueA,
    trivial, Cert.Ffn.valueB,
    trivial, Cert.Ffn.valueC,
    trivial, Cert.DwGate01.value,
    trivial, Cert.DwUp01.value,
    trivial, Cert.DwDown01.value,
    trivial, Cert.DwGate02.value,
    trivial, Cert.DwUp02.value,
    trivial, Cert.DwDown02.value,
    trivial, Cert.DwGate11.value,
    trivial, Cert.DwUp11.value,
    trivial, Cert.DwDown11.value,
    trivial, Cert.DwGate12.value,
    trivial, Cert.DwUp12.value,
    trivial, Cert.DwDown12.value,
    trivial, Cert.FfnFwd.value⟩

end Cert.Proof

end
